-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_SwigluGrad (m : (ℓ : Loc Cert.SwigluGrad.nD Cert.SwigluGrad.τ Cert.SwigluGrad.sig) → Buf (Elt Bits) ℓ) : Prop :=
  True

def Pre_SwigluGradIdeal (m : (ℓ : Loc Cert.SwigluGradIdeal.nD Cert.SwigluGradIdeal.τ Cert.SwigluGradIdeal.sig) → Buf (Elt Ideal) ℓ) : Prop :=
  True

def Pre_SwigluGradIdeal_finite_swiglu [hPre_finite_swiglu : Cert.Pre_finite_swiglu.Facts] (m : (ℓ : Loc Cert.SwigluGradIdeal.nD Cert.SwigluGradIdeal.τ Cert.SwigluGradIdeal.sig) → Buf (Elt Ideal) ℓ) : Prop :=
  ∀ c : Dev Cert.SwigluGradIdeal.nD,
    (Cert.Pre_finite_swiglu.fn (F := Ideal) (m ((c.tc : Thread Cert.SwigluGradIdeal.nD Cert.SwigluGradIdeal.τ).loc Cert.SwigluGradIdeal.main_arg0)) (m ((c.tc : Thread Cert.SwigluGradIdeal.nD Cert.SwigluGradIdeal.τ).loc Cert.SwigluGradIdeal.main_arg1)) (m ((c.tc : Thread Cert.SwigluGradIdeal.nD Cert.SwigluGradIdeal.τ).loc Cert.SwigluGradIdeal.main_arg2))) = (fun _ => 1#1)

def Pre_SwigluGradRefIdeal (m : (ℓ : Loc Cert.SwigluGradRefIdeal.nD Cert.SwigluGradRefIdeal.τ Cert.SwigluGradRefIdeal.sig) → Buf (Elt Ideal) ℓ) : Prop :=
  True

def Pre_SwigluGradRefIdeal_finite_swiglu [hPre_finite_swiglu : Cert.Pre_finite_swiglu.Facts] (m : (ℓ : Loc Cert.SwigluGradRefIdeal.nD Cert.SwigluGradRefIdeal.τ Cert.SwigluGradRefIdeal.sig) → Buf (Elt Ideal) ℓ) : Prop :=
  ∀ c : Dev Cert.SwigluGradRefIdeal.nD,
    (Cert.Pre_finite_swiglu.fn (F := Ideal) (m ((c.tc : Thread Cert.SwigluGradRefIdeal.nD Cert.SwigluGradRefIdeal.τ).loc Cert.SwigluGradRefIdeal.main_arg0)) (m ((c.tc : Thread Cert.SwigluGradRefIdeal.nD Cert.SwigluGradRefIdeal.τ).loc Cert.SwigluGradRefIdeal.main_arg1)) (m ((c.tc : Thread Cert.SwigluGradRefIdeal.nD Cert.SwigluGradRefIdeal.τ).loc Cert.SwigluGradRefIdeal.main_arg2))) = (fun _ => 1#1)

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradInput (m : (ℓ : Loc Cert.GradInput.nD Cert.GradInput.τ Cert.GradInput.sig) → Buf (Elt Bits) ℓ) : Prop :=
  True

def Pre_GradInputIdeal (m : (ℓ : Loc Cert.GradInputIdeal.nD Cert.GradInputIdeal.τ Cert.GradInputIdeal.sig) → Buf (Elt Ideal) ℓ) : Prop :=
  True

def Pre_GradInputRefIdeal (m : (ℓ : Loc Cert.GradInputRefIdeal.nD Cert.GradInputRefIdeal.τ Cert.GradInputRefIdeal.sig) → Buf (Elt Ideal) ℓ) : Prop :=
  True

def Pre_SwigluIn (m : (ℓ : Loc Cert.SwigluIn.nD Cert.SwigluIn.τ Cert.SwigluIn.sig) → Buf (Elt Bits) ℓ) : Prop :=
  True

def Pre_SwigluInIdeal (m : (ℓ : Loc Cert.SwigluInIdeal.nD Cert.SwigluInIdeal.τ Cert.SwigluInIdeal.sig) → Buf (Elt Ideal) ℓ) : Prop :=
  True

def Pre_SwigluInRefIdeal (m : (ℓ : Loc Cert.SwigluInRefIdeal.nD Cert.SwigluInRefIdeal.τ Cert.SwigluInRefIdeal.sig) → Buf (Elt Ideal) ℓ) : Prop :=
  True

def Pre_SwigluOut (m : (ℓ : Loc Cert.SwigluOut.nD Cert.SwigluOut.τ Cert.SwigluOut.sig) → Buf (Elt Bits) ℓ) : Prop :=
  True

def Pre_SwigluOutIdeal (m : (ℓ : Loc Cert.SwigluOutIdeal.nD Cert.SwigluOutIdeal.τ Cert.SwigluOutIdeal.sig) → Buf (Elt Ideal) ℓ) : Prop :=
  True

def Pre_SwigluOutRefIdeal (m : (ℓ : Loc Cert.SwigluOutRefIdeal.nD Cert.SwigluOutRefIdeal.τ Cert.SwigluOutRefIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInRefIdeal (m : (ℓ : Loc Cert.GmInRefIdeal.nD Cert.GmInRefIdeal.τ Cert.GmInRefIdeal.sig) → Buf (Elt Ideal) ℓ) : Prop :=
  True

def Pre_GmGradIn (m : (ℓ : Loc Cert.GmGradIn.nD Cert.GmGradIn.τ Cert.GmGradIn.sig) → Buf (Elt Bits) ℓ) : Prop :=
  True

def Pre_GmGradInIdeal (m : (ℓ : Loc Cert.GmGradInIdeal.nD Cert.GmGradInIdeal.τ Cert.GmGradInIdeal.sig) → Buf (Elt Ideal) ℓ) : Prop :=
  True

def Pre_GmGradInRefIdeal (m : (ℓ : Loc Cert.GmGradInRefIdeal.nD Cert.GmGradInRefIdeal.τ Cert.GmGradInRefIdeal.sig) → Buf (Elt Ideal) ℓ) : Prop :=
  True

def Pre_GmGradInput (m : (ℓ : Loc Cert.GmGradInput.nD Cert.GmGradInput.τ Cert.GmGradInput.sig) → Buf (Elt Bits) ℓ) : Prop :=
  True

def Pre_GmGradInputIdeal (m : (ℓ : Loc Cert.GmGradInputIdeal.nD Cert.GmGradInputIdeal.τ Cert.GmGradInputIdeal.sig) → Buf (Elt Ideal) ℓ) : Prop :=
  True

def Pre_GmGradInputRefIdeal (m : (ℓ : Loc Cert.GmGradInputRefIdeal.nD Cert.GmGradInputRefIdeal.τ Cert.GmGradInputRefIdeal.sig) → Buf (Elt Ideal) ℓ) : Prop :=
  True

def Pre_GmBackOut (m : (ℓ : Loc Cert.GmBackOut.nD Cert.GmBackOut.τ Cert.GmBackOut.sig) → Buf (Elt Bits) ℓ) : Prop :=
  True

def Pre_GmBackOutIdeal (m : (ℓ : Loc Cert.GmBackOutIdeal.nD Cert.GmBackOutIdeal.τ Cert.GmBackOutIdeal.sig) → Buf (Elt Ideal) ℓ) : Prop :=
  True

def Pre_GmBackOutRefIdeal (m : (ℓ : Loc Cert.GmBackOutRefIdeal.nD Cert.GmBackOutRefIdeal.τ Cert.GmBackOutRefIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_SsdGradIn (m : (ℓ : Loc Cert.SsdGradIn.nD Cert.SsdGradIn.τ Cert.SsdGradIn.sig) → Buf (Elt Bits) ℓ) : Prop :=
  True

def Pre_SsdGradInIdeal (m : (ℓ : Loc Cert.SsdGradInIdeal.nD Cert.SsdGradInIdeal.τ Cert.SsdGradInIdeal.sig) → Buf (Elt Ideal) ℓ) : Prop :=
  True

def Pre_SsdGradInRefIdeal (m : (ℓ : Loc Cert.SsdGradInRefIdeal.nD Cert.SsdGradInRefIdeal.τ Cert.SsdGradInRefIdeal.sig) → Buf (Elt Ideal) ℓ) : Prop :=
  True

def Pre_SsdGradInput (m : (ℓ : Loc Cert.SsdGradInput.nD Cert.SsdGradInput.τ Cert.SsdGradInput.sig) → Buf (Elt Bits) ℓ) : Prop :=
  True

def Pre_SsdGradInputIdeal (m : (ℓ : Loc Cert.SsdGradInputIdeal.nD Cert.SsdGradInputIdeal.τ Cert.SsdGradInputIdeal.sig) → Buf (Elt Ideal) ℓ) : Prop :=
  True

def Pre_SsdGradInputRefIdeal (m : (ℓ : Loc Cert.SsdGradInputRefIdeal.nD Cert.SsdGradInputRefIdeal.τ Cert.SsdGradInputRefIdeal.sig) → Buf (Elt Ideal) ℓ) : Prop :=
  True

def Pre_SsdBackOut (m : (ℓ : Loc Cert.SsdBackOut.nD Cert.SsdBackOut.τ Cert.SsdBackOut.sig) → Buf (Elt Bits) ℓ) : Prop :=
  True

def Pre_SsdBackOutIdeal (m : (ℓ : Loc Cert.SsdBackOutIdeal.nD Cert.SsdBackOutIdeal.τ Cert.SsdBackOutIdeal.sig) → Buf (Elt Ideal) ℓ) : Prop :=
  True

def Pre_SsdBackOutRefIdeal (m : (ℓ : Loc Cert.SsdBackOutRefIdeal.nD Cert.SsdBackOutRefIdeal.τ Cert.SsdBackOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixGradOut (m : (ℓ : Loc Cert.MixGradOut.nD Cert.MixGradOut.τ Cert.MixGradOut.sig) → Buf (Elt Bits) ℓ) : Prop :=
  True

def Pre_MixGradOutIdeal (m : (ℓ : Loc Cert.MixGradOutIdeal.nD Cert.MixGradOutIdeal.τ Cert.MixGradOutIdeal.sig) → Buf (Elt Ideal) ℓ) : Prop :=
  True

def Pre_MixGradOutRefIdeal (m : (ℓ : Loc Cert.MixGradOutRefIdeal.nD Cert.MixGradOutRefIdeal.τ Cert.MixGradOutRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_SsdNormGrad (m : (ℓ : Loc Cert.SsdNormGrad.nD Cert.SsdNormGrad.τ Cert.SsdNormGrad.sig) → Buf (Elt Bits) ℓ) : Prop :=
  True

def Pre_SsdNormGradIdeal (m : (ℓ : Loc Cert.SsdNormGradIdeal.nD Cert.SsdNormGradIdeal.τ Cert.SsdNormGradIdeal.sig) → Buf (Elt Ideal) ℓ) : Prop :=
  True

def Pre_SsdNormGradIdeal_finite_ssd_norm [hPre_finite_ssd_norm : Cert.Pre_finite_ssd_norm.Facts] (m : (ℓ : Loc Cert.SsdNormGradIdeal.nD Cert.SsdNormGradIdeal.τ Cert.SsdNormGradIdeal.sig) → Buf (Elt Ideal) ℓ) : Prop :=
  ∀ c : Dev Cert.SsdNormGradIdeal.nD,
    (Cert.Pre_finite_ssd_norm.fn (F := Ideal) (m ((c.tc : Thread Cert.SsdNormGradIdeal.nD Cert.SsdNormGradIdeal.τ).loc Cert.SsdNormGradIdeal.main_arg0)) (m ((c.tc : Thread Cert.SsdNormGradIdeal.nD Cert.SsdNormGradIdeal.τ).loc Cert.SsdNormGradIdeal.main_arg1)) (m ((c.tc : Thread Cert.SsdNormGradIdeal.nD Cert.SsdNormGradIdeal.τ).loc Cert.SsdNormGradIdeal.main_arg2)) (m ((c.tc : Thread Cert.SsdNormGradIdeal.nD Cert.SsdNormGradIdeal.τ).loc Cert.SsdNormGradIdeal.main_arg3))) = (fun _ => 1#1)

def Pre_SsdNormGradRefIdeal (m : (ℓ : Loc Cert.SsdNormGradRefIdeal.nD Cert.SsdNormGradRefIdeal.τ Cert.SsdNormGradRefIdeal.sig) → Buf (Elt Ideal) ℓ) : Prop :=
  True

def Pre_SsdNormGradRefIdeal_finite_ssd_norm [hPre_finite_ssd_norm : Cert.Pre_finite_ssd_norm.Facts] (m : (ℓ : Loc Cert.SsdNormGradRefIdeal.nD Cert.SsdNormGradRefIdeal.τ Cert.SsdNormGradRefIdeal.sig) → Buf (Elt Ideal) ℓ) : Prop :=
  ∀ c : Dev Cert.SsdNormGradRefIdeal.nD,
    (Cert.Pre_finite_ssd_norm.fn (F := Ideal) (m ((c.tc : Thread Cert.SsdNormGradRefIdeal.nD Cert.SsdNormGradRefIdeal.τ).loc Cert.SsdNormGradRefIdeal.main_arg0)) (m ((c.tc : Thread Cert.SsdNormGradRefIdeal.nD Cert.SsdNormGradRefIdeal.τ).loc Cert.SsdNormGradRefIdeal.main_arg1)) (m ((c.tc : Thread Cert.SsdNormGradRefIdeal.nD Cert.SsdNormGradRefIdeal.τ).loc Cert.SsdNormGradRefIdeal.main_arg2)) (m ((c.tc : Thread Cert.SsdNormGradRefIdeal.nD Cert.SsdNormGradRefIdeal.τ).loc Cert.SsdNormGradRefIdeal.main_arg3))) = (fun _ => 1#1)

def Pre_SsdNorm (m : (ℓ : Loc Cert.SsdNorm.nD Cert.SsdNorm.τ Cert.SsdNorm.sig) → Buf (Elt Bits) ℓ) : Prop :=
  True

def Pre_SsdNormIdeal (m : (ℓ : Loc Cert.SsdNormIdeal.nD Cert.SsdNormIdeal.τ Cert.SsdNormIdeal.sig) → Buf (Elt Ideal) ℓ) : Prop :=
  True

def Pre_SsdNormRefIdeal (m : (ℓ : Loc Cert.SsdNormRefIdeal.nD Cert.SsdNormRefIdeal.τ Cert.SsdNormRefIdeal.sig) → Buf (Elt Ideal) ℓ) : Prop :=
  True

def Pre_ValuesNormGrad (m : (ℓ : Loc Cert.ValuesNormGrad.nD Cert.ValuesNormGrad.τ Cert.ValuesNormGrad.sig) → Buf (Elt Bits) ℓ) : Prop :=
  True

def Pre_ValuesNormGradIdeal (m : (ℓ : Loc Cert.ValuesNormGradIdeal.nD Cert.ValuesNormGradIdeal.τ Cert.ValuesNormGradIdeal.sig) → Buf (Elt Ideal) ℓ) : Prop :=
  True

def Pre_ValuesNormGradIdeal_finite_values [hPre_finite_values : Cert.Pre_finite_values.Facts] (m : (ℓ : Loc Cert.ValuesNormGradIdeal.nD Cert.ValuesNormGradIdeal.τ Cert.ValuesNormGradIdeal.sig) → Buf (Elt Ideal) ℓ) : Prop :=
  ∀ c : Dev Cert.ValuesNormGradIdeal.nD,
    (Cert.Pre_finite_values.fn (F := Ideal) (m ((c.tc : Thread Cert.ValuesNormGradIdeal.nD Cert.ValuesNormGradIdeal.τ).loc Cert.ValuesNormGradIdeal.main_arg0)) (m ((c.tc : Thread Cert.ValuesNormGradIdeal.nD Cert.ValuesNormGradIdeal.τ).loc Cert.ValuesNormGradIdeal.main_arg1)) (m ((c.tc : Thread Cert.ValuesNormGradIdeal.nD Cert.ValuesNormGradIdeal.τ).loc Cert.ValuesNormGradIdeal.main_arg2)) (m ((c.tc : Thread Cert.ValuesNormGradIdeal.nD Cert.ValuesNormGradIdeal.τ).loc Cert.ValuesNormGradIdeal.main_arg3))) = (fun _ => 1#1)

def Pre_ValuesNormGradRefIdeal (m : (ℓ : Loc Cert.ValuesNormGradRefIdeal.nD Cert.ValuesNormGradRefIdeal.τ Cert.ValuesNormGradRefIdeal.sig) → Buf (Elt Ideal) ℓ) : Prop :=
  True

def Pre_ValuesNormGradRefIdeal_finite_values [hPre_finite_values : Cert.Pre_finite_values.Facts] (m : (ℓ : Loc Cert.ValuesNormGradRefIdeal.nD Cert.ValuesNormGradRefIdeal.τ Cert.ValuesNormGradRefIdeal.sig) → Buf (Elt Ideal) ℓ) : Prop :=
  ∀ c : Dev Cert.ValuesNormGradRefIdeal.nD,
    (Cert.Pre_finite_values.fn (F := Ideal) (m ((c.tc : Thread Cert.ValuesNormGradRefIdeal.nD Cert.ValuesNormGradRefIdeal.τ).loc Cert.ValuesNormGradRefIdeal.main_arg0)) (m ((c.tc : Thread Cert.ValuesNormGradRefIdeal.nD Cert.ValuesNormGradRefIdeal.τ).loc Cert.ValuesNormGradRefIdeal.main_arg1)) (m ((c.tc : Thread Cert.ValuesNormGradRefIdeal.nD Cert.ValuesNormGradRefIdeal.τ).loc Cert.ValuesNormGradRefIdeal.main_arg2)) (m ((c.tc : Thread Cert.ValuesNormGradRefIdeal.nD Cert.ValuesNormGradRefIdeal.τ).loc Cert.ValuesNormGradRefIdeal.main_arg3))) = (fun _ => 1#1)

def Pre_ValuesNorm (m : (ℓ : Loc Cert.ValuesNorm.nD Cert.ValuesNorm.τ Cert.ValuesNorm.sig) → Buf (Elt Bits) ℓ) : Prop :=
  True

def Pre_ValuesNormIdeal (m : (ℓ : Loc Cert.ValuesNormIdeal.nD Cert.ValuesNormIdeal.τ Cert.ValuesNormIdeal.sig) → Buf (Elt Ideal) ℓ) : Prop :=
  True

def Pre_ValuesNormRefIdeal (m : (ℓ : Loc Cert.ValuesNormRefIdeal.nD Cert.ValuesNormRefIdeal.τ Cert.ValuesNormRefIdeal.sig) → Buf (Elt Ideal) ℓ) : Prop :=
  True

def Pre_GateOut (m : (ℓ : Loc Cert.GateOut.nD Cert.GateOut.τ Cert.GateOut.sig) → Buf (Elt Bits) ℓ) : Prop :=
  True

def Pre_GateOutIdeal (m : (ℓ : Loc Cert.GateOutIdeal.nD Cert.GateOutIdeal.τ Cert.GateOutIdeal.sig) → Buf (Elt Ideal) ℓ) : Prop :=
  True

def Pre_GateOutRefIdeal (m : (ℓ : Loc Cert.GateOutRefIdeal.nD Cert.GateOutRefIdeal.τ Cert.GateOutRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_SwigluGrad [hSwigluGrad : Cert.SwigluGrad.Facts] : Prop :=
  ∀ (m : (ℓ : Loc Cert.SwigluGrad.nD Cert.SwigluGrad.τ Cert.SwigluGrad.sig) → Buf (Elt Bits) ℓ) (g : Dev Cert.SwigluGrad.nD → PrngReg), Pre_SwigluGrad m →
    θ_run (Cert.SwigluGrad.defs (F := Bits)) (onTc (τ := Cert.SwigluGrad.τ) (Cert.SwigluGrad.main (F := Bits))) ⟨m, fun _ => 0, g⟩ (fun r => (∀ c : Dev Cert.SwigluGrad.nD,
      r.2.mem ((c.tc : Thread Cert.SwigluGrad.nD Cert.SwigluGrad.τ).loc Cert.SwigluGrad.main_arg0) = m ((c.tc : Thread Cert.SwigluGrad.nD Cert.SwigluGrad.τ).loc Cert.SwigluGrad.main_arg0)
      ∧ r.2.mem ((c.tc : Thread Cert.SwigluGrad.nD Cert.SwigluGrad.τ).loc Cert.SwigluGrad.main_arg1) = m ((c.tc : Thread Cert.SwigluGrad.nD Cert.SwigluGrad.τ).loc Cert.SwigluGrad.main_arg1)
      ∧ r.2.mem ((c.tc : Thread Cert.SwigluGrad.nD Cert.SwigluGrad.τ).loc Cert.SwigluGrad.main_arg2) = m ((c.tc : Thread Cert.SwigluGrad.nD Cert.SwigluGrad.τ).loc Cert.SwigluGrad.main_arg2))
      ∧ r.2.sem = fun _ => 0)

def quiescent_SwigluGradIdeal [hSwigluGradIdeal : Cert.SwigluGradIdeal.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2))
      ∧ r.2.sem = fun _ => 0)

def quiescent_SwigluGradIdeal_pre_finite_swiglu [hSwigluGradIdeal : Cert.SwigluGradIdeal.Facts] [hPre_finite_swiglu : Cert.Pre_finite_swiglu.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal_finite_swiglu m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
      ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2))
      ∧ r.2.sem = fun _ => 0)

def quiescent_SwigluGradRefIdeal [hSwigluGradRefIdeal : Cert.SwigluGradRefIdeal.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1)
      ∧ r.2.mem ((c.tc : Thread Cert.SwigluGradRefIdeal.nD Cert.SwigluGradRefIdeal.τ).loc Cert.SwigluGradRefIdeal.main_arg2) = m ((c.tc : Thread Cert.SwigluGradRefIdeal.nD Cert.SwigluGradRefIdeal.τ).loc Cert.SwigluGradRefIdeal.main_arg2))
      ∧ r.2.sem = fun _ => 0)

def quiescent_SwigluGradRefIdeal_pre_finite_swiglu [hSwigluGradRefIdeal : Cert.SwigluGradRefIdeal.Facts] [hPre_finite_swiglu : Cert.Pre_finite_swiglu.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal_finite_swiglu m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1)
      ∧ r.2.mem ((c.tc : Thread Cert.SwigluGradRefIdeal.nD Cert.SwigluGradRefIdeal.τ).loc Cert.SwigluGradRefIdeal.main_arg2) = m ((c.tc : Thread Cert.SwigluGradRefIdeal.nD Cert.SwigluGradRefIdeal.τ).loc Cert.SwigluGradRefIdeal.main_arg2))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradInput [hGradInput : Cert.GradInput.Facts] : Prop :=
  ∀ (m : (ℓ : Loc Cert.GradInput.nD Cert.GradInput.τ Cert.GradInput.sig) → Buf (Elt Bits) ℓ) (g : Dev Cert.GradInput.nD → PrngReg), Pre_GradInput m →
    θ_run (Cert.GradInput.defs (F := Bits)) (onTc (τ := Cert.GradInput.τ) (Cert.GradInput.main (F := Bits))) ⟨m, fun _ => 0, g⟩ (fun r => (∀ c : Dev Cert.GradInput.nD,
      r.2.mem ((c.tc : Thread Cert.GradInput.nD Cert.GradInput.τ).loc Cert.GradInput.main_arg0) = m ((c.tc : Thread Cert.GradInput.nD Cert.GradInput.τ).loc Cert.GradInput.main_arg0)
      ∧ r.2.mem ((c.tc : Thread Cert.GradInput.nD Cert.GradInput.τ).loc Cert.GradInput.main_arg1) = m ((c.tc : Thread Cert.GradInput.nD Cert.GradInput.τ).loc Cert.GradInput.main_arg1))
      ∧ r.2.sem = fun _ => 0)

def quiescent_GradInputIdeal [hGradInputIdeal : Cert.GradInputIdeal.Facts] : Prop :=
  ∀ (m : (ℓ : Loc Cert.GradInputIdeal.nD Cert.GradInputIdeal.τ Cert.GradInputIdeal.sig) → Buf (Elt Ideal) ℓ) (g : Dev Cert.GradInputIdeal.nD → PrngReg), Pre_GradInputIdeal m →
    θ_run (Cert.GradInputIdeal.defs (F := Ideal)) (onTc (τ := Cert.GradInputIdeal.τ) (Cert.GradInputIdeal.main (F := Ideal))) ⟨m, fun _ => 0, g⟩ (fun r => (∀ c : Dev Cert.GradInputIdeal.nD,
      r.2.mem ((c.tc : Thread Cert.GradInputIdeal.nD Cert.GradInputIdeal.τ).loc Cert.GradInputIdeal.main_arg0) = m ((c.tc : Thread Cert.GradInputIdeal.nD Cert.GradInputIdeal.τ).loc Cert.GradInputIdeal.main_arg0)
      ∧ r.2.mem ((c.tc : Thread Cert.GradInputIdeal.nD Cert.GradInputIdeal.τ).loc Cert.GradInputIdeal.main_arg1) = m ((c.tc : Thread Cert.GradInputIdeal.nD Cert.GradInputIdeal.τ).loc Cert.GradInputIdeal.main_arg1))
      ∧ r.2.sem = fun _ => 0)

def quiescent_GradInputRefIdeal [hGradInputRefIdeal : Cert.GradInputRefIdeal.Facts] : Prop :=
  ∀ (m : (ℓ : Loc Cert.GradInputRefIdeal.nD Cert.GradInputRefIdeal.τ Cert.GradInputRefIdeal.sig) → Buf (Elt Ideal) ℓ) (g : Dev Cert.GradInputRefIdeal.nD → PrngReg), Pre_GradInputRefIdeal m →
    θ_run (Cert.GradInputRefIdeal.defs (F := Ideal)) (onTc (τ := Cert.GradInputRefIdeal.τ) (Cert.GradInputRefIdeal.main (F := Ideal))) ⟨m, fun _ => 0, g⟩ (fun r => (∀ c : Dev Cert.GradInputRefIdeal.nD,
      r.2.mem ((c.tc : Thread Cert.GradInputRefIdeal.nD Cert.GradInputRefIdeal.τ).loc Cert.GradInputRefIdeal.main_arg0) = m ((c.tc : Thread Cert.GradInputRefIdeal.nD Cert.GradInputRefIdeal.τ).loc Cert.GradInputRefIdeal.main_arg0)
      ∧ r.2.mem ((c.tc : Thread Cert.GradInputRefIdeal.nD Cert.GradInputRefIdeal.τ).loc Cert.GradInputRefIdeal.main_arg1) = m ((c.tc : Thread Cert.GradInputRefIdeal.nD Cert.GradInputRefIdeal.τ).loc Cert.GradInputRefIdeal.main_arg1))
      ∧ r.2.sem = fun _ => 0)

def quiescent_SwigluIn [hSwigluIn : Cert.SwigluIn.Facts] : Prop :=
  ∀ (m : (ℓ : Loc Cert.SwigluIn.nD Cert.SwigluIn.τ Cert.SwigluIn.sig) → Buf (Elt Bits) ℓ) (g : Dev Cert.SwigluIn.nD → PrngReg), Pre_SwigluIn m →
    θ_run (Cert.SwigluIn.defs (F := Bits)) (onTc (τ := Cert.SwigluIn.τ) (Cert.SwigluIn.main (F := Bits))) ⟨m, fun _ => 0, g⟩ (fun r => (∀ c : Dev Cert.SwigluIn.nD,
      r.2.mem ((c.tc : Thread Cert.SwigluIn.nD Cert.SwigluIn.τ).loc Cert.SwigluIn.main_arg0) = m ((c.tc : Thread Cert.SwigluIn.nD Cert.SwigluIn.τ).loc Cert.SwigluIn.main_arg0)
      ∧ r.2.mem ((c.tc : Thread Cert.SwigluIn.nD Cert.SwigluIn.τ).loc Cert.SwigluIn.main_arg1) = m ((c.tc : Thread Cert.SwigluIn.nD Cert.SwigluIn.τ).loc Cert.SwigluIn.main_arg1))
      ∧ r.2.sem = fun _ => 0)

def quiescent_SwigluInIdeal [hSwigluInIdeal : Cert.SwigluInIdeal.Facts] : Prop :=
  ∀ (m : (ℓ : Loc Cert.SwigluInIdeal.nD Cert.SwigluInIdeal.τ Cert.SwigluInIdeal.sig) → Buf (Elt Ideal) ℓ) (g : Dev Cert.SwigluInIdeal.nD → PrngReg), Pre_SwigluInIdeal m →
    θ_run (Cert.SwigluInIdeal.defs (F := Ideal)) (onTc (τ := Cert.SwigluInIdeal.τ) (Cert.SwigluInIdeal.main (F := Ideal))) ⟨m, fun _ => 0, g⟩ (fun r => (∀ c : Dev Cert.SwigluInIdeal.nD,
      r.2.mem ((c.tc : Thread Cert.SwigluInIdeal.nD Cert.SwigluInIdeal.τ).loc Cert.SwigluInIdeal.main_arg0) = m ((c.tc : Thread Cert.SwigluInIdeal.nD Cert.SwigluInIdeal.τ).loc Cert.SwigluInIdeal.main_arg0)
      ∧ r.2.mem ((c.tc : Thread Cert.SwigluInIdeal.nD Cert.SwigluInIdeal.τ).loc Cert.SwigluInIdeal.main_arg1) = m ((c.tc : Thread Cert.SwigluInIdeal.nD Cert.SwigluInIdeal.τ).loc Cert.SwigluInIdeal.main_arg1))
      ∧ r.2.sem = fun _ => 0)

def quiescent_SwigluInRefIdeal [hSwigluInRefIdeal : Cert.SwigluInRefIdeal.Facts] : Prop :=
  ∀ (m : (ℓ : Loc Cert.SwigluInRefIdeal.nD Cert.SwigluInRefIdeal.τ Cert.SwigluInRefIdeal.sig) → Buf (Elt Ideal) ℓ) (g : Dev Cert.SwigluInRefIdeal.nD → PrngReg), Pre_SwigluInRefIdeal m →
    θ_run (Cert.SwigluInRefIdeal.defs (F := Ideal)) (onTc (τ := Cert.SwigluInRefIdeal.τ) (Cert.SwigluInRefIdeal.main (F := Ideal))) ⟨m, fun _ => 0, g⟩ (fun r => (∀ c : Dev Cert.SwigluInRefIdeal.nD,
      r.2.mem ((c.tc : Thread Cert.SwigluInRefIdeal.nD Cert.SwigluInRefIdeal.τ).loc Cert.SwigluInRefIdeal.main_arg0) = m ((c.tc : Thread Cert.SwigluInRefIdeal.nD Cert.SwigluInRefIdeal.τ).loc Cert.SwigluInRefIdeal.main_arg0)
      ∧ r.2.mem ((c.tc : Thread Cert.SwigluInRefIdeal.nD Cert.SwigluInRefIdeal.τ).loc Cert.SwigluInRefIdeal.main_arg1) = m ((c.tc : Thread Cert.SwigluInRefIdeal.nD Cert.SwigluInRefIdeal.τ).loc Cert.SwigluInRefIdeal.main_arg1))
      ∧ r.2.sem = fun _ => 0)

def quiescent_SwigluOut [hSwigluOut : Cert.SwigluOut.Facts] : Prop :=
  ∀ (m : (ℓ : Loc Cert.SwigluOut.nD Cert.SwigluOut.τ Cert.SwigluOut.sig) → Buf (Elt Bits) ℓ) (g : Dev Cert.SwigluOut.nD → PrngReg), Pre_SwigluOut m →
    θ_run (Cert.SwigluOut.defs (F := Bits)) (onTc (τ := Cert.SwigluOut.τ) (Cert.SwigluOut.main (F := Bits))) ⟨m, fun _ => 0, g⟩ (fun r => (∀ c : Dev Cert.SwigluOut.nD,
      r.2.mem ((c.tc : Thread Cert.SwigluOut.nD Cert.SwigluOut.τ).loc Cert.SwigluOut.main_arg0) = m ((c.tc : Thread Cert.SwigluOut.nD Cert.SwigluOut.τ).loc Cert.SwigluOut.main_arg0)
      ∧ r.2.mem ((c.tc : Thread Cert.SwigluOut.nD Cert.SwigluOut.τ).loc Cert.SwigluOut.main_arg1) = m ((c.tc : Thread Cert.SwigluOut.nD Cert.SwigluOut.τ).loc Cert.SwigluOut.main_arg1)
      ∧ r.2.mem ((c.tc : Thread Cert.SwigluOut.nD Cert.SwigluOut.τ).loc Cert.SwigluOut.main_arg2) = m ((c.tc : Thread Cert.SwigluOut.nD Cert.SwigluOut.τ).loc Cert.SwigluOut.main_arg2))
      ∧ r.2.sem = fun _ => 0)

def quiescent_SwigluOutIdeal [hSwigluOutIdeal : Cert.SwigluOutIdeal.Facts] : Prop :=
  ∀ (m : (ℓ : Loc Cert.SwigluOutIdeal.nD Cert.SwigluOutIdeal.τ Cert.SwigluOutIdeal.sig) → Buf (Elt Ideal) ℓ) (g : Dev Cert.SwigluOutIdeal.nD → PrngReg), Pre_SwigluOutIdeal m →
    θ_run (Cert.SwigluOutIdeal.defs (F := Ideal)) (onTc (τ := Cert.SwigluOutIdeal.τ) (Cert.SwigluOutIdeal.main (F := Ideal))) ⟨m, fun _ => 0, g⟩ (fun r => (∀ c : Dev Cert.SwigluOutIdeal.nD,
      r.2.mem ((c.tc : Thread Cert.SwigluOutIdeal.nD Cert.SwigluOutIdeal.τ).loc Cert.SwigluOutIdeal.main_arg0) = m ((c.tc : Thread Cert.SwigluOutIdeal.nD Cert.SwigluOutIdeal.τ).loc Cert.SwigluOutIdeal.main_arg0)
      ∧ r.2.mem ((c.tc : Thread Cert.SwigluOutIdeal.nD Cert.SwigluOutIdeal.τ).loc Cert.SwigluOutIdeal.main_arg1) = m ((c.tc : Thread Cert.SwigluOutIdeal.nD Cert.SwigluOutIdeal.τ).loc Cert.SwigluOutIdeal.main_arg1)
      ∧ r.2.mem ((c.tc : Thread Cert.SwigluOutIdeal.nD Cert.SwigluOutIdeal.τ).loc Cert.SwigluOutIdeal.main_arg2) = m ((c.tc : Thread Cert.SwigluOutIdeal.nD Cert.SwigluOutIdeal.τ).loc Cert.SwigluOutIdeal.main_arg2))
      ∧ r.2.sem = fun _ => 0)

def quiescent_SwigluOutRefIdeal [hSwigluOutRefIdeal : Cert.SwigluOutRefIdeal.Facts] : Prop :=
  ∀ (m : (ℓ : Loc Cert.SwigluOutRefIdeal.nD Cert.SwigluOutRefIdeal.τ Cert.SwigluOutRefIdeal.sig) → Buf (Elt Ideal) ℓ) (g : Dev Cert.SwigluOutRefIdeal.nD → PrngReg), Pre_SwigluOutRefIdeal m →
    θ_run (Cert.SwigluOutRefIdeal.defs (F := Ideal)) (onTc (τ := Cert.SwigluOutRefIdeal.τ) (Cert.SwigluOutRefIdeal.main (F := Ideal))) ⟨m, fun _ => 0, g⟩ (fun r => (∀ c : Dev Cert.SwigluOutRefIdeal.nD,
      r.2.mem ((c.tc : Thread Cert.SwigluOutRefIdeal.nD Cert.SwigluOutRefIdeal.τ).loc Cert.SwigluOutRefIdeal.main_arg0) = m ((c.tc : Thread Cert.SwigluOutRefIdeal.nD Cert.SwigluOutRefIdeal.τ).loc Cert.SwigluOutRefIdeal.main_arg0)
      ∧ r.2.mem ((c.tc : Thread Cert.SwigluOutRefIdeal.nD Cert.SwigluOutRefIdeal.τ).loc Cert.SwigluOutRefIdeal.main_arg1) = m ((c.tc : Thread Cert.SwigluOutRefIdeal.nD Cert.SwigluOutRefIdeal.τ).loc Cert.SwigluOutRefIdeal.main_arg1)
      ∧ r.2.mem ((c.tc : Thread Cert.SwigluOutRefIdeal.nD Cert.SwigluOutRefIdeal.τ).loc Cert.SwigluOutRefIdeal.main_arg2) = m ((c.tc : Thread Cert.SwigluOutRefIdeal.nD Cert.SwigluOutRefIdeal.τ).loc Cert.SwigluOutRefIdeal.main_arg2))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ r.2.sem = fun _ => 0)

def quiescent_GmInRefIdeal [hGmInRefIdeal : Cert.GmInRefIdeal.Facts] : Prop :=
  ∀ (m : (ℓ : Loc Cert.GmInRefIdeal.nD Cert.GmInRefIdeal.τ Cert.GmInRefIdeal.sig) → Buf (Elt Ideal) ℓ) (g : Dev Cert.GmInRefIdeal.nD → PrngReg), Pre_GmInRefIdeal m →
    θ_run (Cert.GmInRefIdeal.defs (F := Ideal)) (onTc (τ := Cert.GmInRefIdeal.τ) (Cert.GmInRefIdeal.main (F := Ideal))) ⟨m, fun _ => 0, g⟩ (fun r => (∀ c : Dev Cert.GmInRefIdeal.nD,
      r.2.mem ((c.tc : Thread Cert.GmInRefIdeal.nD Cert.GmInRefIdeal.τ).loc Cert.GmInRefIdeal.main_arg0) = m ((c.tc : Thread Cert.GmInRefIdeal.nD Cert.GmInRefIdeal.τ).loc Cert.GmInRefIdeal.main_arg0)
      ∧ r.2.mem ((c.tc : Thread Cert.GmInRefIdeal.nD Cert.GmInRefIdeal.τ).loc Cert.GmInRefIdeal.main_arg1) = m ((c.tc : Thread Cert.GmInRefIdeal.nD Cert.GmInRefIdeal.τ).loc Cert.GmInRefIdeal.main_arg1))
      ∧ r.2.sem = fun _ => 0)

def quiescent_GmGradIn [hGmGradIn : Cert.GmGradIn.Facts] : Prop :=
  ∀ (m : (ℓ : Loc Cert.GmGradIn.nD Cert.GmGradIn.τ Cert.GmGradIn.sig) → Buf (Elt Bits) ℓ) (g : Dev Cert.GmGradIn.nD → PrngReg), Pre_GmGradIn m →
    θ_run (Cert.GmGradIn.defs (F := Bits)) (onTc (τ := Cert.GmGradIn.τ) (Cert.GmGradIn.main (F := Bits))) ⟨m, fun _ => 0, g⟩ (fun r => (∀ c : Dev Cert.GmGradIn.nD,
      r.2.mem ((c.tc : Thread Cert.GmGradIn.nD Cert.GmGradIn.τ).loc Cert.GmGradIn.main_arg0) = m ((c.tc : Thread Cert.GmGradIn.nD Cert.GmGradIn.τ).loc Cert.GmGradIn.main_arg0)
      ∧ r.2.mem ((c.tc : Thread Cert.GmGradIn.nD Cert.GmGradIn.τ).loc Cert.GmGradIn.main_arg1) = m ((c.tc : Thread Cert.GmGradIn.nD Cert.GmGradIn.τ).loc Cert.GmGradIn.main_arg1))
      ∧ r.2.sem = fun _ => 0)

def quiescent_GmGradInIdeal [hGmGradInIdeal : Cert.GmGradInIdeal.Facts] : Prop :=
  ∀ (m : (ℓ : Loc Cert.GmGradInIdeal.nD Cert.GmGradInIdeal.τ Cert.GmGradInIdeal.sig) → Buf (Elt Ideal) ℓ) (g : Dev Cert.GmGradInIdeal.nD → PrngReg), Pre_GmGradInIdeal m →
    θ_run (Cert.GmGradInIdeal.defs (F := Ideal)) (onTc (τ := Cert.GmGradInIdeal.τ) (Cert.GmGradInIdeal.main (F := Ideal))) ⟨m, fun _ => 0, g⟩ (fun r => (∀ c : Dev Cert.GmGradInIdeal.nD,
      r.2.mem ((c.tc : Thread Cert.GmGradInIdeal.nD Cert.GmGradInIdeal.τ).loc Cert.GmGradInIdeal.main_arg0) = m ((c.tc : Thread Cert.GmGradInIdeal.nD Cert.GmGradInIdeal.τ).loc Cert.GmGradInIdeal.main_arg0)
      ∧ r.2.mem ((c.tc : Thread Cert.GmGradInIdeal.nD Cert.GmGradInIdeal.τ).loc Cert.GmGradInIdeal.main_arg1) = m ((c.tc : Thread Cert.GmGradInIdeal.nD Cert.GmGradInIdeal.τ).loc Cert.GmGradInIdeal.main_arg1))
      ∧ r.2.sem = fun _ => 0)

def quiescent_GmGradInRefIdeal [hGmGradInRefIdeal : Cert.GmGradInRefIdeal.Facts] : Prop :=
  ∀ (m : (ℓ : Loc Cert.GmGradInRefIdeal.nD Cert.GmGradInRefIdeal.τ Cert.GmGradInRefIdeal.sig) → Buf (Elt Ideal) ℓ) (g : Dev Cert.GmGradInRefIdeal.nD → PrngReg), Pre_GmGradInRefIdeal m →
    θ_run (Cert.GmGradInRefIdeal.defs (F := Ideal)) (onTc (τ := Cert.GmGradInRefIdeal.τ) (Cert.GmGradInRefIdeal.main (F := Ideal))) ⟨m, fun _ => 0, g⟩ (fun r => (∀ c : Dev Cert.GmGradInRefIdeal.nD,
      r.2.mem ((c.tc : Thread Cert.GmGradInRefIdeal.nD Cert.GmGradInRefIdeal.τ).loc Cert.GmGradInRefIdeal.main_arg0) = m ((c.tc : Thread Cert.GmGradInRefIdeal.nD Cert.GmGradInRefIdeal.τ).loc Cert.GmGradInRefIdeal.main_arg0)
      ∧ r.2.mem ((c.tc : Thread Cert.GmGradInRefIdeal.nD Cert.GmGradInRefIdeal.τ).loc Cert.GmGradInRefIdeal.main_arg1) = m ((c.tc : Thread Cert.GmGradInRefIdeal.nD Cert.GmGradInRefIdeal.τ).loc Cert.GmGradInRefIdeal.main_arg1))
      ∧ r.2.sem = fun _ => 0)

def quiescent_GmGradInput [hGmGradInput : Cert.GmGradInput.Facts] : Prop :=
  ∀ (m : (ℓ : Loc Cert.GmGradInput.nD Cert.GmGradInput.τ Cert.GmGradInput.sig) → Buf (Elt Bits) ℓ) (g : Dev Cert.GmGradInput.nD → PrngReg), Pre_GmGradInput m →
    θ_run (Cert.GmGradInput.defs (F := Bits)) (onTc (τ := Cert.GmGradInput.τ) (Cert.GmGradInput.main (F := Bits))) ⟨m, fun _ => 0, g⟩ (fun r => (∀ c : Dev Cert.GmGradInput.nD,
      r.2.mem ((c.tc : Thread Cert.GmGradInput.nD Cert.GmGradInput.τ).loc Cert.GmGradInput.main_arg0) = m ((c.tc : Thread Cert.GmGradInput.nD Cert.GmGradInput.τ).loc Cert.GmGradInput.main_arg0)
      ∧ r.2.mem ((c.tc : Thread Cert.GmGradInput.nD Cert.GmGradInput.τ).loc Cert.GmGradInput.main_arg1) = m ((c.tc : Thread Cert.GmGradInput.nD Cert.GmGradInput.τ).loc Cert.GmGradInput.main_arg1))
      ∧ r.2.sem = fun _ => 0)

def quiescent_GmGradInputIdeal [hGmGradInputIdeal : Cert.GmGradInputIdeal.Facts] : Prop :=
  ∀ (m : (ℓ : Loc Cert.GmGradInputIdeal.nD Cert.GmGradInputIdeal.τ Cert.GmGradInputIdeal.sig) → Buf (Elt Ideal) ℓ) (g : Dev Cert.GmGradInputIdeal.nD → PrngReg), Pre_GmGradInputIdeal m →
    θ_run (Cert.GmGradInputIdeal.defs (F := Ideal)) (onTc (τ := Cert.GmGradInputIdeal.τ) (Cert.GmGradInputIdeal.main (F := Ideal))) ⟨m, fun _ => 0, g⟩ (fun r => (∀ c : Dev Cert.GmGradInputIdeal.nD,
      r.2.mem ((c.tc : Thread Cert.GmGradInputIdeal.nD Cert.GmGradInputIdeal.τ).loc Cert.GmGradInputIdeal.main_arg0) = m ((c.tc : Thread Cert.GmGradInputIdeal.nD Cert.GmGradInputIdeal.τ).loc Cert.GmGradInputIdeal.main_arg0)
      ∧ r.2.mem ((c.tc : Thread Cert.GmGradInputIdeal.nD Cert.GmGradInputIdeal.τ).loc Cert.GmGradInputIdeal.main_arg1) = m ((c.tc : Thread Cert.GmGradInputIdeal.nD Cert.GmGradInputIdeal.τ).loc Cert.GmGradInputIdeal.main_arg1))
      ∧ r.2.sem = fun _ => 0)

def quiescent_GmGradInputRefIdeal [hGmGradInputRefIdeal : Cert.GmGradInputRefIdeal.Facts] : Prop :=
  ∀ (m : (ℓ : Loc Cert.GmGradInputRefIdeal.nD Cert.GmGradInputRefIdeal.τ Cert.GmGradInputRefIdeal.sig) → Buf (Elt Ideal) ℓ) (g : Dev Cert.GmGradInputRefIdeal.nD → PrngReg), Pre_GmGradInputRefIdeal m →
    θ_run (Cert.GmGradInputRefIdeal.defs (F := Ideal)) (onTc (τ := Cert.GmGradInputRefIdeal.τ) (Cert.GmGradInputRefIdeal.main (F := Ideal))) ⟨m, fun _ => 0, g⟩ (fun r => (∀ c : Dev Cert.GmGradInputRefIdeal.nD,
      r.2.mem ((c.tc : Thread Cert.GmGradInputRefIdeal.nD Cert.GmGradInputRefIdeal.τ).loc Cert.GmGradInputRefIdeal.main_arg0) = m ((c.tc : Thread Cert.GmGradInputRefIdeal.nD Cert.GmGradInputRefIdeal.τ).loc Cert.GmGradInputRefIdeal.main_arg0)
      ∧ r.2.mem ((c.tc : Thread Cert.GmGradInputRefIdeal.nD Cert.GmGradInputRefIdeal.τ).loc Cert.GmGradInputRefIdeal.main_arg1) = m ((c.tc : Thread Cert.GmGradInputRefIdeal.nD Cert.GmGradInputRefIdeal.τ).loc Cert.GmGradInputRefIdeal.main_arg1))
      ∧ r.2.sem = fun _ => 0)

def quiescent_GmBackOut [hGmBackOut : Cert.GmBackOut.Facts] : Prop :=
  ∀ (m : (ℓ : Loc Cert.GmBackOut.nD Cert.GmBackOut.τ Cert.GmBackOut.sig) → Buf (Elt Bits) ℓ) (g : Dev Cert.GmBackOut.nD → PrngReg), Pre_GmBackOut m →
    θ_run (Cert.GmBackOut.defs (F := Bits)) (onTc (τ := Cert.GmBackOut.τ) (Cert.GmBackOut.main (F := Bits))) ⟨m, fun _ => 0, g⟩ (fun r => (∀ c : Dev Cert.GmBackOut.nD,
      r.2.mem ((c.tc : Thread Cert.GmBackOut.nD Cert.GmBackOut.τ).loc Cert.GmBackOut.main_arg0) = m ((c.tc : Thread Cert.GmBackOut.nD Cert.GmBackOut.τ).loc Cert.GmBackOut.main_arg0)
      ∧ r.2.mem ((c.tc : Thread Cert.GmBackOut.nD Cert.GmBackOut.τ).loc Cert.GmBackOut.main_arg1) = m ((c.tc : Thread Cert.GmBackOut.nD Cert.GmBackOut.τ).loc Cert.GmBackOut.main_arg1))
      ∧ r.2.sem = fun _ => 0)

def quiescent_GmBackOutIdeal [hGmBackOutIdeal : Cert.GmBackOutIdeal.Facts] : Prop :=
  ∀ (m : (ℓ : Loc Cert.GmBackOutIdeal.nD Cert.GmBackOutIdeal.τ Cert.GmBackOutIdeal.sig) → Buf (Elt Ideal) ℓ) (g : Dev Cert.GmBackOutIdeal.nD → PrngReg), Pre_GmBackOutIdeal m →
    θ_run (Cert.GmBackOutIdeal.defs (F := Ideal)) (onTc (τ := Cert.GmBackOutIdeal.τ) (Cert.GmBackOutIdeal.main (F := Ideal))) ⟨m, fun _ => 0, g⟩ (fun r => (∀ c : Dev Cert.GmBackOutIdeal.nD,
      r.2.mem ((c.tc : Thread Cert.GmBackOutIdeal.nD Cert.GmBackOutIdeal.τ).loc Cert.GmBackOutIdeal.main_arg0) = m ((c.tc : Thread Cert.GmBackOutIdeal.nD Cert.GmBackOutIdeal.τ).loc Cert.GmBackOutIdeal.main_arg0)
      ∧ r.2.mem ((c.tc : Thread Cert.GmBackOutIdeal.nD Cert.GmBackOutIdeal.τ).loc Cert.GmBackOutIdeal.main_arg1) = m ((c.tc : Thread Cert.GmBackOutIdeal.nD Cert.GmBackOutIdeal.τ).loc Cert.GmBackOutIdeal.main_arg1))
      ∧ r.2.sem = fun _ => 0)

def quiescent_GmBackOutRefIdeal [hGmBackOutRefIdeal : Cert.GmBackOutRefIdeal.Facts] : Prop :=
  ∀ (m : (ℓ : Loc Cert.GmBackOutRefIdeal.nD Cert.GmBackOutRefIdeal.τ Cert.GmBackOutRefIdeal.sig) → Buf (Elt Ideal) ℓ) (g : Dev Cert.GmBackOutRefIdeal.nD → PrngReg), Pre_GmBackOutRefIdeal m →
    θ_run (Cert.GmBackOutRefIdeal.defs (F := Ideal)) (onTc (τ := Cert.GmBackOutRefIdeal.τ) (Cert.GmBackOutRefIdeal.main (F := Ideal))) ⟨m, fun _ => 0, g⟩ (fun r => (∀ c : Dev Cert.GmBackOutRefIdeal.nD,
      r.2.mem ((c.tc : Thread Cert.GmBackOutRefIdeal.nD Cert.GmBackOutRefIdeal.τ).loc Cert.GmBackOutRefIdeal.main_arg0) = m ((c.tc : Thread Cert.GmBackOutRefIdeal.nD Cert.GmBackOutRefIdeal.τ).loc Cert.GmBackOutRefIdeal.main_arg0)
      ∧ r.2.mem ((c.tc : Thread Cert.GmBackOutRefIdeal.nD Cert.GmBackOutRefIdeal.τ).loc Cert.GmBackOutRefIdeal.main_arg1) = m ((c.tc : Thread Cert.GmBackOutRefIdeal.nD Cert.GmBackOutRefIdeal.τ).loc Cert.GmBackOutRefIdeal.main_arg1))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1))
      ∧ r.2.sem = fun _ => 0)

def quiescent_SsdGradIn [hSsdGradIn : Cert.SsdGradIn.Facts] : Prop :=
  ∀ (m : (ℓ : Loc Cert.SsdGradIn.nD Cert.SsdGradIn.τ Cert.SsdGradIn.sig) → Buf (Elt Bits) ℓ) (g : Dev Cert.SsdGradIn.nD → PrngReg), Pre_SsdGradIn m →
    θ_run (Cert.SsdGradIn.defs (F := Bits)) (onTc (τ := Cert.SsdGradIn.τ) (Cert.SsdGradIn.main (F := Bits))) ⟨m, fun _ => 0, g⟩ (fun r => (∀ c : Dev Cert.SsdGradIn.nD,
      r.2.mem ((c.tc : Thread Cert.SsdGradIn.nD Cert.SsdGradIn.τ).loc Cert.SsdGradIn.main_arg0) = m ((c.tc : Thread Cert.SsdGradIn.nD Cert.SsdGradIn.τ).loc Cert.SsdGradIn.main_arg0)
      ∧ r.2.mem ((c.tc : Thread Cert.SsdGradIn.nD Cert.SsdGradIn.τ).loc Cert.SsdGradIn.main_arg1) = m ((c.tc : Thread Cert.SsdGradIn.nD Cert.SsdGradIn.τ).loc Cert.SsdGradIn.main_arg1))
      ∧ r.2.sem = fun _ => 0)

def quiescent_SsdGradInIdeal [hSsdGradInIdeal : Cert.SsdGradInIdeal.Facts] : Prop :=
  ∀ (m : (ℓ : Loc Cert.SsdGradInIdeal.nD Cert.SsdGradInIdeal.τ Cert.SsdGradInIdeal.sig) → Buf (Elt Ideal) ℓ) (g : Dev Cert.SsdGradInIdeal.nD → PrngReg), Pre_SsdGradInIdeal m →
    θ_run (Cert.SsdGradInIdeal.defs (F := Ideal)) (onTc (τ := Cert.SsdGradInIdeal.τ) (Cert.SsdGradInIdeal.main (F := Ideal))) ⟨m, fun _ => 0, g⟩ (fun r => (∀ c : Dev Cert.SsdGradInIdeal.nD,
      r.2.mem ((c.tc : Thread Cert.SsdGradInIdeal.nD Cert.SsdGradInIdeal.τ).loc Cert.SsdGradInIdeal.main_arg0) = m ((c.tc : Thread Cert.SsdGradInIdeal.nD Cert.SsdGradInIdeal.τ).loc Cert.SsdGradInIdeal.main_arg0)
      ∧ r.2.mem ((c.tc : Thread Cert.SsdGradInIdeal.nD Cert.SsdGradInIdeal.τ).loc Cert.SsdGradInIdeal.main_arg1) = m ((c.tc : Thread Cert.SsdGradInIdeal.nD Cert.SsdGradInIdeal.τ).loc Cert.SsdGradInIdeal.main_arg1))
      ∧ r.2.sem = fun _ => 0)

def quiescent_SsdGradInRefIdeal [hSsdGradInRefIdeal : Cert.SsdGradInRefIdeal.Facts] : Prop :=
  ∀ (m : (ℓ : Loc Cert.SsdGradInRefIdeal.nD Cert.SsdGradInRefIdeal.τ Cert.SsdGradInRefIdeal.sig) → Buf (Elt Ideal) ℓ) (g : Dev Cert.SsdGradInRefIdeal.nD → PrngReg), Pre_SsdGradInRefIdeal m →
    θ_run (Cert.SsdGradInRefIdeal.defs (F := Ideal)) (onTc (τ := Cert.SsdGradInRefIdeal.τ) (Cert.SsdGradInRefIdeal.main (F := Ideal))) ⟨m, fun _ => 0, g⟩ (fun r => (∀ c : Dev Cert.SsdGradInRefIdeal.nD,
      r.2.mem ((c.tc : Thread Cert.SsdGradInRefIdeal.nD Cert.SsdGradInRefIdeal.τ).loc Cert.SsdGradInRefIdeal.main_arg0) = m ((c.tc : Thread Cert.SsdGradInRefIdeal.nD Cert.SsdGradInRefIdeal.τ).loc Cert.SsdGradInRefIdeal.main_arg0)
      ∧ r.2.mem ((c.tc : Thread Cert.SsdGradInRefIdeal.nD Cert.SsdGradInRefIdeal.τ).loc Cert.SsdGradInRefIdeal.main_arg1) = m ((c.tc : Thread Cert.SsdGradInRefIdeal.nD Cert.SsdGradInRefIdeal.τ).loc Cert.SsdGradInRefIdeal.main_arg1))
      ∧ r.2.sem = fun _ => 0)

def quiescent_SsdGradInput [hSsdGradInput : Cert.SsdGradInput.Facts] : Prop :=
  ∀ (m : (ℓ : Loc Cert.SsdGradInput.nD Cert.SsdGradInput.τ Cert.SsdGradInput.sig) → Buf (Elt Bits) ℓ) (g : Dev Cert.SsdGradInput.nD → PrngReg), Pre_SsdGradInput m →
    θ_run (Cert.SsdGradInput.defs (F := Bits)) (onTc (τ := Cert.SsdGradInput.τ) (Cert.SsdGradInput.main (F := Bits))) ⟨m, fun _ => 0, g⟩ (fun r => (∀ c : Dev Cert.SsdGradInput.nD,
      r.2.mem ((c.tc : Thread Cert.SsdGradInput.nD Cert.SsdGradInput.τ).loc Cert.SsdGradInput.main_arg0) = m ((c.tc : Thread Cert.SsdGradInput.nD Cert.SsdGradInput.τ).loc Cert.SsdGradInput.main_arg0)
      ∧ r.2.mem ((c.tc : Thread Cert.SsdGradInput.nD Cert.SsdGradInput.τ).loc Cert.SsdGradInput.main_arg1) = m ((c.tc : Thread Cert.SsdGradInput.nD Cert.SsdGradInput.τ).loc Cert.SsdGradInput.main_arg1))
      ∧ r.2.sem = fun _ => 0)

def quiescent_SsdGradInputIdeal [hSsdGradInputIdeal : Cert.SsdGradInputIdeal.Facts] : Prop :=
  ∀ (m : (ℓ : Loc Cert.SsdGradInputIdeal.nD Cert.SsdGradInputIdeal.τ Cert.SsdGradInputIdeal.sig) → Buf (Elt Ideal) ℓ) (g : Dev Cert.SsdGradInputIdeal.nD → PrngReg), Pre_SsdGradInputIdeal m →
    θ_run (Cert.SsdGradInputIdeal.defs (F := Ideal)) (onTc (τ := Cert.SsdGradInputIdeal.τ) (Cert.SsdGradInputIdeal.main (F := Ideal))) ⟨m, fun _ => 0, g⟩ (fun r => (∀ c : Dev Cert.SsdGradInputIdeal.nD,
      r.2.mem ((c.tc : Thread Cert.SsdGradInputIdeal.nD Cert.SsdGradInputIdeal.τ).loc Cert.SsdGradInputIdeal.main_arg0) = m ((c.tc : Thread Cert.SsdGradInputIdeal.nD Cert.SsdGradInputIdeal.τ).loc Cert.SsdGradInputIdeal.main_arg0)
      ∧ r.2.mem ((c.tc : Thread Cert.SsdGradInputIdeal.nD Cert.SsdGradInputIdeal.τ).loc Cert.SsdGradInputIdeal.main_arg1) = m ((c.tc : Thread Cert.SsdGradInputIdeal.nD Cert.SsdGradInputIdeal.τ).loc Cert.SsdGradInputIdeal.main_arg1))
      ∧ r.2.sem = fun _ => 0)

def quiescent_SsdGradInputRefIdeal [hSsdGradInputRefIdeal : Cert.SsdGradInputRefIdeal.Facts] : Prop :=
  ∀ (m : (ℓ : Loc Cert.SsdGradInputRefIdeal.nD Cert.SsdGradInputRefIdeal.τ Cert.SsdGradInputRefIdeal.sig) → Buf (Elt Ideal) ℓ) (g : Dev Cert.SsdGradInputRefIdeal.nD → PrngReg), Pre_SsdGradInputRefIdeal m →
    θ_run (Cert.SsdGradInputRefIdeal.defs (F := Ideal)) (onTc (τ := Cert.SsdGradInputRefIdeal.τ) (Cert.SsdGradInputRefIdeal.main (F := Ideal))) ⟨m, fun _ => 0, g⟩ (fun r => (∀ c : Dev Cert.SsdGradInputRefIdeal.nD,
      r.2.mem ((c.tc : Thread Cert.SsdGradInputRefIdeal.nD Cert.SsdGradInputRefIdeal.τ).loc Cert.SsdGradInputRefIdeal.main_arg0) = m ((c.tc : Thread Cert.SsdGradInputRefIdeal.nD Cert.SsdGradInputRefIdeal.τ).loc Cert.SsdGradInputRefIdeal.main_arg0)
      ∧ r.2.mem ((c.tc : Thread Cert.SsdGradInputRefIdeal.nD Cert.SsdGradInputRefIdeal.τ).loc Cert.SsdGradInputRefIdeal.main_arg1) = m ((c.tc : Thread Cert.SsdGradInputRefIdeal.nD Cert.SsdGradInputRefIdeal.τ).loc Cert.SsdGradInputRefIdeal.main_arg1))
      ∧ r.2.sem = fun _ => 0)

def quiescent_SsdBackOut [hSsdBackOut : Cert.SsdBackOut.Facts] : Prop :=
  ∀ (m : (ℓ : Loc Cert.SsdBackOut.nD Cert.SsdBackOut.τ Cert.SsdBackOut.sig) → Buf (Elt Bits) ℓ) (g : Dev Cert.SsdBackOut.nD → PrngReg), Pre_SsdBackOut m →
    θ_run (Cert.SsdBackOut.defs (F := Bits)) (onTc (τ := Cert.SsdBackOut.τ) (Cert.SsdBackOut.main (F := Bits))) ⟨m, fun _ => 0, g⟩ (fun r => (∀ c : Dev Cert.SsdBackOut.nD,
      r.2.mem ((c.tc : Thread Cert.SsdBackOut.nD Cert.SsdBackOut.τ).loc Cert.SsdBackOut.main_arg0) = m ((c.tc : Thread Cert.SsdBackOut.nD Cert.SsdBackOut.τ).loc Cert.SsdBackOut.main_arg0)
      ∧ r.2.mem ((c.tc : Thread Cert.SsdBackOut.nD Cert.SsdBackOut.τ).loc Cert.SsdBackOut.main_arg1) = m ((c.tc : Thread Cert.SsdBackOut.nD Cert.SsdBackOut.τ).loc Cert.SsdBackOut.main_arg1))
      ∧ r.2.sem = fun _ => 0)

def quiescent_SsdBackOutIdeal [hSsdBackOutIdeal : Cert.SsdBackOutIdeal.Facts] : Prop :=
  ∀ (m : (ℓ : Loc Cert.SsdBackOutIdeal.nD Cert.SsdBackOutIdeal.τ Cert.SsdBackOutIdeal.sig) → Buf (Elt Ideal) ℓ) (g : Dev Cert.SsdBackOutIdeal.nD → PrngReg), Pre_SsdBackOutIdeal m →
    θ_run (Cert.SsdBackOutIdeal.defs (F := Ideal)) (onTc (τ := Cert.SsdBackOutIdeal.τ) (Cert.SsdBackOutIdeal.main (F := Ideal))) ⟨m, fun _ => 0, g⟩ (fun r => (∀ c : Dev Cert.SsdBackOutIdeal.nD,
      r.2.mem ((c.tc : Thread Cert.SsdBackOutIdeal.nD Cert.SsdBackOutIdeal.τ).loc Cert.SsdBackOutIdeal.main_arg0) = m ((c.tc : Thread Cert.SsdBackOutIdeal.nD Cert.SsdBackOutIdeal.τ).loc Cert.SsdBackOutIdeal.main_arg0)
      ∧ r.2.mem ((c.tc : Thread Cert.SsdBackOutIdeal.nD Cert.SsdBackOutIdeal.τ).loc Cert.SsdBackOutIdeal.main_arg1) = m ((c.tc : Thread Cert.SsdBackOutIdeal.nD Cert.SsdBackOutIdeal.τ).loc Cert.SsdBackOutIdeal.main_arg1))
      ∧ r.2.sem = fun _ => 0)

def quiescent_SsdBackOutRefIdeal [hSsdBackOutRefIdeal : Cert.SsdBackOutRefIdeal.Facts] : Prop :=
  ∀ (m : (ℓ : Loc Cert.SsdBackOutRefIdeal.nD Cert.SsdBackOutRefIdeal.τ Cert.SsdBackOutRefIdeal.sig) → Buf (Elt Ideal) ℓ) (g : Dev Cert.SsdBackOutRefIdeal.nD → PrngReg), Pre_SsdBackOutRefIdeal m →
    θ_run (Cert.SsdBackOutRefIdeal.defs (F := Ideal)) (onTc (τ := Cert.SsdBackOutRefIdeal.τ) (Cert.SsdBackOutRefIdeal.main (F := Ideal))) ⟨m, fun _ => 0, g⟩ (fun r => (∀ c : Dev Cert.SsdBackOutRefIdeal.nD,
      r.2.mem ((c.tc : Thread Cert.SsdBackOutRefIdeal.nD Cert.SsdBackOutRefIdeal.τ).loc Cert.SsdBackOutRefIdeal.main_arg0) = m ((c.tc : Thread Cert.SsdBackOutRefIdeal.nD Cert.SsdBackOutRefIdeal.τ).loc Cert.SsdBackOutRefIdeal.main_arg0)
      ∧ r.2.mem ((c.tc : Thread Cert.SsdBackOutRefIdeal.nD Cert.SsdBackOutRefIdeal.τ).loc Cert.SsdBackOutRefIdeal.main_arg1) = m ((c.tc : Thread Cert.SsdBackOutRefIdeal.nD Cert.SsdBackOutRefIdeal.τ).loc Cert.SsdBackOutRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_MixGradOut [hMixGradOut : Cert.MixGradOut.Facts] : Prop :=
  ∀ (m : (ℓ : Loc Cert.MixGradOut.nD Cert.MixGradOut.τ Cert.MixGradOut.sig) → Buf (Elt Bits) ℓ) (g : Dev Cert.MixGradOut.nD → PrngReg), Pre_MixGradOut m →
    θ_run (Cert.MixGradOut.defs (F := Bits)) (onTc (τ := Cert.MixGradOut.τ) (Cert.MixGradOut.main (F := Bits))) ⟨m, fun _ => 0, g⟩ (fun r => (∀ c : Dev Cert.MixGradOut.nD,
      r.2.mem ((c.tc : Thread Cert.MixGradOut.nD Cert.MixGradOut.τ).loc Cert.MixGradOut.main_arg0) = m ((c.tc : Thread Cert.MixGradOut.nD Cert.MixGradOut.τ).loc Cert.MixGradOut.main_arg0)
      ∧ r.2.mem ((c.tc : Thread Cert.MixGradOut.nD Cert.MixGradOut.τ).loc Cert.MixGradOut.main_arg1) = m ((c.tc : Thread Cert.MixGradOut.nD Cert.MixGradOut.τ).loc Cert.MixGradOut.main_arg1))
      ∧ r.2.sem = fun _ => 0)

def quiescent_MixGradOutIdeal [hMixGradOutIdeal : Cert.MixGradOutIdeal.Facts] : Prop :=
  ∀ (m : (ℓ : Loc Cert.MixGradOutIdeal.nD Cert.MixGradOutIdeal.τ Cert.MixGradOutIdeal.sig) → Buf (Elt Ideal) ℓ) (g : Dev Cert.MixGradOutIdeal.nD → PrngReg), Pre_MixGradOutIdeal m →
    θ_run (Cert.MixGradOutIdeal.defs (F := Ideal)) (onTc (τ := Cert.MixGradOutIdeal.τ) (Cert.MixGradOutIdeal.main (F := Ideal))) ⟨m, fun _ => 0, g⟩ (fun r => (∀ c : Dev Cert.MixGradOutIdeal.nD,
      r.2.mem ((c.tc : Thread Cert.MixGradOutIdeal.nD Cert.MixGradOutIdeal.τ).loc Cert.MixGradOutIdeal.main_arg0) = m ((c.tc : Thread Cert.MixGradOutIdeal.nD Cert.MixGradOutIdeal.τ).loc Cert.MixGradOutIdeal.main_arg0)
      ∧ r.2.mem ((c.tc : Thread Cert.MixGradOutIdeal.nD Cert.MixGradOutIdeal.τ).loc Cert.MixGradOutIdeal.main_arg1) = m ((c.tc : Thread Cert.MixGradOutIdeal.nD Cert.MixGradOutIdeal.τ).loc Cert.MixGradOutIdeal.main_arg1))
      ∧ r.2.sem = fun _ => 0)

def quiescent_MixGradOutRefIdeal [hMixGradOutRefIdeal : Cert.MixGradOutRefIdeal.Facts] : Prop :=
  ∀ (m : (ℓ : Loc Cert.MixGradOutRefIdeal.nD Cert.MixGradOutRefIdeal.τ Cert.MixGradOutRefIdeal.sig) → Buf (Elt Ideal) ℓ) (g : Dev Cert.MixGradOutRefIdeal.nD → PrngReg), Pre_MixGradOutRefIdeal m →
    θ_run (Cert.MixGradOutRefIdeal.defs (F := Ideal)) (onTc (τ := Cert.MixGradOutRefIdeal.τ) (Cert.MixGradOutRefIdeal.main (F := Ideal))) ⟨m, fun _ => 0, g⟩ (fun r => (∀ c : Dev Cert.MixGradOutRefIdeal.nD,
      r.2.mem ((c.tc : Thread Cert.MixGradOutRefIdeal.nD Cert.MixGradOutRefIdeal.τ).loc Cert.MixGradOutRefIdeal.main_arg0) = m ((c.tc : Thread Cert.MixGradOutRefIdeal.nD Cert.MixGradOutRefIdeal.τ).loc Cert.MixGradOutRefIdeal.main_arg0)
      ∧ r.2.mem ((c.tc : Thread Cert.MixGradOutRefIdeal.nD Cert.MixGradOutRefIdeal.τ).loc Cert.MixGradOutRefIdeal.main_arg1) = m ((c.tc : Thread Cert.MixGradOutRefIdeal.nD Cert.MixGradOutRefIdeal.τ).loc Cert.MixGradOutRefIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_SsdNormGrad [hSsdNormGrad : Cert.SsdNormGrad.Facts] : Prop :=
  ∀ (m : (ℓ : Loc Cert.SsdNormGrad.nD Cert.SsdNormGrad.τ Cert.SsdNormGrad.sig) → Buf (Elt Bits) ℓ) (g : Dev Cert.SsdNormGrad.nD → PrngReg), Pre_SsdNormGrad m →
    θ_run (Cert.SsdNormGrad.defs (F := Bits)) (onTc (τ := Cert.SsdNormGrad.τ) (Cert.SsdNormGrad.main (F := Bits))) ⟨m, fun _ => 0, g⟩ (fun r => (∀ c : Dev Cert.SsdNormGrad.nD,
      r.2.mem ((c.tc : Thread Cert.SsdNormGrad.nD Cert.SsdNormGrad.τ).loc Cert.SsdNormGrad.main_arg0) = m ((c.tc : Thread Cert.SsdNormGrad.nD Cert.SsdNormGrad.τ).loc Cert.SsdNormGrad.main_arg0)
      ∧ r.2.mem ((c.tc : Thread Cert.SsdNormGrad.nD Cert.SsdNormGrad.τ).loc Cert.SsdNormGrad.main_arg1) = m ((c.tc : Thread Cert.SsdNormGrad.nD Cert.SsdNormGrad.τ).loc Cert.SsdNormGrad.main_arg1)
      ∧ r.2.mem ((c.tc : Thread Cert.SsdNormGrad.nD Cert.SsdNormGrad.τ).loc Cert.SsdNormGrad.main_arg2) = m ((c.tc : Thread Cert.SsdNormGrad.nD Cert.SsdNormGrad.τ).loc Cert.SsdNormGrad.main_arg2)
      ∧ r.2.mem ((c.tc : Thread Cert.SsdNormGrad.nD Cert.SsdNormGrad.τ).loc Cert.SsdNormGrad.main_arg3) = m ((c.tc : Thread Cert.SsdNormGrad.nD Cert.SsdNormGrad.τ).loc Cert.SsdNormGrad.main_arg3))
      ∧ r.2.sem = fun _ => 0)

def quiescent_SsdNormGradIdeal [hSsdNormGradIdeal : Cert.SsdNormGradIdeal.Facts] : Prop :=
  ∀ (m : (ℓ : Loc Cert.SsdNormGradIdeal.nD Cert.SsdNormGradIdeal.τ Cert.SsdNormGradIdeal.sig) → Buf (Elt Ideal) ℓ) (g : Dev Cert.SsdNormGradIdeal.nD → PrngReg), Pre_SsdNormGradIdeal m →
    θ_run (Cert.SsdNormGradIdeal.defs (F := Ideal)) (onTc (τ := Cert.SsdNormGradIdeal.τ) (Cert.SsdNormGradIdeal.main (F := Ideal))) ⟨m, fun _ => 0, g⟩ (fun r => (∀ c : Dev Cert.SsdNormGradIdeal.nD,
      r.2.mem ((c.tc : Thread Cert.SsdNormGradIdeal.nD Cert.SsdNormGradIdeal.τ).loc Cert.SsdNormGradIdeal.main_arg0) = m ((c.tc : Thread Cert.SsdNormGradIdeal.nD Cert.SsdNormGradIdeal.τ).loc Cert.SsdNormGradIdeal.main_arg0)
      ∧ r.2.mem ((c.tc : Thread Cert.SsdNormGradIdeal.nD Cert.SsdNormGradIdeal.τ).loc Cert.SsdNormGradIdeal.main_arg1) = m ((c.tc : Thread Cert.SsdNormGradIdeal.nD Cert.SsdNormGradIdeal.τ).loc Cert.SsdNormGradIdeal.main_arg1)
      ∧ r.2.mem ((c.tc : Thread Cert.SsdNormGradIdeal.nD Cert.SsdNormGradIdeal.τ).loc Cert.SsdNormGradIdeal.main_arg2) = m ((c.tc : Thread Cert.SsdNormGradIdeal.nD Cert.SsdNormGradIdeal.τ).loc Cert.SsdNormGradIdeal.main_arg2)
      ∧ r.2.mem ((c.tc : Thread Cert.SsdNormGradIdeal.nD Cert.SsdNormGradIdeal.τ).loc Cert.SsdNormGradIdeal.main_arg3) = m ((c.tc : Thread Cert.SsdNormGradIdeal.nD Cert.SsdNormGradIdeal.τ).loc Cert.SsdNormGradIdeal.main_arg3))
      ∧ r.2.sem = fun _ => 0)

def quiescent_SsdNormGradIdeal_pre_finite_ssd_norm [hSsdNormGradIdeal : Cert.SsdNormGradIdeal.Facts] [hPre_finite_ssd_norm : Cert.Pre_finite_ssd_norm.Facts] : Prop :=
  ∀ (m : (ℓ : Loc Cert.SsdNormGradIdeal.nD Cert.SsdNormGradIdeal.τ Cert.SsdNormGradIdeal.sig) → Buf (Elt Ideal) ℓ) (g : Dev Cert.SsdNormGradIdeal.nD → PrngReg), Pre_SsdNormGradIdeal_finite_ssd_norm m →
    θ_run (Cert.SsdNormGradIdeal.defs (F := Ideal)) (onTc (τ := Cert.SsdNormGradIdeal.τ) (Cert.SsdNormGradIdeal.main (F := Ideal))) ⟨m, fun _ => 0, g⟩ (fun r => (∀ c : Dev Cert.SsdNormGradIdeal.nD,
      r.2.mem ((c.tc : Thread Cert.SsdNormGradIdeal.nD Cert.SsdNormGradIdeal.τ).loc Cert.SsdNormGradIdeal.main_arg0) = m ((c.tc : Thread Cert.SsdNormGradIdeal.nD Cert.SsdNormGradIdeal.τ).loc Cert.SsdNormGradIdeal.main_arg0)
      ∧ r.2.mem ((c.tc : Thread Cert.SsdNormGradIdeal.nD Cert.SsdNormGradIdeal.τ).loc Cert.SsdNormGradIdeal.main_arg1) = m ((c.tc : Thread Cert.SsdNormGradIdeal.nD Cert.SsdNormGradIdeal.τ).loc Cert.SsdNormGradIdeal.main_arg1)
      ∧ r.2.mem ((c.tc : Thread Cert.SsdNormGradIdeal.nD Cert.SsdNormGradIdeal.τ).loc Cert.SsdNormGradIdeal.main_arg2) = m ((c.tc : Thread Cert.SsdNormGradIdeal.nD Cert.SsdNormGradIdeal.τ).loc Cert.SsdNormGradIdeal.main_arg2)
      ∧ r.2.mem ((c.tc : Thread Cert.SsdNormGradIdeal.nD Cert.SsdNormGradIdeal.τ).loc Cert.SsdNormGradIdeal.main_arg3) = m ((c.tc : Thread Cert.SsdNormGradIdeal.nD Cert.SsdNormGradIdeal.τ).loc Cert.SsdNormGradIdeal.main_arg3))
      ∧ r.2.sem = fun _ => 0)

def quiescent_SsdNormGradRefIdeal [hSsdNormGradRefIdeal : Cert.SsdNormGradRefIdeal.Facts] : Prop :=
  ∀ (m : (ℓ : Loc Cert.SsdNormGradRefIdeal.nD Cert.SsdNormGradRefIdeal.τ Cert.SsdNormGradRefIdeal.sig) → Buf (Elt Ideal) ℓ) (g : Dev Cert.SsdNormGradRefIdeal.nD → PrngReg), Pre_SsdNormGradRefIdeal m →
    θ_run (Cert.SsdNormGradRefIdeal.defs (F := Ideal)) (onTc (τ := Cert.SsdNormGradRefIdeal.τ) (Cert.SsdNormGradRefIdeal.main (F := Ideal))) ⟨m, fun _ => 0, g⟩ (fun r => (∀ c : Dev Cert.SsdNormGradRefIdeal.nD,
      r.2.mem ((c.tc : Thread Cert.SsdNormGradRefIdeal.nD Cert.SsdNormGradRefIdeal.τ).loc Cert.SsdNormGradRefIdeal.main_arg0) = m ((c.tc : Thread Cert.SsdNormGradRefIdeal.nD Cert.SsdNormGradRefIdeal.τ).loc Cert.SsdNormGradRefIdeal.main_arg0)
      ∧ r.2.mem ((c.tc : Thread Cert.SsdNormGradRefIdeal.nD Cert.SsdNormGradRefIdeal.τ).loc Cert.SsdNormGradRefIdeal.main_arg1) = m ((c.tc : Thread Cert.SsdNormGradRefIdeal.nD Cert.SsdNormGradRefIdeal.τ).loc Cert.SsdNormGradRefIdeal.main_arg1)
      ∧ r.2.mem ((c.tc : Thread Cert.SsdNormGradRefIdeal.nD Cert.SsdNormGradRefIdeal.τ).loc Cert.SsdNormGradRefIdeal.main_arg2) = m ((c.tc : Thread Cert.SsdNormGradRefIdeal.nD Cert.SsdNormGradRefIdeal.τ).loc Cert.SsdNormGradRefIdeal.main_arg2)
      ∧ r.2.mem ((c.tc : Thread Cert.SsdNormGradRefIdeal.nD Cert.SsdNormGradRefIdeal.τ).loc Cert.SsdNormGradRefIdeal.main_arg3) = m ((c.tc : Thread Cert.SsdNormGradRefIdeal.nD Cert.SsdNormGradRefIdeal.τ).loc Cert.SsdNormGradRefIdeal.main_arg3))
      ∧ r.2.sem = fun _ => 0)

def quiescent_SsdNormGradRefIdeal_pre_finite_ssd_norm [hSsdNormGradRefIdeal : Cert.SsdNormGradRefIdeal.Facts] [hPre_finite_ssd_norm : Cert.Pre_finite_ssd_norm.Facts] : Prop :=
  ∀ (m : (ℓ : Loc Cert.SsdNormGradRefIdeal.nD Cert.SsdNormGradRefIdeal.τ Cert.SsdNormGradRefIdeal.sig) → Buf (Elt Ideal) ℓ) (g : Dev Cert.SsdNormGradRefIdeal.nD → PrngReg), Pre_SsdNormGradRefIdeal_finite_ssd_norm m →
    θ_run (Cert.SsdNormGradRefIdeal.defs (F := Ideal)) (onTc (τ := Cert.SsdNormGradRefIdeal.τ) (Cert.SsdNormGradRefIdeal.main (F := Ideal))) ⟨m, fun _ => 0, g⟩ (fun r => (∀ c : Dev Cert.SsdNormGradRefIdeal.nD,
      r.2.mem ((c.tc : Thread Cert.SsdNormGradRefIdeal.nD Cert.SsdNormGradRefIdeal.τ).loc Cert.SsdNormGradRefIdeal.main_arg0) = m ((c.tc : Thread Cert.SsdNormGradRefIdeal.nD Cert.SsdNormGradRefIdeal.τ).loc Cert.SsdNormGradRefIdeal.main_arg0)
      ∧ r.2.mem ((c.tc : Thread Cert.SsdNormGradRefIdeal.nD Cert.SsdNormGradRefIdeal.τ).loc Cert.SsdNormGradRefIdeal.main_arg1) = m ((c.tc : Thread Cert.SsdNormGradRefIdeal.nD Cert.SsdNormGradRefIdeal.τ).loc Cert.SsdNormGradRefIdeal.main_arg1)
      ∧ r.2.mem ((c.tc : Thread Cert.SsdNormGradRefIdeal.nD Cert.SsdNormGradRefIdeal.τ).loc Cert.SsdNormGradRefIdeal.main_arg2) = m ((c.tc : Thread Cert.SsdNormGradRefIdeal.nD Cert.SsdNormGradRefIdeal.τ).loc Cert.SsdNormGradRefIdeal.main_arg2)
      ∧ r.2.mem ((c.tc : Thread Cert.SsdNormGradRefIdeal.nD Cert.SsdNormGradRefIdeal.τ).loc Cert.SsdNormGradRefIdeal.main_arg3) = m ((c.tc : Thread Cert.SsdNormGradRefIdeal.nD Cert.SsdNormGradRefIdeal.τ).loc Cert.SsdNormGradRefIdeal.main_arg3))
      ∧ r.2.sem = fun _ => 0)

def quiescent_SsdNorm [hSsdNorm : Cert.SsdNorm.Facts] : Prop :=
  ∀ (m : (ℓ : Loc Cert.SsdNorm.nD Cert.SsdNorm.τ Cert.SsdNorm.sig) → Buf (Elt Bits) ℓ) (g : Dev Cert.SsdNorm.nD → PrngReg), Pre_SsdNorm m →
    θ_run (Cert.SsdNorm.defs (F := Bits)) (onTc (τ := Cert.SsdNorm.τ) (Cert.SsdNorm.main (F := Bits))) ⟨m, fun _ => 0, g⟩ (fun r => (∀ c : Dev Cert.SsdNorm.nD,
      r.2.mem ((c.tc : Thread Cert.SsdNorm.nD Cert.SsdNorm.τ).loc Cert.SsdNorm.main_arg0) = m ((c.tc : Thread Cert.SsdNorm.nD Cert.SsdNorm.τ).loc Cert.SsdNorm.main_arg0)
      ∧ r.2.mem ((c.tc : Thread Cert.SsdNorm.nD Cert.SsdNorm.τ).loc Cert.SsdNorm.main_arg1) = m ((c.tc : Thread Cert.SsdNorm.nD Cert.SsdNorm.τ).loc Cert.SsdNorm.main_arg1)
      ∧ r.2.mem ((c.tc : Thread Cert.SsdNorm.nD Cert.SsdNorm.τ).loc Cert.SsdNorm.main_arg2) = m ((c.tc : Thread Cert.SsdNorm.nD Cert.SsdNorm.τ).loc Cert.SsdNorm.main_arg2))
      ∧ r.2.sem = fun _ => 0)

def quiescent_SsdNormIdeal [hSsdNormIdeal : Cert.SsdNormIdeal.Facts] : Prop :=
  ∀ (m : (ℓ : Loc Cert.SsdNormIdeal.nD Cert.SsdNormIdeal.τ Cert.SsdNormIdeal.sig) → Buf (Elt Ideal) ℓ) (g : Dev Cert.SsdNormIdeal.nD → PrngReg), Pre_SsdNormIdeal m →
    θ_run (Cert.SsdNormIdeal.defs (F := Ideal)) (onTc (τ := Cert.SsdNormIdeal.τ) (Cert.SsdNormIdeal.main (F := Ideal))) ⟨m, fun _ => 0, g⟩ (fun r => (∀ c : Dev Cert.SsdNormIdeal.nD,
      r.2.mem ((c.tc : Thread Cert.SsdNormIdeal.nD Cert.SsdNormIdeal.τ).loc Cert.SsdNormIdeal.main_arg0) = m ((c.tc : Thread Cert.SsdNormIdeal.nD Cert.SsdNormIdeal.τ).loc Cert.SsdNormIdeal.main_arg0)
      ∧ r.2.mem ((c.tc : Thread Cert.SsdNormIdeal.nD Cert.SsdNormIdeal.τ).loc Cert.SsdNormIdeal.main_arg1) = m ((c.tc : Thread Cert.SsdNormIdeal.nD Cert.SsdNormIdeal.τ).loc Cert.SsdNormIdeal.main_arg1)
      ∧ r.2.mem ((c.tc : Thread Cert.SsdNormIdeal.nD Cert.SsdNormIdeal.τ).loc Cert.SsdNormIdeal.main_arg2) = m ((c.tc : Thread Cert.SsdNormIdeal.nD Cert.SsdNormIdeal.τ).loc Cert.SsdNormIdeal.main_arg2))
      ∧ r.2.sem = fun _ => 0)

def quiescent_SsdNormRefIdeal [hSsdNormRefIdeal : Cert.SsdNormRefIdeal.Facts] : Prop :=
  ∀ (m : (ℓ : Loc Cert.SsdNormRefIdeal.nD Cert.SsdNormRefIdeal.τ Cert.SsdNormRefIdeal.sig) → Buf (Elt Ideal) ℓ) (g : Dev Cert.SsdNormRefIdeal.nD → PrngReg), Pre_SsdNormRefIdeal m →
    θ_run (Cert.SsdNormRefIdeal.defs (F := Ideal)) (onTc (τ := Cert.SsdNormRefIdeal.τ) (Cert.SsdNormRefIdeal.main (F := Ideal))) ⟨m, fun _ => 0, g⟩ (fun r => (∀ c : Dev Cert.SsdNormRefIdeal.nD,
      r.2.mem ((c.tc : Thread Cert.SsdNormRefIdeal.nD Cert.SsdNormRefIdeal.τ).loc Cert.SsdNormRefIdeal.main_arg0) = m ((c.tc : Thread Cert.SsdNormRefIdeal.nD Cert.SsdNormRefIdeal.τ).loc Cert.SsdNormRefIdeal.main_arg0)
      ∧ r.2.mem ((c.tc : Thread Cert.SsdNormRefIdeal.nD Cert.SsdNormRefIdeal.τ).loc Cert.SsdNormRefIdeal.main_arg1) = m ((c.tc : Thread Cert.SsdNormRefIdeal.nD Cert.SsdNormRefIdeal.τ).loc Cert.SsdNormRefIdeal.main_arg1)
      ∧ r.2.mem ((c.tc : Thread Cert.SsdNormRefIdeal.nD Cert.SsdNormRefIdeal.τ).loc Cert.SsdNormRefIdeal.main_arg2) = m ((c.tc : Thread Cert.SsdNormRefIdeal.nD Cert.SsdNormRefIdeal.τ).loc Cert.SsdNormRefIdeal.main_arg2))
      ∧ r.2.sem = fun _ => 0)

def quiescent_ValuesNormGrad [hValuesNormGrad : Cert.ValuesNormGrad.Facts] : Prop :=
  ∀ (m : (ℓ : Loc Cert.ValuesNormGrad.nD Cert.ValuesNormGrad.τ Cert.ValuesNormGrad.sig) → Buf (Elt Bits) ℓ) (g : Dev Cert.ValuesNormGrad.nD → PrngReg), Pre_ValuesNormGrad m →
    θ_run (Cert.ValuesNormGrad.defs (F := Bits)) (onTc (τ := Cert.ValuesNormGrad.τ) (Cert.ValuesNormGrad.main (F := Bits))) ⟨m, fun _ => 0, g⟩ (fun r => (∀ c : Dev Cert.ValuesNormGrad.nD,
      r.2.mem ((c.tc : Thread Cert.ValuesNormGrad.nD Cert.ValuesNormGrad.τ).loc Cert.ValuesNormGrad.main_arg0) = m ((c.tc : Thread Cert.ValuesNormGrad.nD Cert.ValuesNormGrad.τ).loc Cert.ValuesNormGrad.main_arg0)
      ∧ r.2.mem ((c.tc : Thread Cert.ValuesNormGrad.nD Cert.ValuesNormGrad.τ).loc Cert.ValuesNormGrad.main_arg1) = m ((c.tc : Thread Cert.ValuesNormGrad.nD Cert.ValuesNormGrad.τ).loc Cert.ValuesNormGrad.main_arg1)
      ∧ r.2.mem ((c.tc : Thread Cert.ValuesNormGrad.nD Cert.ValuesNormGrad.τ).loc Cert.ValuesNormGrad.main_arg2) = m ((c.tc : Thread Cert.ValuesNormGrad.nD Cert.ValuesNormGrad.τ).loc Cert.ValuesNormGrad.main_arg2)
      ∧ r.2.mem ((c.tc : Thread Cert.ValuesNormGrad.nD Cert.ValuesNormGrad.τ).loc Cert.ValuesNormGrad.main_arg3) = m ((c.tc : Thread Cert.ValuesNormGrad.nD Cert.ValuesNormGrad.τ).loc Cert.ValuesNormGrad.main_arg3))
      ∧ r.2.sem = fun _ => 0)

def quiescent_ValuesNormGradIdeal [hValuesNormGradIdeal : Cert.ValuesNormGradIdeal.Facts] : Prop :=
  ∀ (m : (ℓ : Loc Cert.ValuesNormGradIdeal.nD Cert.ValuesNormGradIdeal.τ Cert.ValuesNormGradIdeal.sig) → Buf (Elt Ideal) ℓ) (g : Dev Cert.ValuesNormGradIdeal.nD → PrngReg), Pre_ValuesNormGradIdeal m →
    θ_run (Cert.ValuesNormGradIdeal.defs (F := Ideal)) (onTc (τ := Cert.ValuesNormGradIdeal.τ) (Cert.ValuesNormGradIdeal.main (F := Ideal))) ⟨m, fun _ => 0, g⟩ (fun r => (∀ c : Dev Cert.ValuesNormGradIdeal.nD,
      r.2.mem ((c.tc : Thread Cert.ValuesNormGradIdeal.nD Cert.ValuesNormGradIdeal.τ).loc Cert.ValuesNormGradIdeal.main_arg0) = m ((c.tc : Thread Cert.ValuesNormGradIdeal.nD Cert.ValuesNormGradIdeal.τ).loc Cert.ValuesNormGradIdeal.main_arg0)
      ∧ r.2.mem ((c.tc : Thread Cert.ValuesNormGradIdeal.nD Cert.ValuesNormGradIdeal.τ).loc Cert.ValuesNormGradIdeal.main_arg1) = m ((c.tc : Thread Cert.ValuesNormGradIdeal.nD Cert.ValuesNormGradIdeal.τ).loc Cert.ValuesNormGradIdeal.main_arg1)
      ∧ r.2.mem ((c.tc : Thread Cert.ValuesNormGradIdeal.nD Cert.ValuesNormGradIdeal.τ).loc Cert.ValuesNormGradIdeal.main_arg2) = m ((c.tc : Thread Cert.ValuesNormGradIdeal.nD Cert.ValuesNormGradIdeal.τ).loc Cert.ValuesNormGradIdeal.main_arg2)
      ∧ r.2.mem ((c.tc : Thread Cert.ValuesNormGradIdeal.nD Cert.ValuesNormGradIdeal.τ).loc Cert.ValuesNormGradIdeal.main_arg3) = m ((c.tc : Thread Cert.ValuesNormGradIdeal.nD Cert.ValuesNormGradIdeal.τ).loc Cert.ValuesNormGradIdeal.main_arg3))
      ∧ r.2.sem = fun _ => 0)

def quiescent_ValuesNormGradIdeal_pre_finite_values [hValuesNormGradIdeal : Cert.ValuesNormGradIdeal.Facts] [hPre_finite_values : Cert.Pre_finite_values.Facts] : Prop :=
  ∀ (m : (ℓ : Loc Cert.ValuesNormGradIdeal.nD Cert.ValuesNormGradIdeal.τ Cert.ValuesNormGradIdeal.sig) → Buf (Elt Ideal) ℓ) (g : Dev Cert.ValuesNormGradIdeal.nD → PrngReg), Pre_ValuesNormGradIdeal_finite_values m →
    θ_run (Cert.ValuesNormGradIdeal.defs (F := Ideal)) (onTc (τ := Cert.ValuesNormGradIdeal.τ) (Cert.ValuesNormGradIdeal.main (F := Ideal))) ⟨m, fun _ => 0, g⟩ (fun r => (∀ c : Dev Cert.ValuesNormGradIdeal.nD,
      r.2.mem ((c.tc : Thread Cert.ValuesNormGradIdeal.nD Cert.ValuesNormGradIdeal.τ).loc Cert.ValuesNormGradIdeal.main_arg0) = m ((c.tc : Thread Cert.ValuesNormGradIdeal.nD Cert.ValuesNormGradIdeal.τ).loc Cert.ValuesNormGradIdeal.main_arg0)
      ∧ r.2.mem ((c.tc : Thread Cert.ValuesNormGradIdeal.nD Cert.ValuesNormGradIdeal.τ).loc Cert.ValuesNormGradIdeal.main_arg1) = m ((c.tc : Thread Cert.ValuesNormGradIdeal.nD Cert.ValuesNormGradIdeal.τ).loc Cert.ValuesNormGradIdeal.main_arg1)
      ∧ r.2.mem ((c.tc : Thread Cert.ValuesNormGradIdeal.nD Cert.ValuesNormGradIdeal.τ).loc Cert.ValuesNormGradIdeal.main_arg2) = m ((c.tc : Thread Cert.ValuesNormGradIdeal.nD Cert.ValuesNormGradIdeal.τ).loc Cert.ValuesNormGradIdeal.main_arg2)
      ∧ r.2.mem ((c.tc : Thread Cert.ValuesNormGradIdeal.nD Cert.ValuesNormGradIdeal.τ).loc Cert.ValuesNormGradIdeal.main_arg3) = m ((c.tc : Thread Cert.ValuesNormGradIdeal.nD Cert.ValuesNormGradIdeal.τ).loc Cert.ValuesNormGradIdeal.main_arg3))
      ∧ r.2.sem = fun _ => 0)

def quiescent_ValuesNormGradRefIdeal [hValuesNormGradRefIdeal : Cert.ValuesNormGradRefIdeal.Facts] : Prop :=
  ∀ (m : (ℓ : Loc Cert.ValuesNormGradRefIdeal.nD Cert.ValuesNormGradRefIdeal.τ Cert.ValuesNormGradRefIdeal.sig) → Buf (Elt Ideal) ℓ) (g : Dev Cert.ValuesNormGradRefIdeal.nD → PrngReg), Pre_ValuesNormGradRefIdeal m →
    θ_run (Cert.ValuesNormGradRefIdeal.defs (F := Ideal)) (onTc (τ := Cert.ValuesNormGradRefIdeal.τ) (Cert.ValuesNormGradRefIdeal.main (F := Ideal))) ⟨m, fun _ => 0, g⟩ (fun r => (∀ c : Dev Cert.ValuesNormGradRefIdeal.nD,
      r.2.mem ((c.tc : Thread Cert.ValuesNormGradRefIdeal.nD Cert.ValuesNormGradRefIdeal.τ).loc Cert.ValuesNormGradRefIdeal.main_arg0) = m ((c.tc : Thread Cert.ValuesNormGradRefIdeal.nD Cert.ValuesNormGradRefIdeal.τ).loc Cert.ValuesNormGradRefIdeal.main_arg0)
      ∧ r.2.mem ((c.tc : Thread Cert.ValuesNormGradRefIdeal.nD Cert.ValuesNormGradRefIdeal.τ).loc Cert.ValuesNormGradRefIdeal.main_arg1) = m ((c.tc : Thread Cert.ValuesNormGradRefIdeal.nD Cert.ValuesNormGradRefIdeal.τ).loc Cert.ValuesNormGradRefIdeal.main_arg1)
      ∧ r.2.mem ((c.tc : Thread Cert.ValuesNormGradRefIdeal.nD Cert.ValuesNormGradRefIdeal.τ).loc Cert.ValuesNormGradRefIdeal.main_arg2) = m ((c.tc : Thread Cert.ValuesNormGradRefIdeal.nD Cert.ValuesNormGradRefIdeal.τ).loc Cert.ValuesNormGradRefIdeal.main_arg2)
      ∧ r.2.mem ((c.tc : Thread Cert.ValuesNormGradRefIdeal.nD Cert.ValuesNormGradRefIdeal.τ).loc Cert.ValuesNormGradRefIdeal.main_arg3) = m ((c.tc : Thread Cert.ValuesNormGradRefIdeal.nD Cert.ValuesNormGradRefIdeal.τ).loc Cert.ValuesNormGradRefIdeal.main_arg3))
      ∧ r.2.sem = fun _ => 0)

def quiescent_ValuesNormGradRefIdeal_pre_finite_values [hValuesNormGradRefIdeal : Cert.ValuesNormGradRefIdeal.Facts] [hPre_finite_values : Cert.Pre_finite_values.Facts] : Prop :=
  ∀ (m : (ℓ : Loc Cert.ValuesNormGradRefIdeal.nD Cert.ValuesNormGradRefIdeal.τ Cert.ValuesNormGradRefIdeal.sig) → Buf (Elt Ideal) ℓ) (g : Dev Cert.ValuesNormGradRefIdeal.nD → PrngReg), Pre_ValuesNormGradRefIdeal_finite_values m →
    θ_run (Cert.ValuesNormGradRefIdeal.defs (F := Ideal)) (onTc (τ := Cert.ValuesNormGradRefIdeal.τ) (Cert.ValuesNormGradRefIdeal.main (F := Ideal))) ⟨m, fun _ => 0, g⟩ (fun r => (∀ c : Dev Cert.ValuesNormGradRefIdeal.nD,
      r.2.mem ((c.tc : Thread Cert.ValuesNormGradRefIdeal.nD Cert.ValuesNormGradRefIdeal.τ).loc Cert.ValuesNormGradRefIdeal.main_arg0) = m ((c.tc : Thread Cert.ValuesNormGradRefIdeal.nD Cert.ValuesNormGradRefIdeal.τ).loc Cert.ValuesNormGradRefIdeal.main_arg0)
      ∧ r.2.mem ((c.tc : Thread Cert.ValuesNormGradRefIdeal.nD Cert.ValuesNormGradRefIdeal.τ).loc Cert.ValuesNormGradRefIdeal.main_arg1) = m ((c.tc : Thread Cert.ValuesNormGradRefIdeal.nD Cert.ValuesNormGradRefIdeal.τ).loc Cert.ValuesNormGradRefIdeal.main_arg1)
      ∧ r.2.mem ((c.tc : Thread Cert.ValuesNormGradRefIdeal.nD Cert.ValuesNormGradRefIdeal.τ).loc Cert.ValuesNormGradRefIdeal.main_arg2) = m ((c.tc : Thread Cert.ValuesNormGradRefIdeal.nD Cert.ValuesNormGradRefIdeal.τ).loc Cert.ValuesNormGradRefIdeal.main_arg2)
      ∧ r.2.mem ((c.tc : Thread Cert.ValuesNormGradRefIdeal.nD Cert.ValuesNormGradRefIdeal.τ).loc Cert.ValuesNormGradRefIdeal.main_arg3) = m ((c.tc : Thread Cert.ValuesNormGradRefIdeal.nD Cert.ValuesNormGradRefIdeal.τ).loc Cert.ValuesNormGradRefIdeal.main_arg3))
      ∧ r.2.sem = fun _ => 0)

def quiescent_ValuesNorm [hValuesNorm : Cert.ValuesNorm.Facts] : Prop :=
  ∀ (m : (ℓ : Loc Cert.ValuesNorm.nD Cert.ValuesNorm.τ Cert.ValuesNorm.sig) → Buf (Elt Bits) ℓ) (g : Dev Cert.ValuesNorm.nD → PrngReg), Pre_ValuesNorm m →
    θ_run (Cert.ValuesNorm.defs (F := Bits)) (onTc (τ := Cert.ValuesNorm.τ) (Cert.ValuesNorm.main (F := Bits))) ⟨m, fun _ => 0, g⟩ (fun r => (∀ c : Dev Cert.ValuesNorm.nD,
      r.2.mem ((c.tc : Thread Cert.ValuesNorm.nD Cert.ValuesNorm.τ).loc Cert.ValuesNorm.main_arg0) = m ((c.tc : Thread Cert.ValuesNorm.nD Cert.ValuesNorm.τ).loc Cert.ValuesNorm.main_arg0)
      ∧ r.2.mem ((c.tc : Thread Cert.ValuesNorm.nD Cert.ValuesNorm.τ).loc Cert.ValuesNorm.main_arg1) = m ((c.tc : Thread Cert.ValuesNorm.nD Cert.ValuesNorm.τ).loc Cert.ValuesNorm.main_arg1))
      ∧ r.2.sem = fun _ => 0)

def quiescent_ValuesNormIdeal [hValuesNormIdeal : Cert.ValuesNormIdeal.Facts] : Prop :=
  ∀ (m : (ℓ : Loc Cert.ValuesNormIdeal.nD Cert.ValuesNormIdeal.τ Cert.ValuesNormIdeal.sig) → Buf (Elt Ideal) ℓ) (g : Dev Cert.ValuesNormIdeal.nD → PrngReg), Pre_ValuesNormIdeal m →
    θ_run (Cert.ValuesNormIdeal.defs (F := Ideal)) (onTc (τ := Cert.ValuesNormIdeal.τ) (Cert.ValuesNormIdeal.main (F := Ideal))) ⟨m, fun _ => 0, g⟩ (fun r => (∀ c : Dev Cert.ValuesNormIdeal.nD,
      r.2.mem ((c.tc : Thread Cert.ValuesNormIdeal.nD Cert.ValuesNormIdeal.τ).loc Cert.ValuesNormIdeal.main_arg0) = m ((c.tc : Thread Cert.ValuesNormIdeal.nD Cert.ValuesNormIdeal.τ).loc Cert.ValuesNormIdeal.main_arg0)
      ∧ r.2.mem ((c.tc : Thread Cert.ValuesNormIdeal.nD Cert.ValuesNormIdeal.τ).loc Cert.ValuesNormIdeal.main_arg1) = m ((c.tc : Thread Cert.ValuesNormIdeal.nD Cert.ValuesNormIdeal.τ).loc Cert.ValuesNormIdeal.main_arg1))
      ∧ r.2.sem = fun _ => 0)

def quiescent_ValuesNormRefIdeal [hValuesNormRefIdeal : Cert.ValuesNormRefIdeal.Facts] : Prop :=
  ∀ (m : (ℓ : Loc Cert.ValuesNormRefIdeal.nD Cert.ValuesNormRefIdeal.τ Cert.ValuesNormRefIdeal.sig) → Buf (Elt Ideal) ℓ) (g : Dev Cert.ValuesNormRefIdeal.nD → PrngReg), Pre_ValuesNormRefIdeal m →
    θ_run (Cert.ValuesNormRefIdeal.defs (F := Ideal)) (onTc (τ := Cert.ValuesNormRefIdeal.τ) (Cert.ValuesNormRefIdeal.main (F := Ideal))) ⟨m, fun _ => 0, g⟩ (fun r => (∀ c : Dev Cert.ValuesNormRefIdeal.nD,
      r.2.mem ((c.tc : Thread Cert.ValuesNormRefIdeal.nD Cert.ValuesNormRefIdeal.τ).loc Cert.ValuesNormRefIdeal.main_arg0) = m ((c.tc : Thread Cert.ValuesNormRefIdeal.nD Cert.ValuesNormRefIdeal.τ).loc Cert.ValuesNormRefIdeal.main_arg0)
      ∧ r.2.mem ((c.tc : Thread Cert.ValuesNormRefIdeal.nD Cert.ValuesNormRefIdeal.τ).loc Cert.ValuesNormRefIdeal.main_arg1) = m ((c.tc : Thread Cert.ValuesNormRefIdeal.nD Cert.ValuesNormRefIdeal.τ).loc Cert.ValuesNormRefIdeal.main_arg1))
      ∧ r.2.sem = fun _ => 0)

def quiescent_GateOut [hGateOut : Cert.GateOut.Facts] : Prop :=
  ∀ (m : (ℓ : Loc Cert.GateOut.nD Cert.GateOut.τ Cert.GateOut.sig) → Buf (Elt Bits) ℓ) (g : Dev Cert.GateOut.nD → PrngReg), Pre_GateOut m →
    θ_run (Cert.GateOut.defs (F := Bits)) (onTc (τ := Cert.GateOut.τ) (Cert.GateOut.main (F := Bits))) ⟨m, fun _ => 0, g⟩ (fun r => (∀ c : Dev Cert.GateOut.nD,
      r.2.mem ((c.tc : Thread Cert.GateOut.nD Cert.GateOut.τ).loc Cert.GateOut.main_arg0) = m ((c.tc : Thread Cert.GateOut.nD Cert.GateOut.τ).loc Cert.GateOut.main_arg0)
      ∧ r.2.mem ((c.tc : Thread Cert.GateOut.nD Cert.GateOut.τ).loc Cert.GateOut.main_arg1) = m ((c.tc : Thread Cert.GateOut.nD Cert.GateOut.τ).loc Cert.GateOut.main_arg1)
      ∧ r.2.mem ((c.tc : Thread Cert.GateOut.nD Cert.GateOut.τ).loc Cert.GateOut.main_arg2) = m ((c.tc : Thread Cert.GateOut.nD Cert.GateOut.τ).loc Cert.GateOut.main_arg2)
      ∧ r.2.mem ((c.tc : Thread Cert.GateOut.nD Cert.GateOut.τ).loc Cert.GateOut.main_arg3) = m ((c.tc : Thread Cert.GateOut.nD Cert.GateOut.τ).loc Cert.GateOut.main_arg3))
      ∧ r.2.sem = fun _ => 0)

def quiescent_GateOutIdeal [hGateOutIdeal : Cert.GateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg), Pre_GateOutIdeal m →
    θ_run (Cert.GateOutIdeal.defs (F := Ideal)) (onTc (τ := Cert.GateOutIdeal.τ) (Cert.GateOutIdeal.main (F := Ideal))) ⟨m, fun _ => 0, g⟩ (fun r => (∀ c : Dev Cert.GateOutIdeal.nD,
      r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
      ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
      ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
      ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3))
      ∧ r.2.sem = fun _ => 0)

def quiescent_GateOutRefIdeal [hGateOutRefIdeal : Cert.GateOutRefIdeal.Facts] : Prop :=
  ∀ (m : (ℓ : Loc Cert.GateOutRefIdeal.nD Cert.GateOutRefIdeal.τ Cert.GateOutRefIdeal.sig) → Buf (Elt Ideal) ℓ) (g : Dev Cert.GateOutRefIdeal.nD → PrngReg), Pre_GateOutRefIdeal m →
    θ_run (Cert.GateOutRefIdeal.defs (F := Ideal)) (onTc (τ := Cert.GateOutRefIdeal.τ) (Cert.GateOutRefIdeal.main (F := Ideal))) ⟨m, fun _ => 0, g⟩ (fun r => (∀ c : Dev Cert.GateOutRefIdeal.nD,
      r.2.mem ((c.tc : Thread Cert.GateOutRefIdeal.nD Cert.GateOutRefIdeal.τ).loc Cert.GateOutRefIdeal.main_arg0) = m ((c.tc : Thread Cert.GateOutRefIdeal.nD Cert.GateOutRefIdeal.τ).loc Cert.GateOutRefIdeal.main_arg0)
      ∧ r.2.mem ((c.tc : Thread Cert.GateOutRefIdeal.nD Cert.GateOutRefIdeal.τ).loc Cert.GateOutRefIdeal.main_arg1) = m ((c.tc : Thread Cert.GateOutRefIdeal.nD Cert.GateOutRefIdeal.τ).loc Cert.GateOutRefIdeal.main_arg1)
      ∧ r.2.mem ((c.tc : Thread Cert.GateOutRefIdeal.nD Cert.GateOutRefIdeal.τ).loc Cert.GateOutRefIdeal.main_arg2) = m ((c.tc : Thread Cert.GateOutRefIdeal.nD Cert.GateOutRefIdeal.τ).loc Cert.GateOutRefIdeal.main_arg2)
      ∧ r.2.mem ((c.tc : Thread Cert.GateOutRefIdeal.nD Cert.GateOutRefIdeal.τ).loc Cert.GateOutRefIdeal.main_arg3) = m ((c.tc : Thread Cert.GateOutRefIdeal.nD Cert.GateOutRefIdeal.τ).loc Cert.GateOutRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v1_0) i = v0 c i)
          ∧ (∀ i : (⟨2, ![2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v1_1) i = v1 c i)
          ∧ (∀ i : (⟨3, ![16, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v1_2) i = v2 c i)
          ∧ (∀ i : (⟨3, ![16, 128, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v1_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v63) i = v0 c i)
          ∧ (∀ i : (⟨2, ![2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v55) i = v1 c i)
          ∧ (∀ i : (⟨3, ![16, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v54) i = v2 c i)
          ∧ (∀ i : (⟨3, ![16, 128, 1]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v64) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_SwigluGrad_SwigluGradIdeal : Prop :=
  True

def algebraic_SwigluGradIdeal_SwigluGradRefIdeal_pre_finite_swiglu [hSwigluGradIdeal : Cert.SwigluGradIdeal.Facts] [hSwigluGradRefIdeal : Cert.SwigluGradRefIdeal.Facts] [hPre_finite_swiglu : Cert.Pre_finite_swiglu.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg)
    (m' : (ℓ : Loc Cert.SwigluGradRefIdeal.nD Cert.SwigluGradRefIdeal.τ Cert.SwigluGradRefIdeal.sig) → Buf (Elt Ideal) ℓ) (g' : Dev Cert.SwigluGradRefIdeal.nD → PrngReg), Pre_SwigluGradIdeal_finite_swiglu m →
    (∀ c : Dev Cert.SwigluGradIdeal.nD,
      m' ((c.tc : Thread Cert.SwigluGradRefIdeal.nD Cert.SwigluGradRefIdeal.τ).loc Cert.SwigluGradRefIdeal.main_arg0) = m ((c.tc : Thread Cert.SwigluGradIdeal.nD Cert.SwigluGradIdeal.τ).loc Cert.SwigluGradIdeal.main_arg0)
      ∧ m' ((c.tc : Thread Cert.SwigluGradRefIdeal.nD Cert.SwigluGradRefIdeal.τ).loc Cert.SwigluGradRefIdeal.main_arg1) = m ((c.tc : Thread Cert.SwigluGradIdeal.nD Cert.SwigluGradIdeal.τ).loc Cert.SwigluGradIdeal.main_arg1)
      ∧ m' ((c.tc : Thread Cert.SwigluGradRefIdeal.nD Cert.SwigluGradRefIdeal.τ).loc Cert.SwigluGradRefIdeal.main_arg2) = m ((c.tc : Thread Cert.SwigluGradIdeal.nD Cert.SwigluGradIdeal.τ).loc Cert.SwigluGradIdeal.main_arg2)) →
    ∃ (v0 : (c : Dev Cert.SwigluGradIdeal.nD) → Buf (Elt Ideal) ((c.tc : Thread Cert.SwigluGradIdeal.nD Cert.SwigluGradIdeal.τ).loc Cert.SwigluGradIdeal.main_v0_0)),
      θ_run (Cert.SwigluGradIdeal.defs (F := Ideal)) (onTc (τ := Cert.SwigluGradIdeal.τ) (Cert.SwigluGradIdeal.main (F := Ideal))) ⟨m, fun _ => 0, g⟩ (fun r => ∀ c : Dev Cert.SwigluGradIdeal.nD,
          r.2.mem ((c.tc : Thread Cert.SwigluGradIdeal.nD Cert.SwigluGradIdeal.τ).loc Cert.SwigluGradIdeal.main_v0_0) = v0 c
          ∧ r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
          ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1)
          ∧ r.2.mem ((c.tc : Thread Cert.SwigluGradIdeal.nD Cert.SwigluGradIdeal.τ).loc Cert.SwigluGradIdeal.main_arg2) = m ((c.tc : Thread Cert.SwigluGradIdeal.nD Cert.SwigluGradIdeal.τ).loc Cert.SwigluGradIdeal.main_arg2))
      ∧ θ_run (Cert.SwigluGradRefIdeal.defs (F := Ideal)) (onTc (τ := Cert.SwigluGradRefIdeal.τ) (Cert.SwigluGradRefIdeal.main (F := Ideal))) ⟨m', fun _ => 0, g'⟩ (fun r => ∀ c : Dev Cert.SwigluGradRefIdeal.nD,
          r.2.mem ((c.tc : Thread Cert.SwigluGradRefIdeal.nD Cert.SwigluGradRefIdeal.τ).loc Cert.SwigluGradRefIdeal.main_v19) = v0 c
          ∧ r.2.mem ((c.tc : Thread Cert.SwigluGradRefIdeal.nD Cert.SwigluGradRefIdeal.τ).loc Cert.SwigluGradRefIdeal.main_arg0) = m' ((c.tc : Thread Cert.SwigluGradRefIdeal.nD Cert.SwigluGradRefIdeal.τ).loc Cert.SwigluGradRefIdeal.main_arg0)
          ∧ r.2.mem ((c.tc : Thread Cert.SwigluGradRefIdeal.nD Cert.SwigluGradRefIdeal.τ).loc Cert.SwigluGradRefIdeal.main_arg1) = m' ((c.tc : Thread Cert.SwigluGradRefIdeal.nD Cert.SwigluGradRefIdeal.τ).loc Cert.SwigluGradRefIdeal.main_arg1)
          ∧ r.2.mem ((c.tc : Thread Cert.SwigluGradRefIdeal.nD Cert.SwigluGradRefIdeal.τ).loc Cert.SwigluGradRefIdeal.main_arg2) = m' ((c.tc : Thread Cert.SwigluGradRefIdeal.nD Cert.SwigluGradRefIdeal.τ).loc Cert.SwigluGradRefIdeal.main_arg2))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0_0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0_0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v18) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0_0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0_0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v6) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradInput_GradInputIdeal : Prop :=
  True

def algebraic_GradInputIdeal_GradInputRefIdeal [hGradInputIdeal : Cert.GradInputIdeal.Facts] [hGradInputRefIdeal : Cert.GradInputRefIdeal.Facts] : Prop :=
  ∀ (m : (ℓ : Loc Cert.GradInputIdeal.nD Cert.GradInputIdeal.τ Cert.GradInputIdeal.sig) → Buf (Elt Ideal) ℓ) (g : Dev Cert.GradInputIdeal.nD → PrngReg)
    (m' : (ℓ : Loc Cert.GradInputRefIdeal.nD Cert.GradInputRefIdeal.τ Cert.GradInputRefIdeal.sig) → Buf (Elt Ideal) ℓ) (g' : Dev Cert.GradInputRefIdeal.nD → PrngReg), Pre_GradInputIdeal m →
    (∀ c : Dev Cert.GradInputIdeal.nD,
      m' ((c.tc : Thread Cert.GradInputRefIdeal.nD Cert.GradInputRefIdeal.τ).loc Cert.GradInputRefIdeal.main_arg0) = m ((c.tc : Thread Cert.GradInputIdeal.nD Cert.GradInputIdeal.τ).loc Cert.GradInputIdeal.main_arg0)
      ∧ m' ((c.tc : Thread Cert.GradInputRefIdeal.nD Cert.GradInputRefIdeal.τ).loc Cert.GradInputRefIdeal.main_arg1) = m ((c.tc : Thread Cert.GradInputIdeal.nD Cert.GradInputIdeal.τ).loc Cert.GradInputIdeal.main_arg1)) →
    ∃ (v0 : (c : Dev Cert.GradInputIdeal.nD) → Buf (Elt Ideal) ((c.tc : Thread Cert.GradInputIdeal.nD Cert.GradInputIdeal.τ).loc Cert.GradInputIdeal.main_v0_0)),
      θ_run (Cert.GradInputIdeal.defs (F := Ideal)) (onTc (τ := Cert.GradInputIdeal.τ) (Cert.GradInputIdeal.main (F := Ideal))) ⟨m, fun _ => 0, g⟩ (fun r => ∀ c : Dev Cert.GradInputIdeal.nD,
          r.2.mem ((c.tc : Thread Cert.GradInputIdeal.nD Cert.GradInputIdeal.τ).loc Cert.GradInputIdeal.main_v0_0) = v0 c
          ∧ r.2.mem ((c.tc : Thread Cert.GradInputIdeal.nD Cert.GradInputIdeal.τ).loc Cert.GradInputIdeal.main_arg0) = m ((c.tc : Thread Cert.GradInputIdeal.nD Cert.GradInputIdeal.τ).loc Cert.GradInputIdeal.main_arg0)
          ∧ r.2.mem ((c.tc : Thread Cert.GradInputIdeal.nD Cert.GradInputIdeal.τ).loc Cert.GradInputIdeal.main_arg1) = m ((c.tc : Thread Cert.GradInputIdeal.nD Cert.GradInputIdeal.τ).loc Cert.GradInputIdeal.main_arg1))
      ∧ θ_run (Cert.GradInputRefIdeal.defs (F := Ideal)) (onTc (τ := Cert.GradInputRefIdeal.τ) (Cert.GradInputRefIdeal.main (F := Ideal))) ⟨m', fun _ => 0, g'⟩ (fun r => ∀ c : Dev Cert.GradInputRefIdeal.nD,
          r.2.mem ((c.tc : Thread Cert.GradInputRefIdeal.nD Cert.GradInputRefIdeal.τ).loc Cert.GradInputRefIdeal.main_v16) = v0 c
          ∧ r.2.mem ((c.tc : Thread Cert.GradInputRefIdeal.nD Cert.GradInputRefIdeal.τ).loc Cert.GradInputRefIdeal.main_arg0) = m' ((c.tc : Thread Cert.GradInputRefIdeal.nD Cert.GradInputRefIdeal.τ).loc Cert.GradInputRefIdeal.main_arg0)
          ∧ r.2.mem ((c.tc : Thread Cert.GradInputRefIdeal.nD Cert.GradInputRefIdeal.τ).loc Cert.GradInputRefIdeal.main_arg1) = m' ((c.tc : Thread Cert.GradInputRefIdeal.nD Cert.GradInputRefIdeal.τ).loc Cert.GradInputRefIdeal.main_arg1))

def preserves_SwigluIn_SwigluInIdeal : Prop :=
  True

def algebraic_SwigluInIdeal_SwigluInRefIdeal [hSwigluInIdeal : Cert.SwigluInIdeal.Facts] [hSwigluInRefIdeal : Cert.SwigluInRefIdeal.Facts] : Prop :=
  ∀ (m : (ℓ : Loc Cert.SwigluInIdeal.nD Cert.SwigluInIdeal.τ Cert.SwigluInIdeal.sig) → Buf (Elt Ideal) ℓ) (g : Dev Cert.SwigluInIdeal.nD → PrngReg)
    (m' : (ℓ : Loc Cert.SwigluInRefIdeal.nD Cert.SwigluInRefIdeal.τ Cert.SwigluInRefIdeal.sig) → Buf (Elt Ideal) ℓ) (g' : Dev Cert.SwigluInRefIdeal.nD → PrngReg), Pre_SwigluInIdeal m →
    (∀ c : Dev Cert.SwigluInIdeal.nD,
      m' ((c.tc : Thread Cert.SwigluInRefIdeal.nD Cert.SwigluInRefIdeal.τ).loc Cert.SwigluInRefIdeal.main_arg0) = m ((c.tc : Thread Cert.SwigluInIdeal.nD Cert.SwigluInIdeal.τ).loc Cert.SwigluInIdeal.main_arg0)
      ∧ m' ((c.tc : Thread Cert.SwigluInRefIdeal.nD Cert.SwigluInRefIdeal.τ).loc Cert.SwigluInRefIdeal.main_arg1) = m ((c.tc : Thread Cert.SwigluInIdeal.nD Cert.SwigluInIdeal.τ).loc Cert.SwigluInIdeal.main_arg1)) →
    ∃ (v0 : (c : Dev Cert.SwigluInIdeal.nD) → Buf (Elt Ideal) ((c.tc : Thread Cert.SwigluInIdeal.nD Cert.SwigluInIdeal.τ).loc Cert.SwigluInIdeal.main_v0_0)) (v1 : (c : Dev Cert.SwigluInIdeal.nD) → Buf (Elt Ideal) ((c.tc : Thread Cert.SwigluInIdeal.nD Cert.SwigluInIdeal.τ).loc Cert.SwigluInIdeal.main_v0_1)),
      θ_run (Cert.SwigluInIdeal.defs (F := Ideal)) (onTc (τ := Cert.SwigluInIdeal.τ) (Cert.SwigluInIdeal.main (F := Ideal))) ⟨m, fun _ => 0, g⟩ (fun r => ∀ c : Dev Cert.SwigluInIdeal.nD,
          r.2.mem ((c.tc : Thread Cert.SwigluInIdeal.nD Cert.SwigluInIdeal.τ).loc Cert.SwigluInIdeal.main_v0_0) = v0 c
          ∧ r.2.mem ((c.tc : Thread Cert.SwigluInIdeal.nD Cert.SwigluInIdeal.τ).loc Cert.SwigluInIdeal.main_v0_1) = v1 c
          ∧ r.2.mem ((c.tc : Thread Cert.SwigluInIdeal.nD Cert.SwigluInIdeal.τ).loc Cert.SwigluInIdeal.main_arg0) = m ((c.tc : Thread Cert.SwigluInIdeal.nD Cert.SwigluInIdeal.τ).loc Cert.SwigluInIdeal.main_arg0)
          ∧ r.2.mem ((c.tc : Thread Cert.SwigluInIdeal.nD Cert.SwigluInIdeal.τ).loc Cert.SwigluInIdeal.main_arg1) = m ((c.tc : Thread Cert.SwigluInIdeal.nD Cert.SwigluInIdeal.τ).loc Cert.SwigluInIdeal.main_arg1))
      ∧ θ_run (Cert.SwigluInRefIdeal.defs (F := Ideal)) (onTc (τ := Cert.SwigluInRefIdeal.τ) (Cert.SwigluInRefIdeal.main (F := Ideal))) ⟨m', fun _ => 0, g'⟩ (fun r => ∀ c : Dev Cert.SwigluInRefIdeal.nD,
          r.2.mem ((c.tc : Thread Cert.SwigluInRefIdeal.nD Cert.SwigluInRefIdeal.τ).loc Cert.SwigluInRefIdeal.main_v10) = v0 c
          ∧ r.2.mem ((c.tc : Thread Cert.SwigluInRefIdeal.nD Cert.SwigluInRefIdeal.τ).loc Cert.SwigluInRefIdeal.main_v17) = v1 c
          ∧ r.2.mem ((c.tc : Thread Cert.SwigluInRefIdeal.nD Cert.SwigluInRefIdeal.τ).loc Cert.SwigluInRefIdeal.main_arg0) = m' ((c.tc : Thread Cert.SwigluInRefIdeal.nD Cert.SwigluInRefIdeal.τ).loc Cert.SwigluInRefIdeal.main_arg0)
          ∧ r.2.mem ((c.tc : Thread Cert.SwigluInRefIdeal.nD Cert.SwigluInRefIdeal.τ).loc Cert.SwigluInRefIdeal.main_arg1) = m' ((c.tc : Thread Cert.SwigluInRefIdeal.nD Cert.SwigluInRefIdeal.τ).loc Cert.SwigluInRefIdeal.main_arg1))

def preserves_SwigluOut_SwigluOutIdeal : Prop :=
  True

def algebraic_SwigluOutIdeal_SwigluOutRefIdeal [hSwigluOutIdeal : Cert.SwigluOutIdeal.Facts] [hSwigluOutRefIdeal : Cert.SwigluOutRefIdeal.Facts] : Prop :=
  ∀ (m : (ℓ : Loc Cert.SwigluOutIdeal.nD Cert.SwigluOutIdeal.τ Cert.SwigluOutIdeal.sig) → Buf (Elt Ideal) ℓ) (g : Dev Cert.SwigluOutIdeal.nD → PrngReg)
    (m' : (ℓ : Loc Cert.SwigluOutRefIdeal.nD Cert.SwigluOutRefIdeal.τ Cert.SwigluOutRefIdeal.sig) → Buf (Elt Ideal) ℓ) (g' : Dev Cert.SwigluOutRefIdeal.nD → PrngReg), Pre_SwigluOutIdeal m →
    (∀ c : Dev Cert.SwigluOutIdeal.nD,
      m' ((c.tc : Thread Cert.SwigluOutRefIdeal.nD Cert.SwigluOutRefIdeal.τ).loc Cert.SwigluOutRefIdeal.main_arg0) = m ((c.tc : Thread Cert.SwigluOutIdeal.nD Cert.SwigluOutIdeal.τ).loc Cert.SwigluOutIdeal.main_arg0)
      ∧ m' ((c.tc : Thread Cert.SwigluOutRefIdeal.nD Cert.SwigluOutRefIdeal.τ).loc Cert.SwigluOutRefIdeal.main_arg1) = m ((c.tc : Thread Cert.SwigluOutIdeal.nD Cert.SwigluOutIdeal.τ).loc Cert.SwigluOutIdeal.main_arg1)
      ∧ m' ((c.tc : Thread Cert.SwigluOutRefIdeal.nD Cert.SwigluOutRefIdeal.τ).loc Cert.SwigluOutRefIdeal.main_arg2) = m ((c.tc : Thread Cert.SwigluOutIdeal.nD Cert.SwigluOutIdeal.τ).loc Cert.SwigluOutIdeal.main_arg2)) →
    ∃ (v0 : (c : Dev Cert.SwigluOutIdeal.nD) → Buf (Elt Ideal) ((c.tc : Thread Cert.SwigluOutIdeal.nD Cert.SwigluOutIdeal.τ).loc Cert.SwigluOutIdeal.main_v0_0)),
      θ_run (Cert.SwigluOutIdeal.defs (F := Ideal)) (onTc (τ := Cert.SwigluOutIdeal.τ) (Cert.SwigluOutIdeal.main (F := Ideal))) ⟨m, fun _ => 0, g⟩ (fun r => ∀ c : Dev Cert.SwigluOutIdeal.nD,
          r.2.mem ((c.tc : Thread Cert.SwigluOutIdeal.nD Cert.SwigluOutIdeal.τ).loc Cert.SwigluOutIdeal.main_v0_0) = v0 c
          ∧ r.2.mem ((c.tc : Thread Cert.SwigluOutIdeal.nD Cert.SwigluOutIdeal.τ).loc Cert.SwigluOutIdeal.main_arg0) = m ((c.tc : Thread Cert.SwigluOutIdeal.nD Cert.SwigluOutIdeal.τ).loc Cert.SwigluOutIdeal.main_arg0)
          ∧ r.2.mem ((c.tc : Thread Cert.SwigluOutIdeal.nD Cert.SwigluOutIdeal.τ).loc Cert.SwigluOutIdeal.main_arg1) = m ((c.tc : Thread Cert.SwigluOutIdeal.nD Cert.SwigluOutIdeal.τ).loc Cert.SwigluOutIdeal.main_arg1)
          ∧ r.2.mem ((c.tc : Thread Cert.SwigluOutIdeal.nD Cert.SwigluOutIdeal.τ).loc Cert.SwigluOutIdeal.main_arg2) = m ((c.tc : Thread Cert.SwigluOutIdeal.nD Cert.SwigluOutIdeal.τ).loc Cert.SwigluOutIdeal.main_arg2))
      ∧ θ_run (Cert.SwigluOutRefIdeal.defs (F := Ideal)) (onTc (τ := Cert.SwigluOutRefIdeal.τ) (Cert.SwigluOutRefIdeal.main (F := Ideal))) ⟨m', fun _ => 0, g'⟩ (fun r => ∀ c : Dev Cert.SwigluOutRefIdeal.nD,
          r.2.mem ((c.tc : Thread Cert.SwigluOutRefIdeal.nD Cert.SwigluOutRefIdeal.τ).loc Cert.SwigluOutRefIdeal.main_v5) = v0 c
          ∧ r.2.mem ((c.tc : Thread Cert.SwigluOutRefIdeal.nD Cert.SwigluOutRefIdeal.τ).loc Cert.SwigluOutRefIdeal.main_arg0) = m' ((c.tc : Thread Cert.SwigluOutRefIdeal.nD Cert.SwigluOutRefIdeal.τ).loc Cert.SwigluOutRefIdeal.main_arg0)
          ∧ r.2.mem ((c.tc : Thread Cert.SwigluOutRefIdeal.nD Cert.SwigluOutRefIdeal.τ).loc Cert.SwigluOutRefIdeal.main_arg1) = m' ((c.tc : Thread Cert.SwigluOutRefIdeal.nD Cert.SwigluOutRefIdeal.τ).loc Cert.SwigluOutRefIdeal.main_arg1)
          ∧ r.2.mem ((c.tc : Thread Cert.SwigluOutRefIdeal.nD Cert.SwigluOutRefIdeal.τ).loc Cert.SwigluOutRefIdeal.main_arg2) = m' ((c.tc : Thread Cert.SwigluOutRefIdeal.nD Cert.SwigluOutRefIdeal.τ).loc Cert.SwigluOutRefIdeal.main_arg2))

def preserves_GmIn_GmInIdeal : Prop :=
  True

def algebraic_GmInIdeal_GmInRefIdeal [hGmInIdeal : Cert.GmInIdeal.Facts] [hGmInRefIdeal : Cert.GmInRefIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInRefIdeal.nD Cert.GmInRefIdeal.τ Cert.GmInRefIdeal.sig) → Buf (Elt Ideal) ℓ) (g' : Dev Cert.GmInRefIdeal.nD → PrngReg), Pre_GmInIdeal m →
    (∀ c : Dev Cert.GmInIdeal.nD,
      m' ((c.tc : Thread Cert.GmInRefIdeal.nD Cert.GmInRefIdeal.τ).loc Cert.GmInRefIdeal.main_arg0) = m ((c.tc : Thread Cert.GmInIdeal.nD Cert.GmInIdeal.τ).loc Cert.GmInIdeal.main_arg0)
      ∧ m' ((c.tc : Thread Cert.GmInRefIdeal.nD Cert.GmInRefIdeal.τ).loc Cert.GmInRefIdeal.main_arg1) = m ((c.tc : Thread Cert.GmInIdeal.nD Cert.GmInIdeal.τ).loc Cert.GmInIdeal.main_arg1)) →
    ∃ (v0 : (c : Dev Cert.GmInIdeal.nD) → Buf (Elt Ideal) ((c.tc : Thread Cert.GmInIdeal.nD Cert.GmInIdeal.τ).loc Cert.GmInIdeal.main_v0_0)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v0_0) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ θ_run (Cert.GmInRefIdeal.defs (F := Ideal)) (onTc (τ := Cert.GmInRefIdeal.τ) (Cert.GmInRefIdeal.main (F := Ideal))) ⟨m', fun _ => 0, g'⟩ (fun r => ∀ c : Dev Cert.GmInRefIdeal.nD,
          r.2.mem ((c.tc : Thread Cert.GmInRefIdeal.nD Cert.GmInRefIdeal.τ).loc Cert.GmInRefIdeal.main_v10) = v0 c
          ∧ r.2.mem ((c.tc : Thread Cert.GmInRefIdeal.nD Cert.GmInRefIdeal.τ).loc Cert.GmInRefIdeal.main_arg0) = m' ((c.tc : Thread Cert.GmInRefIdeal.nD Cert.GmInRefIdeal.τ).loc Cert.GmInRefIdeal.main_arg0)
          ∧ r.2.mem ((c.tc : Thread Cert.GmInRefIdeal.nD Cert.GmInRefIdeal.τ).loc Cert.GmInRefIdeal.main_arg1) = m' ((c.tc : Thread Cert.GmInRefIdeal.nD Cert.GmInRefIdeal.τ).loc Cert.GmInRefIdeal.main_arg1))

def preserves_GmGradIn_GmGradInIdeal : Prop :=
  True

def algebraic_GmGradInIdeal_GmGradInRefIdeal [hGmGradInIdeal : Cert.GmGradInIdeal.Facts] [hGmGradInRefIdeal : Cert.GmGradInRefIdeal.Facts] : Prop :=
  ∀ (m : (ℓ : Loc Cert.GmGradInIdeal.nD Cert.GmGradInIdeal.τ Cert.GmGradInIdeal.sig) → Buf (Elt Ideal) ℓ) (g : Dev Cert.GmGradInIdeal.nD → PrngReg)
    (m' : (ℓ : Loc Cert.GmGradInRefIdeal.nD Cert.GmGradInRefIdeal.τ Cert.GmGradInRefIdeal.sig) → Buf (Elt Ideal) ℓ) (g' : Dev Cert.GmGradInRefIdeal.nD → PrngReg), Pre_GmGradInIdeal m →
    (∀ c : Dev Cert.GmGradInIdeal.nD,
      m' ((c.tc : Thread Cert.GmGradInRefIdeal.nD Cert.GmGradInRefIdeal.τ).loc Cert.GmGradInRefIdeal.main_arg0) = m ((c.tc : Thread Cert.GmGradInIdeal.nD Cert.GmGradInIdeal.τ).loc Cert.GmGradInIdeal.main_arg0)
      ∧ m' ((c.tc : Thread Cert.GmGradInRefIdeal.nD Cert.GmGradInRefIdeal.τ).loc Cert.GmGradInRefIdeal.main_arg1) = m ((c.tc : Thread Cert.GmGradInIdeal.nD Cert.GmGradInIdeal.τ).loc Cert.GmGradInIdeal.main_arg1)) →
    ∃ (v0 : (c : Dev Cert.GmGradInIdeal.nD) → Buf (Elt Ideal) ((c.tc : Thread Cert.GmGradInIdeal.nD Cert.GmGradInIdeal.τ).loc Cert.GmGradInIdeal.main_v0_0)),
      θ_run (Cert.GmGradInIdeal.defs (F := Ideal)) (onTc (τ := Cert.GmGradInIdeal.τ) (Cert.GmGradInIdeal.main (F := Ideal))) ⟨m, fun _ => 0, g⟩ (fun r => ∀ c : Dev Cert.GmGradInIdeal.nD,
          r.2.mem ((c.tc : Thread Cert.GmGradInIdeal.nD Cert.GmGradInIdeal.τ).loc Cert.GmGradInIdeal.main_v0_0) = v0 c
          ∧ r.2.mem ((c.tc : Thread Cert.GmGradInIdeal.nD Cert.GmGradInIdeal.τ).loc Cert.GmGradInIdeal.main_arg0) = m ((c.tc : Thread Cert.GmGradInIdeal.nD Cert.GmGradInIdeal.τ).loc Cert.GmGradInIdeal.main_arg0)
          ∧ r.2.mem ((c.tc : Thread Cert.GmGradInIdeal.nD Cert.GmGradInIdeal.τ).loc Cert.GmGradInIdeal.main_arg1) = m ((c.tc : Thread Cert.GmGradInIdeal.nD Cert.GmGradInIdeal.τ).loc Cert.GmGradInIdeal.main_arg1))
      ∧ θ_run (Cert.GmGradInRefIdeal.defs (F := Ideal)) (onTc (τ := Cert.GmGradInRefIdeal.τ) (Cert.GmGradInRefIdeal.main (F := Ideal))) ⟨m', fun _ => 0, g'⟩ (fun r => ∀ c : Dev Cert.GmGradInRefIdeal.nD,
          r.2.mem ((c.tc : Thread Cert.GmGradInRefIdeal.nD Cert.GmGradInRefIdeal.τ).loc Cert.GmGradInRefIdeal.main_v18) = v0 c
          ∧ r.2.mem ((c.tc : Thread Cert.GmGradInRefIdeal.nD Cert.GmGradInRefIdeal.τ).loc Cert.GmGradInRefIdeal.main_arg0) = m' ((c.tc : Thread Cert.GmGradInRefIdeal.nD Cert.GmGradInRefIdeal.τ).loc Cert.GmGradInRefIdeal.main_arg0)
          ∧ r.2.mem ((c.tc : Thread Cert.GmGradInRefIdeal.nD Cert.GmGradInRefIdeal.τ).loc Cert.GmGradInRefIdeal.main_arg1) = m' ((c.tc : Thread Cert.GmGradInRefIdeal.nD Cert.GmGradInRefIdeal.τ).loc Cert.GmGradInRefIdeal.main_arg1))

def preserves_GmGradInput_GmGradInputIdeal : Prop :=
  True

def algebraic_GmGradInputIdeal_GmGradInputRefIdeal [hGmGradInputIdeal : Cert.GmGradInputIdeal.Facts] [hGmGradInputRefIdeal : Cert.GmGradInputRefIdeal.Facts] : Prop :=
  ∀ (m : (ℓ : Loc Cert.GmGradInputIdeal.nD Cert.GmGradInputIdeal.τ Cert.GmGradInputIdeal.sig) → Buf (Elt Ideal) ℓ) (g : Dev Cert.GmGradInputIdeal.nD → PrngReg)
    (m' : (ℓ : Loc Cert.GmGradInputRefIdeal.nD Cert.GmGradInputRefIdeal.τ Cert.GmGradInputRefIdeal.sig) → Buf (Elt Ideal) ℓ) (g' : Dev Cert.GmGradInputRefIdeal.nD → PrngReg), Pre_GmGradInputIdeal m →
    (∀ c : Dev Cert.GmGradInputIdeal.nD,
      m' ((c.tc : Thread Cert.GmGradInputRefIdeal.nD Cert.GmGradInputRefIdeal.τ).loc Cert.GmGradInputRefIdeal.main_arg0) = m ((c.tc : Thread Cert.GmGradInputIdeal.nD Cert.GmGradInputIdeal.τ).loc Cert.GmGradInputIdeal.main_arg0)
      ∧ m' ((c.tc : Thread Cert.GmGradInputRefIdeal.nD Cert.GmGradInputRefIdeal.τ).loc Cert.GmGradInputRefIdeal.main_arg1) = m ((c.tc : Thread Cert.GmGradInputIdeal.nD Cert.GmGradInputIdeal.τ).loc Cert.GmGradInputIdeal.main_arg1)) →
    ∃ (v0 : (c : Dev Cert.GmGradInputIdeal.nD) → Buf (Elt Ideal) ((c.tc : Thread Cert.GmGradInputIdeal.nD Cert.GmGradInputIdeal.τ).loc Cert.GmGradInputIdeal.main_v0_0)),
      θ_run (Cert.GmGradInputIdeal.defs (F := Ideal)) (onTc (τ := Cert.GmGradInputIdeal.τ) (Cert.GmGradInputIdeal.main (F := Ideal))) ⟨m, fun _ => 0, g⟩ (fun r => ∀ c : Dev Cert.GmGradInputIdeal.nD,
          r.2.mem ((c.tc : Thread Cert.GmGradInputIdeal.nD Cert.GmGradInputIdeal.τ).loc Cert.GmGradInputIdeal.main_v0_0) = v0 c
          ∧ r.2.mem ((c.tc : Thread Cert.GmGradInputIdeal.nD Cert.GmGradInputIdeal.τ).loc Cert.GmGradInputIdeal.main_arg0) = m ((c.tc : Thread Cert.GmGradInputIdeal.nD Cert.GmGradInputIdeal.τ).loc Cert.GmGradInputIdeal.main_arg0)
          ∧ r.2.mem ((c.tc : Thread Cert.GmGradInputIdeal.nD Cert.GmGradInputIdeal.τ).loc Cert.GmGradInputIdeal.main_arg1) = m ((c.tc : Thread Cert.GmGradInputIdeal.nD Cert.GmGradInputIdeal.τ).loc Cert.GmGradInputIdeal.main_arg1))
      ∧ θ_run (Cert.GmGradInputRefIdeal.defs (F := Ideal)) (onTc (τ := Cert.GmGradInputRefIdeal.τ) (Cert.GmGradInputRefIdeal.main (F := Ideal))) ⟨m', fun _ => 0, g'⟩ (fun r => ∀ c : Dev Cert.GmGradInputRefIdeal.nD,
          r.2.mem ((c.tc : Thread Cert.GmGradInputRefIdeal.nD Cert.GmGradInputRefIdeal.τ).loc Cert.GmGradInputRefIdeal.main_v16) = v0 c
          ∧ r.2.mem ((c.tc : Thread Cert.GmGradInputRefIdeal.nD Cert.GmGradInputRefIdeal.τ).loc Cert.GmGradInputRefIdeal.main_arg0) = m' ((c.tc : Thread Cert.GmGradInputRefIdeal.nD Cert.GmGradInputRefIdeal.τ).loc Cert.GmGradInputRefIdeal.main_arg0)
          ∧ r.2.mem ((c.tc : Thread Cert.GmGradInputRefIdeal.nD Cert.GmGradInputRefIdeal.τ).loc Cert.GmGradInputRefIdeal.main_arg1) = m' ((c.tc : Thread Cert.GmGradInputRefIdeal.nD Cert.GmGradInputRefIdeal.τ).loc Cert.GmGradInputRefIdeal.main_arg1))

def preserves_GmBackOut_GmBackOutIdeal : Prop :=
  True

def algebraic_GmBackOutIdeal_GmBackOutRefIdeal [hGmBackOutIdeal : Cert.GmBackOutIdeal.Facts] [hGmBackOutRefIdeal : Cert.GmBackOutRefIdeal.Facts] : Prop :=
  ∀ (m : (ℓ : Loc Cert.GmBackOutIdeal.nD Cert.GmBackOutIdeal.τ Cert.GmBackOutIdeal.sig) → Buf (Elt Ideal) ℓ) (g : Dev Cert.GmBackOutIdeal.nD → PrngReg)
    (m' : (ℓ : Loc Cert.GmBackOutRefIdeal.nD Cert.GmBackOutRefIdeal.τ Cert.GmBackOutRefIdeal.sig) → Buf (Elt Ideal) ℓ) (g' : Dev Cert.GmBackOutRefIdeal.nD → PrngReg), Pre_GmBackOutIdeal m →
    (∀ c : Dev Cert.GmBackOutIdeal.nD,
      m' ((c.tc : Thread Cert.GmBackOutRefIdeal.nD Cert.GmBackOutRefIdeal.τ).loc Cert.GmBackOutRefIdeal.main_arg0) = m ((c.tc : Thread Cert.GmBackOutIdeal.nD Cert.GmBackOutIdeal.τ).loc Cert.GmBackOutIdeal.main_arg0)
      ∧ m' ((c.tc : Thread Cert.GmBackOutRefIdeal.nD Cert.GmBackOutRefIdeal.τ).loc Cert.GmBackOutRefIdeal.main_arg1) = m ((c.tc : Thread Cert.GmBackOutIdeal.nD Cert.GmBackOutIdeal.τ).loc Cert.GmBackOutIdeal.main_arg1)) →
    ∃ (v0 : (c : Dev Cert.GmBackOutIdeal.nD) → Buf (Elt Ideal) ((c.tc : Thread Cert.GmBackOutIdeal.nD Cert.GmBackOutIdeal.τ).loc Cert.GmBackOutIdeal.main_v0_0)),
      θ_run (Cert.GmBackOutIdeal.defs (F := Ideal)) (onTc (τ := Cert.GmBackOutIdeal.τ) (Cert.GmBackOutIdeal.main (F := Ideal))) ⟨m, fun _ => 0, g⟩ (fun r => ∀ c : Dev Cert.GmBackOutIdeal.nD,
          r.2.mem ((c.tc : Thread Cert.GmBackOutIdeal.nD Cert.GmBackOutIdeal.τ).loc Cert.GmBackOutIdeal.main_v0_0) = v0 c
          ∧ r.2.mem ((c.tc : Thread Cert.GmBackOutIdeal.nD Cert.GmBackOutIdeal.τ).loc Cert.GmBackOutIdeal.main_arg0) = m ((c.tc : Thread Cert.GmBackOutIdeal.nD Cert.GmBackOutIdeal.τ).loc Cert.GmBackOutIdeal.main_arg0)
          ∧ r.2.mem ((c.tc : Thread Cert.GmBackOutIdeal.nD Cert.GmBackOutIdeal.τ).loc Cert.GmBackOutIdeal.main_arg1) = m ((c.tc : Thread Cert.GmBackOutIdeal.nD Cert.GmBackOutIdeal.τ).loc Cert.GmBackOutIdeal.main_arg1))
      ∧ θ_run (Cert.GmBackOutRefIdeal.defs (F := Ideal)) (onTc (τ := Cert.GmBackOutRefIdeal.τ) (Cert.GmBackOutRefIdeal.main (F := Ideal))) ⟨m', fun _ => 0, g'⟩ (fun r => ∀ c : Dev Cert.GmBackOutRefIdeal.nD,
          r.2.mem ((c.tc : Thread Cert.GmBackOutRefIdeal.nD Cert.GmBackOutRefIdeal.τ).loc Cert.GmBackOutRefIdeal.main_v5) = v0 c
          ∧ r.2.mem ((c.tc : Thread Cert.GmBackOutRefIdeal.nD Cert.GmBackOutRefIdeal.τ).loc Cert.GmBackOutRefIdeal.main_arg0) = m' ((c.tc : Thread Cert.GmBackOutRefIdeal.nD Cert.GmBackOutRefIdeal.τ).loc Cert.GmBackOutRefIdeal.main_arg0)
          ∧ r.2.mem ((c.tc : Thread Cert.GmBackOutRefIdeal.nD Cert.GmBackOutRefIdeal.τ).loc Cert.GmBackOutRefIdeal.main_arg1) = m' ((c.tc : Thread Cert.GmBackOutRefIdeal.nD Cert.GmBackOutRefIdeal.τ).loc Cert.GmBackOutRefIdeal.main_arg1))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v0_0)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v0_0) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v6) = v0 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1))

def preserves_SsdGradIn_SsdGradInIdeal : Prop :=
  True

def algebraic_SsdGradInIdeal_SsdGradInRefIdeal [hSsdGradInIdeal : Cert.SsdGradInIdeal.Facts] [hSsdGradInRefIdeal : Cert.SsdGradInRefIdeal.Facts] : Prop :=
  ∀ (m : (ℓ : Loc Cert.SsdGradInIdeal.nD Cert.SsdGradInIdeal.τ Cert.SsdGradInIdeal.sig) → Buf (Elt Ideal) ℓ) (g : Dev Cert.SsdGradInIdeal.nD → PrngReg)
    (m' : (ℓ : Loc Cert.SsdGradInRefIdeal.nD Cert.SsdGradInRefIdeal.τ Cert.SsdGradInRefIdeal.sig) → Buf (Elt Ideal) ℓ) (g' : Dev Cert.SsdGradInRefIdeal.nD → PrngReg), Pre_SsdGradInIdeal m →
    (∀ c : Dev Cert.SsdGradInIdeal.nD,
      m' ((c.tc : Thread Cert.SsdGradInRefIdeal.nD Cert.SsdGradInRefIdeal.τ).loc Cert.SsdGradInRefIdeal.main_arg0) = m ((c.tc : Thread Cert.SsdGradInIdeal.nD Cert.SsdGradInIdeal.τ).loc Cert.SsdGradInIdeal.main_arg0)
      ∧ m' ((c.tc : Thread Cert.SsdGradInRefIdeal.nD Cert.SsdGradInRefIdeal.τ).loc Cert.SsdGradInRefIdeal.main_arg1) = m ((c.tc : Thread Cert.SsdGradInIdeal.nD Cert.SsdGradInIdeal.τ).loc Cert.SsdGradInIdeal.main_arg1)) →
    ∃ (v0 : (c : Dev Cert.SsdGradInIdeal.nD) → Buf (Elt Ideal) ((c.tc : Thread Cert.SsdGradInIdeal.nD Cert.SsdGradInIdeal.τ).loc Cert.SsdGradInIdeal.main_v0_0)),
      θ_run (Cert.SsdGradInIdeal.defs (F := Ideal)) (onTc (τ := Cert.SsdGradInIdeal.τ) (Cert.SsdGradInIdeal.main (F := Ideal))) ⟨m, fun _ => 0, g⟩ (fun r => ∀ c : Dev Cert.SsdGradInIdeal.nD,
          r.2.mem ((c.tc : Thread Cert.SsdGradInIdeal.nD Cert.SsdGradInIdeal.τ).loc Cert.SsdGradInIdeal.main_v0_0) = v0 c
          ∧ r.2.mem ((c.tc : Thread Cert.SsdGradInIdeal.nD Cert.SsdGradInIdeal.τ).loc Cert.SsdGradInIdeal.main_arg0) = m ((c.tc : Thread Cert.SsdGradInIdeal.nD Cert.SsdGradInIdeal.τ).loc Cert.SsdGradInIdeal.main_arg0)
          ∧ r.2.mem ((c.tc : Thread Cert.SsdGradInIdeal.nD Cert.SsdGradInIdeal.τ).loc Cert.SsdGradInIdeal.main_arg1) = m ((c.tc : Thread Cert.SsdGradInIdeal.nD Cert.SsdGradInIdeal.τ).loc Cert.SsdGradInIdeal.main_arg1))
      ∧ θ_run (Cert.SsdGradInRefIdeal.defs (F := Ideal)) (onTc (τ := Cert.SsdGradInRefIdeal.τ) (Cert.SsdGradInRefIdeal.main (F := Ideal))) ⟨m', fun _ => 0, g'⟩ (fun r => ∀ c : Dev Cert.SsdGradInRefIdeal.nD,
          r.2.mem ((c.tc : Thread Cert.SsdGradInRefIdeal.nD Cert.SsdGradInRefIdeal.τ).loc Cert.SsdGradInRefIdeal.main_v12) = v0 c
          ∧ r.2.mem ((c.tc : Thread Cert.SsdGradInRefIdeal.nD Cert.SsdGradInRefIdeal.τ).loc Cert.SsdGradInRefIdeal.main_arg0) = m' ((c.tc : Thread Cert.SsdGradInRefIdeal.nD Cert.SsdGradInRefIdeal.τ).loc Cert.SsdGradInRefIdeal.main_arg0)
          ∧ r.2.mem ((c.tc : Thread Cert.SsdGradInRefIdeal.nD Cert.SsdGradInRefIdeal.τ).loc Cert.SsdGradInRefIdeal.main_arg1) = m' ((c.tc : Thread Cert.SsdGradInRefIdeal.nD Cert.SsdGradInRefIdeal.τ).loc Cert.SsdGradInRefIdeal.main_arg1))

def preserves_SsdGradInput_SsdGradInputIdeal : Prop :=
  True

def algebraic_SsdGradInputIdeal_SsdGradInputRefIdeal [hSsdGradInputIdeal : Cert.SsdGradInputIdeal.Facts] [hSsdGradInputRefIdeal : Cert.SsdGradInputRefIdeal.Facts] : Prop :=
  ∀ (m : (ℓ : Loc Cert.SsdGradInputIdeal.nD Cert.SsdGradInputIdeal.τ Cert.SsdGradInputIdeal.sig) → Buf (Elt Ideal) ℓ) (g : Dev Cert.SsdGradInputIdeal.nD → PrngReg)
    (m' : (ℓ : Loc Cert.SsdGradInputRefIdeal.nD Cert.SsdGradInputRefIdeal.τ Cert.SsdGradInputRefIdeal.sig) → Buf (Elt Ideal) ℓ) (g' : Dev Cert.SsdGradInputRefIdeal.nD → PrngReg), Pre_SsdGradInputIdeal m →
    (∀ c : Dev Cert.SsdGradInputIdeal.nD,
      m' ((c.tc : Thread Cert.SsdGradInputRefIdeal.nD Cert.SsdGradInputRefIdeal.τ).loc Cert.SsdGradInputRefIdeal.main_arg0) = m ((c.tc : Thread Cert.SsdGradInputIdeal.nD Cert.SsdGradInputIdeal.τ).loc Cert.SsdGradInputIdeal.main_arg0)
      ∧ m' ((c.tc : Thread Cert.SsdGradInputRefIdeal.nD Cert.SsdGradInputRefIdeal.τ).loc Cert.SsdGradInputRefIdeal.main_arg1) = m ((c.tc : Thread Cert.SsdGradInputIdeal.nD Cert.SsdGradInputIdeal.τ).loc Cert.SsdGradInputIdeal.main_arg1)) →
    ∃ (v0 : (c : Dev Cert.SsdGradInputIdeal.nD) → Buf (Elt Ideal) ((c.tc : Thread Cert.SsdGradInputIdeal.nD Cert.SsdGradInputIdeal.τ).loc Cert.SsdGradInputIdeal.main_v0_0)),
      θ_run (Cert.SsdGradInputIdeal.defs (F := Ideal)) (onTc (τ := Cert.SsdGradInputIdeal.τ) (Cert.SsdGradInputIdeal.main (F := Ideal))) ⟨m, fun _ => 0, g⟩ (fun r => ∀ c : Dev Cert.SsdGradInputIdeal.nD,
          r.2.mem ((c.tc : Thread Cert.SsdGradInputIdeal.nD Cert.SsdGradInputIdeal.τ).loc Cert.SsdGradInputIdeal.main_v0_0) = v0 c
          ∧ r.2.mem ((c.tc : Thread Cert.SsdGradInputIdeal.nD Cert.SsdGradInputIdeal.τ).loc Cert.SsdGradInputIdeal.main_arg0) = m ((c.tc : Thread Cert.SsdGradInputIdeal.nD Cert.SsdGradInputIdeal.τ).loc Cert.SsdGradInputIdeal.main_arg0)
          ∧ r.2.mem ((c.tc : Thread Cert.SsdGradInputIdeal.nD Cert.SsdGradInputIdeal.τ).loc Cert.SsdGradInputIdeal.main_arg1) = m ((c.tc : Thread Cert.SsdGradInputIdeal.nD Cert.SsdGradInputIdeal.τ).loc Cert.SsdGradInputIdeal.main_arg1))
      ∧ θ_run (Cert.SsdGradInputRefIdeal.defs (F := Ideal)) (onTc (τ := Cert.SsdGradInputRefIdeal.τ) (Cert.SsdGradInputRefIdeal.main (F := Ideal))) ⟨m', fun _ => 0, g'⟩ (fun r => ∀ c : Dev Cert.SsdGradInputRefIdeal.nD,
          r.2.mem ((c.tc : Thread Cert.SsdGradInputRefIdeal.nD Cert.SsdGradInputRefIdeal.τ).loc Cert.SsdGradInputRefIdeal.main_v10) = v0 c
          ∧ r.2.mem ((c.tc : Thread Cert.SsdGradInputRefIdeal.nD Cert.SsdGradInputRefIdeal.τ).loc Cert.SsdGradInputRefIdeal.main_arg0) = m' ((c.tc : Thread Cert.SsdGradInputRefIdeal.nD Cert.SsdGradInputRefIdeal.τ).loc Cert.SsdGradInputRefIdeal.main_arg0)
          ∧ r.2.mem ((c.tc : Thread Cert.SsdGradInputRefIdeal.nD Cert.SsdGradInputRefIdeal.τ).loc Cert.SsdGradInputRefIdeal.main_arg1) = m' ((c.tc : Thread Cert.SsdGradInputRefIdeal.nD Cert.SsdGradInputRefIdeal.τ).loc Cert.SsdGradInputRefIdeal.main_arg1))

def preserves_SsdBackOut_SsdBackOutIdeal : Prop :=
  True

def algebraic_SsdBackOutIdeal_SsdBackOutRefIdeal [hSsdBackOutIdeal : Cert.SsdBackOutIdeal.Facts] [hSsdBackOutRefIdeal : Cert.SsdBackOutRefIdeal.Facts] : Prop :=
  ∀ (m : (ℓ : Loc Cert.SsdBackOutIdeal.nD Cert.SsdBackOutIdeal.τ Cert.SsdBackOutIdeal.sig) → Buf (Elt Ideal) ℓ) (g : Dev Cert.SsdBackOutIdeal.nD → PrngReg)
    (m' : (ℓ : Loc Cert.SsdBackOutRefIdeal.nD Cert.SsdBackOutRefIdeal.τ Cert.SsdBackOutRefIdeal.sig) → Buf (Elt Ideal) ℓ) (g' : Dev Cert.SsdBackOutRefIdeal.nD → PrngReg), Pre_SsdBackOutIdeal m →
    (∀ c : Dev Cert.SsdBackOutIdeal.nD,
      m' ((c.tc : Thread Cert.SsdBackOutRefIdeal.nD Cert.SsdBackOutRefIdeal.τ).loc Cert.SsdBackOutRefIdeal.main_arg0) = m ((c.tc : Thread Cert.SsdBackOutIdeal.nD Cert.SsdBackOutIdeal.τ).loc Cert.SsdBackOutIdeal.main_arg0)
      ∧ m' ((c.tc : Thread Cert.SsdBackOutRefIdeal.nD Cert.SsdBackOutRefIdeal.τ).loc Cert.SsdBackOutRefIdeal.main_arg1) = m ((c.tc : Thread Cert.SsdBackOutIdeal.nD Cert.SsdBackOutIdeal.τ).loc Cert.SsdBackOutIdeal.main_arg1)) →
    ∃ (v0 : (c : Dev Cert.SsdBackOutIdeal.nD) → Buf (Elt Ideal) ((c.tc : Thread Cert.SsdBackOutIdeal.nD Cert.SsdBackOutIdeal.τ).loc Cert.SsdBackOutIdeal.main_v0_0)),
      θ_run (Cert.SsdBackOutIdeal.defs (F := Ideal)) (onTc (τ := Cert.SsdBackOutIdeal.τ) (Cert.SsdBackOutIdeal.main (F := Ideal))) ⟨m, fun _ => 0, g⟩ (fun r => ∀ c : Dev Cert.SsdBackOutIdeal.nD,
          r.2.mem ((c.tc : Thread Cert.SsdBackOutIdeal.nD Cert.SsdBackOutIdeal.τ).loc Cert.SsdBackOutIdeal.main_v0_0) = v0 c
          ∧ r.2.mem ((c.tc : Thread Cert.SsdBackOutIdeal.nD Cert.SsdBackOutIdeal.τ).loc Cert.SsdBackOutIdeal.main_arg0) = m ((c.tc : Thread Cert.SsdBackOutIdeal.nD Cert.SsdBackOutIdeal.τ).loc Cert.SsdBackOutIdeal.main_arg0)
          ∧ r.2.mem ((c.tc : Thread Cert.SsdBackOutIdeal.nD Cert.SsdBackOutIdeal.τ).loc Cert.SsdBackOutIdeal.main_arg1) = m ((c.tc : Thread Cert.SsdBackOutIdeal.nD Cert.SsdBackOutIdeal.τ).loc Cert.SsdBackOutIdeal.main_arg1))
      ∧ θ_run (Cert.SsdBackOutRefIdeal.defs (F := Ideal)) (onTc (τ := Cert.SsdBackOutRefIdeal.τ) (Cert.SsdBackOutRefIdeal.main (F := Ideal))) ⟨m', fun _ => 0, g'⟩ (fun r => ∀ c : Dev Cert.SsdBackOutRefIdeal.nD,
          r.2.mem ((c.tc : Thread Cert.SsdBackOutRefIdeal.nD Cert.SsdBackOutRefIdeal.τ).loc Cert.SsdBackOutRefIdeal.main_v4) = v0 c
          ∧ r.2.mem ((c.tc : Thread Cert.SsdBackOutRefIdeal.nD Cert.SsdBackOutRefIdeal.τ).loc Cert.SsdBackOutRefIdeal.main_arg0) = m' ((c.tc : Thread Cert.SsdBackOutRefIdeal.nD Cert.SsdBackOutRefIdeal.τ).loc Cert.SsdBackOutRefIdeal.main_arg0)
          ∧ r.2.mem ((c.tc : Thread Cert.SsdBackOutRefIdeal.nD Cert.SsdBackOutRefIdeal.τ).loc Cert.SsdBackOutRefIdeal.main_arg1) = m' ((c.tc : Thread Cert.SsdBackOutRefIdeal.nD Cert.SsdBackOutRefIdeal.τ).loc Cert.SsdBackOutRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0_0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_MixGradOut_MixGradOutIdeal : Prop :=
  True

def algebraic_MixGradOutIdeal_MixGradOutRefIdeal [hMixGradOutIdeal : Cert.MixGradOutIdeal.Facts] [hMixGradOutRefIdeal : Cert.MixGradOutRefIdeal.Facts] : Prop :=
  ∀ (m : (ℓ : Loc Cert.MixGradOutIdeal.nD Cert.MixGradOutIdeal.τ Cert.MixGradOutIdeal.sig) → Buf (Elt Ideal) ℓ) (g : Dev Cert.MixGradOutIdeal.nD → PrngReg)
    (m' : (ℓ : Loc Cert.MixGradOutRefIdeal.nD Cert.MixGradOutRefIdeal.τ Cert.MixGradOutRefIdeal.sig) → Buf (Elt Ideal) ℓ) (g' : Dev Cert.MixGradOutRefIdeal.nD → PrngReg), Pre_MixGradOutIdeal m →
    (∀ c : Dev Cert.MixGradOutIdeal.nD,
      m' ((c.tc : Thread Cert.MixGradOutRefIdeal.nD Cert.MixGradOutRefIdeal.τ).loc Cert.MixGradOutRefIdeal.main_arg0) = m ((c.tc : Thread Cert.MixGradOutIdeal.nD Cert.MixGradOutIdeal.τ).loc Cert.MixGradOutIdeal.main_arg0)
      ∧ m' ((c.tc : Thread Cert.MixGradOutRefIdeal.nD Cert.MixGradOutRefIdeal.τ).loc Cert.MixGradOutRefIdeal.main_arg1) = m ((c.tc : Thread Cert.MixGradOutIdeal.nD Cert.MixGradOutIdeal.τ).loc Cert.MixGradOutIdeal.main_arg1)) →
    ∃ (v0 : (c : Dev Cert.MixGradOutIdeal.nD) → Buf (Elt Ideal) ((c.tc : Thread Cert.MixGradOutIdeal.nD Cert.MixGradOutIdeal.τ).loc Cert.MixGradOutIdeal.main_v0_0)),
      θ_run (Cert.MixGradOutIdeal.defs (F := Ideal)) (onTc (τ := Cert.MixGradOutIdeal.τ) (Cert.MixGradOutIdeal.main (F := Ideal))) ⟨m, fun _ => 0, g⟩ (fun r => ∀ c : Dev Cert.MixGradOutIdeal.nD,
          r.2.mem ((c.tc : Thread Cert.MixGradOutIdeal.nD Cert.MixGradOutIdeal.τ).loc Cert.MixGradOutIdeal.main_v0_0) = v0 c
          ∧ r.2.mem ((c.tc : Thread Cert.MixGradOutIdeal.nD Cert.MixGradOutIdeal.τ).loc Cert.MixGradOutIdeal.main_arg0) = m ((c.tc : Thread Cert.MixGradOutIdeal.nD Cert.MixGradOutIdeal.τ).loc Cert.MixGradOutIdeal.main_arg0)
          ∧ r.2.mem ((c.tc : Thread Cert.MixGradOutIdeal.nD Cert.MixGradOutIdeal.τ).loc Cert.MixGradOutIdeal.main_arg1) = m ((c.tc : Thread Cert.MixGradOutIdeal.nD Cert.MixGradOutIdeal.τ).loc Cert.MixGradOutIdeal.main_arg1))
      ∧ θ_run (Cert.MixGradOutRefIdeal.defs (F := Ideal)) (onTc (τ := Cert.MixGradOutRefIdeal.τ) (Cert.MixGradOutRefIdeal.main (F := Ideal))) ⟨m', fun _ => 0, g'⟩ (fun r => ∀ c : Dev Cert.MixGradOutRefIdeal.nD,
          r.2.mem ((c.tc : Thread Cert.MixGradOutRefIdeal.nD Cert.MixGradOutRefIdeal.τ).loc Cert.MixGradOutRefIdeal.main_v6) = v0 c
          ∧ r.2.mem ((c.tc : Thread Cert.MixGradOutRefIdeal.nD Cert.MixGradOutRefIdeal.τ).loc Cert.MixGradOutRefIdeal.main_arg0) = m' ((c.tc : Thread Cert.MixGradOutRefIdeal.nD Cert.MixGradOutRefIdeal.τ).loc Cert.MixGradOutRefIdeal.main_arg0)
          ∧ r.2.mem ((c.tc : Thread Cert.MixGradOutRefIdeal.nD Cert.MixGradOutRefIdeal.τ).loc Cert.MixGradOutRefIdeal.main_arg1) = m' ((c.tc : Thread Cert.MixGradOutRefIdeal.nD Cert.MixGradOutRefIdeal.τ).loc Cert.MixGradOutRefIdeal.main_arg1))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v1_0)) (v1 : (c : Dev Cert.NormGradIdeal.nD) → Buf (Elt Ideal) ((c.tc : Thread Cert.NormGradIdeal.nD Cert.NormGradIdeal.τ).loc Cert.NormGradIdeal.main_v1_1)) (v2 : (c : Dev Cert.NormGradIdeal.nD) → Buf (Elt Ideal) ((c.tc : Thread Cert.NormGradIdeal.nD Cert.NormGradIdeal.τ).loc Cert.NormGradIdeal.main_v1_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v1_0) = v0 c
          ∧ r.2.mem ((c.tc : Thread Cert.NormGradIdeal.nD Cert.NormGradIdeal.τ).loc Cert.NormGradIdeal.main_v1_1) = v1 c
          ∧ r.2.mem ((c.tc : Thread Cert.NormGradIdeal.nD Cert.NormGradIdeal.τ).loc Cert.NormGradIdeal.main_v1_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v36) = v0 c
          ∧ r.2.mem ((c.tc : Thread Cert.NormGradRefIdeal.nD Cert.NormGradRefIdeal.τ).loc Cert.NormGradRefIdeal.main_v39) = v1 c
          ∧ r.2.mem ((c.tc : Thread Cert.NormGradRefIdeal.nD Cert.NormGradRefIdeal.τ).loc Cert.NormGradRefIdeal.main_v40) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1_0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_SsdNormGrad_SsdNormGradIdeal : Prop :=
  True

def algebraic_SsdNormGradIdeal_SsdNormGradRefIdeal_pre_finite_ssd_norm [hSsdNormGradIdeal : Cert.SsdNormGradIdeal.Facts] [hSsdNormGradRefIdeal : Cert.SsdNormGradRefIdeal.Facts] [hPre_finite_ssd_norm : Cert.Pre_finite_ssd_norm.Facts] : Prop :=
  ∀ (m : (ℓ : Loc Cert.SsdNormGradIdeal.nD Cert.SsdNormGradIdeal.τ Cert.SsdNormGradIdeal.sig) → Buf (Elt Ideal) ℓ) (g : Dev Cert.SsdNormGradIdeal.nD → PrngReg)
    (m' : (ℓ : Loc Cert.SsdNormGradRefIdeal.nD Cert.SsdNormGradRefIdeal.τ Cert.SsdNormGradRefIdeal.sig) → Buf (Elt Ideal) ℓ) (g' : Dev Cert.SsdNormGradRefIdeal.nD → PrngReg), Pre_SsdNormGradIdeal_finite_ssd_norm m →
    (∀ c : Dev Cert.SsdNormGradIdeal.nD,
      m' ((c.tc : Thread Cert.SsdNormGradRefIdeal.nD Cert.SsdNormGradRefIdeal.τ).loc Cert.SsdNormGradRefIdeal.main_arg0) = m ((c.tc : Thread Cert.SsdNormGradIdeal.nD Cert.SsdNormGradIdeal.τ).loc Cert.SsdNormGradIdeal.main_arg0)
      ∧ m' ((c.tc : Thread Cert.SsdNormGradRefIdeal.nD Cert.SsdNormGradRefIdeal.τ).loc Cert.SsdNormGradRefIdeal.main_arg1) = m ((c.tc : Thread Cert.SsdNormGradIdeal.nD Cert.SsdNormGradIdeal.τ).loc Cert.SsdNormGradIdeal.main_arg1)
      ∧ m' ((c.tc : Thread Cert.SsdNormGradRefIdeal.nD Cert.SsdNormGradRefIdeal.τ).loc Cert.SsdNormGradRefIdeal.main_arg2) = m ((c.tc : Thread Cert.SsdNormGradIdeal.nD Cert.SsdNormGradIdeal.τ).loc Cert.SsdNormGradIdeal.main_arg2)
      ∧ m' ((c.tc : Thread Cert.SsdNormGradRefIdeal.nD Cert.SsdNormGradRefIdeal.τ).loc Cert.SsdNormGradRefIdeal.main_arg3) = m ((c.tc : Thread Cert.SsdNormGradIdeal.nD Cert.SsdNormGradIdeal.τ).loc Cert.SsdNormGradIdeal.main_arg3)) →
    ∃ (v0 : (c : Dev Cert.SsdNormGradIdeal.nD) → Buf (Elt Ideal) ((c.tc : Thread Cert.SsdNormGradIdeal.nD Cert.SsdNormGradIdeal.τ).loc Cert.SsdNormGradIdeal.main_v0_0)) (v1 : (c : Dev Cert.SsdNormGradIdeal.nD) → Buf (Elt Ideal) ((c.tc : Thread Cert.SsdNormGradIdeal.nD Cert.SsdNormGradIdeal.τ).loc Cert.SsdNormGradIdeal.main_v0_1)) (v2 : (c : Dev Cert.SsdNormGradIdeal.nD) → Buf (Elt Ideal) ((c.tc : Thread Cert.SsdNormGradIdeal.nD Cert.SsdNormGradIdeal.τ).loc Cert.SsdNormGradIdeal.main_v0_2)),
      θ_run (Cert.SsdNormGradIdeal.defs (F := Ideal)) (onTc (τ := Cert.SsdNormGradIdeal.τ) (Cert.SsdNormGradIdeal.main (F := Ideal))) ⟨m, fun _ => 0, g⟩ (fun r => ∀ c : Dev Cert.SsdNormGradIdeal.nD,
          r.2.mem ((c.tc : Thread Cert.SsdNormGradIdeal.nD Cert.SsdNormGradIdeal.τ).loc Cert.SsdNormGradIdeal.main_v0_0) = v0 c
          ∧ r.2.mem ((c.tc : Thread Cert.SsdNormGradIdeal.nD Cert.SsdNormGradIdeal.τ).loc Cert.SsdNormGradIdeal.main_v0_1) = v1 c
          ∧ r.2.mem ((c.tc : Thread Cert.SsdNormGradIdeal.nD Cert.SsdNormGradIdeal.τ).loc Cert.SsdNormGradIdeal.main_v0_2) = v2 c
          ∧ r.2.mem ((c.tc : Thread Cert.SsdNormGradIdeal.nD Cert.SsdNormGradIdeal.τ).loc Cert.SsdNormGradIdeal.main_arg0) = m ((c.tc : Thread Cert.SsdNormGradIdeal.nD Cert.SsdNormGradIdeal.τ).loc Cert.SsdNormGradIdeal.main_arg0)
          ∧ r.2.mem ((c.tc : Thread Cert.SsdNormGradIdeal.nD Cert.SsdNormGradIdeal.τ).loc Cert.SsdNormGradIdeal.main_arg1) = m ((c.tc : Thread Cert.SsdNormGradIdeal.nD Cert.SsdNormGradIdeal.τ).loc Cert.SsdNormGradIdeal.main_arg1)
          ∧ r.2.mem ((c.tc : Thread Cert.SsdNormGradIdeal.nD Cert.SsdNormGradIdeal.τ).loc Cert.SsdNormGradIdeal.main_arg2) = m ((c.tc : Thread Cert.SsdNormGradIdeal.nD Cert.SsdNormGradIdeal.τ).loc Cert.SsdNormGradIdeal.main_arg2)
          ∧ r.2.mem ((c.tc : Thread Cert.SsdNormGradIdeal.nD Cert.SsdNormGradIdeal.τ).loc Cert.SsdNormGradIdeal.main_arg3) = m ((c.tc : Thread Cert.SsdNormGradIdeal.nD Cert.SsdNormGradIdeal.τ).loc Cert.SsdNormGradIdeal.main_arg3))
      ∧ θ_run (Cert.SsdNormGradRefIdeal.defs (F := Ideal)) (onTc (τ := Cert.SsdNormGradRefIdeal.τ) (Cert.SsdNormGradRefIdeal.main (F := Ideal))) ⟨m', fun _ => 0, g'⟩ (fun r => ∀ c : Dev Cert.SsdNormGradRefIdeal.nD,
          r.2.mem ((c.tc : Thread Cert.SsdNormGradRefIdeal.nD Cert.SsdNormGradRefIdeal.τ).loc Cert.SsdNormGradRefIdeal.main_v41) = v0 c
          ∧ r.2.mem ((c.tc : Thread Cert.SsdNormGradRefIdeal.nD Cert.SsdNormGradRefIdeal.τ).loc Cert.SsdNormGradRefIdeal.main_v42) = v1 c
          ∧ r.2.mem ((c.tc : Thread Cert.SsdNormGradRefIdeal.nD Cert.SsdNormGradRefIdeal.τ).loc Cert.SsdNormGradRefIdeal.main_v21) = v2 c
          ∧ r.2.mem ((c.tc : Thread Cert.SsdNormGradRefIdeal.nD Cert.SsdNormGradRefIdeal.τ).loc Cert.SsdNormGradRefIdeal.main_arg0) = m' ((c.tc : Thread Cert.SsdNormGradRefIdeal.nD Cert.SsdNormGradRefIdeal.τ).loc Cert.SsdNormGradRefIdeal.main_arg0)
          ∧ r.2.mem ((c.tc : Thread Cert.SsdNormGradRefIdeal.nD Cert.SsdNormGradRefIdeal.τ).loc Cert.SsdNormGradRefIdeal.main_arg1) = m' ((c.tc : Thread Cert.SsdNormGradRefIdeal.nD Cert.SsdNormGradRefIdeal.τ).loc Cert.SsdNormGradRefIdeal.main_arg1)
          ∧ r.2.mem ((c.tc : Thread Cert.SsdNormGradRefIdeal.nD Cert.SsdNormGradRefIdeal.τ).loc Cert.SsdNormGradRefIdeal.main_arg2) = m' ((c.tc : Thread Cert.SsdNormGradRefIdeal.nD Cert.SsdNormGradRefIdeal.τ).loc Cert.SsdNormGradRefIdeal.main_arg2)
          ∧ r.2.mem ((c.tc : Thread Cert.SsdNormGradRefIdeal.nD Cert.SsdNormGradRefIdeal.τ).loc Cert.SsdNormGradRefIdeal.main_arg3) = m' ((c.tc : Thread Cert.SsdNormGradRefIdeal.nD Cert.SsdNormGradRefIdeal.τ).loc Cert.SsdNormGradRefIdeal.main_arg3))

def preserves_SsdNorm_SsdNormIdeal : Prop :=
  True

def algebraic_SsdNormIdeal_SsdNormRefIdeal [hSsdNormIdeal : Cert.SsdNormIdeal.Facts] [hSsdNormRefIdeal : Cert.SsdNormRefIdeal.Facts] : Prop :=
  ∀ (m : (ℓ : Loc Cert.SsdNormIdeal.nD Cert.SsdNormIdeal.τ Cert.SsdNormIdeal.sig) → Buf (Elt Ideal) ℓ) (g : Dev Cert.SsdNormIdeal.nD → PrngReg)
    (m' : (ℓ : Loc Cert.SsdNormRefIdeal.nD Cert.SsdNormRefIdeal.τ Cert.SsdNormRefIdeal.sig) → Buf (Elt Ideal) ℓ) (g' : Dev Cert.SsdNormRefIdeal.nD → PrngReg), Pre_SsdNormIdeal m →
    (∀ c : Dev Cert.SsdNormIdeal.nD,
      m' ((c.tc : Thread Cert.SsdNormRefIdeal.nD Cert.SsdNormRefIdeal.τ).loc Cert.SsdNormRefIdeal.main_arg0) = m ((c.tc : Thread Cert.SsdNormIdeal.nD Cert.SsdNormIdeal.τ).loc Cert.SsdNormIdeal.main_arg0)
      ∧ m' ((c.tc : Thread Cert.SsdNormRefIdeal.nD Cert.SsdNormRefIdeal.τ).loc Cert.SsdNormRefIdeal.main_arg1) = m ((c.tc : Thread Cert.SsdNormIdeal.nD Cert.SsdNormIdeal.τ).loc Cert.SsdNormIdeal.main_arg1)
      ∧ m' ((c.tc : Thread Cert.SsdNormRefIdeal.nD Cert.SsdNormRefIdeal.τ).loc Cert.SsdNormRefIdeal.main_arg2) = m ((c.tc : Thread Cert.SsdNormIdeal.nD Cert.SsdNormIdeal.τ).loc Cert.SsdNormIdeal.main_arg2)) →
    ∃ (v0 : (c : Dev Cert.SsdNormIdeal.nD) → Buf (Elt Ideal) ((c.tc : Thread Cert.SsdNormIdeal.nD Cert.SsdNormIdeal.τ).loc Cert.SsdNormIdeal.main_v0_0)),
      θ_run (Cert.SsdNormIdeal.defs (F := Ideal)) (onTc (τ := Cert.SsdNormIdeal.τ) (Cert.SsdNormIdeal.main (F := Ideal))) ⟨m, fun _ => 0, g⟩ (fun r => ∀ c : Dev Cert.SsdNormIdeal.nD,
          r.2.mem ((c.tc : Thread Cert.SsdNormIdeal.nD Cert.SsdNormIdeal.τ).loc Cert.SsdNormIdeal.main_v0_0) = v0 c
          ∧ r.2.mem ((c.tc : Thread Cert.SsdNormIdeal.nD Cert.SsdNormIdeal.τ).loc Cert.SsdNormIdeal.main_arg0) = m ((c.tc : Thread Cert.SsdNormIdeal.nD Cert.SsdNormIdeal.τ).loc Cert.SsdNormIdeal.main_arg0)
          ∧ r.2.mem ((c.tc : Thread Cert.SsdNormIdeal.nD Cert.SsdNormIdeal.τ).loc Cert.SsdNormIdeal.main_arg1) = m ((c.tc : Thread Cert.SsdNormIdeal.nD Cert.SsdNormIdeal.τ).loc Cert.SsdNormIdeal.main_arg1)
          ∧ r.2.mem ((c.tc : Thread Cert.SsdNormIdeal.nD Cert.SsdNormIdeal.τ).loc Cert.SsdNormIdeal.main_arg2) = m ((c.tc : Thread Cert.SsdNormIdeal.nD Cert.SsdNormIdeal.τ).loc Cert.SsdNormIdeal.main_arg2))
      ∧ θ_run (Cert.SsdNormRefIdeal.defs (F := Ideal)) (onTc (τ := Cert.SsdNormRefIdeal.τ) (Cert.SsdNormRefIdeal.main (F := Ideal))) ⟨m', fun _ => 0, g'⟩ (fun r => ∀ c : Dev Cert.SsdNormRefIdeal.nD,
          r.2.mem ((c.tc : Thread Cert.SsdNormRefIdeal.nD Cert.SsdNormRefIdeal.τ).loc Cert.SsdNormRefIdeal.main_v16) = v0 c
          ∧ r.2.mem ((c.tc : Thread Cert.SsdNormRefIdeal.nD Cert.SsdNormRefIdeal.τ).loc Cert.SsdNormRefIdeal.main_arg0) = m' ((c.tc : Thread Cert.SsdNormRefIdeal.nD Cert.SsdNormRefIdeal.τ).loc Cert.SsdNormRefIdeal.main_arg0)
          ∧ r.2.mem ((c.tc : Thread Cert.SsdNormRefIdeal.nD Cert.SsdNormRefIdeal.τ).loc Cert.SsdNormRefIdeal.main_arg1) = m' ((c.tc : Thread Cert.SsdNormRefIdeal.nD Cert.SsdNormRefIdeal.τ).loc Cert.SsdNormRefIdeal.main_arg1)
          ∧ r.2.mem ((c.tc : Thread Cert.SsdNormRefIdeal.nD Cert.SsdNormRefIdeal.τ).loc Cert.SsdNormRefIdeal.main_arg2) = m' ((c.tc : Thread Cert.SsdNormRefIdeal.nD Cert.SsdNormRefIdeal.τ).loc Cert.SsdNormRefIdeal.main_arg2))

def preserves_ValuesNormGrad_ValuesNormGradIdeal : Prop :=
  IdealRules.named_const.Statement Cert.ValuesNormGradIdeal.κ "inv_sqrt2" .f32 0x3F3504F3#32 (((Real.sqrt 2)⁻¹ : ℝ) : EReal)
  ∧ IdealRules.named_const.Statement Cert.ValuesNormGradIdeal.κ "inv_sqrt_2pi" .f32 0x3ECC422A#32 (((Real.sqrt (2 * Real.pi))⁻¹ : ℝ) : EReal)

def algebraic_ValuesNormGradIdeal_ValuesNormGradRefIdeal_pre_finite_values [hValuesNormGradIdeal : Cert.ValuesNormGradIdeal.Facts] [hValuesNormGradRefIdeal : Cert.ValuesNormGradRefIdeal.Facts] [hPre_finite_values : Cert.Pre_finite_values.Facts] : Prop :=
  ∀ (m : (ℓ : Loc Cert.ValuesNormGradIdeal.nD Cert.ValuesNormGradIdeal.τ Cert.ValuesNormGradIdeal.sig) → Buf (Elt Ideal) ℓ) (g : Dev Cert.ValuesNormGradIdeal.nD → PrngReg)
    (m' : (ℓ : Loc Cert.ValuesNormGradRefIdeal.nD Cert.ValuesNormGradRefIdeal.τ Cert.ValuesNormGradRefIdeal.sig) → Buf (Elt Ideal) ℓ) (g' : Dev Cert.ValuesNormGradRefIdeal.nD → PrngReg), Pre_ValuesNormGradIdeal_finite_values m →
    (∀ c : Dev Cert.ValuesNormGradIdeal.nD,
      m' ((c.tc : Thread Cert.ValuesNormGradRefIdeal.nD Cert.ValuesNormGradRefIdeal.τ).loc Cert.ValuesNormGradRefIdeal.main_arg0) = m ((c.tc : Thread Cert.ValuesNormGradIdeal.nD Cert.ValuesNormGradIdeal.τ).loc Cert.ValuesNormGradIdeal.main_arg0)
      ∧ m' ((c.tc : Thread Cert.ValuesNormGradRefIdeal.nD Cert.ValuesNormGradRefIdeal.τ).loc Cert.ValuesNormGradRefIdeal.main_arg1) = m ((c.tc : Thread Cert.ValuesNormGradIdeal.nD Cert.ValuesNormGradIdeal.τ).loc Cert.ValuesNormGradIdeal.main_arg1)
      ∧ m' ((c.tc : Thread Cert.ValuesNormGradRefIdeal.nD Cert.ValuesNormGradRefIdeal.τ).loc Cert.ValuesNormGradRefIdeal.main_arg2) = m ((c.tc : Thread Cert.ValuesNormGradIdeal.nD Cert.ValuesNormGradIdeal.τ).loc Cert.ValuesNormGradIdeal.main_arg2)
      ∧ m' ((c.tc : Thread Cert.ValuesNormGradRefIdeal.nD Cert.ValuesNormGradRefIdeal.τ).loc Cert.ValuesNormGradRefIdeal.main_arg3) = m ((c.tc : Thread Cert.ValuesNormGradIdeal.nD Cert.ValuesNormGradIdeal.τ).loc Cert.ValuesNormGradIdeal.main_arg3)) →
    ∃ (v0 : (c : Dev Cert.ValuesNormGradIdeal.nD) → Buf (Elt Ideal) ((c.tc : Thread Cert.ValuesNormGradIdeal.nD Cert.ValuesNormGradIdeal.τ).loc Cert.ValuesNormGradIdeal.main_v1_0)) (v1 : (c : Dev Cert.ValuesNormGradIdeal.nD) → Buf (Elt Ideal) ((c.tc : Thread Cert.ValuesNormGradIdeal.nD Cert.ValuesNormGradIdeal.τ).loc Cert.ValuesNormGradIdeal.main_v1_1)),
      θ_run (Cert.ValuesNormGradIdeal.defs (F := Ideal)) (onTc (τ := Cert.ValuesNormGradIdeal.τ) (Cert.ValuesNormGradIdeal.main (F := Ideal))) ⟨m, fun _ => 0, g⟩ (fun r => ∀ c : Dev Cert.ValuesNormGradIdeal.nD,
          r.2.mem ((c.tc : Thread Cert.ValuesNormGradIdeal.nD Cert.ValuesNormGradIdeal.τ).loc Cert.ValuesNormGradIdeal.main_v1_0) = v0 c
          ∧ r.2.mem ((c.tc : Thread Cert.ValuesNormGradIdeal.nD Cert.ValuesNormGradIdeal.τ).loc Cert.ValuesNormGradIdeal.main_v1_1) = v1 c
          ∧ r.2.mem ((c.tc : Thread Cert.ValuesNormGradIdeal.nD Cert.ValuesNormGradIdeal.τ).loc Cert.ValuesNormGradIdeal.main_arg0) = m ((c.tc : Thread Cert.ValuesNormGradIdeal.nD Cert.ValuesNormGradIdeal.τ).loc Cert.ValuesNormGradIdeal.main_arg0)
          ∧ r.2.mem ((c.tc : Thread Cert.ValuesNormGradIdeal.nD Cert.ValuesNormGradIdeal.τ).loc Cert.ValuesNormGradIdeal.main_arg1) = m ((c.tc : Thread Cert.ValuesNormGradIdeal.nD Cert.ValuesNormGradIdeal.τ).loc Cert.ValuesNormGradIdeal.main_arg1)
          ∧ r.2.mem ((c.tc : Thread Cert.ValuesNormGradIdeal.nD Cert.ValuesNormGradIdeal.τ).loc Cert.ValuesNormGradIdeal.main_arg2) = m ((c.tc : Thread Cert.ValuesNormGradIdeal.nD Cert.ValuesNormGradIdeal.τ).loc Cert.ValuesNormGradIdeal.main_arg2)
          ∧ r.2.mem ((c.tc : Thread Cert.ValuesNormGradIdeal.nD Cert.ValuesNormGradIdeal.τ).loc Cert.ValuesNormGradIdeal.main_arg3) = m ((c.tc : Thread Cert.ValuesNormGradIdeal.nD Cert.ValuesNormGradIdeal.τ).loc Cert.ValuesNormGradIdeal.main_arg3))
      ∧ θ_run (Cert.ValuesNormGradRefIdeal.defs (F := Ideal)) (onTc (τ := Cert.ValuesNormGradRefIdeal.τ) (Cert.ValuesNormGradRefIdeal.main (F := Ideal))) ⟨m', fun _ => 0, g'⟩ (fun r => ∀ c : Dev Cert.ValuesNormGradRefIdeal.nD,
          r.2.mem ((c.tc : Thread Cert.ValuesNormGradRefIdeal.nD Cert.ValuesNormGradRefIdeal.τ).loc Cert.ValuesNormGradRefIdeal.main_v69) = v0 c
          ∧ r.2.mem ((c.tc : Thread Cert.ValuesNormGradRefIdeal.nD Cert.ValuesNormGradRefIdeal.τ).loc Cert.ValuesNormGradRefIdeal.main_v70) = v1 c
          ∧ r.2.mem ((c.tc : Thread Cert.ValuesNormGradRefIdeal.nD Cert.ValuesNormGradRefIdeal.τ).loc Cert.ValuesNormGradRefIdeal.main_arg0) = m' ((c.tc : Thread Cert.ValuesNormGradRefIdeal.nD Cert.ValuesNormGradRefIdeal.τ).loc Cert.ValuesNormGradRefIdeal.main_arg0)
          ∧ r.2.mem ((c.tc : Thread Cert.ValuesNormGradRefIdeal.nD Cert.ValuesNormGradRefIdeal.τ).loc Cert.ValuesNormGradRefIdeal.main_arg1) = m' ((c.tc : Thread Cert.ValuesNormGradRefIdeal.nD Cert.ValuesNormGradRefIdeal.τ).loc Cert.ValuesNormGradRefIdeal.main_arg1)
          ∧ r.2.mem ((c.tc : Thread Cert.ValuesNormGradRefIdeal.nD Cert.ValuesNormGradRefIdeal.τ).loc Cert.ValuesNormGradRefIdeal.main_arg2) = m' ((c.tc : Thread Cert.ValuesNormGradRefIdeal.nD Cert.ValuesNormGradRefIdeal.τ).loc Cert.ValuesNormGradRefIdeal.main_arg2)
          ∧ r.2.mem ((c.tc : Thread Cert.ValuesNormGradRefIdeal.nD Cert.ValuesNormGradRefIdeal.τ).loc Cert.ValuesNormGradRefIdeal.main_arg3) = m' ((c.tc : Thread Cert.ValuesNormGradRefIdeal.nD Cert.ValuesNormGradRefIdeal.τ).loc Cert.ValuesNormGradRefIdeal.main_arg3))

def preserves_ValuesNorm_ValuesNormIdeal : Prop :=
  IdealRules.named_const.Statement Cert.ValuesNormIdeal.κ "inv_sqrt2" .f32 0x3F3504F3#32 (((Real.sqrt 2)⁻¹ : ℝ) : EReal)

def algebraic_ValuesNormIdeal_ValuesNormRefIdeal [hValuesNormIdeal : Cert.ValuesNormIdeal.Facts] [hValuesNormRefIdeal : Cert.ValuesNormRefIdeal.Facts] : Prop :=
  ∀ (m : (ℓ : Loc Cert.ValuesNormIdeal.nD Cert.ValuesNormIdeal.τ Cert.ValuesNormIdeal.sig) → Buf (Elt Ideal) ℓ) (g : Dev Cert.ValuesNormIdeal.nD → PrngReg)
    (m' : (ℓ : Loc Cert.ValuesNormRefIdeal.nD Cert.ValuesNormRefIdeal.τ Cert.ValuesNormRefIdeal.sig) → Buf (Elt Ideal) ℓ) (g' : Dev Cert.ValuesNormRefIdeal.nD → PrngReg), Pre_ValuesNormIdeal m →
    (∀ c : Dev Cert.ValuesNormIdeal.nD,
      m' ((c.tc : Thread Cert.ValuesNormRefIdeal.nD Cert.ValuesNormRefIdeal.τ).loc Cert.ValuesNormRefIdeal.main_arg0) = m ((c.tc : Thread Cert.ValuesNormIdeal.nD Cert.ValuesNormIdeal.τ).loc Cert.ValuesNormIdeal.main_arg0)
      ∧ m' ((c.tc : Thread Cert.ValuesNormRefIdeal.nD Cert.ValuesNormRefIdeal.τ).loc Cert.ValuesNormRefIdeal.main_arg1) = m ((c.tc : Thread Cert.ValuesNormIdeal.nD Cert.ValuesNormIdeal.τ).loc Cert.ValuesNormIdeal.main_arg1)) →
    ∃ (v0 : (c : Dev Cert.ValuesNormIdeal.nD) → Buf (Elt Ideal) ((c.tc : Thread Cert.ValuesNormIdeal.nD Cert.ValuesNormIdeal.τ).loc Cert.ValuesNormIdeal.main_v1_0)),
      θ_run (Cert.ValuesNormIdeal.defs (F := Ideal)) (onTc (τ := Cert.ValuesNormIdeal.τ) (Cert.ValuesNormIdeal.main (F := Ideal))) ⟨m, fun _ => 0, g⟩ (fun r => ∀ c : Dev Cert.ValuesNormIdeal.nD,
          r.2.mem ((c.tc : Thread Cert.ValuesNormIdeal.nD Cert.ValuesNormIdeal.τ).loc Cert.ValuesNormIdeal.main_v1_0) = v0 c
          ∧ r.2.mem ((c.tc : Thread Cert.ValuesNormIdeal.nD Cert.ValuesNormIdeal.τ).loc Cert.ValuesNormIdeal.main_arg0) = m ((c.tc : Thread Cert.ValuesNormIdeal.nD Cert.ValuesNormIdeal.τ).loc Cert.ValuesNormIdeal.main_arg0)
          ∧ r.2.mem ((c.tc : Thread Cert.ValuesNormIdeal.nD Cert.ValuesNormIdeal.τ).loc Cert.ValuesNormIdeal.main_arg1) = m ((c.tc : Thread Cert.ValuesNormIdeal.nD Cert.ValuesNormIdeal.τ).loc Cert.ValuesNormIdeal.main_arg1))
      ∧ θ_run (Cert.ValuesNormRefIdeal.defs (F := Ideal)) (onTc (τ := Cert.ValuesNormRefIdeal.τ) (Cert.ValuesNormRefIdeal.main (F := Ideal))) ⟨m', fun _ => 0, g'⟩ (fun r => ∀ c : Dev Cert.ValuesNormRefIdeal.nD,
          r.2.mem ((c.tc : Thread Cert.ValuesNormRefIdeal.nD Cert.ValuesNormRefIdeal.τ).loc Cert.ValuesNormRefIdeal.main_v26) = v0 c
          ∧ r.2.mem ((c.tc : Thread Cert.ValuesNormRefIdeal.nD Cert.ValuesNormRefIdeal.τ).loc Cert.ValuesNormRefIdeal.main_arg0) = m' ((c.tc : Thread Cert.ValuesNormRefIdeal.nD Cert.ValuesNormRefIdeal.τ).loc Cert.ValuesNormRefIdeal.main_arg0)
          ∧ r.2.mem ((c.tc : Thread Cert.ValuesNormRefIdeal.nD Cert.ValuesNormRefIdeal.τ).loc Cert.ValuesNormRefIdeal.main_arg1) = m' ((c.tc : Thread Cert.ValuesNormRefIdeal.nD Cert.ValuesNormRefIdeal.τ).loc Cert.ValuesNormRefIdeal.main_arg1))

def preserves_GateOut_GateOutIdeal : Prop :=
  IdealRules.named_const.Statement Cert.GateOutIdeal.κ "inv_sqrt2" .f32 0x3F3504F3#32 (((Real.sqrt 2)⁻¹ : ℝ) : EReal)

def algebraic_GateOutIdeal_GateOutRefIdeal [hGateOutIdeal : Cert.GateOutIdeal.Facts] [hGateOutRefIdeal : Cert.GateOutRefIdeal.Facts] : Prop :=
  ∀ (m : (ℓ : Loc Cert.GateOutIdeal.nD Cert.GateOutIdeal.τ Cert.GateOutIdeal.sig) → Buf (Elt Ideal) ℓ) (g : Dev Cert.GateOutIdeal.nD → PrngReg)
    (m' : (ℓ : Loc Cert.GateOutRefIdeal.nD Cert.GateOutRefIdeal.τ Cert.GateOutRefIdeal.sig) → Buf (Elt Ideal) ℓ) (g' : Dev Cert.GateOutRefIdeal.nD → PrngReg), Pre_GateOutIdeal m →
    (∀ c : Dev Cert.GateOutIdeal.nD,
      m' ((c.tc : Thread Cert.GateOutRefIdeal.nD Cert.GateOutRefIdeal.τ).loc Cert.GateOutRefIdeal.main_arg0) = m ((c.tc : Thread Cert.GateOutIdeal.nD Cert.GateOutIdeal.τ).loc Cert.GateOutIdeal.main_arg0)
      ∧ m' ((c.tc : Thread Cert.GateOutRefIdeal.nD Cert.GateOutRefIdeal.τ).loc Cert.GateOutRefIdeal.main_arg1) = m ((c.tc : Thread Cert.GateOutIdeal.nD Cert.GateOutIdeal.τ).loc Cert.GateOutIdeal.main_arg1)
      ∧ m' ((c.tc : Thread Cert.GateOutRefIdeal.nD Cert.GateOutRefIdeal.τ).loc Cert.GateOutRefIdeal.main_arg2) = m ((c.tc : Thread Cert.GateOutIdeal.nD Cert.GateOutIdeal.τ).loc Cert.GateOutIdeal.main_arg2)
      ∧ m' ((c.tc : Thread Cert.GateOutRefIdeal.nD Cert.GateOutRefIdeal.τ).loc Cert.GateOutRefIdeal.main_arg3) = m ((c.tc : Thread Cert.GateOutIdeal.nD Cert.GateOutIdeal.τ).loc Cert.GateOutIdeal.main_arg3)) →
    ∃ (v0 : (c : Dev Cert.GateOutIdeal.nD) → Buf (Elt Ideal) ((c.tc : Thread Cert.GateOutIdeal.nD Cert.GateOutIdeal.τ).loc Cert.GateOutIdeal.main_v1_0)),
      θ_run (Cert.GateOutIdeal.defs (F := Ideal)) (onTc (τ := Cert.GateOutIdeal.τ) (Cert.GateOutIdeal.main (F := Ideal))) ⟨m, fun _ => 0, g⟩ (fun r => ∀ c : Dev Cert.GateOutIdeal.nD,
          r.2.mem ((c.tc : Thread Cert.GateOutIdeal.nD Cert.GateOutIdeal.τ).loc Cert.GateOutIdeal.main_v1_0) = v0 c
          ∧ r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
          ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
          ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
          ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3))
      ∧ θ_run (Cert.GateOutRefIdeal.defs (F := Ideal)) (onTc (τ := Cert.GateOutRefIdeal.τ) (Cert.GateOutRefIdeal.main (F := Ideal))) ⟨m', fun _ => 0, g'⟩ (fun r => ∀ c : Dev Cert.GateOutRefIdeal.nD,
          r.2.mem ((c.tc : Thread Cert.GateOutRefIdeal.nD Cert.GateOutRefIdeal.τ).loc Cert.GateOutRefIdeal.main_v29) = v0 c
          ∧ r.2.mem ((c.tc : Thread Cert.GateOutRefIdeal.nD Cert.GateOutRefIdeal.τ).loc Cert.GateOutRefIdeal.main_arg0) = m' ((c.tc : Thread Cert.GateOutRefIdeal.nD Cert.GateOutRefIdeal.τ).loc Cert.GateOutRefIdeal.main_arg0)
          ∧ r.2.mem ((c.tc : Thread Cert.GateOutRefIdeal.nD Cert.GateOutRefIdeal.τ).loc Cert.GateOutRefIdeal.main_arg1) = m' ((c.tc : Thread Cert.GateOutRefIdeal.nD Cert.GateOutRefIdeal.τ).loc Cert.GateOutRefIdeal.main_arg1)
          ∧ r.2.mem ((c.tc : Thread Cert.GateOutRefIdeal.nD Cert.GateOutRefIdeal.τ).loc Cert.GateOutRefIdeal.main_arg2) = m' ((c.tc : Thread Cert.GateOutRefIdeal.nD Cert.GateOutRefIdeal.τ).loc Cert.GateOutRefIdeal.main_arg2)
          ∧ r.2.mem ((c.tc : Thread Cert.GateOutRefIdeal.nD Cert.GateOutRefIdeal.τ).loc Cert.GateOutRefIdeal.main_arg3) = m' ((c.tc : Thread Cert.GateOutRefIdeal.nD Cert.GateOutRefIdeal.τ).loc Cert.GateOutRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_v55) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0_0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0_0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def Claim : Prop :=
  ∃ (hKernel : Cert.Kernel.Facts) (hKernelIdeal : Cert.KernelIdeal.Facts) (hReferenceIdeal : Cert.ReferenceIdeal.Facts) (hSwigluGrad : Cert.SwigluGrad.Facts) (hSwigluGradIdeal : Cert.SwigluGradIdeal.Facts) (hSwigluGradRefIdeal : Cert.SwigluGradRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hGradInput : Cert.GradInput.Facts) (hGradInputIdeal : Cert.GradInputIdeal.Facts) (hGradInputRefIdeal : Cert.GradInputRefIdeal.Facts) (hSwigluIn : Cert.SwigluIn.Facts) (hSwigluInIdeal : Cert.SwigluInIdeal.Facts) (hSwigluInRefIdeal : Cert.SwigluInRefIdeal.Facts) (hSwigluOut : Cert.SwigluOut.Facts) (hSwigluOutIdeal : Cert.SwigluOutIdeal.Facts) (hSwigluOutRefIdeal : Cert.SwigluOutRefIdeal.Facts) (hGmIn : Cert.GmIn.Facts) (hGmInIdeal : Cert.GmInIdeal.Facts) (hGmInRefIdeal : Cert.GmInRefIdeal.Facts) (hGmGradIn : Cert.GmGradIn.Facts) (hGmGradInIdeal : Cert.GmGradInIdeal.Facts) (hGmGradInRefIdeal : Cert.GmGradInRefIdeal.Facts) (hGmGradInput : Cert.GmGradInput.Facts) (hGmGradInputIdeal : Cert.GmGradInputIdeal.Facts) (hGmGradInputRefIdeal : Cert.GmGradInputRefIdeal.Facts) (hGmBackOut : Cert.GmBackOut.Facts) (hGmBackOutIdeal : Cert.GmBackOutIdeal.Facts) (hGmBackOutRefIdeal : Cert.GmBackOutRefIdeal.Facts) (hSsdIn : Cert.SsdIn.Facts) (hSsdInIdeal : Cert.SsdInIdeal.Facts) (hSsdInRefIdeal : Cert.SsdInRefIdeal.Facts) (hSsdGradIn : Cert.SsdGradIn.Facts) (hSsdGradInIdeal : Cert.SsdGradInIdeal.Facts) (hSsdGradInRefIdeal : Cert.SsdGradInRefIdeal.Facts) (hSsdGradInput : Cert.SsdGradInput.Facts) (hSsdGradInputIdeal : Cert.SsdGradInputIdeal.Facts) (hSsdGradInputRefIdeal : Cert.SsdGradInputRefIdeal.Facts) (hSsdBackOut : Cert.SsdBackOut.Facts) (hSsdBackOutIdeal : Cert.SsdBackOutIdeal.Facts) (hSsdBackOutRefIdeal : Cert.SsdBackOutRefIdeal.Facts) (hMixOut : Cert.MixOut.Facts) (hMixOutIdeal : Cert.MixOutIdeal.Facts) (hMixOutRefIdeal : Cert.MixOutRefIdeal.Facts) (hMixGradOut : Cert.MixGradOut.Facts) (hMixGradOutIdeal : Cert.MixGradOutIdeal.Facts) (hMixGradOutRefIdeal : Cert.MixGradOutRefIdeal.Facts) (hNormGrad : Cert.NormGrad.Facts) (hNormGradIdeal : Cert.NormGradIdeal.Facts) (hNormGradRefIdeal : Cert.NormGradRefIdeal.Facts) (hNorm : Cert.Norm.Facts) (hNormIdeal : Cert.NormIdeal.Facts) (hNormRefIdeal : Cert.NormRefIdeal.Facts) (hSsdNormGrad : Cert.SsdNormGrad.Facts) (hSsdNormGradIdeal : Cert.SsdNormGradIdeal.Facts) (hSsdNormGradRefIdeal : Cert.SsdNormGradRefIdeal.Facts) (hSsdNorm : Cert.SsdNorm.Facts) (hSsdNormIdeal : Cert.SsdNormIdeal.Facts) (hSsdNormRefIdeal : Cert.SsdNormRefIdeal.Facts) (hValuesNormGrad : Cert.ValuesNormGrad.Facts) (hValuesNormGradIdeal : Cert.ValuesNormGradIdeal.Facts) (hValuesNormGradRefIdeal : Cert.ValuesNormGradRefIdeal.Facts) (hValuesNorm : Cert.ValuesNorm.Facts) (hValuesNormIdeal : Cert.ValuesNormIdeal.Facts) (hValuesNormRefIdeal : Cert.ValuesNormRefIdeal.Facts) (hGateOut : Cert.GateOut.Facts) (hGateOutIdeal : Cert.GateOutIdeal.Facts) (hGateOutRefIdeal : Cert.GateOutRefIdeal.Facts) (hLossHead : Cert.LossHead.Facts) (hLossHeadIdeal : Cert.LossHeadIdeal.Facts) (hLossHeadRefIdeal : Cert.LossHeadRefIdeal.Facts) (hAdamSmall : Cert.AdamSmall.Facts) (hAdamSmallIdeal : Cert.AdamSmallIdeal.Facts) (hAdamSmallRefIdeal : Cert.AdamSmallRefIdeal.Facts) (hSumDevices : Cert.SumDevices.Facts) (hSumDevicesIdeal : Cert.SumDevicesIdeal.Facts) (hSumDevicesRefIdeal : Cert.SumDevicesRefIdeal.Facts) (hPre_finite : Cert.Pre_finite.Facts) (hPre_finite_swiglu : Cert.Pre_finite_swiglu.Facts) (hPre_finite_ssd_norm : Cert.Pre_finite_ssd_norm.Facts) (hPre_finite_values : Cert.Pre_finite_values.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_SwigluGrad (hSwigluGrad := hSwigluGrad)
    ∧ quiescent_SwigluGradIdeal (hSwigluGradIdeal := hSwigluGradIdeal)
    ∧ quiescent_SwigluGradIdeal_pre_finite_swiglu (hSwigluGradIdeal := hSwigluGradIdeal) (hPre_finite_swiglu := hPre_finite_swiglu)
    ∧ quiescent_SwigluGradRefIdeal (hSwigluGradRefIdeal := hSwigluGradRefIdeal)
    ∧ quiescent_SwigluGradRefIdeal_pre_finite_swiglu (hSwigluGradRefIdeal := hSwigluGradRefIdeal) (hPre_finite_swiglu := hPre_finite_swiglu)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradInput (hGradInput := hGradInput)
    ∧ quiescent_GradInputIdeal (hGradInputIdeal := hGradInputIdeal)
    ∧ quiescent_GradInputRefIdeal (hGradInputRefIdeal := hGradInputRefIdeal)
    ∧ quiescent_SwigluIn (hSwigluIn := hSwigluIn)
    ∧ quiescent_SwigluInIdeal (hSwigluInIdeal := hSwigluInIdeal)
    ∧ quiescent_SwigluInRefIdeal (hSwigluInRefIdeal := hSwigluInRefIdeal)
    ∧ quiescent_SwigluOut (hSwigluOut := hSwigluOut)
    ∧ quiescent_SwigluOutIdeal (hSwigluOutIdeal := hSwigluOutIdeal)
    ∧ quiescent_SwigluOutRefIdeal (hSwigluOutRefIdeal := hSwigluOutRefIdeal)
    ∧ quiescent_GmIn (hGmIn := hGmIn)
    ∧ quiescent_GmInIdeal (hGmInIdeal := hGmInIdeal)
    ∧ quiescent_GmInRefIdeal (hGmInRefIdeal := hGmInRefIdeal)
    ∧ quiescent_GmGradIn (hGmGradIn := hGmGradIn)
    ∧ quiescent_GmGradInIdeal (hGmGradInIdeal := hGmGradInIdeal)
    ∧ quiescent_GmGradInRefIdeal (hGmGradInRefIdeal := hGmGradInRefIdeal)
    ∧ quiescent_GmGradInput (hGmGradInput := hGmGradInput)
    ∧ quiescent_GmGradInputIdeal (hGmGradInputIdeal := hGmGradInputIdeal)
    ∧ quiescent_GmGradInputRefIdeal (hGmGradInputRefIdeal := hGmGradInputRefIdeal)
    ∧ quiescent_GmBackOut (hGmBackOut := hGmBackOut)
    ∧ quiescent_GmBackOutIdeal (hGmBackOutIdeal := hGmBackOutIdeal)
    ∧ quiescent_GmBackOutRefIdeal (hGmBackOutRefIdeal := hGmBackOutRefIdeal)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_SsdGradIn (hSsdGradIn := hSsdGradIn)
    ∧ quiescent_SsdGradInIdeal (hSsdGradInIdeal := hSsdGradInIdeal)
    ∧ quiescent_SsdGradInRefIdeal (hSsdGradInRefIdeal := hSsdGradInRefIdeal)
    ∧ quiescent_SsdGradInput (hSsdGradInput := hSsdGradInput)
    ∧ quiescent_SsdGradInputIdeal (hSsdGradInputIdeal := hSsdGradInputIdeal)
    ∧ quiescent_SsdGradInputRefIdeal (hSsdGradInputRefIdeal := hSsdGradInputRefIdeal)
    ∧ quiescent_SsdBackOut (hSsdBackOut := hSsdBackOut)
    ∧ quiescent_SsdBackOutIdeal (hSsdBackOutIdeal := hSsdBackOutIdeal)
    ∧ quiescent_SsdBackOutRefIdeal (hSsdBackOutRefIdeal := hSsdBackOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixGradOut (hMixGradOut := hMixGradOut)
    ∧ quiescent_MixGradOutIdeal (hMixGradOutIdeal := hMixGradOutIdeal)
    ∧ quiescent_MixGradOutRefIdeal (hMixGradOutRefIdeal := hMixGradOutRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_Norm (hNorm := hNorm)
    ∧ quiescent_NormIdeal (hNormIdeal := hNormIdeal)
    ∧ quiescent_NormRefIdeal (hNormRefIdeal := hNormRefIdeal)
    ∧ quiescent_SsdNormGrad (hSsdNormGrad := hSsdNormGrad)
    ∧ quiescent_SsdNormGradIdeal (hSsdNormGradIdeal := hSsdNormGradIdeal)
    ∧ quiescent_SsdNormGradIdeal_pre_finite_ssd_norm (hSsdNormGradIdeal := hSsdNormGradIdeal) (hPre_finite_ssd_norm := hPre_finite_ssd_norm)
    ∧ quiescent_SsdNormGradRefIdeal (hSsdNormGradRefIdeal := hSsdNormGradRefIdeal)
    ∧ quiescent_SsdNormGradRefIdeal_pre_finite_ssd_norm (hSsdNormGradRefIdeal := hSsdNormGradRefIdeal) (hPre_finite_ssd_norm := hPre_finite_ssd_norm)
    ∧ quiescent_SsdNorm (hSsdNorm := hSsdNorm)
    ∧ quiescent_SsdNormIdeal (hSsdNormIdeal := hSsdNormIdeal)
    ∧ quiescent_SsdNormRefIdeal (hSsdNormRefIdeal := hSsdNormRefIdeal)
    ∧ quiescent_ValuesNormGrad (hValuesNormGrad := hValuesNormGrad)
    ∧ quiescent_ValuesNormGradIdeal (hValuesNormGradIdeal := hValuesNormGradIdeal)
    ∧ quiescent_ValuesNormGradIdeal_pre_finite_values (hValuesNormGradIdeal := hValuesNormGradIdeal) (hPre_finite_values := hPre_finite_values)
    ∧ quiescent_ValuesNormGradRefIdeal (hValuesNormGradRefIdeal := hValuesNormGradRefIdeal)
    ∧ quiescent_ValuesNormGradRefIdeal_pre_finite_values (hValuesNormGradRefIdeal := hValuesNormGradRefIdeal) (hPre_finite_values := hPre_finite_values)
    ∧ quiescent_ValuesNorm (hValuesNorm := hValuesNorm)
    ∧ quiescent_ValuesNormIdeal (hValuesNormIdeal := hValuesNormIdeal)
    ∧ quiescent_ValuesNormRefIdeal (hValuesNormRefIdeal := hValuesNormRefIdeal)
    ∧ quiescent_GateOut (hGateOut := hGateOut)
    ∧ quiescent_GateOutIdeal (hGateOutIdeal := hGateOutIdeal)
    ∧ quiescent_GateOutRefIdeal (hGateOutRefIdeal := hGateOutRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_SwigluGrad_SwigluGradIdeal
    ∧ algebraic_SwigluGradIdeal_SwigluGradRefIdeal_pre_finite_swiglu (hSwigluGradIdeal := hSwigluGradIdeal) (hSwigluGradRefIdeal := hSwigluGradRefIdeal) (hPre_finite_swiglu := hPre_finite_swiglu)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradInput_GradInputIdeal
    ∧ algebraic_GradInputIdeal_GradInputRefIdeal (hGradInputIdeal := hGradInputIdeal) (hGradInputRefIdeal := hGradInputRefIdeal)
    ∧ preserves_SwigluIn_SwigluInIdeal
    ∧ algebraic_SwigluInIdeal_SwigluInRefIdeal (hSwigluInIdeal := hSwigluInIdeal) (hSwigluInRefIdeal := hSwigluInRefIdeal)
    ∧ preserves_SwigluOut_SwigluOutIdeal
    ∧ algebraic_SwigluOutIdeal_SwigluOutRefIdeal (hSwigluOutIdeal := hSwigluOutIdeal) (hSwigluOutRefIdeal := hSwigluOutRefIdeal)
    ∧ preserves_GmIn_GmInIdeal
    ∧ algebraic_GmInIdeal_GmInRefIdeal (hGmInIdeal := hGmInIdeal) (hGmInRefIdeal := hGmInRefIdeal)
    ∧ preserves_GmGradIn_GmGradInIdeal
    ∧ algebraic_GmGradInIdeal_GmGradInRefIdeal (hGmGradInIdeal := hGmGradInIdeal) (hGmGradInRefIdeal := hGmGradInRefIdeal)
    ∧ preserves_GmGradInput_GmGradInputIdeal
    ∧ algebraic_GmGradInputIdeal_GmGradInputRefIdeal (hGmGradInputIdeal := hGmGradInputIdeal) (hGmGradInputRefIdeal := hGmGradInputRefIdeal)
    ∧ preserves_GmBackOut_GmBackOutIdeal
    ∧ algebraic_GmBackOutIdeal_GmBackOutRefIdeal (hGmBackOutIdeal := hGmBackOutIdeal) (hGmBackOutRefIdeal := hGmBackOutRefIdeal)
    ∧ preserves_SsdIn_SsdInIdeal
    ∧ algebraic_SsdInIdeal_SsdInRefIdeal (hSsdInIdeal := hSsdInIdeal) (hSsdInRefIdeal := hSsdInRefIdeal)
    ∧ preserves_SsdGradIn_SsdGradInIdeal
    ∧ algebraic_SsdGradInIdeal_SsdGradInRefIdeal (hSsdGradInIdeal := hSsdGradInIdeal) (hSsdGradInRefIdeal := hSsdGradInRefIdeal)
    ∧ preserves_SsdGradInput_SsdGradInputIdeal
    ∧ algebraic_SsdGradInputIdeal_SsdGradInputRefIdeal (hSsdGradInputIdeal := hSsdGradInputIdeal) (hSsdGradInputRefIdeal := hSsdGradInputRefIdeal)
    ∧ preserves_SsdBackOut_SsdBackOutIdeal
    ∧ algebraic_SsdBackOutIdeal_SsdBackOutRefIdeal (hSsdBackOutIdeal := hSsdBackOutIdeal) (hSsdBackOutRefIdeal := hSsdBackOutRefIdeal)
    ∧ preserves_MixOut_MixOutIdeal
    ∧ algebraic_MixOutIdeal_MixOutRefIdeal (hMixOutIdeal := hMixOutIdeal) (hMixOutRefIdeal := hMixOutRefIdeal)
    ∧ preserves_MixGradOut_MixGradOutIdeal
    ∧ algebraic_MixGradOutIdeal_MixGradOutRefIdeal (hMixGradOutIdeal := hMixGradOutIdeal) (hMixGradOutRefIdeal := hMixGradOutRefIdeal)
    ∧ preserves_NormGrad_NormGradIdeal
    ∧ algebraic_NormGradIdeal_NormGradRefIdeal (hNormGradIdeal := hNormGradIdeal) (hNormGradRefIdeal := hNormGradRefIdeal)
    ∧ preserves_Norm_NormIdeal
    ∧ algebraic_NormIdeal_NormRefIdeal (hNormIdeal := hNormIdeal) (hNormRefIdeal := hNormRefIdeal)
    ∧ preserves_SsdNormGrad_SsdNormGradIdeal
    ∧ algebraic_SsdNormGradIdeal_SsdNormGradRefIdeal_pre_finite_ssd_norm (hSsdNormGradIdeal := hSsdNormGradIdeal) (hSsdNormGradRefIdeal := hSsdNormGradRefIdeal) (hPre_finite_ssd_norm := hPre_finite_ssd_norm)
    ∧ preserves_SsdNorm_SsdNormIdeal
    ∧ algebraic_SsdNormIdeal_SsdNormRefIdeal (hSsdNormIdeal := hSsdNormIdeal) (hSsdNormRefIdeal := hSsdNormRefIdeal)
    ∧ preserves_ValuesNormGrad_ValuesNormGradIdeal
    ∧ algebraic_ValuesNormGradIdeal_ValuesNormGradRefIdeal_pre_finite_values (hValuesNormGradIdeal := hValuesNormGradIdeal) (hValuesNormGradRefIdeal := hValuesNormGradRefIdeal) (hPre_finite_values := hPre_finite_values)
    ∧ preserves_ValuesNorm_ValuesNormIdeal
    ∧ algebraic_ValuesNormIdeal_ValuesNormRefIdeal (hValuesNormIdeal := hValuesNormIdeal) (hValuesNormRefIdeal := hValuesNormRefIdeal)
    ∧ preserves_GateOut_GateOutIdeal
    ∧ algebraic_GateOutIdeal_GateOutRefIdeal (hGateOutIdeal := hGateOutIdeal) (hGateOutRefIdeal := hGateOutRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumDevices_SumDevicesIdeal
    ∧ algebraic_SumDevicesIdeal_SumDevicesRefIdeal (hSumDevicesIdeal := hSumDevicesIdeal) (hSumDevicesRefIdeal := hSumDevicesRefIdeal)
-- ==== On_written.lean ====
abbrev S2048x4096 : Shape := ⟨2, ![2048, 4096]⟩
abbrev S2x2048x4096 : Shape := ⟨3, ![2, 2048, 4096]⟩
abbrev S16x128x128 : Shape := ⟨3, ![16, 128, 128]⟩
abbrev S16x128 : Shape := ⟨2, ![16, 128]⟩
abbrev S_ : Shape := ⟨0, ![]⟩
abbrev S16x128x1 : Shape := ⟨3, ![16, 128, 1]⟩

class Facts : Prop where
  bcast_S_S2x2048x4096 : S_.BroadcastsInDim S2x2048x4096 (![] : Fin 0 → Fin S2x2048x4096.rank)
  bcast_S_S2048x4096 : S_.BroadcastsInDim S2048x4096 (![] : Fin 0 → Fin S2048x4096.rank)
  bcast_S_S16x128x128 : S_.BroadcastsInDim S16x128x128 (![] : Fin 0 → Fin S16x128x128.rank)
  bcast_S_S16x128x1 : S_.BroadcastsInDim S16x128x1 (![] : Fin 0 → Fin S16x128x1.rank)

variable [Facts]

def fn {F : FTy → Type} [FloatOps F] (main_arg0 : FVec F S2048x4096 .bf16) (main_arg1 : FVec F S2x2048x4096 .bf16) (main_arg2 : FVec F S2048x4096 .bf16) (main_arg3 : FVec F S16x128x128 .f32) (main_arg4 : FVec F S16x128 .f32) : IVec S2x2048x4096 1 × IVec S2048x4096 1 × IVec S16x128x128 1 × IVec S16x128x1 1 :=
  let main_v0 : IVec S2x2048x4096 32 := iotaInDim S2x2048x4096 32 0
  let main_c : IVec S_ 32 := constantI S_ 32 0#32
  let main_v1 : IVec S2x2048x4096 32 := broadcastInDim S2x2048x4096 ![] bcast_S_S2x2048x4096 main_c
  let main_v2 : IVec S2x2048x4096 1 := cmpi .eq main_v0 main_v1
  let main_c_0 : IVec S_ 1 := constantI S_ 1 1#1
  let main_v3 : IVec S2048x4096 1 := broadcastInDim S2048x4096 ![] bcast_S_S2048x4096 main_c_0
  let main_c_1 : IVec S_ 1 := constantI S_ 1 1#1
  let main_v4 : IVec S16x128x128 1 := broadcastInDim S16x128x128 ![] bcast_S_S16x128x128 main_c_1
  let main_c_2 : IVec S_ 1 := constantI S_ 1 1#1
  let main_v5 : IVec S16x128x1 1 := broadcastInDim S16x128x1 ![] bcast_S_S16x128x1 main_c_2
  (main_v2, main_v3, main_v4, main_v5)
-- ==== Pre_finite.lean ====
abbrev S2048x4096 : Shape := ⟨2, ![2048, 4096]⟩
abbrev S2x2048x4096 : Shape := ⟨3, ![2, 2048, 4096]⟩
abbrev S16x128x128 : Shape := ⟨3, ![16, 128, 128]⟩
abbrev S16x128 : Shape := ⟨2, ![16, 128]⟩
abbrev S_ : Shape := ⟨0, ![]⟩

class Facts : Prop where
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S16x128x128 : S_.BroadcastsInDim S16x128x128 (![] : Fin 0 → Fin S16x128x128.rank)
  reducesTo_S16x128x128_S_d0_1_2 : S16x128x128.ReducesTo [0, 1, 2] S_
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_v15 : IVec S_ 1) (main_v16 : FVec F S16x128 .f32) (main_cst_4 : FVec F S_ .f32) : IVec S_ 1 :=
  let main_v17 : FVec F S16x128 .f32 := broadcastInDim S16x128 ![] bcast_S_S16x128 main_cst_4
  let main_v18 : IVec S16x128 1 := cmpf .olt main_v16 main_v17
  let main_c_5 : IVec S_ 1 := constantI S_ 1 1#1
  let main_v19 : IVec S_ 1 := (fun x v => Host.reduce IntOp.andi x v reducesTo_S16x128_S_d0_1 h_S_) main_v18 main_c_5
  let main_v20 : IVec S_ 1 := andi main_v15 main_v19
  main_v20

def fn {F : FTy → Type} [FloatOps F] (main_arg0 : FVec F S2048x4096 .bf16) (main_arg1 : FVec F S2x2048x4096 .bf16) (main_arg2 : FVec F S2048x4096 .bf16) (main_arg3 : FVec F S16x128x128 .f32) (main_arg4 : FVec F S16x128 .f32) : IVec S_ 1 :=
  let main_v0 : FVec F S2048x4096 .f32 := (extf .f32 · bitsLt_bf16_f32) main_arg0
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_c : IVec S_ 1 := constantI S_ 1 1#1
  let main_v4 : IVec S_ 1 := (fun x v => Host.reduce IntOp.andi x v reducesTo_S2048x4096_S_d0_1 h_S_) main_v3 main_c
  let main_v5 : FVec F S2048x4096 .f32 := (extf .f32 · bitsLt_bf16_f32) main_arg2
  let main_v6 : FVec F S2048x4096 .f32 := Host.absf main_v5
  let main_cst_0 : FVec F S_ .f32 := constant S_ .f32 0x7F800000#32
  let main_v7 : FVec F S2048x4096 .f32 := broadcastInDim S2048x4096 ![] bcast_S_S2048x4096 main_cst_0
  let main_v8 : IVec S2048x4096 1 := cmpf .olt main_v6 main_v7
  let main_c_1 : IVec S_ 1 := constantI S_ 1 1#1
  let main_v9 : IVec S_ 1 := (fun x v => Host.reduce IntOp.andi x v reducesTo_S2048x4096_S_d0_1 h_S_) main_v8 main_c_1
  let main_v10 : IVec S_ 1 := andi main_v4 main_v9
  let main_v11 : FVec F S16x128x128 .f32 := Host.absf main_arg3
  let main_cst_2 : FVec F S_ .f32 := constant S_ .f32 0x7F800000#32
  let main_v12 : FVec F S16x128x128 .f32 := broadcastInDim S16x128x128 ![] bcast_S_S16x128x128 main_cst_2
  let main_v13 : IVec S16x128x128 1 := cmpf .olt main_v11 main_v12
  let main_c_3 : IVec S_ 1 := constantI S_ 1 1#1
  let main_v14 : IVec S_ 1 := (fun x v => Host.reduce IntOp.andi x v reducesTo_S16x128x128_S_d0_1_2 h_S_) main_v13 main_c_3
  let main_v15 : IVec S_ 1 := andi main_v10 main_v14
  let main_v16 : FVec F S16x128 .f32 := Host.absf main_arg4
  let main_cst_4 : FVec F S_ .f32 := constant S_ .f32 0x7F800000#32
  fn_part1 (F := F) main_v15 main_v16 main_cst_4
-- ==== Pre_finite_ssd_norm.lean ====
abbrev S2048x4096 : Shape := ⟨2, ![2048, 4096]⟩
abbrev S1x4096 : Shape := ⟨2, ![1, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S2048x4096 .f32) (main_arg1 : FVec F S2048x4096 .f32) (main_arg2 : FVec F S2048x4096 .f32) (main_arg3 : FVec F S1x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S1x4096 .f32 := Host.absf main_arg3
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Pre_finite_swiglu.lean ====
abbrev S2048x2048 : Shape := ⟨2, ![2048, 2048]⟩
abbrev S5632x2048 : Shape := ⟨2, ![5632, 2048]⟩
abbrev S2x2048x5632 : Shape := ⟨3, ![2, 2048, 5632]⟩
abbrev S_ : Shape := ⟨0, ![]⟩
abbrev S1x2048x5632 : Shape := ⟨3, ![1, 2048, 5632]⟩
abbrev S2048x5632 : Shape := ⟨2, ![2048, 5632]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  slices_S2x2048x5632_S1x2048x5632_1_0_0 : S2x2048x5632.Slices ![1, 0, 0] S1x2048x5632
  shapeCasts_S1x2048x5632_S2048x5632 : S1x2048x5632.ShapeCasts S2048x5632
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v10 : IVec S_ 1) (main_v17 : IVec S_ 1) : IVec S_ 1 :=
  let main_v18 : IVec S_ 1 := andi main_v10 main_v17
  main_v18

def fn {F : FTy → Type} [FloatOps F] (main_arg0 : FVec F S2048x2048 .bf16) (main_arg1 : FVec F S5632x2048 .bf16) (main_arg2 : FVec F S2x2048x5632 .bf16) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S1x2048x5632 .bf16 := (extractStridedSlice S1x2048x5632 ![1, 0, 0] · slices_S2x2048x5632_S1x2048x5632_1_0_0) main_arg2
  let main_v12 : FVec F S2048x5632 .bf16 := shapeCast S2048x5632 main_v11 shapeCasts_S1x2048x5632_S2048x5632
  let main_v13 : FVec F S2048x5632 .f32 := (extf .f32 · bitsLt_bf16_f32) main_v12
  let main_v14 : FVec F S2048x5632 .f32 := Host.absf main_v13
  let main_cst_2 : FVec F S_ .f32 := constant S_ .f32 0x7F800000#32
  let main_v15 : FVec F S2048x5632 .f32 := broadcastInDim S2048x5632 ![] bcast_S_S2048x5632 main_cst_2
  let main_v16 : IVec S2048x5632 1 := cmpf .olt main_v14 main_v15
  let main_c_3 : IVec S_ 1 := constantI S_ 1 1#1
  let main_v17 : IVec S_ 1 := (fun x v => Host.reduce IntOp.andi x v reducesTo_S2048x5632_S_d0_1 h_S_) main_v16 main_c_3
  fn_part1 (F := F) main_v10 main_v17
-- ==== Pre_finite_values.lean ====
abbrev S2048x4096 : Shape := ⟨2, ![2048, 4096]⟩
abbrev S2x2048x4096 : Shape := ⟨3, ![2, 2048, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S2x2048x4096 .bf16) (main_arg2 : FVec F S4096 .f32) (main_arg3 : FVec F S2x2048x4096 .bf16) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S2048x4096 : Shape := ⟨2, ![2048, 4096]⟩
abbrev S2x2048x4096 : Shape := ⟨3, ![2, 2048, 4096]⟩
abbrev S16x128x128 : Shape := ⟨3, ![16, 128, 128]⟩
abbrev S16x128 : Shape := ⟨2, ![16, 128]⟩
abbrev S16x128x1 : Shape := ⟨3, ![16, 128, 1]⟩
abbrev S8x128 : Shape := ⟨2, ![8, 128]⟩
abbrev S512x256 : Shape := ⟨2, ![512, 256]⟩
abbrev S1x512x256 : Shape := ⟨3, ![1, 512, 256]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S128x256 : Shape := ⟨2, ![128, 256]⟩
abbrev S1x128x256 : Shape := ⟨3, ![1, 128, 256]⟩
abbrev S128 : Shape := ⟨1, ![128]⟩

abbrev nBuf : Space → Nat
  | .hbm => 11
  | .vmem => 19
  | .smem => 0
  | _ => 0

abbrev bufTy : (tb : Table) → Fin (tcTables nBuf tb) → BufTy
  | .hbm, ⟨0, _⟩ => ⟨S2048x4096, .bf16⟩
  | .hbm, ⟨1, _⟩ => ⟨S2x2048x4096, .bf16⟩
  | .hbm, ⟨2, _⟩ => ⟨S2048x4096, .bf16⟩
  | .hbm, ⟨3, _⟩ => ⟨S16x128x128, .f32⟩
  | .hbm, ⟨4, _⟩ => ⟨S16x128, .f32⟩
  | .hbm, ⟨5, _⟩ => ⟨S16x128x1, .f32⟩
  | .hbm, ⟨6, _⟩ => ⟨S2x2048x4096, .bf16⟩
  | .hbm, ⟨7, _⟩ => ⟨S2048x4096, .f32⟩
  | .hbm, ⟨8, _⟩ => ⟨S16x128x128, .f32⟩
  | .hbm, ⟨9, _⟩ => ⟨S16x128x1, .f32⟩
  | .hbm, ⟨10, _⟩ => ⟨S8x128, .f32⟩
  | .local _ .vmem, ⟨0, _⟩ => ⟨S512x256, .bf16⟩
  | .local _ .vmem, ⟨1, _⟩ => ⟨S512x256, .bf16⟩
  | .local _ .vmem, ⟨2, _⟩ => ⟨S1x512x256, .bf16⟩
  | .local _ .vmem, ⟨3, _⟩ => ⟨S1x512x256, .bf16⟩
  | .local _ .vmem, ⟨4, _⟩ => ⟨S512x256, .bf16⟩
  | .local _ .vmem, ⟨5, _⟩ => ⟨S512x256, .bf16⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S1x512x256, .bf16⟩
  | .local _ .vmem, ⟨11, _⟩ => ⟨S1x512x256, .bf16⟩
  | .local _ .vmem, ⟨12, _⟩ => ⟨S512x256, .f32⟩
  | .local _ .vmem, ⟨13, _⟩ => ⟨S512x256, .f32⟩
  | .local _ .vmem, ⟨14, _⟩ => ⟨S1x128x128, .f32⟩
  | .local _ .vmem, ⟨15, _⟩ => ⟨S1x128x128, .f32⟩
  | .local _ .vmem, ⟨16, _⟩ => ⟨S1x128x1, .f32⟩
  | .local _ .vmem, ⟨17, _⟩ => ⟨S1x128x1, .f32⟩
  | .local _ .vmem, ⟨18, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S2048x4096 : Shape := ⟨2, ![2048, 4096]⟩
abbrev S2x2048x4096 : Shape := ⟨3, ![2, 2048, 4096]⟩
abbrev S16x128x128 : Shape := ⟨3, ![16, 128, 128]⟩
abbrev S16x128 : Shape := ⟨2, ![16, 128]⟩
abbrev S1x2048x4096 : Shape := ⟨3, ![1, 2048, 4096]⟩
abbrev S_ : Shape := ⟨0, ![]⟩
abbrev S16x128x16x256 : Shape := ⟨4, ![16, 128, 16, 256]⟩
abbrev S128x128 : Shape := ⟨2, ![128, 128]⟩
abbrev S1x128x128 : Shape := ⟨3, ![1, 128, 128]⟩
abbrev S16x16x256x128 : Shape := ⟨4, ![16, 16, 256, 128]⟩
abbrev S128x16 : Shape := ⟨2, ![128, 16]⟩
abbrev S128x16x1 : Shape := ⟨3, ![128, 16, 1]⟩
abbrev S1x128x16x1 : Shape := ⟨4, ![1, 128, 16, 1]⟩
abbrev S16x128x1 : Shape := ⟨3, ![16, 128, 1]⟩

abbrev nBuf : Space → Nat
  | .hbm => 94
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2x2048x4096, .bf16⟩
  | .hbm, ⟨2, _⟩ => ⟨S2048x4096, .bf16⟩
  | .hbm, ⟨3, _⟩ => ⟨S16x128x128, .f32⟩
  | .hbm, ⟨4, _⟩ => ⟨S16x128, .f32⟩
  | .hbm, ⟨5, _⟩ => ⟨S2048x4096, .f32⟩
  | .hbm, ⟨6, _⟩ => ⟨S1x2048x4096, .bf16⟩
  | .hbm, ⟨7, _⟩ => ⟨S2048x4096, .bf16⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S16x128x16x256, .f32⟩
  | .hbm, ⟨38, _⟩ => ⟨S_, .i1⟩
  | .hbm, ⟨39, _⟩ => ⟨S128x128, .i1⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S_, .i1⟩
  | .hbm, ⟨47, _⟩ => ⟨S128x128, .i1⟩
  | .hbm, ⟨48, _⟩ => ⟨S128x128, .i1⟩
  | .hbm, ⟨49, _⟩ => ⟨S1x128x128, .i1⟩
  | .hbm, ⟨50, _⟩ => ⟨S_, .f32⟩
  | .hbm, ⟨51, _⟩ => ⟨S16x128x128, .f32⟩
  | .hbm, ⟨52, _⟩ => ⟨S16x128x128, .i1⟩
  | .hbm, ⟨53, _⟩ => ⟨S16x128x128, .f32⟩
  | .hbm, ⟨54, _⟩ => ⟨S_, .f32⟩
  | .hbm, ⟨55, _⟩ => ⟨S16x128x128, .f32⟩
  | .hbm, ⟨56, _⟩ => ⟨S16x16x256x128, .f32⟩
  | .hbm, ⟨57, _⟩ => ⟨S16x128x16x256, .f32⟩
  | .hbm, ⟨58, _⟩ => ⟨S128x16, .f32⟩
  | .hbm, ⟨59, _⟩ => ⟨S128x16x1, .f32⟩
  | .hbm, ⟨60, _⟩ => ⟨S1x128x16x1, .f32⟩
  | .hbm, ⟨61, _⟩ => ⟨S16x128x16x256, .f32⟩
  | .hbm, ⟨62, _⟩ => ⟨S16x128x16x256, .f32⟩
  | .hbm, ⟨63, _⟩ => ⟨S2048x4096, .f32⟩
  | .hbm, ⟨64, _⟩ => ⟨S2048x4096, .f32⟩
  | .hbm, ⟨65, _⟩ => ⟨S2048x4096, .f32⟩
  | .hbm, ⟨66, _⟩ => ⟨S2048x4096, .f32⟩
  | .hbm, ⟨67, _⟩ => ⟨S16x128x16x256, .f32⟩
  | .hbm, ⟨68, _⟩ => ⟨S_, .f32⟩
  | .hbm, ⟨69, _⟩ => ⟨S128x16, .f32⟩
  | .hbm, ⟨70, _⟩ => ⟨S1x128x16x1, .f32⟩
  | .hbm, ⟨71, _⟩ => ⟨S_, .f32⟩
  | .hbm, ⟨72, _⟩ => ⟨S128x16, .f32⟩
  | .hbm, ⟨73, _⟩ => ⟨S128x16x1, .f32⟩
  | .hbm, ⟨74, _⟩ => ⟨S_, .f32⟩
  | .hbm, ⟨75, _⟩ => ⟨S128x16, .f32⟩
  | .hbm, ⟨76, _⟩ => ⟨S16x128, .f32⟩
  | .hbm, ⟨77, _⟩ => ⟨S16x16x256x128, .f32⟩
  | .hbm, ⟨78, _⟩ => ⟨S16x128x128, .f32⟩
  | .hbm, ⟨79, _⟩ => ⟨S16x16x256x128, .f32⟩
  | .hbm, ⟨80, _⟩ => ⟨S16x128x16x256, .f32⟩
  | .hbm, ⟨81, _⟩ => ⟨S_, .f32⟩
  | .hbm, ⟨82, _⟩ => ⟨S16x128x128, .f32⟩
  | .hbm, ⟨83, _⟩ => ⟨S16x128x128, .f32⟩
  | .hbm, ⟨84, _⟩ => ⟨S2048x4096, .f32⟩
  | .hbm, ⟨85, _⟩ => ⟨S2048x4096, .f32⟩
  | .hbm, ⟨86, _⟩ => ⟨S2048x4096, .f32⟩
  | .hbm, ⟨87, _⟩ => ⟨S2048x4096, .f32⟩
  | .hbm, ⟨88, _⟩ => ⟨S2048x4096, .f32⟩
  | .hbm, ⟨89, _⟩ => ⟨S1x2048x4096, .f32⟩
  | .hbm, ⟨90, _⟩ => ⟨S1x2048x4096, .f32⟩
  | .hbm, ⟨91, _⟩ => ⟨S2x2048x4096, .f32⟩
  | .hbm, ⟨92, _⟩ => ⟨S2x2048x4096, .bf16⟩
  | .hbm, ⟨93, _⟩ => ⟨S16x128x1, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_0 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31_1 : Ref sig .tc := ⟨.hbm, 52, rfl⟩
abbrev main_v31_0 : Ref sig .tc := ⟨.hbm, 53, rfl⟩
abbrev main_call1_cst : Ref sig .tc := ⟨.hbm, 54, rfl⟩
abbrev main_v31_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== SwigluGrad.lean ====
abbrev S2048x2048 : Shape := ⟨2, ![2048, 2048]⟩
abbrev S5632x2048 : Shape := ⟨2, ![5632, 2048]⟩
abbrev S2x2048x5632 : Shape := ⟨3, ![2, 2048, 5632]⟩
abbrev S8x128 : Shape := ⟨2, ![8, 128]⟩
abbrev S512x2048 : Shape := ⟨2, ![512, 2048]⟩
abbrev S1408x2048 : Shape := ⟨2, ![1408, 2048]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2x2048x5632, .bf16⟩
  | .hbm, ⟨3, _⟩ => ⟨S2x2048x5632, .bf16⟩
  | .hbm, ⟨4, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== SwigluGradRefIdeal.lean ====
abbrev S2048x2048 : Shape := ⟨2, ![2048, 2048]⟩
abbrev S5632x2048 : Shape := ⟨2, ![5632, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2x2048x5632, .bf16⟩
  | .hbm, ⟨3, _⟩ => ⟨S2x2048x5632, .f32⟩
  | .hbm, ⟨4, _⟩ => ⟨S1x2048x5632, .f32⟩
  | .hbm, ⟨5, _⟩ => ⟨S2048x5632, .f32⟩
  | .hbm, ⟨6, _⟩ => ⟨S1x2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S5632x2048, .f32⟩
  | .hbm, ⟨23, _⟩ => ⟨S2048x2048, .f32⟩
  | .hbm, ⟨24, _⟩ => ⟨S2048x2048, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S1x2048x5632, .f32⟩
  | .hbm, ⟨33, _⟩ => ⟨S_, .f32⟩
  | .hbm, ⟨34, _⟩ => ⟨S2x2048x5632, .f32⟩
  | .hbm, ⟨35, _⟩ => ⟨S1x2048x5632, .f32⟩
  | .hbm, ⟨36, _⟩ => ⟨S_, .f32⟩
  | .hbm, ⟨37, _⟩ => ⟨S2x2048x5632, .f32⟩
  | .hbm, ⟨38, _⟩ => ⟨S2x2048x5632, .f32⟩
  | .hbm, ⟨39, _⟩ => ⟨S2x2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== GradIn.lean ====
abbrev S2048x2048 : Shape := ⟨2, ![2048, 2048]⟩
abbrev S2x2048x5632 : Shape := ⟨3, ![2, 2048, 5632]⟩
abbrev S4x2x2048x1408 : Shape := ⟨4, ![4, 2, 2048, 1408]⟩
abbrev S8x128 : Shape := ⟨2, ![8, 128]⟩
abbrev S2048x512 : Shape := ⟨2, ![2048, 512]⟩
abbrev S1x2048x2816 : Shape := ⟨3, ![1, 2048, 2816]⟩
abbrev S1x2x512x1408 : Shape := ⟨4, ![1, 2, 512, 1408]⟩
abbrev S2048x2816 : Shape := ⟨2, ![2048, 2816]⟩
abbrev S512x2816 : Shape := ⟨2, ![512, 2816]⟩
abbrev S512x1408 : Shape := ⟨2, ![512, 1408]⟩
abbrev S1x1x512x1408 : Shape := ⟨4, ![1, 1, 512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x2x2048x1408, .bf16⟩
  | .hbm, ⟨3, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S1x2x512x1408, .bf16⟩
  | .local _ .vmem, ⟨5, _⟩ => ⟨S1x2x512x1408, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let v18 : BitVec 32 := Scalar.muli c2_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32_11 : BitVec 32 := 2#32
  let v29 : BitVec 32 := Scalar.divsi v28 c2_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradInRefIdeal.lean ====
abbrev S2048x2048 : Shape := ⟨2, ![2048, 2048]⟩
abbrev S2x2048x5632 : Shape := ⟨3, ![2, 2048, 5632]⟩
abbrev S_ : Shape := ⟨0, ![]⟩
abbrev S2048x11264 : Shape := ⟨2, ![2048, 11264]⟩
abbrev S2048x5632 : Shape := ⟨2, ![2048, 5632]⟩
abbrev S1x2048x5632 : Shape := ⟨3, ![1, 2048, 5632]⟩
abbrev S11264x2048 : Shape := ⟨2, ![11264, 2048]⟩
abbrev S2048x4x2x1408 : Shape := ⟨4, ![2048, 4, 2, 1408]⟩
abbrev S4x2x2048x1408 : Shape := ⟨4, ![4, 2, 2048, 1408]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S1x2048x5632, .f32⟩
  | .hbm, ⟨9, _⟩ => ⟨S1x2048x5632, .f32⟩
  | .hbm, ⟨10, _⟩ => ⟨S2x2048x5632, .f32⟩
  | .hbm, ⟨11, _⟩ => ⟨S2x2048x5632, .f32⟩
  | .hbm, ⟨12, _⟩ => ⟨S1x2048x5632, .f32⟩
  | .hbm, ⟨13, _⟩ => ⟨S2048x5632, .f32⟩
  | .hbm, ⟨14, _⟩ => ⟨S1x2048x5632, .f32⟩
  | .hbm, ⟨15, _⟩ => ⟨S2048x5632, .f32⟩
  | .hbm, ⟨16, _⟩ => ⟨S2048x11264, .f32⟩
  | .hbm, ⟨17, _⟩ => ⟨S11264x2048, .f32⟩
  | .hbm, ⟨18, _⟩ => ⟨S2048x11264, .f32⟩
  | .hbm, ⟨19, _⟩ => ⟨S2048x4x2x1408, .f32⟩
  | .hbm, ⟨20, _⟩ => ⟨S4x2x2048x1408, .f32⟩
  | .hbm, ⟨21, _⟩ => ⟨S4x2x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== GradOut.lean ====
abbrev S2048x5632 : Shape := ⟨2, ![2048, 5632]⟩
abbrev S2048x2048 : Shape := ⟨2, ![2048, 2048]⟩
abbrev S5632x2048 : Shape := ⟨2, ![5632, 2048]⟩
abbrev S8x128 : Shape := ⟨2, ![8, 128]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .hbm, ⟨3, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradOutIdeal.lean ====
abbrev S2048x5632 : Shape := ⟨2, ![2048, 5632]⟩
abbrev S2048x2048 : Shape := ⟨2, ![2048, 2048]⟩
abbrev S5632x2048 : Shape := ⟨2, ![5632, 2048]⟩
abbrev S8x128 : Shape := ⟨2, ![8, 128]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .hbm, ⟨3, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GradOutRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradInput.lean ====
abbrev S2x2048x5632 : Shape := ⟨3, ![2, 2048, 5632]⟩
abbrev S8x2048x1408 : Shape := ⟨3, ![8, 2048, 1408]⟩
abbrev S2048x2048 : Shape := ⟨2, ![2048, 2048]⟩
abbrev S8x128 : Shape := ⟨2, ![8, 128]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2048x2048, .f32⟩
  | .hbm, ⟨3, _⟩ => ⟨S8x128, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_8 : BitVec 32 := 0#32
  let v9 : BitVec 1 := Scalar.cmpi .ne v8 c0_i32_8
  v9

def k0_cond2 (i : grid0.Coords) : BitVec 1 :=
  let arg2 : BitVec 32 := BitVec.ofNat 32 (i 2).val
  let c0_i32_9 : BitVec 32 := 0#32
  let v10 : BitVec 1 := Scalar.cmpi .sgt arg2 c0_i32_9
  let v11 : BitVec 32 := Scalar.extui v10
  let c0_i32_10 : BitVec 32 := 0#32
  let v12 : BitVec 1 := Scalar.cmpi .ne v11 c0_i32_10
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== GradInputIdeal.lean ====
abbrev S2x2048x5632 : Shape := ⟨3, ![2, 2048, 5632]⟩
abbrev S8x2048x1408 : Shape := ⟨3, ![8, 2048, 1408]⟩
abbrev S2048x2048 : Shape := ⟨2, ![2048, 2048]⟩
abbrev S8x128 : Shape := ⟨2, ![8, 128]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2048x2048, .f32⟩
  | .hbm, ⟨3, _⟩ => ⟨S8x128, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_8 : BitVec 32 := 0#32
  let v9 : BitVec 1 := Scalar.cmpi .ne v8 c0_i32_8
  v9

def k0_cond2 (i : grid0.Coords) : BitVec 1 :=
  let arg2 : BitVec 32 := BitVec.ofNat 32 (i 2).val
  let c0_i32_9 : BitVec 32 := 0#32
  let v10 : BitVec 1 := Scalar.cmpi .sgt arg2 c0_i32_9
  let v11 : BitVec 32 := Scalar.extui v10
  let c0_i32_10 : BitVec 32 := 0#32
  let v12 : BitVec 1 := Scalar.cmpi .ne v11 c0_i32_10
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== GradInputRefIdeal.lean ====
abbrev S2x2048x5632 : Shape := ⟨3, ![2, 2048, 5632]⟩
abbrev S8x2048x1408 : Shape := ⟨3, ![8, 2048, 1408]⟩
abbrev S_ : Shape := ⟨0, ![]⟩
abbrev S2048x2048 : Shape := ⟨2, ![2048, 2048]⟩
abbrev S2048x8x1408 : Shape := ⟨3, ![2048, 8, 1408]⟩
abbrev S2048x11264 : Shape := ⟨2, ![2048, 11264]⟩
abbrev S2048x5632 : Shape := ⟨2, ![2048, 5632]⟩
abbrev S1x2048x5632 : Shape := ⟨3, ![1, 2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S_, .f32⟩
  | .hbm, ⟨3, _⟩ => ⟨S2048x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S2048x11264, .f32⟩
  | .hbm, ⟨8, _⟩ => ⟨S2048x5632, .f32⟩
  | .hbm, ⟨9, _⟩ => ⟨S2048x5632, .f32⟩
  | .hbm, ⟨10, _⟩ => ⟨S1x2048x5632, .f32⟩
  | .hbm, ⟨11, _⟩ => ⟨S1x2048x5632, .f32⟩
  | .hbm, ⟨12, _⟩ => ⟨S2x2048x5632, .f32⟩
  | .hbm, ⟨13, _⟩ => ⟨S2x2048x5632, .f32⟩
  | .hbm, ⟨14, _⟩ => ⟨S1x2048x5632, .f32⟩
  | .hbm, ⟨15, _⟩ => ⟨S2048x5632, .f32⟩
  | .hbm, ⟨16, _⟩ => ⟨S1x2048x5632, .f32⟩
  | .hbm, ⟨17, _⟩ => ⟨S2048x5632, .f32⟩
  | .hbm, ⟨18, _⟩ => ⟨S2048x11264, .f32⟩
  | .hbm, ⟨19, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== SwigluIn.lean ====
abbrev S2048x2048 : Shape := ⟨2, ![2048, 2048]⟩
abbrev S8x2048x1408 : Shape := ⟨3, ![8, 2048, 1408]⟩
abbrev S2x2048x5632 : Shape := ⟨3, ![2, 2048, 5632]⟩
abbrev S2048x5632 : Shape := ⟨2, ![2048, 5632]⟩
abbrev S8x128 : Shape := ⟨2, ![8, 128]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2x2048x5632, .bf16⟩
  | .hbm, ⟨3, _⟩ => ⟨S2048x5632, .bf16⟩
  | .hbm, ⟨4, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== SwigluInRefIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S1x2048x5632, .f32⟩
  | .hbm, ⟨10, _⟩ => ⟨S1x2048x5632, .f32⟩
  | .hbm, ⟨11, _⟩ => ⟨S2x2048x5632, .f32⟩
  | .hbm, ⟨12, _⟩ => ⟨S2x2048x5632, .bf16⟩
  | .hbm, ⟨13, _⟩ => ⟨S1x2048x5632, .f32⟩
  | .hbm, ⟨14, _⟩ => ⟨S2048x5632, .f32⟩
  | .hbm, ⟨15, _⟩ => ⟨S1x2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S_, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== SwigluOut.lean ====
abbrev S2048x5632 : Shape := ⟨2, ![2048, 5632]⟩
abbrev S5632x2048 : Shape := ⟨2, ![5632, 2048]⟩
abbrev S2048x2048 : Shape := ⟨2, ![2048, 2048]⟩
abbrev S8x128 : Shape := ⟨2, ![8, 128]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .hbm, ⟨4, _⟩ => ⟨S8x128, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== SwigluOutRefIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GmIn.lean ====
abbrev S2048x2048 : Shape := ⟨2, ![2048, 2048]⟩
abbrev S8x2048x1024 : Shape := ⟨3, ![8, 2048, 1024]⟩
abbrev S2x2048x4096 : Shape := ⟨3, ![2, 2048, 4096]⟩
abbrev S8x128 : Shape := ⟨2, ![8, 128]⟩
abbrev S512x2048 : Shape := ⟨2, ![512, 2048]⟩
abbrev S1x2048x512 : Shape := ⟨3, ![1, 2048, 512]⟩
abbrev S2x512x512 : Shape := ⟨3, ![2, 512, 512]⟩
abbrev S2048x512 : Shape := ⟨2, ![2048, 512]⟩
abbrev S512x512 : Shape := ⟨2, ![512, 512]⟩
abbrev S1x512x512 : Shape := ⟨3, ![1, 512, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2x2048x4096, .bf16⟩
  | .hbm, ⟨3, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2x512x512, .bf16⟩
  | .local _ .vmem, ⟨7, _⟩ => ⟨S2x512x512, .bf16⟩
  | .local _ .vmem, ⟨8, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== GmInRefIdeal.lean ====
abbrev S2048x2048 : Shape := ⟨2, ![2048, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S2048x4096 : Shape := ⟨2, ![2048, 4096]⟩
abbrev S1x2048x4096 : Shape := ⟨3, ![1, 2048, 4096]⟩
abbrev S2x2048x4096 : Shape := ⟨3, ![2, 2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S2048x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S2048x8192, .f32⟩
  | .hbm, ⟨7, _⟩ => ⟨S2048x4096, .f32⟩
  | .hbm, ⟨8, _⟩ => ⟨S2048x4096, .f32⟩
  | .hbm, ⟨9, _⟩ => ⟨S1x2048x4096, .f32⟩
  | .hbm, ⟨10, _⟩ => ⟨S1x2048x4096, .f32⟩
  | .hbm, ⟨11, _⟩ => ⟨S2x2048x4096, .f32⟩
  | .hbm, ⟨12, _⟩ => ⟨S2x2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== GmGradIn.lean ====
abbrev S2048x2048 : Shape := ⟨2, ![2048, 2048]⟩
abbrev S2x2048x4096 : Shape := ⟨3, ![2, 2048, 4096]⟩
abbrev S8x2048x1024 : Shape := ⟨3, ![8, 2048, 1024]⟩
abbrev S8x128 : Shape := ⟨2, ![8, 128]⟩
abbrev S2048x512 : Shape := ⟨2, ![2048, 512]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x2048x4096, .bf16⟩
  | .hbm, ⟨2, _⟩ => ⟨S8x2048x1024, .bf16⟩
  | .hbm, ⟨3, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GmGradInRefIdeal.lean ====
abbrev S2048x2048 : Shape := ⟨2, ![2048, 2048]⟩
abbrev S2x2048x4096 : Shape := ⟨3, ![2, 2048, 4096]⟩
abbrev S_ : Shape := ⟨0, ![]⟩
abbrev S2048x8192 : Shape := ⟨2, ![2048, 8192]⟩
abbrev S2048x4096 : Shape := ⟨2, ![2048, 4096]⟩
abbrev S1x2048x4096 : Shape := ⟨3, ![1, 2048, 4096]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x4096, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x4096, .f32⟩
  | .hbm, ⟨7, _⟩ => ⟨S2048x4096, .f32⟩
  | .hbm, ⟨8, _⟩ => ⟨S1x2048x4096, .f32⟩
  | .hbm, ⟨9, _⟩ => ⟨S1x2048x4096, .f32⟩
  | .hbm, ⟨10, _⟩ => ⟨S2x2048x4096, .f32⟩
  | .hbm, ⟨11, _⟩ => ⟨S2x2048x4096, .f32⟩
  | .hbm, ⟨12, _⟩ => ⟨S1x2048x4096, .f32⟩
  | .hbm, ⟨13, _⟩ => ⟨S2048x4096, .f32⟩
  | .hbm, ⟨14, _⟩ => ⟨S1x2048x4096, .f32⟩
  | .hbm, ⟨15, _⟩ => ⟨S2048x4096, .f32⟩
  | .hbm, ⟨16, _⟩ => ⟨S2048x8192, .f32⟩
  | .hbm, ⟨17, _⟩ => ⟨S8192x2048, .f32⟩
  | .hbm, ⟨18, _⟩ => ⟨S2048x8192, .f32⟩
  | .hbm, ⟨19, _⟩ => ⟨S2048x8x1024, .f32⟩
  | .hbm, ⟨20, _⟩ => ⟨S8x2048x1024, .f32⟩
  | .hbm, ⟨21, _⟩ => ⟨S8x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== GmGradInput.lean ====
abbrev S2x2048x4096 : Shape := ⟨3, ![2, 2048, 4096]⟩
abbrev S8x2048x1024 : Shape := ⟨3, ![8, 2048, 1024]⟩
abbrev S2048x2048 : Shape := ⟨2, ![2048, 2048]⟩
abbrev S8x128 : Shape := ⟨2, ![8, 128]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x4096, .bf16⟩
  | .hbm, ⟨1, _⟩ => ⟨S8x2048x1024, .bf16⟩
  | .hbm, ⟨2, _⟩ => ⟨S2048x2048, .f32⟩
  | .hbm, ⟨3, _⟩ => ⟨S8x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_8 : BitVec 32 := 0#32
  let v9 : BitVec 1 := Scalar.cmpi .ne v8 c0_i32_8
  v9

def k0_cond2 (i : grid0.Coords) : BitVec 1 :=
  let arg2 : BitVec 32 := BitVec.ofNat 32 (i 2).val
  let c0_i32_9 : BitVec 32 := 0#32
  let v10 : BitVec 1 := Scalar.cmpi .sgt arg2 c0_i32_9
  let v11 : BitVec 32 := Scalar.extui v10
  let c0_i32_10 : BitVec 32 := 0#32
  let v12 : BitVec 1 := Scalar.cmpi .ne v11 c0_i32_10
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== GmGradInputIdeal.lean ====
abbrev S2x2048x4096 : Shape := ⟨3, ![2, 2048, 4096]⟩
abbrev S8x2048x1024 : Shape := ⟨3, ![8, 2048, 1024]⟩
abbrev S2048x2048 : Shape := ⟨2, ![2048, 2048]⟩
abbrev S8x128 : Shape := ⟨2, ![8, 128]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x4096, .bf16⟩
  | .hbm, ⟨1, _⟩ => ⟨S8x2048x1024, .bf16⟩
  | .hbm, ⟨2, _⟩ => ⟨S2048x2048, .f32⟩
  | .hbm, ⟨3, _⟩ => ⟨S8x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_8 : BitVec 32 := 0#32
  let v9 : BitVec 1 := Scalar.cmpi .ne v8 c0_i32_8
  v9

def k0_cond2 (i : grid0.Coords) : BitVec 1 :=
  let arg2 : BitVec 32 := BitVec.ofNat 32 (i 2).val
  let c0_i32_9 : BitVec 32 := 0#32
  let v10 : BitVec 1 := Scalar.cmpi .sgt arg2 c0_i32_9
  let v11 : BitVec 32 := Scalar.extui v10
  let c0_i32_10 : BitVec 32 := 0#32
  let v12 : BitVec 1 := Scalar.cmpi .ne v11 c0_i32_10
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== GmGradInputRefIdeal.lean ====
abbrev S2x2048x4096 : Shape := ⟨3, ![2, 2048, 4096]⟩
abbrev S8x2048x1024 : Shape := ⟨3, ![8, 2048, 1024]⟩
abbrev S_ : Shape := ⟨0, ![]⟩
abbrev S2048x2048 : Shape := ⟨2, ![2048, 2048]⟩
abbrev S2048x8x1024 : Shape := ⟨3, ![2048, 8, 1024]⟩
abbrev S2048x8192 : Shape := ⟨2, ![2048, 8192]⟩
abbrev S2048x4096 : Shape := ⟨2, ![2048, 4096]⟩
abbrev S1x2048x4096 : Shape := ⟨3, ![1, 2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S8x2048x1024, .bf16⟩
  | .hbm, ⟨2, _⟩ => ⟨S_, .f32⟩
  | .hbm, ⟨3, _⟩ => ⟨S2048x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S2048x8192, .f32⟩
  | .hbm, ⟨8, _⟩ => ⟨S2048x4096, .f32⟩
  | .hbm, ⟨9, _⟩ => ⟨S2048x4096, .f32⟩
  | .hbm, ⟨10, _⟩ => ⟨S1x2048x4096, .f32⟩
  | .hbm, ⟨11, _⟩ => ⟨S1x2048x4096, .f32⟩
  | .hbm, ⟨12, _⟩ => ⟨S2x2048x4096, .f32⟩
  | .hbm, ⟨13, _⟩ => ⟨S2x2048x4096, .f32⟩
  | .hbm, ⟨14, _⟩ => ⟨S1x2048x4096, .f32⟩
  | .hbm, ⟨15, _⟩ => ⟨S2048x4096, .f32⟩
  | .hbm, ⟨16, _⟩ => ⟨S1x2048x4096, .f32⟩
  | .hbm, ⟨17, _⟩ => ⟨S2048x4096, .f32⟩
  | .hbm, ⟨18, _⟩ => ⟨S2048x8192, .f32⟩
  | .hbm, ⟨19, _⟩ => ⟨S2048x2048, .f32⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== GmBackOut.lean ====
abbrev S2048x2048 : Shape := ⟨2, ![2048, 2048]⟩
abbrev S4096x2048 : Shape := ⟨2, ![4096, 2048]⟩
abbrev S2048x4096 : Shape := ⟨2, ![2048, 4096]⟩
abbrev S8x128 : Shape := ⟨2, ![8, 128]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x4096, .bf16⟩
  | .hbm, ⟨3, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== GmBackOutRefIdeal.lean ====
abbrev S2048x2048 : Shape := ⟨2, ![2048, 2048]⟩
abbrev S4096x2048 : Shape := ⟨2, ![4096, 2048]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsdIn.lean ====
abbrev S2048x2048 : Shape := ⟨2, ![2048, 2048]⟩
abbrev S8x2048x1288 : Shape := ⟨3, ![8, 2048, 1288]⟩
abbrev S8x128 : Shape := ⟨2, ![8, 128]⟩
abbrev S512x2048 : Shape := ⟨2, ![512, 2048]⟩
abbrev S1x2048x1288 : Shape := ⟨3, ![1, 2048, 1288]⟩
abbrev S1x512x1288 : Shape := ⟨3, ![1, 512, 1288]⟩
abbrev S2048x1288 : Shape := ⟨2, ![2048, 1288]⟩
abbrev S512x1288 : Shape := ⟨2, ![512, 1288]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x2048x1288, .bf16⟩
  | .hbm, ⟨2, _⟩ => ⟨S8x2048x1288, .f32⟩
  | .hbm, ⟨3, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S1x2048x1288, .bf16⟩
  | .local _ .vmem, ⟨3, _⟩ => ⟨S1x2048x1288, .bf16⟩
  | .local _ .vmem, ⟨4, _⟩ => ⟨S1x512x1288, .f32⟩
  | .local _ .vmem, ⟨5, _⟩ => ⟨S1x512x1288, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== SsdInRefIdeal.lean ====
abbrev S2048x2048 : Shape := ⟨2, ![2048, 2048]⟩
abbrev S8x2048x1288 : Shape := ⟨3, ![8, 2048, 1288]⟩
abbrev S2048x8x1288 : Shape := ⟨3, ![2048, 8, 1288]⟩
abbrev S2048x10304 : Shape := ⟨2, ![2048, 10304]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1288, .bf16⟩
  | .hbm, ⟨2, _⟩ => ⟨S2048x2048, .f32⟩
  | .hbm, ⟨3, _⟩ => ⟨S8x2048x1288, .f32⟩
  | .hbm, ⟨4, _⟩ => ⟨S2048x8x1288, .f32⟩
  | .hbm, ⟨5, _⟩ => ⟨S2048x10304, .f32⟩
  | .hbm, ⟨6, _⟩ => ⟨S2048x10304, .f32⟩
  | .hbm, ⟨7, _⟩ => ⟨S2048x8x1288, .f32⟩
  | .hbm, ⟨8, _⟩ => ⟨S8x2048x1288, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== SsdGradIn.lean ====
abbrev S2048x2048 : Shape := ⟨2, ![2048, 2048]⟩
abbrev S8x2048x1288 : Shape := ⟨3, ![8, 2048, 1288]⟩
abbrev S8x128 : Shape := ⟨2, ![8, 128]⟩
abbrev S2048x512 : Shape := ⟨2, ![2048, 512]⟩
abbrev S1x2048x1288 : Shape := ⟨3, ![1, 2048, 1288]⟩
abbrev S1x512x1288 : Shape := ⟨3, ![1, 512, 1288]⟩
abbrev S2048x1288 : Shape := ⟨2, ![2048, 1288]⟩
abbrev S512x1288 : Shape := ⟨2, ![512, 1288]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x2048x1288, .bf16⟩
  | .hbm, ⟨2, _⟩ => ⟨S8x2048x1288, .bf16⟩
  | .hbm, ⟨3, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S1x2048x1288, .bf16⟩
  | .local _ .vmem, ⟨3, _⟩ => ⟨S1x2048x1288, .bf16⟩
  | .local _ .vmem, ⟨4, _⟩ => ⟨S1x512x1288, .bf16⟩
  | .local _ .vmem, ⟨5, _⟩ => ⟨S1x512x1288, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== SsdGradInRefIdeal.lean ====
abbrev S2048x2048 : Shape := ⟨2, ![2048, 2048]⟩
abbrev S8x2048x1288 : Shape := ⟨3, ![8, 2048, 1288]⟩
abbrev S_ : Shape := ⟨0, ![]⟩
abbrev S2048x10304 : Shape := ⟨2, ![2048, 10304]⟩
abbrev S2048x8x1288 : Shape := ⟨3, ![2048, 8, 1288]⟩
abbrev S10304x2048 : Shape := ⟨2, ![10304, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1288, .bf16⟩
  | .hbm, ⟨2, _⟩ => ⟨S_, .f32⟩
  | .hbm, ⟨3, _⟩ => ⟨S2048x10304, .f32⟩
  | .hbm, ⟨4, _⟩ => ⟨S2048x2048, .f32⟩
  | .hbm, ⟨5, _⟩ => ⟨S2048x10304, .f32⟩
  | .hbm, ⟨6, _⟩ => ⟨S2048x8x1288, .f32⟩
  | .hbm, ⟨7, _⟩ => ⟨S8x2048x1288, .f32⟩
  | .hbm, ⟨8, _⟩ => ⟨S8x2048x1288, .f32⟩
  | .hbm, ⟨9, _⟩ => ⟨S2048x8x1288, .f32⟩
  | .hbm, ⟨10, _⟩ => ⟨S2048x10304, .f32⟩
  | .hbm, ⟨11, _⟩ => ⟨S10304x2048, .f32⟩
  | .hbm, ⟨12, _⟩ => ⟨S2048x10304, .f32⟩
  | .hbm, ⟨13, _⟩ => ⟨S2048x8x1288, .f32⟩
  | .hbm, ⟨14, _⟩ => ⟨S8x2048x1288, .f32⟩
  | .hbm, ⟨15, _⟩ => ⟨S8x2048x1288, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== SsdGradInput.lean ====
abbrev S8x2048x1288 : Shape := ⟨3, ![8, 2048, 1288]⟩
abbrev S2048x2048 : Shape := ⟨2, ![2048, 2048]⟩
abbrev S8x128 : Shape := ⟨2, ![8, 128]⟩
abbrev S1x1024x1288 : Shape := ⟨3, ![1, 1024, 1288]⟩
abbrev S1024x1024 : Shape := ⟨2, ![1024, 1024]⟩
abbrev S1024x1288 : Shape := ⟨2, ![1024, 1288]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x1288, .bf16⟩
  | .hbm, ⟨1, _⟩ => ⟨S8x2048x1288, .bf16⟩
  | .hbm, ⟨2, _⟩ => ⟨S2048x2048, .f32⟩
  | .hbm, ⟨3, _⟩ => ⟨S8x128, .f32⟩
  | .local _ .vmem, ⟨0, _⟩ => ⟨S1x1024x1288, .bf16⟩
  | .local _ .vmem, ⟨1, _⟩ => ⟨S1x1024x1288, .bf16⟩
  | .local _ .vmem, ⟨2, _⟩ => ⟨S1x1024x1288, .bf16⟩
  | .local _ .vmem, ⟨3, _⟩ => ⟨S1x1024x1288, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8x2048x1288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![2, 2, 8], ![false, false, false]⟩

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_8 : BitVec 32 := 0#32
  let v9 : BitVec 1 := Scalar.cmpi .ne v8 c0_i32_8
  v9

def k0_cond2 (i : grid0.Coords) : BitVec 1 :=
  let arg2 : BitVec 32 := BitVec.ofNat 32 (i 2).val
  let c0_i32_9 : BitVec 32 := 0#32
  let v10 : BitVec 1 := Scalar.cmpi .sgt arg2 c0_i32_9
  let v11 : BitVec 32 := Scalar.extui v10
  let c0_i32_10 : BitVec 32 := 0#32
  let v12 : BitVec 1 := Scalar.cmpi .ne v11 c0_i32_10
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]
-- ==== SsdGradInputRefIdeal.lean ====
abbrev S8x2048x1288 : Shape := ⟨3, ![8, 2048, 1288]⟩
abbrev S_ : Shape := ⟨0, ![]⟩
abbrev S2048x2048 : Shape := ⟨2, ![2048, 2048]⟩
abbrev S2048x8x1288 : Shape := ⟨3, ![2048, 8, 1288]⟩
abbrev S2048x10304 : Shape := ⟨2, ![2048, 10304]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1288, .bf16⟩
  | .hbm, ⟨1, _⟩ => ⟨S8x2048x1288, .bf16⟩
  | .hbm, ⟨2, _⟩ => ⟨S_, .f32⟩
  | .hbm, ⟨3, _⟩ => ⟨S2048x2048, .f32⟩
  | .hbm, ⟨4, _⟩ => ⟨S8x2048x1288, .f32⟩
  | .hbm, ⟨5, _⟩ => ⟨S2048x8x1288, .f32⟩
  | .hbm, ⟨6, _⟩ => ⟨S2048x10304, .f32⟩
  | .hbm, ⟨7, _⟩ => ⟨S2048x10304, .f32⟩
  | .hbm, ⟨8, _⟩ => ⟨S2048x8x1288, .f32⟩
  | .hbm, ⟨9, _⟩ => ⟨S8x2048x1288, .f32⟩
  | .hbm, ⟨10, _⟩ => ⟨S8x2048x1288, .f32⟩
  | .hbm, ⟨11, _⟩ => ⟨S2048x8x1288, .f32⟩
  | .hbm, ⟨12, _⟩ => ⟨S2048x10304, .f32⟩
  | .hbm, ⟨13, _⟩ => ⟨S2048x2048, .f32⟩
  | _, _ => ⟨S8x2048x1288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== SsdBackOut.lean ====
abbrev S2048x2048 : Shape := ⟨2, ![2048, 2048]⟩
abbrev S4096x2048 : Shape := ⟨2, ![4096, 2048]⟩
abbrev S2048x4096 : Shape := ⟨2, ![2048, 4096]⟩
abbrev S8x128 : Shape := ⟨2, ![8, 128]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x4096, .f32⟩
  | .hbm, ⟨3, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== SsdBackOutRefIdeal.lean ====
abbrev S2048x2048 : Shape := ⟨2, ![2048, 2048]⟩
abbrev S4096x2048 : Shape := ⟨2, ![4096, 2048]⟩
abbrev S_ : Shape := ⟨0, ![]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOut.lean ====
abbrev S2048x4096 : Shape := ⟨2, ![2048, 4096]⟩
abbrev S4096x2048 : Shape := ⟨2, ![4096, 2048]⟩
abbrev S2048x2048 : Shape := ⟨2, ![2048, 2048]⟩
abbrev S8x128 : Shape := ⟨2, ![8, 128]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x2048, .f32⟩
  | .hbm, ⟨4, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== MixOutRefIdeal.lean ====
abbrev S2048x4096 : Shape := ⟨2, ![2048, 4096]⟩
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixGradOut.lean ====
abbrev S2048x4096 : Shape := ⟨2, ![2048, 4096]⟩
abbrev S2048x2048 : Shape := ⟨2, ![2048, 2048]⟩
abbrev S4096x2048 : Shape := ⟨2, ![4096, 2048]⟩
abbrev S8x128 : Shape := ⟨2, ![8, 128]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S4096x2048, .bf16⟩
  | .hbm, ⟨3, _⟩ => ⟨S8x128, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== MixGradOutRefIdeal.lean ====
abbrev S2048x4096 : Shape := ⟨2, ![2048, 4096]⟩
abbrev S2048x2048 : Shape := ⟨2, ![2048, 2048]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NormGrad.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormGradRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S2048x2048, .bf16⟩
  | .hbm, ⟨54, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .hbm, ⟨4, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SsdNormGrad.lean ====
abbrev S2048x4096 : Shape := ⟨2, ![2048, 4096]⟩
abbrev S1x4096 : Shape := ⟨2, ![1, 4096]⟩
abbrev S8x128 : Shape := ⟨2, ![8, 128]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S1x4096, .f32⟩
  | .hbm, ⟨4, _⟩ => ⟨S2048x4096, .f32⟩
  | .hbm, ⟨5, _⟩ => ⟨S2048x4096, .f32⟩
  | .hbm, ⟨6, _⟩ => ⟨S1x4096, .f32⟩
  | .hbm, ⟨7, _⟩ => ⟨S8x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S1x4096, .f32⟩
  | .local _ .vmem, ⟨12, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SsdNormGradRefIdeal.lean ====
abbrev S2048x4096 : Shape := ⟨2, ![2048, 4096]⟩
abbrev S1x4096 : Shape := ⟨2, ![1, 4096]⟩
abbrev S_ : Shape := ⟨0, ![]⟩
abbrev S2048x8x512 : Shape := ⟨3, ![2048, 8, 512]⟩
abbrev S2048x8 : Shape := ⟨2, ![2048, 8]⟩
abbrev S2048x8x1 : Shape := ⟨3, ![2048, 8, 1]⟩
abbrev S4096 : Shape := ⟨1, ![4096]⟩

abbrev nBuf : Space → Nat
  | .hbm => 70
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .f32⟩
  | .hbm, ⟨3, _⟩ => ⟨S1x4096, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x8x512, .f32⟩
  | .hbm, ⟨19, _⟩ => ⟨S2048x8x512, .f32⟩
  | .hbm, ⟨20, _⟩ => ⟨S_, .f32⟩
  | .hbm, ⟨21, _⟩ => ⟨S2048x8, .f32⟩
  | .hbm, ⟨22, _⟩ => ⟨S2048x8x1, .f32⟩
  | .hbm, ⟨23, _⟩ => ⟨S_, .f32⟩
  | .hbm, ⟨24, _⟩ => ⟨S2048x8x1, .f32⟩
  | .hbm, ⟨25, _⟩ => ⟨S2048x8x1, .f32⟩
  | .hbm, ⟨26, _⟩ => ⟨S_, .f32⟩
  | .hbm, ⟨27, _⟩ => ⟨S2048x8x1, .f32⟩
  | .hbm, ⟨28, _⟩ => ⟨S2048x8x1, .f32⟩
  | .hbm, ⟨29, _⟩ => ⟨S2048x8x1, .f32⟩
  | .hbm, ⟨30, _⟩ => ⟨S2048x8x1, .f32⟩
  | .hbm, ⟨31, _⟩ => ⟨S_, .f32⟩
  | .hbm, ⟨32, _⟩ => ⟨S2048x8x1, .f32⟩
  | .hbm, ⟨33, _⟩ => ⟨S2048x8x1, .f32⟩
  | .hbm, ⟨34, _⟩ => ⟨S2048x8x512, .f32⟩
  | .hbm, ⟨35, _⟩ => ⟨S2048x8x512, .f32⟩
  | .hbm, ⟨36, _⟩ => ⟨S2048x4096, .f32⟩
  | .hbm, ⟨37, _⟩ => ⟨S2048x4096, .f32⟩
  | .hbm, ⟨38, _⟩ => ⟨S2048x4096, .f32⟩
  | .hbm, ⟨39, _⟩ => ⟨S2048x4096, .f32⟩
  | .hbm, ⟨40, _⟩ => ⟨S_, .f32⟩
  | .hbm, ⟨41, _⟩ => ⟨S4096, .f32⟩
  | .hbm, ⟨42, _⟩ => ⟨S1x4096, .f32⟩
  | .hbm, ⟨43, _⟩ => ⟨S2048x4096, .f32⟩
  | .hbm, ⟨44, _⟩ => ⟨S2048x4096, .f32⟩
  | .hbm, ⟨45, _⟩ => ⟨S2048x8x512, .f32⟩
  | .hbm, ⟨46, _⟩ => ⟨S2048x8x512, .f32⟩
  | .hbm, ⟨47, _⟩ => ⟨S_, .f32⟩
  | .hbm, ⟨48, _⟩ => ⟨S2048x8, .f32⟩
  | .hbm, ⟨49, _⟩ => ⟨S2048x8x1, .f32⟩
  | .hbm, ⟨50, _⟩ => ⟨S2048x8x512, .f32⟩
  | .hbm, ⟨51, _⟩ => ⟨S2048x8x512, .f32⟩
  | .hbm, ⟨52, _⟩ => ⟨S2048x8x1, .f32⟩
  | .hbm, ⟨53, _⟩ => ⟨S_, .f32⟩
  | .hbm, ⟨54, _⟩ => ⟨S2048x8x1, .f32⟩
  | .hbm, ⟨55, _⟩ => ⟨S2048x8x1, .f32⟩
  | .hbm, ⟨56, _⟩ => ⟨S_, .f32⟩
  | .hbm, ⟨57, _⟩ => ⟨S2048x8, .f32⟩
  | .hbm, ⟨58, _⟩ => ⟨S2048x8x512, .f32⟩
  | .hbm, ⟨59, _⟩ => ⟨S2048x8x512, .f32⟩
  | .hbm, ⟨60, _⟩ => ⟨S2048x8x512, .f32⟩
  | .hbm, ⟨61, _⟩ => ⟨S2048x8x512, .f32⟩
  | .hbm, ⟨62, _⟩ => ⟨S2048x8x512, .f32⟩
  | .hbm, ⟨63, _⟩ => ⟨S2048x4096, .f32⟩
  | .hbm, ⟨64, _⟩ => ⟨S2048x4096, .f32⟩
  | .hbm, ⟨65, _⟩ => ⟨S2048x4096, .f32⟩
  | .hbm, ⟨66, _⟩ => ⟨S2048x4096, .f32⟩
  | .hbm, ⟨67, _⟩ => ⟨S2048x4096, .f32⟩
  | .hbm, ⟨68, _⟩ => ⟨S2048x4096, .f32⟩
  | .hbm, ⟨69, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== SsdNorm.lean ====
abbrev S2048x4096 : Shape := ⟨2, ![2048, 4096]⟩
abbrev S1x4096 : Shape := ⟨2, ![1, 4096]⟩
abbrev S8x128 : Shape := ⟨2, ![8, 128]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1x4096, .f32⟩
  | .hbm, ⟨3, _⟩ => ⟨S2048x4096, .bf16⟩
  | .hbm, ⟨4, _⟩ => ⟨S8x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | .local _ .vmem, ⟨7, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== SsdNormRefIdeal.lean ====
abbrev S2048x4096 : Shape := ⟨2, ![2048, 4096]⟩
abbrev S1x4096 : Shape := ⟨2, ![1, 4096]⟩
abbrev S_ : Shape := ⟨0, ![]⟩
abbrev S2048x8x512 : Shape := ⟨3, ![2048, 8, 512]⟩
abbrev S2048x8 : Shape := ⟨2, ![2048, 8]⟩
abbrev S2048x8x1 : Shape := ⟨3, ![2048, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1x4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S2048x8x512, .f32⟩
  | .hbm, ⟨14, _⟩ => ⟨S2048x8x512, .f32⟩
  | .hbm, ⟨15, _⟩ => ⟨S_, .f32⟩
  | .hbm, ⟨16, _⟩ => ⟨S2048x8, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S_, .f32⟩
  | .hbm, ⟨22, _⟩ => ⟨S2048x8x1, .f32⟩
  | .hbm, ⟨23, _⟩ => ⟨S2048x8x1, .f32⟩
  | .hbm, ⟨24, _⟩ => ⟨S2048x8x1, .f32⟩
  | .hbm, ⟨25, _⟩ => ⟨S2048x8x512, .f32⟩
  | .hbm, ⟨26, _⟩ => ⟨S2048x8x512, .f32⟩
  | .hbm, ⟨27, _⟩ => ⟨S2048x4096, .f32⟩
  | .hbm, ⟨28, _⟩ => ⟨S2048x4096, .f32⟩
  | .hbm, ⟨29, _⟩ => ⟨S2048x4096, .f32⟩
  | .hbm, ⟨30, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== ValuesNormGrad.lean ====
abbrev S2048x4096 : Shape := ⟨2, ![2048, 4096]⟩
abbrev S2x2048x4096 : Shape := ⟨3, ![2, 2048, 4096]⟩
abbrev S4096 : Shape := ⟨1, ![4096]⟩
abbrev S1x4096 : Shape := ⟨2, ![1, 4096]⟩
abbrev S8x128 : Shape := ⟨2, ![8, 128]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S2x2048x4096, .bf16⟩
  | .hbm, ⟨2, _⟩ => ⟨S4096, .f32⟩
  | .hbm, ⟨3, _⟩ => ⟨S2x2048x4096, .bf16⟩
  | .hbm, ⟨4, _⟩ => ⟨S1x4096, .f32⟩
  | .hbm, ⟨5, _⟩ => ⟨S2x2048x4096, .bf16⟩
  | .hbm, ⟨6, _⟩ => ⟨S1x4096, .f32⟩
  | .hbm, ⟨7, _⟩ => ⟨S8x128, .f32⟩
  | .local _ .vmem, ⟨0, _⟩ => ⟨S256x4096, .f32⟩
  | .local _ .vmem, ⟨1, _⟩ => ⟨S256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x4096, .f32⟩
  | .local _ .vmem, ⟨5, _⟩ => ⟨S1x256x4096, .bf16⟩
  | .local _ .vmem, ⟨6, _⟩ => ⟨S1x256x4096, .bf16⟩
  | .local _ .vmem, ⟨7, _⟩ => ⟨S1x4096, .f32⟩
  | .local _ .vmem, ⟨8, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ValuesNormGradIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ValuesNormGradRefIdeal.lean ====
abbrev S2048x4096 : Shape := ⟨2, ![2048, 4096]⟩
abbrev S2x2048x4096 : Shape := ⟨3, ![2, 2048, 4096]⟩
abbrev S4096 : Shape := ⟨1, ![4096]⟩
abbrev S1x2048x4096 : Shape := ⟨3, ![1, 2048, 4096]⟩
abbrev S_ : Shape := ⟨0, ![]⟩
abbrev S2048 : Shape := ⟨1, ![2048]⟩
abbrev S2048x1 : Shape := ⟨2, ![2048, 1]⟩
abbrev S1x4096 : Shape := ⟨2, ![1, 4096]⟩

abbrev nBuf : Space → Nat
  | .hbm => 90
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2x2048x4096, .bf16⟩
  | .hbm, ⟨2, _⟩ => ⟨S4096, .f32⟩
  | .hbm, ⟨3, _⟩ => ⟨S2x2048x4096, .bf16⟩
  | .hbm, ⟨4, _⟩ => ⟨S1x2048x4096, .bf16⟩
  | .hbm, ⟨5, _⟩ => ⟨S2048x4096, .bf16⟩
  | .hbm, ⟨6, _⟩ => ⟨S2048x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S_, .f32⟩
  | .hbm, ⟨24, _⟩ => ⟨S2048x4096, .f32⟩
  | .hbm, ⟨25, _⟩ => ⟨S2048x4096, .f32⟩
  | .hbm, ⟨26, _⟩ => ⟨S2048x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048x4096, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x4096, .f32⟩
  | .hbm, ⟨50, _⟩ => ⟨S2048x4096, .f32⟩
  | .hbm, ⟨51, _⟩ => ⟨S1x4096, .f32⟩
  | .hbm, ⟨52, _⟩ => ⟨S2048x4096, .f32⟩
  | .hbm, ⟨53, _⟩ => ⟨S2048x4096, .f32⟩
  | .hbm, ⟨54, _⟩ => ⟨S2048x4096, .f32⟩
  | .hbm, ⟨55, _⟩ => ⟨S_, .f32⟩
  | .hbm, ⟨56, _⟩ => ⟨S4096, .f32⟩
  | .hbm, ⟨57, _⟩ => ⟨S1x4096, .f32⟩
  | .hbm, ⟨58, _⟩ => ⟨S2048x4096, .f32⟩
  | .hbm, ⟨59, _⟩ => ⟨S2048x4096, .f32⟩
  | .hbm, ⟨60, _⟩ => ⟨S_, .f32⟩
  | .hbm, ⟨61, _⟩ => ⟨S4096, .f32⟩
  | .hbm, ⟨62, _⟩ => ⟨S2048x4096, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x4096, .f32⟩
  | .hbm, ⟨67, _⟩ => ⟨S2048x4096, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x4096, .f32⟩
  | .hbm, ⟨75, _⟩ => ⟨S2048x4096, .f32⟩
  | .hbm, ⟨76, _⟩ => ⟨S2048x4096, .f32⟩
  | .hbm, ⟨77, _⟩ => ⟨S2048x4096, .f32⟩
  | .hbm, ⟨78, _⟩ => ⟨S2048x4096, .f32⟩
  | .hbm, ⟨79, _⟩ => ⟨S2048x4096, .f32⟩
  | .hbm, ⟨80, _⟩ => ⟨S2048x4096, .f32⟩
  | .hbm, ⟨81, _⟩ => ⟨S2048x4096, .f32⟩
  | .hbm, ⟨82, _⟩ => ⟨S2048x4096, .f32⟩
  | .hbm, ⟨83, _⟩ => ⟨S1x2048x4096, .bf16⟩
  | .hbm, ⟨84, _⟩ => ⟨S2048x4096, .bf16⟩
  | .hbm, ⟨85, _⟩ => ⟨S2048x4096, .bf16⟩
  | .hbm, ⟨86, _⟩ => ⟨S1x2048x4096, .bf16⟩
  | .hbm, ⟨87, _⟩ => ⟨S1x2048x4096, .bf16⟩
  | .hbm, ⟨88, _⟩ => ⟨S2x2048x4096, .bf16⟩
  | .hbm, ⟨89, _⟩ => ⟨S1x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== ValuesNorm.lean ====
abbrev S2x2048x4096 : Shape := ⟨3, ![2, 2048, 4096]⟩
abbrev S4096 : Shape := ⟨1, ![4096]⟩
abbrev S1x4096 : Shape := ⟨2, ![1, 4096]⟩
abbrev S2048x4096 : Shape := ⟨2, ![2048, 4096]⟩
abbrev S8x128 : Shape := ⟨2, ![8, 128]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x4096, .bf16⟩
  | .hbm, ⟨1, _⟩ => ⟨S4096, .f32⟩
  | .hbm, ⟨2, _⟩ => ⟨S1x4096, .f32⟩
  | .hbm, ⟨3, _⟩ => ⟨S2048x4096, .bf16⟩
  | .hbm, ⟨4, _⟩ => ⟨S8x128, .f32⟩
  | .local _ .vmem, ⟨0, _⟩ => ⟨S1x256x4096, .bf16⟩
  | .local _ .vmem, ⟨1, _⟩ => ⟨S1x256x4096, .bf16⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S8x128, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ValuesNormIdeal.lean ====
variable {F : FTy → Type} [FloatOps F] [Named F]
def κ : String → Option EReal := fun
  | "inv_sqrt2" => some (((Real.sqrt 2)⁻¹ : ℝ) : EReal)
  | _ => none
-- ==== ValuesNormRefIdeal.lean ====
abbrev S2x2048x4096 : Shape := ⟨3, ![2, 2048, 4096]⟩
abbrev S4096 : Shape := ⟨1, ![4096]⟩
abbrev S1x2048x4096 : Shape := ⟨3, ![1, 2048, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S4096, .f32⟩
  | .hbm, ⟨2, _⟩ => ⟨S1x2048x4096, .bf16⟩
  | .hbm, ⟨3, _⟩ => ⟨S2048x4096, .bf16⟩
  | .hbm, ⟨4, _⟩ => ⟨S2048x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x4096, .f32⟩
  | .hbm, ⟨30, _⟩ => ⟨S2048x4096, .f32⟩
  | .hbm, ⟨31, _⟩ => ⟨S1x4096, .f32⟩
  | .hbm, ⟨32, _⟩ => ⟨S2048x4096, .f32⟩
  | .hbm, ⟨33, _⟩ => ⟨S2048x4096, .f32⟩
  | .hbm, ⟨34, _⟩ => ⟨S2048x4096, .bf16⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== GateOut.lean ====
abbrev S2x2048x4096 : Shape := ⟨3, ![2, 2048, 4096]⟩
abbrev S2048x4096 : Shape := ⟨2, ![2048, 4096]⟩
abbrev S16x128x128 : Shape := ⟨3, ![16, 128, 128]⟩
abbrev S16x128 : Shape := ⟨2, ![16, 128]⟩
abbrev S16x128x1 : Shape := ⟨3, ![16, 128, 1]⟩
abbrev S8x128 : Shape := ⟨2, ![8, 128]⟩
abbrev S1x512x256 : Shape := ⟨3, ![1, 512, 256]⟩
abbrev S512x256 : Shape := ⟨2, ![512, 256]⟩
abbrev S1x128x128 : Shape := ⟨3, ![1, 128, 128]⟩
abbrev S1x128x1 : Shape := ⟨3, ![1, 128, 1]⟩
abbrev S128x128 : Shape := ⟨2, ![128, 128]⟩
abbrev S128x256 : Shape := ⟨2, ![128, 256]⟩
abbrev S128x1 : Shape := ⟨2, ![128, 1]⟩
abbrev S1x128x256 : Shape := ⟨3, ![1, 128, 256]⟩

abbrev nBuf : Space → Nat
  | .hbm => 7
  | .vmem => 11
  | .smem => 0
  | _ => 0

abbrev bufTy : (tb : Table) → Fin (tcTables nBuf tb) → BufTy
  | .hbm, ⟨0, _⟩ => ⟨S2x2048x4096, .bf16⟩
  | .hbm, ⟨1, _⟩ => ⟨S2048x4096, .bf16⟩
  | .hbm, ⟨2, _⟩ => ⟨S16x128x128, .f32⟩
  | .hbm, ⟨3, _⟩ => ⟨S16x128, .f32⟩
  | .hbm, ⟨4, _⟩ => ⟨S16x128x1, .f32⟩
  | .hbm, ⟨5, _⟩ => ⟨S2048x4096, .bf16⟩
  | .hbm, ⟨6, _⟩ => ⟨S8x128, .f32⟩
  | .local _ .vmem, ⟨0, _⟩ => ⟨S1x512x256, .bf16⟩
  | .local _ .vmem, ⟨1, _⟩ => ⟨S1x512x256, .bf16⟩
  | .local _ .vmem, ⟨2, _⟩ => ⟨S512x256, .bf16⟩
  | .local _ .vmem, ⟨3, _⟩ => ⟨S512x256, .bf16⟩
  | .local _ .vmem, ⟨4, _⟩ => ⟨S1x128x128, .f32⟩
  | .local _ .vmem, ⟨5, _⟩ => ⟨S1x128x128, .f32⟩
  | .local _ .vmem, ⟨6, _⟩ => ⟨S1x128x1, .f32⟩
  | .local _ .vmem, ⟨7, _⟩ => ⟨S1x128x1, .f32⟩
  | .local _ .vmem, ⟨8, _⟩ => ⟨S512x256, .bf16⟩
  | .local _ .vmem, ⟨9, _⟩ => ⟨S512x256, .bf16⟩
  | .local _ .vmem, ⟨10, _⟩ => ⟨S8x128, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== GateOutIdeal.lean ====
variable {F : FTy → Type} [FloatOps F] [Named F]
def κ : String → Option EReal := fun
  | "inv_sqrt2" => some (((Real.sqrt 2)⁻¹ : ℝ) : EReal)
  | _ => none
-- ==== GateOutRefIdeal.lean ====
abbrev S2x2048x4096 : Shape := ⟨3, ![2, 2048, 4096]⟩
abbrev S2048x4096 : Shape := ⟨2, ![2048, 4096]⟩
abbrev S16x128x128 : Shape := ⟨3, ![16, 128, 128]⟩
abbrev S16x128 : Shape := ⟨2, ![16, 128]⟩
abbrev S1x2048x4096 : Shape := ⟨3, ![1, 2048, 4096]⟩
abbrev S_ : Shape := ⟨0, ![]⟩
abbrev S16x128x16x256 : Shape := ⟨4, ![16, 128, 16, 256]⟩
abbrev S128x128 : Shape := ⟨2, ![128, 128]⟩
abbrev S1x128x128 : Shape := ⟨3, ![1, 128, 128]⟩
abbrev S16x16x256x128 : Shape := ⟨4, ![16, 16, 256, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S2048x4096, .bf16⟩
  | .hbm, ⟨2, _⟩ => ⟨S16x128x128, .f32⟩
  | .hbm, ⟨3, _⟩ => ⟨S16x128, .f32⟩
  | .hbm, ⟨4, _⟩ => ⟨S1x2048x4096, .bf16⟩
  | .hbm, ⟨5, _⟩ => ⟨S2048x4096, .bf16⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S16x128x16x256, .f32⟩
  | .hbm, ⟨22, _⟩ => ⟨S_, .i1⟩
  | .hbm, ⟨23, _⟩ => ⟨S128x128, .i1⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S_, .i1⟩
  | .hbm, ⟨31, _⟩ => ⟨S128x128, .i1⟩
  | .hbm, ⟨32, _⟩ => ⟨S128x128, .i1⟩
  | .hbm, ⟨33, _⟩ => ⟨S1x128x128, .i1⟩
  | .hbm, ⟨34, _⟩ => ⟨S_, .f32⟩
  | .hbm, ⟨35, _⟩ => ⟨S16x128x128, .f32⟩
  | .hbm, ⟨36, _⟩ => ⟨S16x128x128, .i1⟩
  | .hbm, ⟨37, _⟩ => ⟨S16x128x128, .f32⟩
  | .hbm, ⟨38, _⟩ => ⟨S16x16x256x128, .f32⟩
  | .hbm, ⟨39, _⟩ => ⟨S16x128x16x256, .f32⟩
  | .hbm, ⟨40, _⟩ => ⟨S128x16, .f32⟩
  | .hbm, ⟨41, _⟩ => ⟨S128x16x1, .f32⟩
  | .hbm, ⟨42, _⟩ => ⟨S1x128x16x1, .f32⟩
  | .hbm, ⟨43, _⟩ => ⟨S16x128x16x256, .f32⟩
  | .hbm, ⟨44, _⟩ => ⟨S16x128x16x256, .f32⟩
  | .hbm, ⟨45, _⟩ => ⟨S2048x4096, .f32⟩
  | .hbm, ⟨46, _⟩ => ⟨S2048x4096, .f32⟩
  | .hbm, ⟨47, _⟩ => ⟨S2048x4096, .bf16⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_call1_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== LossHead.lean ====
abbrev S2048x2048 : Shape := ⟨2, ![2048, 2048]⟩
abbrev S2048 : Shape := ⟨1, ![2048]⟩
abbrev S1x2048 : Shape := ⟨2, ![1, 2048]⟩
abbrev S1x1 : Shape := ⟨2, ![1, 1]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S1x1, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S1x1, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S2048x2048, .bf16⟩
  | .hbm, ⟨76, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== AdamSmall.lean ====
abbrev S4608x128 : Shape := ⟨2, ![4608, 128]⟩
abbrev S8x128 : Shape := ⟨2, ![8, 128]⟩
abbrev S512x128 : Shape := ⟨2, ![512, 128]⟩

abbrev nBuf : Space → Nat
  | .hbm => 8
  | .vmem => 15
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S4608x128, .f32⟩
  | .hbm, ⟨5, _⟩ => ⟨S4608x128, .f32⟩
  | .hbm, ⟨6, _⟩ => ⟨S4608x128, .f32⟩
  | .hbm, ⟨7, _⟩ => ⟨S8x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x128, .f32⟩
  | _, _ => ⟨S4608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AdamSmallRefIdeal.lean ====
abbrev S4608x128 : Shape := ⟨2, ![4608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4608x128, .f32⟩
  | .hbm, ⟨1, _⟩ => ⟨S4608x128, .f32⟩
  | .hbm, ⟨2, _⟩ => ⟨S4608x128, .f32⟩
  | .hbm, ⟨3, _⟩ => ⟨S4608x128, .f32⟩
  | .hbm, ⟨4, _⟩ => ⟨S_, .f32⟩
  | .hbm, ⟨5, _⟩ => ⟨S4608x128, .f32⟩
  | .hbm, ⟨6, _⟩ => ⟨S4608x128, .f32⟩
  | .hbm, ⟨7, _⟩ => ⟨S_, .f32⟩
  | .hbm, ⟨8, _⟩ => ⟨S4608x128, .f32⟩
  | .hbm, ⟨9, _⟩ => ⟨S4608x128, .f32⟩
  | .hbm, ⟨10, _⟩ => ⟨S4608x128, .f32⟩
  | .hbm, ⟨11, _⟩ => ⟨S_, .f32⟩
  | .hbm, ⟨12, _⟩ => ⟨S4608x128, .f32⟩
  | .hbm, ⟨13, _⟩ => ⟨S4608x128, .f32⟩
  | .hbm, ⟨14, _⟩ => ⟨S4608x128, .f32⟩
  | .hbm, ⟨15, _⟩ => ⟨S_, .f32⟩
  | .hbm, ⟨16, _⟩ => ⟨S4608x128, .f32⟩
  | .hbm, ⟨17, _⟩ => ⟨S4608x128, .f32⟩
  | .hbm, ⟨18, _⟩ => ⟨S4608x128, .f32⟩
  | .hbm, ⟨19, _⟩ => ⟨S_, .f32⟩
  | .hbm, ⟨20, _⟩ => ⟨S4608x128, .f32⟩
  | .hbm, ⟨21, _⟩ => ⟨S4608x128, .f32⟩
  | .hbm, ⟨22, _⟩ => ⟨S_, .f32⟩
  | .hbm, ⟨23, _⟩ => ⟨S4608x128, .f32⟩
  | .hbm, ⟨24, _⟩ => ⟨S4608x128, .f32⟩
  | .hbm, ⟨25, _⟩ => ⟨S4608x128, .f32⟩
  | .hbm, ⟨26, _⟩ => ⟨S_, .f32⟩
  | .hbm, ⟨27, _⟩ => ⟨S4608x128, .f32⟩
  | .hbm, ⟨28, _⟩ => ⟨S4608x128, .f32⟩
  | .hbm, ⟨29, _⟩ => ⟨S4608x128, .f32⟩
  | .hbm, ⟨30, _⟩ => ⟨S_, .f32⟩
  | .hbm, ⟨31, _⟩ => ⟨S4608x128, .f32⟩
  | .hbm, ⟨32, _⟩ => ⟨S4608x128, .f32⟩
  | .hbm, ⟨33, _⟩ => ⟨S4608x128, .f32⟩
  | .hbm, ⟨34, _⟩ => ⟨S_, .f32⟩
  | .hbm, ⟨35, _⟩ => ⟨S4608x128, .f32⟩
  | .hbm, ⟨36, _⟩ => ⟨S4608x128, .f32⟩
  | _, _ => ⟨S4608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumDevices.lean ====
abbrev S8x5120x128 : Shape := ⟨3, ![8, 5120, 128]⟩
abbrev S5120x128 : Shape := ⟨2, ![5120, 128]⟩
abbrev S8x128 : Shape := ⟨2, ![8, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8x5120x128, .f32⟩
  | .hbm, ⟨1, _⟩ => ⟨S5120x128, .f32⟩
  | .hbm, ⟨2, _⟩ => ⟨S8x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S8x128, .f32⟩
  | _, _ => ⟨S8x5120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SumDevicesRefIdeal.lean ====
abbrev S8x5120x128 : Shape := ⟨3, ![8, 5120, 128]⟩
abbrev S_ : Shape := ⟨0, ![]⟩
abbrev S5120x128 : Shape := ⟨2, ![5120, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x5120x128, .f32⟩
  | .hbm, ⟨1, _⟩ => ⟨S_, .f32⟩
  | .hbm, ⟨2, _⟩ => ⟨S5120x128, .f32⟩
  | _, _ => ⟨S8x5120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Gate.Spec.lean ====
module

public import Idealize.ShloMosaic.Lib.Pointwise
public import Idealize.ShloMosaic.Lib.Pipeline.ValueKit
public import Idealize.ShloMosaic.Lib.Claim

/-!
The gradient of the spatial gate, as sums over the extended reals.

The sequence has 16 chunks of 128 rows and the features have 16 groups of 256 columns.  Within a chunk `n` and
a group `g` the gate is `gelu (z) * (W v + b)`, where `W` is the lower triangle of the group's 128 by 128
matrix.  The arrays: `D` the cotangent, `Z` the pre-activations (slot 0 feeds the gate), `V` the normed values,
`W` the mixing matrices, `B` the biases.
-/

@[expose] public section

noncomputable section

open Idealize.ShloMosaic

namespace Cert.Gate

/-- Rows by features. -/
abbrev Mat := (⟨2, ![2048, 4096]⟩ : Shape).Idx → EReal
/-- Two slots of rows by features. -/
abbrev Pair := (⟨3, ![2, 2048, 4096]⟩ : Shape).Idx → EReal
/-- One 128 by 128 matrix per group. -/
abbrev Mix := (⟨3, ![16, 128, 128]⟩ : Shape).Idx → EReal
/-- One bias per group and row of a chunk. -/
abbrev Bias := (⟨2, ![16, 128]⟩ : Shape).Idx → EReal

/-- Row `t` of chunk `n`. -/
abbrev row (n : Fin 16) (t : Fin 128) : Fin 2048 := ⟨n.val * 128 + t.val, by omega⟩
/-- Feature `e` of group `g`. -/
abbrev col (g : Fin 16) (e : Fin 256) : Fin 4096 := ⟨g.val * 256 + e.val, by omega⟩

/-- The chunk of a row, the row within its chunk, the group of a feature, the feature within its group. -/
abbrev chunkOf (r : Fin 2048) : Fin 16 := ⟨r.val / 128, by omega⟩
@[inherit_doc chunkOf] abbrev inChunk (r : Fin 2048) : Fin 128 := ⟨r.val % 128, by omega⟩
@[inherit_doc chunkOf] abbrev groupOf (f : Fin 4096) : Fin 16 := ⟨f.val / 256, by omega⟩
@[inherit_doc chunkOf] abbrev inGroup (f : Fin 4096) : Fin 256 := ⟨f.val % 256, by omega⟩

/-- The standard normal distribution function. -/
def cdf (x : EReal) : EReal :=
  ((1 / 2 : ℝ) : EReal) * (1 + Ideal.erf (x * (((Real.sqrt 2)⁻¹ : ℝ) : EReal)))

/-- The standard normal density. -/
def pdf (x : EReal) : EReal :=
  Ideal.exp (((-1 / 2 : ℝ) : EReal) * x * x) * (((Real.sqrt (2 * Real.pi))⁻¹ : ℝ) : EReal)

/-- The cotangent of the mixed values: the cotangent times the gelu of the pre-activation. -/
def grad (D : Mat) (Z : Pair) (n : Fin 16) (t : Fin 128) (g : Fin 16) (e : Fin 256) : EReal :=
  D (ix2 (row n t) (col g e)) * (Z (ix3 0 (row n t) (col g e)) * cdf (Z (ix3 0 (row n t) (col g e))))

/-- The mixed values: row `t` of the masked matrix against the chunk's values, plus the bias. -/
def mixed (V : Mat) (W : Mix) (B : Bias) (n : Fin 16) (t : Fin 128) (g : Fin 16) (e : Fin 256) : EReal :=
  (∑ s : Fin 128, if s.val ≤ t.val then W (ix3 g t s) * V (ix2 (row n s) (col g e)) else 0) + B (ix2 g t)

/-- The gradient of the pre-activations. -/
def dz (D : Mat) (Z : Pair) (V : Mat) (W : Mix) (B : Bias) (n : Fin 16) (t : Fin 128) (g : Fin 16) (e : Fin 256) : EReal :=
  D (ix2 (row n t) (col g e)) * mixed V W B n t g e
    * (cdf (Z (ix3 0 (row n t) (col g e))) + Z (ix3 0 (row n t) (col g e)) * pdf (Z (ix3 0 (row n t) (col g e))))

/-- The gradient of the values: the transposed masked matrix against the cotangent of the mixed values. -/
def dv (D : Mat) (Z : Pair) (W : Mix) (n : Fin 16) (s : Fin 128) (g : Fin 16) (e : Fin 256) : EReal :=
  ∑ t : Fin 128, if s.val ≤ t.val then W (ix3 g t s) * grad D Z n t g e else 0

/-- The gradient of the mixing matrices. -/
def dw (D : Mat) (Z : Pair) (V : Mat) (g : Fin 16) (t s : Fin 128) : EReal :=
  if s.val ≤ t.val then ∑ n : Fin 16, ∑ e : Fin 256, grad D Z n t g e * V (ix2 (row n s) (col g e)) else 0

/-- The gradient of the biases. -/
def db (D : Mat) (Z : Pair) (g : Fin 16) (t : Fin 128) : EReal :=
  ∑ n : Fin 16, ∑ e : Fin 256, grad D Z n t g e

end Cert.Gate

end
-- ==== Proof.Consts.lean ====
module

public import Idealize.ShloMosaic.Lib.Pointwise
public import Idealize.ShloMosaic.Lib.Claim
public import Idealize.ShloMosaic.Lib.WordArith

/-!
The constants the programs print, as real numbers, and the causal comparison of two row numbers.
-/

@[expose] public section

noncomputable section

open Idealize.ShloMosaic

namespace Cert.Consts

theorem half_eq : Ideal.ofBits .f32 1056964608#32 = ((1 / 2 : ℝ) : EReal) := by
  simp [Ideal.ofBits, Ideal.ieee, -EReal.coe_mul]; norm_num

theorem neg_half_eq : Ideal.ofBits .f32 3204448256#32 = ((-1 / 2 : ℝ) : EReal) := by
  simp [Ideal.ofBits, Ideal.ieee, -EReal.coe_mul, -EReal.coe_neg]; norm_num

theorem two_eq : Ideal.ofBits .f32 1073741824#32 = ((2 : ℝ) : EReal) := by
  simp [Ideal.ofBits, Ideal.ieee, -EReal.coe_mul]; norm_num

theorem neg_one_eq : Ideal.ofBits .f32 3212836864#32 = ((-1 : ℝ) : EReal) := by
  simp [Ideal.ofBits, Ideal.ieee, -EReal.coe_mul, -EReal.coe_neg]; norm_num

theorem top_eq : Ideal.ofBits .f32 2139095040#32 = ⊤ := by
  simp [Ideal.ofBits, Ideal.ieee, -EReal.coe_mul, -EReal.coe_neg]

/-- The causal mask keeps the entries whose column is at most their row. -/
theorem keep {α : Type} (a b : Nat) (ha : a < 128) (hb : b < 128) (x y : α) :
    Scalar.select (IntOp.cmpi CmpIPredicate.sge (BitVec.ofNat 32 a) (BitVec.ofNat 32 b)) x y
      = if b ≤ a then x else y := by
  have e : (IntOp.cmpi CmpIPredicate.sge (BitVec.ofNat 32 a) (BitVec.ofNat 32 b) = 1#1) ↔ b ≤ a := by
    simp only [IntOp.cmpi, WordArith.ofBool_eq_one_iff]
    rw [BitVec.sle_iff_toInt_le, BitVec.toInt_eq_toNat_of_lt (by simp only [BitVec.toNat_ofNat]; omega),
      BitVec.toInt_eq_toNat_of_lt (by simp only [BitVec.toNat_ofNat]; omega)]
    simp only [BitVec.toNat_ofNat]; omega
  by_cases h : b ≤ a
  · rw [e.mpr h, if_pos h]; rfl
  · rw [ValueIdx.eq_zero_of_ne_one (fun q => h (e.mp q)), if_neg h]; rfl

end Cert.Consts

end
-- ==== Proof.Gate.Block.lean ====
module

public import proofs.«01_k».proof.Proof.Gate.Spec
public import proofs.«01_k».proof.Proof.Consts
public import proofs.«01_k».proof.Proof.Gen.KernelIdeal.Value

/-!
What the kernel's body computes from one 128-row chunk of its blocks.
-/

@[expose] public section

set_option maxRecDepth 16384

noncomputable section

open Idealize.ShloMosaic Idealize.ShloMosaic.TcCoe Idealize.SL.Sem
open Cert.KernelIdeal Cert.KernelIdeal.Gen Cert.Consts

namespace Cert.Gate

theorem inv_sqrt2_eq : (Named.named κ "inv_sqrt2" 1060439283#32 : Ideal .f32) = (((Real.sqrt 2)⁻¹ : ℝ) : EReal) :=
  IdealRules.named_const.ideal_named_scalar _ _ _ _ rfl

theorem inv_sqrt_2pi_eq :
    (Named.named κ "inv_sqrt_2pi" 1053573674#32 : Ideal .f32) = (((Real.sqrt (2 * Real.pi))⁻¹ : ℝ) : EReal) :=
  IdealRules.named_const.ideal_named_scalar _ _ _ _ rfl

variable (w : Vec Ideal S1x128x128 .f32) (v : Vec Ideal S128x256 .bf16) (b : Vec Ideal S1x128x1 .f32)
  (x : Vec Ideal S1x128x256 .bf16) (d : Vec Ideal S128x256 .bf16)

/-- The cotangent of the mixed values of a chunk. -/
def chunkGrad (t : Fin 128) (e : Fin 256) : EReal :=
  d (ix2 t e) * (x (ix3 0 t e) * cdf (x (ix3 0 t e)))

theorem grad_at (t : Fin 128) (e : Fin 256) :
    k0_pay13 (F := Ideal) (k0_pay7 x) (k0_pay8 d) (ix2 t e) = chunkGrad x d t e := by
  pointwise [k0_pay13, k0_pay7, k0_pay8]
  rw [half_eq, inv_sqrt2_eq, chunkGrad, cdf, mul_comm ((1 / 2 : ℝ) : EReal) (x _), mul_assoc (x _)]
  rfl

/-- The gradient of the pre-activations of a chunk. -/
def chunkDz (t : Fin 128) (e : Fin 256) : EReal :=
  d (ix2 t e) * ((∑ s : Fin 128, if s.val ≤ t.val then w (ix3 0 t s) * v (ix2 s e) else 0) + b (ix3 0 t 0))
    * (cdf (x (ix3 0 t e)) + x (ix3 0 t e) * pdf (x (ix3 0 t e)))

theorem dz_at (t : Fin 128) (e : Fin 256) :
    k0_pay12 (F := Ideal) (k0_pay7 x) (k0_pay9 w v b d) (k0_pay10 x) (k0_pay11 x) (ix3 0 t e)
      = chunkDz w v b x d t e := by
  pointwise [k0_pay12, k0_pay7, k0_pay9, k0_pay10, k0_pay11, k0_pay8, k0_pay4, k0_pay3]
  simp only [keep _ _ (Fin.is_lt _) (Fin.is_lt _), half_eq, neg_half_eq, inv_sqrt2_eq, inv_sqrt_2pi_eq]
  rw [chunkDz, cdf, pdf, mul_assoc (x _) (Ideal.exp _)]
  rfl

theorem dz_at1 : k0_pay21 (F := Ideal) (k0_pay18 (k0_pay4 w) v b) (k0_pay19 x) d
    = k0_pay12 (k0_pay7 x) (k0_pay9 w v b d) (k0_pay10 x) (k0_pay11 x) := rfl

theorem dz_at2 : k0_pay29 (F := Ideal) (k0_pay4 w) v b x d
    = k0_pay12 (k0_pay7 x) (k0_pay9 w v b d) (k0_pay10 x) (k0_pay11 x) := rfl

theorem dz_at3 : k0_pay42 (F := Ideal) (k0_pay39 (k0_pay4 w) v b d) (k0_pay40 x) (k0_pay41 x)
    = k0_pay12 (k0_pay7 x) (k0_pay9 w v b d) (k0_pay10 x) (k0_pay11 x) := rfl

/-- The gradient of the values of a chunk. -/
def chunkDv (s : Fin 128) (e : Fin 256) : EReal :=
  ∑ t : Fin 128, if s.val ≤ t.val then w (ix3 0 t s) * chunkGrad x d t e else 0

theorem dv_at (s : Fin 128) (e : Fin 256) :
    k0_pay15 (F := Ideal) (k0_pay4 w) (k0_pay7 x) (k0_pay8 d) (ix2 s e) = chunkDv w x d s e := by
  pointwise [k0_pay15, k0_pay14, k0_pay4, k0_pay3]
  simp only [keep _ _ (Fin.is_lt _) (Fin.is_lt _), grad_at]
  rfl

theorem dv_at1 : k0_pay24 (F := Ideal) (k0_pay4 w) (k0_pay19 x) d
    = k0_pay15 (k0_pay4 w) (k0_pay7 x) (k0_pay8 d) := rfl

theorem dv_at2 : k0_pay34 (F := Ideal) (k0_pay4 w) (k0_pay28 d) (k0_pay30 x) (k0_pay31 x) (FloatOps.ofBits FTy.f32 1065353216#32)
    = k0_pay15 (k0_pay4 w) (k0_pay7 x) (k0_pay8 d) := rfl

theorem dv_at3 : k0_pay45 (F := Ideal) (k0_pay4 w) (k0_pay37 x) (k0_pay38 d)
    = k0_pay15 (k0_pay4 w) (k0_pay7 x) (k0_pay8 d) := rfl

/-- What a chunk adds to the gradient of the mixing matrix. -/
def chunkDw (t s : Fin 128) : EReal := ∑ e : Fin 256, chunkGrad x d t e * v (ix2 s e)

theorem dw_at (a : Vec Ideal S128x128 .f32) (t s : Fin 128) :
    k0_pay16 (F := Ideal) a v (k0_pay7 x) (k0_pay8 d) (ix2 t s) = a (ix2 t s) + chunkDw v x d t s := by
  pointwise [k0_pay16, k0_pay14]
  simp only [grad_at]
  rfl

theorem dw_at1 (a : Vec Ideal S128x128 .f32) : k0_pay25 (F := Ideal) a v (k0_pay19 x) d
    = k0_pay16 a v (k0_pay7 x) (k0_pay8 d) := rfl

theorem dw_at2 (a : Vec Ideal S128x128 .f32) :
    k0_pay35 (F := Ideal) a v (k0_pay28 d) (k0_pay30 x) (k0_pay31 x) (FloatOps.ofBits FTy.f32 1065353216#32)
    = k0_pay16 a v (k0_pay7 x) (k0_pay8 d) := rfl

/-- The last chunk's part is added and the causal half of the total goes into the matrix. -/
theorem dw_out (a : Vec Ideal S128x128 .f32) (p : Vec Ideal S1x128x128 .f32) (t s : Fin 128) :
    k0_pay49 (F := Ideal) k0_pay3 a v (k0_pay37 x) (k0_pay38 d) p (ix3 0 t s)
      = p (ix3 0 t s) + if s.val ≤ t.val then a (ix2 t s) + chunkDw v x d t s else 0 := by
  have e : k0_pay44 (F := Ideal) (k0_pay37 x) (k0_pay38 d) = k0_pay14 (k0_pay7 x) (k0_pay8 d) := rfl
  pointwise [k0_pay49, k0_pay3]
  simp only [keep _ _ (Fin.is_lt _) (Fin.is_lt _), e]
  pointwise [k0_pay14]
  simp only [grad_at]
  rfl

theorem dw_start (t s : Fin 128) : k0_pay5 (F := Ideal) (ix2 t s) = 0 := by pointwise [k0_pay5]

/-- What a chunk adds to the gradient of the bias. -/
def chunkDb (t : Fin 128) : EReal := ∑ e : Fin 256, chunkGrad x d t e

theorem db_at (a : Vec Ideal S128x1 .f32) (t : Fin 128) :
    k0_pay17 (F := Ideal) a (k0_pay7 x) (k0_pay8 d) (ix2 t 0) = a (ix2 t 0) + chunkDb x d t := by
  pointwise [k0_pay17]
  simp only [grad_at]
  rfl

theorem db_at1 (a : Vec Ideal S128x1 .f32) : k0_pay26 (F := Ideal) a (k0_pay19 x) d
    = k0_pay17 a (k0_pay7 x) (k0_pay8 d) := rfl

theorem db_at2 (a : Vec Ideal S128x1 .f32) :
    k0_pay36 (F := Ideal) a (k0_pay28 d) (k0_pay30 x) (k0_pay31 x) (FloatOps.ofBits FTy.f32 1065353216#32)
    = k0_pay17 a (k0_pay7 x) (k0_pay8 d) := rfl

theorem db_at3 (a : Vec Ideal S128x1 .f32) : k0_pay46 (F := Ideal) a (k0_pay37 x) (k0_pay38 d)
    = k0_pay17 a (k0_pay7 x) (k0_pay8 d) := rfl

/-- The chunks' total is added to the bias's gradient. -/
theorem db_out (a : Vec Ideal S128x1 .f32) (p : Vec Ideal S1x128x1 .f32) (t : Fin 128) :
    k0_pay1 (F := Ideal) a p (ix3 0 t 0) = p (ix3 0 t 0) + a (ix2 t 0) := by
  pointwise [k0_pay1]

theorem db_start (t : Fin 128) : k0_pay6 (F := Ideal) (ix2 t 0) = 0 := by pointwise [k0_pay6]

end Cert.Gate

end
-- ==== Proof.Gate.Arrays.lean ====
module

public import proofs.«01_k».proof.Proof.Gate.Block

/-!
What the four result arrays hold after the kernel's run.
-/

@[expose] public section

set_option maxRecDepth 16384

noncomputable section

open Idealize.ShloMosaic Idealize.ShloMosaic.TcCoe Idealize.SL.Sem
open Cert.KernelIdeal Cert.KernelIdeal.Gen

namespace Cert.Gate

section reads

variable (D : Mat) (Z : Pair) (V : Mat) (W : Mix) (B : Bias)
  (w : Vec Ideal S1x128x128 .f32) (v : Vec Ideal S128x256 .bf16) (b : Vec Ideal S1x128x1 .f32)
  (x : Vec Ideal S1x128x256 .bf16) (d : Vec Ideal S128x256 .bf16) (n g : Fin 16)
  (hw : ∀ t s : Fin 128, w (ix3 0 t s) = W (ix3 g t s))
  (hv : ∀ (s : Fin 128) (e : Fin 256), v (ix2 s e) = V (ix2 (row n s) (col g e)))
  (hb : ∀ t : Fin 128, b (ix3 0 t 0) = B (ix2 g t))
  (hx : ∀ (t : Fin 128) (e : Fin 256), x (ix3 0 t e) = Z (ix3 0 (row n t) (col g e)))
  (hd : ∀ (t : Fin 128) (e : Fin 256), d (ix2 t e) = D (ix2 (row n t) (col g e)))

include hx hd in
theorem grad_eq (t : Fin 128) (e : Fin 256) : chunkGrad x d t e = grad D Z n t g e := by
  rw [chunkGrad, grad, hx, hd]

include hw hv hb hx hd in
theorem dz_eq (t : Fin 128) (e : Fin 256) : chunkDz w v b x d t e = dz D Z V W B n t g e := by
  simp only [chunkDz, dz, mixed, hw, hv, hb, hx, hd]

include hw hx hd in
theorem dv_eq (s : Fin 128) (e : Fin 256) : chunkDv w x d s e = dv D Z W n s g e := by
  simp only [chunkDv, dv, hw, grad_eq D Z x d n g hx hd]

include hv hx hd in
theorem dw_eq (t s : Fin 128) :
    chunkDw v x d t s = ∑ e : Fin 256, grad D Z n t g e * V (ix2 (row n s) (col g e)) := by
  simp only [chunkDw, hv, grad_eq D Z x d n g hx hd]

include hx hd in
theorem db_eq (t : Fin 128) : chunkDb x d t = ∑ e : Fin 256, grad D Z n t g e := by
  simp only [chunkDb, grad_eq D Z x d n g hx hd]

end reads

variable (m : (ℓ : Loc nD τ sig) → Buf (Elt Ideal) ℓ) (c : Dev nD)

/-- The arguments, by the names of `Spec`. -/
abbrev aD : Mat := m ((c : Thread nD τ).loc main_arg0)
@[inherit_doc aD] abbrev aZ : Pair := m ((c : Thread nD τ).loc main_arg1)
@[inherit_doc aD] abbrev aV : Mat := m ((c : Thread nD τ).loc main_arg2)
@[inherit_doc aD] abbrev aW : Mix := m ((c : Thread nD τ).loc main_arg3)
@[inherit_doc aD] abbrev aB : Bias := m ((c : Thread nD τ).loc main_arg4)

/-- Where the blocks of point `t = 4 g + n` lie: rows `512 n …`, columns `256 g …`. -/
theorem idx : ∀ t : Fin cfg0.N,
    win0_0.index t = ![t.val % 4, t.val / 4] ∧ win0_1.index t = ![0, t.val % 4, t.val / 4]
    ∧ win0_2.index t = ![t.val % 4, t.val / 4] ∧ win0_3.index t = ![t.val / 4, 0, 0]
    ∧ win0_4.index t = ![t.val / 4, 0, 0] ∧ win0_5.index t = ![0, t.val % 4, t.val / 4]
    ∧ win0_6.index t = ![t.val % 4, t.val / 4] ∧ win0_7.index t = ![t.val / 4, 0, 0]
    ∧ win0_8.index t = ![t.val / 4, 0, 0] ∧ t.val / 4 < 16 :=
  (by decide +kernel : ∀ t : Fin grid0.N, _)

theorem group_lt (t : Fin cfg0.N) : t.val / 4 < 16 := (idx t).2.2.2.2.2.2.2.2.2

/-- Each input block, at the place it has in its argument. -/
theorem block0 (t : Fin cfg0.N) (y : S512x256.Idx) : iblk m c 0 t y
    = aD m c (ix2 ⟨t.val % 4 * 512 + (y 0 : ℕ), by idx_bounds; omega⟩
        ⟨t.val / 4 * 256 + (y 1 : ℕ), by have := group_lt t; idx_bounds; omega⟩) := by
  blk_ext [iblk, V, idx t]
@[inherit_doc block0]
theorem block1 (t : Fin cfg0.N) (y : S1x512x256.Idx) : iblk m c 1 t y
    = aZ m c (ix3 0 ⟨t.val % 4 * 512 + (y 1 : ℕ), by idx_bounds; omega⟩
        ⟨t.val / 4 * 256 + (y 2 : ℕ), by have := group_lt t; idx_bounds; omega⟩) := by
  blk_ext [iblk, V, idx t]
@[inherit_doc block0]
theorem block2 (t : Fin cfg0.N) (y : S512x256.Idx) : iblk m c 2 t y
    = aV m c (ix2 ⟨t.val % 4 * 512 + (y 0 : ℕ), by idx_bounds; omega⟩
        ⟨t.val / 4 * 256 + (y 1 : ℕ), by have := group_lt t; idx_bounds; omega⟩) := by
  blk_ext [iblk, V, idx t]
@[inherit_doc block0]
theorem block3 (t : Fin cfg0.N) (r s : Fin 128) : iblk m c 3 t (ix3 0 r s)
    = aW m c (ix3 ⟨t.val / 4, group_lt t⟩ r s) := by
  blk_ext [iblk, V, idx t]
@[inherit_doc block0]
theorem block4 (t : Fin cfg0.N) (r : Fin 128) : iblk m c 4 t (ix3 0 r 0)
    = aB m c (ix2 ⟨t.val / 4, group_lt t⟩ r) := by
  blk_simp [iblk]
  entry_read
  pointwise
  blk_ext [idx t]

/-- Row `s` of quarter `q` of a block of 512 rows. -/
abbrev quarter (q : ℕ) (hq : q < 4) (s : Fin 128) : Fin 512 := ⟨q * 128 + s.val, by omega⟩

section piece

variable (t : Fin cfg0.N) (q : ℕ) (hq : q < 4)
  (v : Vec Ideal S128x256 .bf16) (x : Vec Ideal S1x128x256 .bf16) (d : Vec Ideal S128x256 .bf16)
  (hv : ∀ (s : Fin 128) (e : Fin 256), v (ix2 s e) = iblk m c 2 t (ix2 (quarter q hq s) e))
  (hx : ∀ (s : Fin 128) (e : Fin 256), x (ix3 0 s e) = iblk m c 1 t (ix3 0 (quarter q hq s) e))
  (hd : ∀ (s : Fin 128) (e : Fin 256), d (ix2 s e) = iblk m c 0 t (ix2 (quarter q hq s) e))

/-- Quarter `q` of the block of point `t` is this chunk of the sequence. -/
abbrev chunkAt : Fin 16 := ⟨t.val % 4 * 4 + q, by omega⟩
/-- The group of point `t`. -/
abbrev groupAt : Fin 16 := ⟨t.val / 4, group_lt t⟩

include hv in
theorem piece_v (s : Fin 128) (e : Fin 256) :
    v (ix2 s e) = aV m c (ix2 (row (chunkAt t q hq) s) (col (groupAt t) e)) := by
  rw [hv, block2 m c t]
  blk_ext

include hx in
theorem piece_x (s : Fin 128) (e : Fin 256) :
    x (ix3 0 s e) = aZ m c (ix3 0 (row (chunkAt t q hq) s) (col (groupAt t) e)) := by
  rw [hx, block1 m c t]
  blk_ext

include hd in
theorem piece_d (s : Fin 128) (e : Fin 256) :
    d (ix2 s e) = aD m c (ix2 (row (chunkAt t q hq) s) (col (groupAt t) e)) := by
  rw [hd, block0 m c t]
  blk_ext

include hv hx hd in
/-- The stored gradient of the pre-activations, at the place it has in the array. -/
theorem piece_dz (z : S1x128x256.Idx) (i : S2x2048x4096.Idx)
    (h1 : (i 1 : ℕ) = t.val % 4 * 512 + (q * 128 + (z 1 : ℕ))) (h2 : (i 2 : ℕ) = t.val / 4 * 256 + (z 2 : ℕ)) :
    k0_pay12 (F := Ideal) (k0_pay7 x) (k0_pay9 (iblk m c 3 t) v (iblk m c 4 t) d) (k0_pay10 x) (k0_pay11 x) z
      = dz (aD m c) (aZ m c) (aV m c) (aW m c) (aB m c) (chunkOf (i 1)) (inChunk (i 1)) (groupOf (i 2)) (inGroup (i 2)) := by
  have z1 : (z 1 : ℕ) < 128 := (z 1).isLt
  have z2 : (z 2 : ℕ) < 256 := (z 2).isLt
  obtain e1 : chunkOf (i 1) = chunkAt t q hq := Fin.ext (by show (i 1 : ℕ) / 128 = t.val % 4 * 4 + q; omega)
  obtain e2 : groupOf (i 2) = groupAt t := Fin.ext (by show (i 2 : ℕ) / 256 = t.val / 4; omega)
  obtain e3 : z = ix3 0 (inChunk (i 1)) (inGroup (i 2)) := by blk_ext
  rw [e1, e2, e3, dz_at]
  exact dz_eq _ _ _ _ _ _ _ _ _ _ _ _ (block3 m c t) (piece_v m c t q hq v hv) (block4 m c t)
    (piece_x m c t q hq x hx) (piece_d m c t q hq d hd) _ _

include hx hd in
/-- The stored gradient of the values, at the place it has in the array. -/
theorem piece_dv (z : S128x256.Idx) (i : S2048x4096.Idx)
    (h1 : (i 0 : ℕ) = t.val % 4 * 512 + (q * 128 + (z 0 : ℕ))) (h2 : (i 1 : ℕ) = t.val / 4 * 256 + (z 1 : ℕ)) :
    k0_pay15 (F := Ideal) (k0_pay4 (iblk m c 3 t)) (k0_pay7 x) (k0_pay8 d) z
      = dv (aD m c) (aZ m c) (aW m c) (chunkOf (i 0)) (inChunk (i 0)) (groupOf (i 1)) (inGroup (i 1)) := by
  have z0 : (z 0 : ℕ) < 128 := (z 0).isLt
  have z1 : (z 1 : ℕ) < 256 := (z 1).isLt
  obtain e1 : chunkOf (i 0) = chunkAt t q hq := Fin.ext (by show (i 0 : ℕ) / 128 = t.val % 4 * 4 + q; omega)
  obtain e2 : groupOf (i 1) = groupAt t := Fin.ext (by show (i 1 : ℕ) / 256 = t.val / 4; omega)
  obtain e3 : z = ix2 (inChunk (i 0)) (inGroup (i 1)) := by blk_ext
  rw [e1, e2, e3, dv_at]
  exact dv_eq _ _ _ _ _ _ _ _ (block3 m c t) (piece_x m c t q hq x hx) (piece_d m c t q hq d hd) _ _

end piece

end Cert.Gate

end
-- ==== Proof.Gate.Tiles.lean ====
module

public import proofs.«01_k».proof.Proof.Gate.Arrays

/-!
The two results that every point writes a block of: the gradients of the pre-activations and of the values.
-/

@[expose] public section

set_option maxRecDepth 16384

noncomputable section

open Idealize.ShloMosaic Idealize.ShloMosaic.TcCoe Idealize.SL.Sem
open Cert.KernelIdeal Cert.KernelIdeal.Gen

namespace Cert.Gate

variable (m : (ℓ : Loc nD τ sig) → Buf (Elt Ideal) ℓ) (c : Dev nD)

/-- The gradient of the pre-activations fills slot 0 of the first result. -/
theorem final5 : (dats m 0 c).arrAt 5 cfg0.N = fun i => if (i 0 : ℕ) = 0 then
      dz (aD m c) (aZ m c) (aV m c) (aW m c) (aB m c) (chunkOf (i 1)) (inChunk (i 1)) (groupOf (i 2)) (inGroup (i 2))
    else V m c main_v1_0 i := by
  refine (dats m 0 c).arrAt_eq_of_coversWhere 5 _ (fun β => β 0 = 0) (by decide +kernel) (fun t hf y => ?_)
    (fun j => by blk_simp [Pipeline.Window.cell_apply]; omega)
  blk_simp
  rw [after0_5]
  rcases em (t.val % 4 = 0) with t0 | t0
  on_goal 1 => rw [outsAt0_A m c t t0]
  on_goal 2 => rw [outsAt0_B m c t t0]
  all_goals
    frame_out
    canon_tiles x h
    case' piece0 => rw [dz_at3]; refine piece_dz m c t 3 (by omega) _ _ _ ?_ ?_ ?_ _ _ ?_ ?_
    case' piece1 => rw [dz_at2]; refine piece_dz m c t 2 (by omega) _ _ _ ?_ ?_ ?_ _ _ ?_ ?_
    case' piece2 => rw [dz_at1]; refine piece_dz m c t 1 (by omega) _ _ _ ?_ ?_ ?_ _ _ ?_ ?_
    case' piece3 => refine piece_dz m c t 0 (by omega) _ _ _ ?_ ?_ ?_ _ _ ?_ ?_
    all_goals first | (intro r e; pointwise; done) | (intro r e; pointwise; blk_ext) | (blk_simp [idx t]; omega)

/-- The gradient of the values. -/
theorem final6 : (dats m 0 c).arrAt 6 cfg0.N = fun i =>
    dv (aD m c) (aZ m c) (aW m c) (chunkOf (i 0)) (inChunk (i 0)) (groupOf (i 1)) (inGroup (i 1)) := by
  refine (dats m 0 c).arrAt_eq_of_covers 6 _ (by decide +kernel) fun t hf y => ?_
  blk_simp
  rw [after0_6]
  rcases em (t.val % 4 = 0) with t0 | t0
  on_goal 1 => rw [outsAt0_A m c t t0]
  on_goal 2 => rw [outsAt0_B m c t t0]
  all_goals
    frame_out
    canon_tiles x h
    case' piece0 => rw [dv_at3]; refine piece_dv m c t 3 (by omega) _ _ ?_ ?_ _ _ ?_ ?_
    case' piece1 => rw [dv_at2]; refine piece_dv m c t 2 (by omega) _ _ ?_ ?_ _ _ ?_ ?_
    case' piece2 => rw [dv_at1]; refine piece_dv m c t 1 (by omega) _ _ ?_ ?_ _ _ ?_ ?_
    case' piece3 => refine piece_dv m c t 0 (by omega) _ _ ?_ ?_ _ _ ?_ ?_
    all_goals first | (intro r e; pointwise; done) | (intro r e; pointwise; blk_ext) | (blk_simp [idx t]; omega)

end Cert.Gate

end
-- ==== Proof.Gate.Sums.lean ====
module

public import proofs.«01_k».proof.Proof.Gate.Arrays

/-!
The two results that are accumulated over the points of a group: the gradients of the mixing matrices and of
the biases.
-/

@[expose] public section

set_option maxRecDepth 16384

noncomputable section

open Idealize.ShloMosaic Idealize.ShloMosaic.TcCoe Idealize.SL.Sem
open Cert.KernelIdeal Cert.KernelIdeal.Gen

namespace Cert.Gate

variable (m : (ℓ : Loc nD τ sig) → Buf (Elt Ideal) ℓ) (c : Dev nD)

theorem add4_congr {a b d e a' b' d' e' : EReal} (ha : a = a') (hb : b = b') (hd : d = d') (he : e = e') :
    a + b + d + e = a' + b' + d' + e' := by rw [ha, hb, hd, he]

/-- What the block of point `t` adds to the gradient of the mixing matrix of its group: four chunks, the causal half. -/
def partDw (t : Fin cfg0.N) (r s : Fin 128) : EReal :=
  if s.val ≤ r.val then ∑ q : Fin 4, ∑ e : Fin 256,
    grad (aD m c) (aZ m c) (chunkAt t q.val q.isLt) r (groupAt t) e
      * aV m c (ix2 (row (chunkAt t q.val q.isLt) s) (col (groupAt t) e)) else 0

/-- What the block of point `t` adds to the gradient of the bias of its group. -/
def partDb (t : Fin cfg0.N) (r : Fin 128) : EReal :=
  ∑ q : Fin 4, ∑ e : Fin 256, grad (aD m c) (aZ m c) (chunkAt t q.val q.isLt) r (groupAt t) e

theorem zeroDw (j : S1x128x128.Idx) : k0_pay47 (F := Ideal) j = 0 := by pointwise [k0_pay47]
theorem zeroDb (j : S1x128x1.Idx) : k0_pay48 (F := Ideal) j = 0 := by pointwise [k0_pay48]

section piece

variable (t : Fin cfg0.N)
  (v0 v1 v2 v3 : Vec Ideal S128x256 .bf16) (x0 x1 x2 x3 : Vec Ideal S1x128x256 .bf16)
  (d0 d1 d2 d3 : Vec Ideal S128x256 .bf16)
  (hv0 : ∀ (s : Fin 128) (e : Fin 256), v0 (ix2 s e) = iblk m c 2 t (ix2 (quarter 0 (by omega) s) e))
  (hv1 : ∀ (s : Fin 128) (e : Fin 256), v1 (ix2 s e) = iblk m c 2 t (ix2 (quarter 1 (by omega) s) e))
  (hv2 : ∀ (s : Fin 128) (e : Fin 256), v2 (ix2 s e) = iblk m c 2 t (ix2 (quarter 2 (by omega) s) e))
  (hv3 : ∀ (s : Fin 128) (e : Fin 256), v3 (ix2 s e) = iblk m c 2 t (ix2 (quarter 3 (by omega) s) e))
  (hx0 : ∀ (s : Fin 128) (e : Fin 256), x0 (ix3 0 s e) = iblk m c 1 t (ix3 0 (quarter 0 (by omega) s) e))
  (hx1 : ∀ (s : Fin 128) (e : Fin 256), x1 (ix3 0 s e) = iblk m c 1 t (ix3 0 (quarter 1 (by omega) s) e))
  (hx2 : ∀ (s : Fin 128) (e : Fin 256), x2 (ix3 0 s e) = iblk m c 1 t (ix3 0 (quarter 2 (by omega) s) e))
  (hx3 : ∀ (s : Fin 128) (e : Fin 256), x3 (ix3 0 s e) = iblk m c 1 t (ix3 0 (quarter 3 (by omega) s) e))
  (hd0 : ∀ (s : Fin 128) (e : Fin 256), d0 (ix2 s e) = iblk m c 0 t (ix2 (quarter 0 (by omega) s) e))
  (hd1 : ∀ (s : Fin 128) (e : Fin 256), d1 (ix2 s e) = iblk m c 0 t (ix2 (quarter 1 (by omega) s) e))
  (hd2 : ∀ (s : Fin 128) (e : Fin 256), d2 (ix2 s e) = iblk m c 0 t (ix2 (quarter 2 (by omega) s) e))
  (hd3 : ∀ (s : Fin 128) (e : Fin 256), d3 (ix2 s e) = iblk m c 0 t (ix2 (quarter 3 (by omega) s) e))

include hv0 hv1 hv2 hv3 hx0 hx1 hx2 hx3 hd0 hd1 hd2 hd3 in
/-- One point's update of the gradient of the mixing matrix: what was there plus the point's part. -/
theorem step_dw (p : Vec Ideal S1x128x128 .f32) (j : S1x128x128.Idx) :
    k0_pay49 (F := Ideal) k0_pay3 (k0_pay35 (k0_pay25 (k0_pay16 k0_pay5 v0 (k0_pay7 x0) (k0_pay8 d0)) v1 (k0_pay19 x1) d1)
        v2 (k0_pay28 d2) (k0_pay30 x2) (k0_pay31 x2) (FloatOps.ofBits FTy.f32 1065353216#32))
      v3 (k0_pay37 x3) (k0_pay38 d3) p j = p j + partDw m c t (j 1) (j 2) := by
  obtain ⟨r, s, rfl⟩ : ∃ r s : Fin 128, j = ix3 0 r s := ⟨j 1, j 2, by blk_ext⟩
  show _ = p (ix3 0 r s) + partDw m c t r s
  rw [dw_out, dw_at2, dw_at1, dw_at, dw_at, dw_at, dw_start, partDw, zero_add, Fin.sum_univ_four]
  refine congrArg (p (ix3 0 r s) + ·) (if_congr Iff.rfl (add4_congr ?_ ?_ ?_ ?_) rfl)
  · exact dw_eq _ _ _ _ _ _ _ _ (piece_v m c t 0 _ _ hv0) (piece_x m c t 0 _ _ hx0) (piece_d m c t 0 _ _ hd0) r s
  · exact dw_eq _ _ _ _ _ _ _ _ (piece_v m c t 1 _ _ hv1) (piece_x m c t 1 _ _ hx1) (piece_d m c t 1 _ _ hd1) r s
  · exact dw_eq _ _ _ _ _ _ _ _ (piece_v m c t 2 _ _ hv2) (piece_x m c t 2 _ _ hx2) (piece_d m c t 2 _ _ hd2) r s
  · exact dw_eq _ _ _ _ _ _ _ _ (piece_v m c t 3 _ _ hv3) (piece_x m c t 3 _ _ hx3) (piece_d m c t 3 _ _ hd3) r s

include hx0 hx1 hx2 hx3 hd0 hd1 hd2 hd3 in
/-- One point's update of the gradient of the bias. -/
theorem step_db (p : Vec Ideal S1x128x1 .f32) (j : S1x128x1.Idx) :
    k0_pay1 (F := Ideal) (k0_pay46 (k0_pay36 (k0_pay26 (k0_pay17 k0_pay6 (k0_pay7 x0) (k0_pay8 d0)) (k0_pay19 x1) d1)
        (k0_pay28 d2) (k0_pay30 x2) (k0_pay31 x2) (FloatOps.ofBits FTy.f32 1065353216#32)) (k0_pay37 x3) (k0_pay38 d3)) p j
      = p j + partDb m c t (j 1) := by
  obtain ⟨r, rfl⟩ : ∃ r : Fin 128, j = ix3 0 r 0 := ⟨j 1, by blk_ext⟩
  show _ = p (ix3 0 r 0) + partDb m c t r
  rw [db_out, db_at3, db_at2, db_at1, db_at, db_at, db_at, db_at, db_start, partDb, zero_add, Fin.sum_univ_four]
  refine congrArg (p (ix3 0 r 0) + ·) (add4_congr ?_ ?_ ?_ ?_)
  · exact db_eq _ _ _ _ _ _ (piece_x m c t 0 _ _ hx0) (piece_d m c t 0 _ _ hd0) r
  · exact db_eq _ _ _ _ _ _ (piece_x m c t 1 _ _ hx1) (piece_d m c t 1 _ _ hd1) r
  · exact db_eq _ _ _ _ _ _ (piece_x m c t 2 _ _ hx2) (piece_d m c t 2 _ _ hd2) r
  · exact db_eq _ _ _ _ _ _ (piece_x m c t 3 _ _ hx3) (piece_d m c t 3 _ _ hd3) r

end piece

theorem start_dw (t : Fin cfg0.N) (h : t.val % 4 = 0) (j : S1x128x128.Idx) :
    (outsAt0 m c t.val t.isLt).2.2.1 j = 0 + partDw m c t (j 1) (j 2) := by
  rw [outsAt0_A m c t h]
  frame_out
  rw [step_dw m c t, zeroDw]
  all_goals (intro r e; pointwise; try blk_ext)

theorem next_dw (t : Fin cfg0.N) (h : ¬ t.val % 4 = 0) (j : S1x128x128.Idx) :
    (outsAt0 m c t.val t.isLt).2.2.1 j
      = (outsAt0 m c (t.val - 1) (lt_of_le_of_lt (Nat.sub_le _ _) t.isLt)).2.2.1 j + partDw m c t (j 1) (j 2) := by
  rw [outsAt0_B m c t h]
  frame_out
  rw [step_dw m c t]
  all_goals (intro r e; pointwise; try blk_ext)

theorem start_db (t : Fin cfg0.N) (h : t.val % 4 = 0) (j : S1x128x1.Idx) :
    (outsAt0 m c t.val t.isLt).2.2.2.1 j = 0 + partDb m c t (j 1) := by
  rw [outsAt0_A m c t h]
  frame_out
  rw [step_db m c t, zeroDb]
  all_goals (intro r e; pointwise; try blk_ext)

theorem next_db (t : Fin cfg0.N) (h : ¬ t.val % 4 = 0) (j : S1x128x1.Idx) :
    (outsAt0 m c t.val t.isLt).2.2.2.1 j
      = (outsAt0 m c (t.val - 1) (lt_of_le_of_lt (Nat.sub_le _ _) t.isLt)).2.2.2.1 j + partDb m c t (j 1) := by
  rw [outsAt0_B m c t h]
  frame_out
  rw [step_db m c t]
  all_goals (intro r e; pointwise; try blk_ext)

section total

variable (g : Fin 16) (p : Fin 4 → Fin cfg0.N) (hp : ∀ s : Fin 4, (p s).val = 4 * g.val + s.val)

include hp in
theorem chunk_of_point (s q : Fin 4) : chunkAt (p s) q.val q.isLt = ⟨s.val * 4 + q.val, by omega⟩ :=
  Fin.ext (by have := hp s; show (p s).val % 4 * 4 + q.val = s.val * 4 + q.val; omega)

include hp in
theorem group_of_point (s : Fin 4) : groupAt (p s) = g :=
  Fin.ext (by have := hp s; show (p s).val / 4 = g.val; omega)

include hp in
/-- The parts of the four points of a group add up to the whole sequence's gradient of its matrix. -/
theorem total_dw (r s : Fin 128) :
    ∑ a : Fin 4, partDw m c (p a) r s = dw (aD m c) (aZ m c) (aV m c) g r s := by
  simp only [partDw, dw, chunk_of_point g p hp, group_of_point g p hp]
  by_cases h : s.val ≤ r.val
  · simp only [if_pos h]
    exact (Fin.sum_univ_tiles (M := EReal) 4 4 rfl fun n : Fin 16 =>
      ∑ e : Fin 256, grad (aD m c) (aZ m c) n r g e * aV m c (ix2 (row n s) (col g e))).symm
  · simp only [if_neg h, Finset.sum_const_zero]

include hp in
/-- The parts of the four points of a group add up to the whole sequence's gradient of its bias. -/
theorem total_db (r : Fin 128) : ∑ a : Fin 4, partDb m c (p a) r = db (aD m c) (aZ m c) g r := by
  simp only [partDb, db, chunk_of_point g p hp, group_of_point g p hp]
  exact (Fin.sum_univ_tiles (M := EReal) 4 4 rfl fun n : Fin 16 =>
    ∑ e : Fin 256, grad (aD m c) (aZ m c) n r g e).symm

end total

/-- The gradient of the mixing matrices. -/
theorem final7 : (dats m 0 c).arrAt 7 cfg0.N = fun i => dw (aD m c) (aZ m c) (aV m c) (i 0) (i 1) (i 2) := by
  refine (dats m 0 c).arrAt_eq_of_covers 7 _ (by decide +kernel) fun t hf y => ?_
  blk_simp
  rw [after0_7, Pipeline.eq_sum_fin_of_reset_step_apply_of_flush (fun n h => (outsAt0 m c n h).2.2.1) 4 (fun _ => 0)
    (fun p j => partDw m c p (j 1) (j 2)) (start_dw m c) (next_dw m c) t ((flush0_7 t).mp hf) _, zero_add]
  refine (total_dw m c ⟨t.val / 4, group_lt t⟩ _ (fun _ => rfl) (y 1) (y 2)).trans ?_
  congr 1 <;> refine Fin.ext ?_ <;> idx_bounds <;> blk_simp [idx t] <;> omega

/-- The gradient of the biases. -/
theorem final8 : (dats m 0 c).arrAt 8 cfg0.N = fun i => db (aD m c) (aZ m c) (i 0) (i 1) := by
  refine (dats m 0 c).arrAt_eq_of_covers 8 _ (by decide +kernel) fun t hf y => ?_
  blk_simp
  rw [after0_8, Pipeline.eq_sum_fin_of_reset_step_apply_of_flush (fun n h => (outsAt0 m c n h).2.2.2.1) 4 (fun _ => 0)
    (fun p j => partDb m c p (j 1)) (start_db m c) (next_db m c) t ((flush0_8 t).mp hf) _, zero_add]
  refine (total_db m c ⟨t.val / 4, group_lt t⟩ _ (fun _ => rfl) (y 1)).trans ?_
  congr 1 <;> refine Fin.ext ?_ <;> idx_bounds <;> blk_simp [idx t] <;> omega

end Cert.Gate

end
-- ==== Proof.Gate.Reference.lean ====
module

public import proofs.«01_k».proof.Proof.Gate.Spec
public import proofs.«01_k».proof.Proof.Consts
public import proofs.«01_k».proof.Proof.Gen.ReferenceIdeal.Read

/-!
What the reference's four results hold, index by index.
-/

@[expose] public section

set_option maxRecDepth 16384

noncomputable section

open Idealize.ShloMosaic Idealize.ShloMosaic.TcCoe Idealize.SL.Sem
open Cert.ReferenceIdeal Cert.ReferenceIdeal.Gen Cert.ReferenceIdeal.Read Cert.Consts

namespace Cert.Gate

variable (D : Mat) (Z : Pair) (V : Mat) (W : Mix) (B : Bias)

theorem div_root_two (x : EReal) :
    Ideal.div x (id (Host.sqrt (F := Ideal) (constant S_ .f32 1073741824#32)) ix0) = x * (((Real.sqrt 2)⁻¹ : ℝ) : EReal) := by
  show Ideal.div x (Host.sqrt (F := Ideal) (constant S_ .f32 1073741824#32) ix0) = _
  pointwise
  have h : Ideal.sqrt ((2 : ℝ) : EReal) = ((Real.sqrt 2 : ℝ) : EReal) := by rw [Ideal.sqrt_coe]; norm_num
  have h0 : (Real.sqrt 2 : ℝ) ≠ 0 := by positivity
  rw [two_eq, h, Ideal.div_coe h0, one_div]

theorem div_root_two_pi (x : EReal) :
    Ideal.div x (id (Host.sqrt (F := Ideal) (mulf (constant S_ .f32 1073741824#32) (Host.acos (constant S_ .f32 3212836864#32)))) ix0)
      = x * (((Real.sqrt (2 * Real.pi))⁻¹ : ℝ) : EReal) := by
  show Ideal.div x (Host.sqrt (F := Ideal) (mulf (constant S_ .f32 1073741824#32) (Host.acos (constant S_ .f32 3212836864#32))) ix0) = _
  pointwise
  have hpi : Ideal.acos ((-1 : ℝ) : EReal) = ((Real.pi : ℝ) : EReal) := by
    show (if (-1 : ℝ) ≤ -1 ∧ (-1 : ℝ) ≤ 1 then ((Real.arccos (-1) : ℝ) : EReal) else ⊥) = _
    rw [if_pos (by norm_num), Real.arccos_neg_one]
  have h2 : ((2 : ℝ) : EReal) * ((Real.pi : ℝ) : EReal) = ((2 * Real.pi : ℝ) : EReal) := (EReal.coe_mul _ _).symm
  have hp : (0 : ℝ) < 2 * Real.pi := by positivity
  have h : Ideal.sqrt ((2 * Real.pi : ℝ) : EReal) = ((Real.sqrt (2 * Real.pi) : ℝ) : EReal) := by
    rw [Ideal.sqrt_coe]; simp only [not_lt.mpr hp.le, if_false]
  have h0 : (Real.sqrt (2 * Real.pi) : ℝ) ≠ 0 := (Real.sqrt_pos.mpr hp).ne'
  rw [two_eq, neg_one_eq, hpi, h2, h, Ideal.div_coe h0, one_div]

theorem half_square (x : EReal) :
    Ideal.div (-x * x) ((2 : ℝ) : EReal) = ((-1 / 2 : ℝ) : EReal) * x * x := by
  have e : ((-1 / 2 : ℝ) : EReal) = -((1 / 2 : ℝ) : EReal) := by rw [← EReal.coe_neg]; norm_num
  rw [Ideal.div_coe (by norm_num), e, neg_mul, neg_mul, neg_mul, neg_mul, mul_comm, mul_assoc]

theorem cdf_at (r : Fin 2048) (f : Fin 4096) : val_main_v14 (F := Ideal) Z (ix2 r f) = cdf (Z (ix3 0 r f)) := by
  pointwise [val_main_v14, val_main_v13, val_main_v12, val_main_v11, val_main_v10, val_main_v9, val_main_v8, val_main_v7,
    val_main_v6, val_main_v3, val_main_v2, val_main_v1, val_main_cst_0, val_main_cst_1, val_main_cst_2]
  rw [half_eq, div_root_two, cdf]

theorem pdf_at (r : Fin 2048) (f : Fin 4096) : val_main_v24 (F := Ideal) Z (ix2 r f) = pdf (Z (ix3 0 r f)) := by
  pointwise [val_main_v24, val_main_v23, val_main_v22, val_main_v21, val_main_v20, val_main_v19, val_main_v18, val_main_v17,
    val_main_v16, val_main_v15, val_main_v3, val_main_v2, val_main_v1, val_main_v5, val_main_cst, val_main_cst_3, val_main_cst_4]
  rw [two_eq, half_square, div_root_two_pi, pdf]

/-- The reference's mask: a comparison whose answer picks between true and false. -/
theorem keep' {α : Type} (a b : Fin 128) (x y : α) :
    Scalar.select (Scalar.select (IntOp.cmpi CmpIPredicate.sge (IntOp.addi (BitVec.ofNat 32 a.val) 0#32) (BitVec.ofNat 32 b.val))
      1#1 0#1) x y = if b.val ≤ a.val then x else y := by
  rw [show IntOp.addi (BitVec.ofNat 32 a.val) 0#32 = BitVec.ofNat 32 a.val from BitVec.add_zero _, keep _ _ a.isLt b.isLt]
  by_cases h : b.val ≤ a.val
  · simp only [if_pos h]; rfl
  · simp only [if_neg h]; rfl

theorem mask_at (g : Fin 16) (t s : Fin 128) :
    val_main_v31_0 (F := Ideal) W (ix3 g t s) = if s.val ≤ t.val then W (ix3 g t s) else 0 := by
  pointwise [val_main_v31_0, val_main_v31_1, val_main_v30, val_main_cst_5, val_main_v29, val_main_v28, val_main_call0_v5,
   val_main_call0_v4, val_main_call0_v3, val_main_call0_v2, val_main_call0_v1, val_main_call0_v0, val_main_call0_c,
   val_main_call0_c_0, val_main_v27, val_main_c]
  exact keep' _ _ _ _

theorem masked_mul (p : Prop) [Decidable p] (x y : EReal) : (if p then x else 0) * y = if p then x * y else 0 := by
  split_ifs
  · rfl
  · exact zero_mul y

theorem mixed_at (n : Fin 16) (t : Fin 128) (g : Fin 16) (e : Fin 256) :
    val_main_v39 (F := Ideal) V W B (ix2 (row n t) (col g e)) = mixed V W B n t g e := by
  pointwise [val_main_v39, val_main_v38, val_main_v37, val_main_v36, val_main_v35, val_main_v34, val_main_v33, val_main_v32,
    val_main_v26, val_main_v4]
  unfold mixed
  refine Ideal.add_congr (Finset.sum_congr rfl fun s _ => ?_) (by blk_ext)
  rw [← masked_mul, ← mask_at W g t s, mul_comm]
  refine Ideal.mul_congr ?_ ?_
  · generalize val_main_v31_0 (F := Ideal) W = X
    blk_ext
  · blk_ext

/-- The cotangent of the mixed values. -/
theorem grad_in_ref (n : Fin 16) (t : Fin 128) (g : Fin 16) (e : Fin 256) :
    val_main_v41 (F := Ideal) D Z (ix2 (row n t) (col g e)) = grad D Z n t g e := by
  pointwise [val_main_v41, val_main_v25, val_main_v0]
  rw [cdf_at, grad, mul_comm]
  pointwise [val_main_v3, val_main_v2, val_main_v1]

theorem dz_ref (n : Fin 16) (t : Fin 128) (g : Fin 16) (e : Fin 256) :
    val_main_v59 (F := Ideal) D Z V W B (ix2 (row n t) (col g e))
      = D (ix2 (row n t) (col g e)) * mixed V W B n t g e * cdf (Z (ix3 0 (row n t) (col g e)))
        + Z (ix3 0 (row n t) (col g e)) * (D (ix2 (row n t) (col g e)) * mixed V W B n t g e)
          * pdf (Z (ix3 0 (row n t) (col g e))) := by
  pointwise [val_main_v59, val_main_v58, val_main_v57, val_main_v56, val_main_v42, val_main_v0]
  rw [cdf_at, pdf_at, mixed_at]
  pointwise [val_main_v3, val_main_v2, val_main_v1]

theorem first_at (i : S2x2048x4096.Idx) :
    val_main_v63 (F := Ideal) D Z V W B i = val_main_v59 (F := Ideal) D Z V W B (ix2 (i 1) (i 2)) := by
  pointwise [val_main_v63, val_main_v62, val_main_v61, val_main_v60]
  split_ifs <;> rfl

theorem dv_ref (n : Fin 16) (s : Fin 128) (g : Fin 16) (e : Fin 256) :
    val_main_v55 (F := Ideal) D Z W (ix2 (row n s) (col g e)) = dv D Z W n s g e := by
  pointwise [val_main_v55, val_main_v53, val_main_v52, val_main_v50, val_main_v43]
  rw [dv]
  refine Finset.sum_congr rfl fun t _ => ?_
  rw [← masked_mul, ← mask_at W g t s, ← grad_in_ref, mul_comm]
  refine Ideal.mul_congr ?_ ?_
  · generalize val_main_v31_0 (F := Ideal) W = X
    blk_ext
  · generalize val_main_v41 (F := Ideal) D Z = X
    blk_ext

theorem dw_ref (g : Fin 16) (t s : Fin 128) :
    val_main_v54 (F := Ideal) D Z V (ix3 g t s) = dw D Z V g t s := by
  pointwise [val_main_v54, val_main_call2_v0, val_main_call2_cst, val_main_v51, val_main_v50, val_main_v43, val_main_v26, val_main_v4,
   val_main_v31_1, val_main_v29, val_main_v28, val_main_call0_v5,
   val_main_call0_v4, val_main_call0_v3, val_main_call0_v2, val_main_call0_v1, val_main_call0_v0, val_main_call0_c,
   val_main_call0_c_0, val_main_v27, val_main_c]
  rw [keep', dw]
  refine if_congr Iff.rfl (Finset.sum_congr rfl fun n _ => Finset.sum_congr rfl fun e _ => ?_) rfl
  exact Ideal.mul_congr (grad_in_ref D Z n t g e) rfl

section outer

variable {n0 n1 n2 n3 : ℕ} (h : (⟨4, ![n0, n1, n2, n3]⟩ : Shape).ReducesTo [0, 3] ⟨2, ![n1, n2]⟩)

/-- The entries that a sum over the first and the last axis brings to one place. -/
theorem outer_fiber (j0 : Fin n1) (j1 : Fin n2) (i : (⟨4, ![n0, n1, n2, n3]⟩ : Shape).Idx) :
    h.drop i = ix2 j0 j1 ↔ ∃ k : Fin n0 × Fin n3, ix4 k.1 j0 j1 k.2 = i := by
  constructor
  · intro e
    refine ⟨(i 0, i 3), ?_⟩
    funext a; apply Fin.ext
    match a with
    | ⟨0, _⟩ => rfl
    | ⟨1, _⟩ => exact (congrArg Fin.val (congrFun e ⟨0, by show 0 < 2; omega⟩)).symm
    | ⟨2, _⟩ => exact (congrArg Fin.val (congrFun e ⟨1, by show 1 < 2; omega⟩)).symm
    | ⟨3, _⟩ => rfl
  · rintro ⟨k, rfl⟩
    funext b; apply Fin.ext
    match b with
    | ⟨0, _⟩ => rfl
    | ⟨1, _⟩ => rfl

/-- A sum over the first and the last of four axes. -/
theorem sum_outer (v : (⟨4, ![n0, n1, n2, n3]⟩ : Shape).Idx → EReal) (init : EReal) (j0 : Fin n1) (j1 : Fin n2) :
    Ideal.hostReduceAdd h v init (ix2 j0 j1) = init + ∑ a : Fin n0, ∑ b : Fin n3, v (ix4 a j0 j1 b) := by
  refine congrArg (init + ·) ((Finset.sum_filter_eq_sum_of_fiber _ (fun k : Fin n0 × Fin n3 => ix4 k.1 j0 j1 k.2)
    (fun _ _ e => Prod.ext (congrFun e 0) (congrFun e 3)) (outer_fiber h j0 j1) v).trans ?_)
  rw [Fintype.sum_prod_type]

end outer

theorem db_ref (g : Fin 16) (t : Fin 128) :
    val_main_v64 (F := Ideal) D Z (ix3 g t 0) = db D Z g t := by
  pointwise [val_main_v64, val_main_v49, val_main_v48, val_main_v47, val_main_cst_8, val_main_v46, sum_outer, val_main_cst_7,
    val_main_v45, val_main_v44, val_main_cst_6, val_main_v43]
  simp only [Fin.sum_univ_one]
  exact Finset.sum_congr rfl fun n _ => Finset.sum_congr rfl fun e _ => grad_in_ref D Z n t g e

end Cert.Gate

end
-- ==== Proof.Gate.Equation.lean ====
module

public import proofs.«01_k».proof.Proof.Gate.Spec
public import proofs.«01_k».proof.Proof.Consts
public import proofs.«01_k».proof.Proof.Gen.Pre_finite
public import Idealize.ShloMosaic.Lib.ReduceAll

/-!
The two spellings of the pre-activation's gradient agree where the cotangent, the values, the matrices and the
biases are real numbers: the precondition says they are, and then `q * (a + b) = q * a + q * b`.
-/

@[expose] public section

noncomputable section

open Idealize.ShloMosaic

namespace Cert.Gate

/-- A real number of the extended reals. -/
abbrev IsReal (x : EReal) : Prop := ∃ r : ℝ, x = (r : EReal)

theorem isReal_mul {x y : EReal} (hx : IsReal x) (hy : IsReal y) : IsReal (x * y) := by
  obtain ⟨a, rfl⟩ := hx; obtain ⟨b, rfl⟩ := hy
  exact ⟨a * b, (EReal.coe_mul a b).symm⟩

theorem isReal_add {x y : EReal} (hx : IsReal x) (hy : IsReal y) : IsReal (x + y) := by
  obtain ⟨a, rfl⟩ := hx; obtain ⟨b, rfl⟩ := hy
  exact ⟨a + b, (EReal.coe_add a b).symm⟩

theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact isReal_add (h a) ih

/-- An extended real of absolute value below infinity is a real number. -/
theorem isReal_of_abs_lt {x : EReal} (h : max x (-x) < ⊤) : IsReal x := by
  induction x using EReal.rec with
  | bot => simp at h
  | coe r => exact ⟨r, rfl⟩
  | top => simp at h

/-- The distribution function takes real values everywhere. -/
theorem isReal_cdf (x : EReal) : IsReal (cdf x) := by
  refine isReal_mul ⟨_, rfl⟩ (isReal_add ⟨1, rfl⟩ ?_)
  generalize x * (((Real.sqrt 2)⁻¹ : ℝ) : EReal) = y
  induction y using EReal.rec with
  | bot => exact ⟨-1, rfl⟩
  | coe r => exact ⟨_, rfl⟩
  | top => exact ⟨1, rfl⟩

/-- A real factor distributes over a sum whose first term is real. -/
theorem distrib {q a : EReal} (hq : IsReal q) (ha : IsReal a) (b : EReal) : q * (a + b) = q * a + q * b := by
  obtain ⟨q, rfl⟩ := hq; obtain ⟨a, rfl⟩ := ha
  induction b using EReal.rec with
  | bot =>
    rw [EReal.add_bot]
    rcases lt_trichotomy q 0 with h | h | h
    · rw [EReal.coe_mul_bot_of_neg h, ← EReal.coe_mul, EReal.coe_add_top]
    · subst h; simp
    · rw [EReal.coe_mul_bot_of_pos h, EReal.add_bot]
  | coe r => norm_cast; ring
  | top =>
    rw [EReal.coe_add_top]
    rcases lt_trichotomy q 0 with h | h | h
    · rw [EReal.coe_mul_top_of_neg h, EReal.add_bot]
    · subst h; simp
    · rw [EReal.coe_mul_top_of_pos h, ← EReal.coe_mul, EReal.coe_add_top]

section

variable (D : Mat) (Z : Pair) (V : Mat) (W : Mix) (B : Bias)
  (hD : ∀ i, IsReal (D i)) (hV : ∀ i, IsReal (V i)) (hW : ∀ i, IsReal (W i)) (hB : ∀ i, IsReal (B i))

include hV hW hB in
theorem isReal_mixed (n : Fin 16) (t : Fin 128) (g : Fin 16) (e : Fin 256) : IsReal (mixed V W B n t g e) := by
  refine isReal_add (isReal_sum _ _ fun s => ?_) (hB _)
  split_ifs
  · exact isReal_mul (hW _) (hV _)
  · exact ⟨0, rfl⟩

include hD hV hW hB in
theorem dz_expand (n : Fin 16) (t : Fin 128) (g : Fin 16) (e : Fin 256) :
    D (ix2 (row n t) (col g e)) * mixed V W B n t g e * cdf (Z (ix3 0 (row n t) (col g e)))
      + Z (ix3 0 (row n t) (col g e)) * (D (ix2 (row n t) (col g e)) * mixed V W B n t g e)
        * pdf (Z (ix3 0 (row n t) (col g e)))
      = dz D Z V W B n t g e := by
  unfold dz
  rw [distrib (isReal_mul (hD _) (isReal_mixed V W B hV hW hB n t g e)) (isReal_cdf _)]
  congr 1
  rw [mul_comm (Z _) (D _ * _), mul_assoc]

end

/-- The comparison of an absolute value with infinity, read as a number. -/
theorem isReal_of_cmp {x : EReal} (h : Ideal.cmp .olt (max x (-x)) (Ideal.ofBits .f32 2139095040#32) = 1#1) : IsReal x := by
  rw [Cert.Consts.top_eq] at h
  exact isReal_of_abs_lt ((Ideal.cmp_olt_eq_one _ _).1 h)

/-- The precondition says that these four arrays hold real numbers. -/
theorem real_of_pre (D : Mat) (Z : Pair) (V : Mat) (W : Mix) (B : Bias) (j : (⟨0, ![]⟩ : Shape).Idx)
    (h : letI := Cert.Pre_finite.Gen.facts; Cert.Pre_finite.fn (F := Ideal) D Z V W B j = 1#1) :
    (∀ i, IsReal (D i)) ∧ (∀ i, IsReal (V i)) ∧ (∀ i, IsReal (W i)) ∧ (∀ i, IsReal (B i)) := by
  dsimp only [Cert.Pre_finite.fn, Cert.Pre_finite.fn_part1] at h
  obtain ⟨h, hB⟩ := IntOp.andi_eq_one.1 h
  obtain ⟨h, hW⟩ := IntOp.andi_eq_one.1 h
  obtain ⟨hD, hV⟩ := IntOp.andi_eq_one.1 h
  exact ⟨fun i => isReal_of_cmp (Host.reduce_andi_all _ _ _ _ _ hD i), fun i => isReal_of_cmp (Host.reduce_andi_all _ _ _ _ _ hV i),
    fun i => isReal_of_cmp (Host.reduce_andi_all _ _ _ _ _ hW i), fun i => isReal_of_cmp (Host.reduce_andi_all _ _ _ _ _ hB i)⟩

end Cert.Gate

end
-- ==== Proof.Gate.Results.lean ====
module

public import proofs.«01_k».proof.Proof.Gate.Reference
public import proofs.«01_k».proof.Proof.Gate.Equation
public import proofs.«01_k».proof.Proof.Gen.On_written

/-!
The reference's results at every index of the whole arrays, in the kernel's spelling.
-/

@[expose] public section

set_option maxRecDepth 16384

noncomputable section

open Idealize.ShloMosaic
open Cert.ReferenceIdeal Cert.ReferenceIdeal.Gen Cert.ReferenceIdeal.Read

namespace Cert.Gate

variable (D : Mat) (Z : Pair) (V : Mat) (W : Mix) (B : Bias)

/-- A place of the whole array is a row of a chunk and a feature of a group. -/
theorem place (r : Fin 2048) (f : Fin 4096) :
    (ix2 (row (chunkOf r) (inChunk r)) (col (groupOf f) (inGroup f)) : S2048x4096.Idx) = ix2 r f := by
  congr 1 <;> refine Fin.ext ?_ <;> show _ / _ * _ + _ % _ = _ <;> omega

theorem dz_whole (hD : ∀ i, IsReal (D i)) (hV : ∀ i, IsReal (V i)) (hW : ∀ i, IsReal (W i)) (hB : ∀ i, IsReal (B i))
    (i : S2x2048x4096.Idx) : val_main_v63 (F := Ideal) D Z V W B i
      = dz D Z V W B (chunkOf (i 1)) (inChunk (i 1)) (groupOf (i 2)) (inGroup (i 2)) := by
  rw [first_at, ← place (i 1) (i 2), dz_ref, dz_expand D Z V W B hD hV hW hB]

theorem dv_whole (i : S2048x4096.Idx) : val_main_v55 (F := Ideal) D Z W i
    = dv D Z W (chunkOf (i 0)) (inChunk (i 0)) (groupOf (i 1)) (inGroup (i 1)) := by
  refine Eq.trans (congrArg _ ?_) (dv_ref D Z W _ _ _ _)
  refine Eq.trans ?_ (place (i 0) (i 1)).symm
  funext a; match a with | ⟨0, _⟩ => rfl | ⟨1, _⟩ => rfl

theorem dw_whole (i : S16x128x128.Idx) : val_main_v54 (F := Ideal) D Z V i = dw D Z V (i 0) (i 1) (i 2) := by
  refine Eq.trans (congrArg _ ?_) (dw_ref D Z V (i 0) (i 1) (i 2))
  funext a; match a with | ⟨0, _⟩ => rfl | ⟨1, _⟩ => rfl | ⟨2, _⟩ => rfl

theorem db_whole (i : S16x128x1.Idx) : val_main_v64 (F := Ideal) D Z i = db D Z (i 0) (i 1) := by
  refine Eq.trans (congrArg _ ?_) (db_ref D Z (i 0) (i 1))
  funext a; match a with | ⟨0, _⟩ => rfl | ⟨1, _⟩ => rfl | ⟨2, _⟩ => exact Fin.ext (Nat.lt_one_iff.mp (i 2).isLt)

/-- The selected places of the first result lie in slot 0. -/
theorem slot_of_written (i : S2x2048x4096.Idx)
    (h : letI := Cert.On_written.Gen.facts; (Cert.On_written.fn (F := Ideal) D Z V W B).1 i = 1#1) : (i 0 : ℕ) = 0 := by
  have h0 := (i 0).isLt
  have e : (IntOp.cmpi CmpIPredicate.eq (BitVec.ofNat 32 (i 0 : ℕ)) 0#32 = 1#1) := h
  simp only [IntOp.cmpi, WordArith.ofBool_eq_one_iff, beq_iff_eq] at e
  have := congrArg BitVec.toNat e
  simp only [BitVec.toNat_ofNat] at this
  have h2 : (i 0 : ℕ) < 2 := h0
  omega

end Cert.Gate

end
-- ==== Proof.Gate.Claim.lean ====
module

public import proofs.«01_k».proof.Proof.Gate.Tiles
public import proofs.«01_k».proof.Proof.Gate.Sums
public import proofs.«01_k».proof.Proof.Gate.Results
public import proofs.«01_k».proof.Proof.Gen.ReferenceIdeal.Run
public import proofs.«01_k».proof.Defs
public import Idealize.ShloMosaic.Lib.Quiescent

/-!
The gradient of the spatial gate: kernel and reference end with the same results.
-/

@[expose] public section

set_option maxRecDepth 16384

noncomputable section

open Idealize.ShloMosaic Idealize.SL.Sem
open Cert.ReferenceIdeal.Read

namespace Cert.Gate

/-- The reference runs and leaves its arguments; it has no semaphores. -/
theorem frame_reference : letI := Cert.ReferenceIdeal.Gen.facts; Cert.quiescent_ReferenceIdeal := by
  intro m g _
  exact (θ_run _ _ _).mono (fun r h => ⟨fun c => (h c).2.2.2.2, sem_eq_zero_of_no_sems (by decide) r.2⟩)
    (Cert.ReferenceIdeal.Value.run m g)

theorem algebraic :
    letI := Cert.KernelIdeal.Gen.facts; letI := Cert.ReferenceIdeal.Gen.facts
    letI := Cert.Pre_finite.Gen.facts; letI := Cert.On_written.Gen.facts
    Cert.algebraic_KernelIdeal_ReferenceIdeal_on_written_pre_finite := by
  intro m g m' g' hpre hagree
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · refine (θ_run _ _ _).mono (fun r h c => ?_) (Cert.KernelIdeal.Value.run_blocks m g)
    obtain ⟨h0, h1, h2, h3, -, ha⟩ := h c
    exact ⟨fun i _ => congrFun h0 i, fun i _ => congrFun h1 i, fun i _ => congrFun h2 i, fun i _ => congrFun h3 i, ha⟩
  · refine (θ_run _ _ _).mono (fun r h c => ?_) (Cert.ReferenceIdeal.Value.run m' g')
    obtain ⟨h0, h1, h2, h3, ha⟩ := h c
    obtain ⟨e0, e1, e2, e3, e4⟩ := hagree c
    obtain ⟨hD, hV, hW, hB⟩ := real_of_pre _ _ _ _ _ ix0 (congrFun (hpre c) ix0)
    refine ⟨fun i hi => ?_, fun i _ => ?_, fun i _ => ?_, fun i _ => ?_, ha⟩
    · rw [h0, val_main_v63_eq, e0, e1, e2, e3, e4]
      exact (dz_whole _ _ _ _ _ hD hV hW hB i).trans ((congrFun (final5 m c) i).trans (if_pos (slot_of_written _ _ _ _ _ i hi))).symm
    · rw [h1, val_main_v55_eq, e0, e1, e3]
      exact (dv_whole _ _ _ i).trans (congrFun (final6 m c) i).symm
    · rw [h2, val_main_v54_eq, e0, e1, e2]
      exact (dw_whole _ _ _ i).trans (congrFun (final7 m c) i).symm
    · rw [h3, val_main_v64_eq, e0, e1]
      exact (db_whole _ _ i).trans (congrFun (final8 m c) i).symm

end Cert.Gate

end
-- ==== Proof.Ffn.Runs.lean ====
module

public import Idealize.ShloMosaic.Lib.Claim
public import Idealize.ShloMosaic.Lib.Quiescent
public import Idealize.ShloMosaic.Init

/-!
What a run's description says of the claims, for any program: `A` and `R` stand for what is said of a result, `T` for
what is said of an output that is no result, `K` for the arguments being kept.
-/

@[expose] public section

noncomputable section

open Idealize.ShloMosaic Idealize.SL.Sem

namespace Cert.Ffn

variable {nD : ℕ} {τ : Topo} {sig : RefSig} {Val : EltTy → Type} {Λ : Labels}
  {defs : Defs nD τ sig Val Λ} {p : (c : Thread nD τ) → Prog (TpuEff nD τ sig Val Λ c.2) PUnit} {s : MemSt nD τ sig Val}

/-- A program without semaphores that keeps its arguments is quiescent. -/
theorem frame_of_run {R K : PUnit × MemSt nD τ sig Val → Dev nD → Prop} (none : sig.nSem + sig.nDmaSem = 0)
    (run : θ_run defs p s fun r => ∀ c, R r c ∧ K r c) :
    θ_run defs p s fun r => (∀ c, K r c) ∧ r.2.sem = fun _ => 0 :=
  (θ_run _ _ _).mono (fun r h => ⟨fun c => (h c).2, sem_eq_zero_of_no_sems none r.2⟩) run

/-- The result and the arguments, without the output between them. -/
theorem drop_output {A T K : PUnit × MemSt nD τ sig Val → Dev nD → Prop}
    (run : θ_run defs p s fun r => ∀ c, A r c ∧ T r c ∧ K r c) : θ_run defs p s fun r => ∀ c, A r c ∧ K r c :=
  (θ_run _ _ _).mono (fun r h c => ⟨(h c).1, (h c).2.2⟩) run

/-- The result under another name for its value. -/
theorem value_of_run {α : Dev nD → Type} {res : PUnit × MemSt nD τ sig Val → (c : Dev nD) → α c} {x y : (c : Dev nD) → α c}
    {K : PUnit × MemSt nD τ sig Val → Dev nD → Prop} (e : ∀ c, x c = y c)
    (run : θ_run defs p s fun r => ∀ c, res r c = x c ∧ K r c) : θ_run defs p s fun r => ∀ c, res r c = y c ∧ K r c :=
  (θ_run _ _ _).mono (fun r h c => ⟨(h c).1.trans (e c), (h c).2⟩) run

end Cert.Ffn

end
-- ==== Proof.Ffn.Spec.lean ====
module

public import Idealize.ShloMosaic.Lib.Pointwise
public import Idealize.ShloMosaic.Lib.Pipeline.ValueKit
public import Idealize.ShloMosaic.Lib.Claim

/-!
The SwiGLU feed-forward block and its gradients, as sums over the extended reals.

Rows `l` of the sequence (2048), model features `d` (2048), inner features `f` (5632).  The first weight matrix
has 11264 columns, gate then up, held as 8 blocks of 1408 columns: blocks 0 to 3 are the gate columns, 4 to 7 the
up columns.  A pair of arrays holds gate in slot 0 and up in slot 1, so block `s` is slot `s / 4`, columns
`s % 4 * 1408 …`.
-/

@[expose] public section

noncomputable section

open Idealize.ShloMosaic

namespace Cert.Ffn

/-- Rows by model features. -/
abbrev Mat := (⟨2, ![2048, 2048]⟩ : Shape).Idx → EReal
/-- Rows by inner features. -/
abbrev Inner := (⟨2, ![2048, 5632]⟩ : Shape).Idx → EReal
/-- Inner features by model features: the second weight matrix. -/
abbrev WOut := (⟨2, ![5632, 2048]⟩ : Shape).Idx → EReal
/-- Two slots of rows by inner features. -/
abbrev Pair := (⟨3, ![2, 2048, 5632]⟩ : Shape).Idx → EReal
/-- The first weight matrix in 8 column blocks. -/
abbrev WIn := (⟨3, ![8, 2048, 1408]⟩ : Shape).Idx → EReal

/-- The slot of a column block, and where a column of the block lies in that slot. -/
abbrev slot (s : Fin 8) : Fin 2 := ⟨s.val / 4, by omega⟩
@[inherit_doc slot] abbrev column (s : Fin 8) (j : Fin 1408) : Fin 5632 := ⟨s.val % 4 * 1408 + j.val, by omega⟩
/-- The column block of an inner feature of a slot, and the column within it. -/
abbrev blockOf (p : Fin 2) (f : Fin 5632) : Fin 8 := ⟨p.val * 4 + f.val / 1408, by omega⟩
@[inherit_doc blockOf] abbrev inBlock (f : Fin 5632) : Fin 1408 := ⟨f.val % 1408, by omega⟩

/-- The logistic function. -/
def sigmoid (x : EReal) : EReal := Ideal.div 1 (1 + Ideal.exp (-x))

/-- The first product: row `l` against column `j` of block `s`. -/
def first (H : Mat) (W : WIn) (s : Fin 8) (l : Fin 2048) (j : Fin 1408) : EReal :=
  ∑ d : Fin 2048, H (ix2 l d) * W (ix3 s d j)

/-- The gated inner features: `silu (gate) * up`. -/
def gated (H : Mat) (W : WIn) (l : Fin 2048) (f : Fin 5632) : EReal :=
  first H W (blockOf 0 f) l (inBlock f) * sigmoid (first H W (blockOf 0 f) l (inBlock f))
    * first H W (blockOf 1 f) l (inBlock f)

/-- Half the second product, added to the residual. -/
def second (A : Inner) (W : WOut) (X : Mat) (l d : Fin 2048) : EReal :=
  X (ix2 l d) + ((1 / 2 : ℝ) : EReal) * ∑ f : Fin 5632, A (ix2 l f) * W (ix2 f d)

/-- The gradient of the gated inner features. -/
def gradGated (Y : Mat) (W : WOut) (l : Fin 2048) (f : Fin 5632) : EReal :=
  ∑ d : Fin 2048, Y (ix2 l d) * W (ix2 f d)

/-- The gradient of the gate's pre-activations. -/
def gradGate (Y : Mat) (W : WOut) (P : Pair) (l : Fin 2048) (f : Fin 5632) : EReal :=
  gradGated Y W l f * P (ix3 1 l f)
    * (sigmoid (P (ix3 0 l f)) * (1 + P (ix3 0 l f) * (1 - sigmoid (P (ix3 0 l f)))))

/-- The gradient of the up columns. -/
def gradUp (Y : Mat) (W : WOut) (P : Pair) (l : Fin 2048) (f : Fin 5632) : EReal :=
  gradGated Y W l f * (P (ix3 0 l f) * sigmoid (P (ix3 0 l f)))

/-- The two gradients as one array of two slots. -/
def slots (Y : Mat) (W : WOut) (P : Pair) : Pair := fun i =>
  if (i 0 : ℕ) = 0 then gradGate Y W P (i 1) (i 2) else gradUp Y W P (i 1) (i 2)

/-- The gradient of the second weight matrix. -/
def gradWOut (A : Inner) (Y : Mat) (f : Fin 5632) (d : Fin 2048) : EReal :=
  ∑ l : Fin 2048, A (ix2 l f) * Y (ix2 l d)

/-- The gradient of block `s` of the first weight matrix. -/
def gradWIn (H : Mat) (Z : Pair) (s : Fin 8) (d : Fin 2048) (j : Fin 1408) : EReal :=
  ∑ l : Fin 2048, H (ix2 l d) * Z (ix3 (slot s) l (column s j))

/-- What block `s` of the first weight matrix gives to the gradient of the block's input. -/
def partInput (Z : Pair) (W : WIn) (s : Fin 8) (l d : Fin 2048) : EReal :=
  ∑ j : Fin 1408, Z (ix3 (slot s) l (column s j)) * W (ix3 s d j)

/-- The gradient of the block's input. -/
def gradInput (Z : Pair) (W : WIn) (l d : Fin 2048) : EReal := ∑ s : Fin 8, partInput Z W s l d

end Cert.Ffn

end
-- ==== Proof.Ffn.SwigluGrad.lean ====
module

public import proofs.«01_k».proof.Proof.Ffn.Spec
public import proofs.«01_k».proof.Proof.Gen.SwigluGradIdeal.Value

/-!
What the kernel of the gradient of the gated features leaves in its result: the gate's gradient and the up columns' gradient.
-/

@[expose] public section

set_option maxRecDepth 16384

noncomputable section

open Idealize.ShloMosaic Idealize.ShloMosaic.TcCoe Idealize.SL.Sem
open Cert.SwigluGradIdeal Cert.SwigluGradIdeal.Gen

namespace Cert.Ffn.SwigluGrad

variable (m : (ℓ : Loc nD τ sig) → Buf (Elt Ideal) ℓ) (c : Dev nD)

/-- The arguments, by the names of `Spec`. -/
abbrev aY : Mat := m ((c : Thread nD τ).loc main_arg0)
@[inherit_doc aY] abbrev aW : WOut := m ((c : Thread nD τ).loc main_arg1)
@[inherit_doc aY] abbrev aP : Pair := m ((c : Thread nD τ).loc main_arg2)

/-- Where the blocks of point `t = 4 j + i` lie: rows `512 i …`, inner features `1408 j …`. -/
theorem idx : ∀ t : Fin cfg0.N, win0_0.index t = ![t.val % 4, 0] ∧ win0_1.index t = ![t.val / 4, 0]
    ∧ win0_2.index t = ![0, t.val % 4, t.val / 4] ∧ win0_3.index t = ![0, t.val % 4, t.val / 4] ∧ t.val / 4 < 4 :=
  (by decide +kernel : ∀ t : Fin grid0.N, _)

/-- The row and the inner feature of a place of the block of point `t`. -/
abbrev rowAt (t : Fin cfg0.N) (r : Fin 512) : Fin 2048 := ⟨t.val % 4 * 512 + r.val, by omega⟩
@[inherit_doc rowAt] abbrev innerAt (t : Fin cfg0.N) (e : Fin 1408) : Fin 5632 :=
  ⟨t.val / 4 * 1408 + e.val, by have := (idx t).2.2.2.2; omega⟩

theorem gated_at (t : Fin cfg0.N) (r : Fin 512) (e : Fin 1408) :
    k0_pay3 (F := Ideal) (iblk m c 0 t) (iblk m c 1 t) (ix2 r e) = gradGated (aY m c) (aW m c) (rowAt t r) (innerAt t e) := by
  pointwise [k0_pay3]
  unfold gradGated
  blk_point [iblk, V, idx t]

/-- The two slots of the pre-activations' block, at the place they have in the argument. -/
theorem gate_block (t : Fin cfg0.N) (r : Fin 512) (e : Fin 1408) :
    iblk m c 2 t (ix3 0 r e) = aP m c (ix3 0 (rowAt t r) (innerAt t e)) := by
  blk_ext [iblk, V, idx t]
@[inherit_doc gate_block]
theorem up_block (t : Fin cfg0.N) (r : Fin 512) (e : Fin 1408) :
    iblk m c 2 t (ix3 1 r e) = aP m c (ix3 1 (rowAt t r) (innerAt t e)) := by
  blk_ext [iblk, V, idx t]

theorem sigmoid_at (g : Vec Ideal S1x512x1408 .bf16) (r : Fin 512) (e : Fin 1408) :
    k0_pay5 (F := Ideal) g (ix2 r e) = sigmoid (g (ix3 0 r e)) := by
  pointwise [k0_pay5, k0_pay4]
  rw [sigmoid, zero_sub]

/-- The point's two slots, at the place they have in the result. -/
theorem piece_gate (t : Fin cfg0.N) (g u : Vec Ideal S1x512x1408 .bf16)
    (hg : ∀ (r : Fin 512) (e : Fin 1408), g (ix3 0 r e) = iblk m c 2 t (ix3 0 r e))
    (hu : ∀ (r : Fin 512) (e : Fin 1408), u (ix3 0 r e) = iblk m c 2 t (ix3 1 r e))
    (x : S1x512x1408.Idx) (i : S2x2048x5632.Idx) (h0 : (i 0 : ℕ) = 0)
    (h1 : (i 1 : ℕ) = t.val % 4 * 512 + (x 1 : ℕ)) (h2 : (i 2 : ℕ) = t.val / 4 * 1408 + (x 2 : ℕ)) :
    k0_pay6 (F := Ideal) (iblk m c 0 t) (iblk m c 1 t) g u x = slots (aY m c) (aW m c) (aP m c) i := by
  obtain ⟨r, j, rfl⟩ : ∃ (r : Fin 512) (j : Fin 1408), x = ix3 0 r j := ⟨x 1, x 2, by blk_ext⟩
  rw [slots, if_pos h0, show i 1 = rowAt t r from Fin.ext h1, show i 2 = innerAt t j from Fin.ext h2]
  pointwise [k0_pay6, k0_pay4]
  rw [gated_at, sigmoid_at, hg, hu, gate_block, up_block, gradGate]
@[inherit_doc piece_gate]
theorem piece_up (t : Fin cfg0.N) (g : Vec Ideal S1x512x1408 .bf16)
    (hg : ∀ (r : Fin 512) (e : Fin 1408), g (ix3 0 r e) = iblk m c 2 t (ix3 0 r e))
    (x : S1x512x1408.Idx) (i : S2x2048x5632.Idx) (h0 : (i 0 : ℕ) = 1)
    (h1 : (i 1 : ℕ) = t.val % 4 * 512 + (x 1 : ℕ)) (h2 : (i 2 : ℕ) = t.val / 4 * 1408 + (x 2 : ℕ)) :
    k0_pay1 (F := Ideal) (k0_pay7 (iblk m c 0 t) (iblk m c 1 t) g) x = slots (aY m c) (aW m c) (aP m c) i := by
  obtain ⟨r, j, rfl⟩ : ∃ (r : Fin 512) (j : Fin 1408), x = ix3 0 r j := ⟨x 1, x 2, by blk_ext⟩
  rw [slots, if_neg (by omega), show i 1 = rowAt t r from Fin.ext h1, show i 2 = innerAt t j from Fin.ext h2]
  pointwise [k0_pay1, k0_pay7, k0_pay4]
  rw [gated_at, sigmoid_at, hg, gate_block, gradUp]

theorem final : (dats m 0 c).arrAt 3 cfg0.N = slots (aY m c) (aW m c) (aP m c) := by
  refine (dats m 0 c).arrAt_eq_of_covers 3 _ (by decide +kernel) fun t hf y => ?_
  blk_simp
  rw [after0_3]
  frame_out
  canon_tiles x h
  case' piece0 => refine piece_up m c t _ ?_ _ _ ?_ ?_ ?_
  case' piece1 => refine piece_gate m c t _ _ ?_ ?_ _ _ ?_ ?_ ?_
  all_goals first | (intro r e; pointwise; done) | (intro r e; pointwise; blk_ext) | (blk_simp [idx t]; omega)

end Cert.Ffn.SwigluGrad

end
-- ==== Proof.Ffn.SwigluGradReference.lean ====
module

public import proofs.«01_k».proof.Proof.Gate.Equation
public import proofs.«01_k».proof.Proof.Ffn.Spec
public import proofs.«01_k».proof.Proof.Gen.SwigluGradRefIdeal.Read
public import proofs.«01_k».proof.Proof.Gen.Pre_finite_swiglu

/-!
The reference of the gradient of the gated features, as the sums of `Spec`.  It differentiates `silu` by the product
rule, in two terms; the kernel has them in one.  The two agree when the factor before them is a real number.
-/

@[expose] public section

set_option maxRecDepth 16384

noncomputable section

open Idealize.ShloMosaic Idealize.ShloMosaic.TcCoe Idealize.SL.Sem
open Cert.SwigluGradRefIdeal Cert.SwigluGradRefIdeal.Gen Cert.SwigluGradRefIdeal.Read Cert.Gate

namespace Cert.Ffn.SwigluGrad

theorem isReal_sigmoid (x : EReal) : IsReal (sigmoid x) := by
  show IsReal (Ideal.logistic x)
  induction x using EReal.rec with
  | bot => exact ⟨0, by simp⟩
  | coe r => exact ⟨_, Ideal.logistic_coe r⟩
  | top => exact ⟨1, by simp⟩

/-- The derivative of `silu` in two terms and in one. -/
theorem two_terms {t : EReal} (ht : IsReal t) (g : EReal) :
    t * sigmoid g + g * t * (sigmoid g * (1 - sigmoid g)) = t * (sigmoid g * (1 + g * (1 - sigmoid g))) := by
  have hs := isReal_sigmoid g
  generalize sigmoid g = s at hs ⊢
  rw [distrib hs (a := 1) ⟨1, rfl⟩, mul_one, distrib ht hs]
  refine congrArg (t * s + ·) ?_
  rw [mul_comm g t, mul_assoc, ← mul_assoc g, mul_comm g s, mul_assoc s]

theorem sigmoid_ref (P : Pair) (l : Fin 2048) (f : Fin 5632) :
    val_main_v5_2 (F := Ideal) P (ix2 l f) = sigmoid (P (ix3 0 l f)) := by
  pointwise [val_main_v5_2, val_main_call0_v4, val_main_call0_cst_0, val_main_call0_v3, val_main_call0_v2, val_main_call0_cst,
    val_main_call0_v1, val_main_call0_v0, val_main_v2, val_main_v1, val_main_v0]
  rfl

theorem gated_ref (Y : Mat) (W : WOut) (l : Fin 2048) (f : Fin 5632) :
    val_main_v10 (F := Ideal) Y W (ix2 l f) = gradGated Y W l f := by
  pointwise [val_main_v10, val_main_v9, val_main_v7]
  rfl

theorem gate_ref (Y : Mat) (W : WOut) (P : Pair) (l : Fin 2048) (f : Fin 5632)
    (ht : IsReal (gradGated Y W l f * P (ix3 1 l f))) :
    val_main_v13 (F := Ideal) Y W P (ix2 l f) = gradGate Y W P l f := by
  pointwise [val_main_v13, val_main_call1_v2, val_main_call1_v1, val_main_call1_v0, val_main_v12, val_main_v5_1,
    val_main_call0_v7, val_main_call0_v6, val_main_call0_cst_1]
  rw [sigmoid_ref, gated_ref]
  pointwise [val_main_v4, val_main_v3, val_main_v2, val_main_v1, val_main_v0]
  exact two_terms ht _

theorem up_ref (Y : Mat) (W : WOut) (P : Pair) (l : Fin 2048) (f : Fin 5632) :
    val_main_v11 (F := Ideal) Y W P (ix2 l f) = gradUp Y W P l f := by
  pointwise [val_main_v11, val_main_v5_0]
  rw [sigmoid_ref, gated_ref, mul_comm]
  pointwise [val_main_v2, val_main_v1, val_main_v0]
  rfl

theorem reference (Y : Mat) (W : WOut) (P : Pair) (hY : ∀ i, IsReal (Y i)) (hW : ∀ i, IsReal (W i))
    (hP : ∀ l f, IsReal (P (ix3 1 l f))) (i : S2x2048x5632.Idx) :
    val_main_v19 (F := Ideal) Y W P i = slots Y W P i := by
  obtain ⟨p, l, f, rfl⟩ : ∃ (p : Fin 2) (l : Fin 2048) (f : Fin 5632), i = ix3 p l f := ⟨i 0, i 1, i 2, by blk_ext⟩
  have ht := isReal_mul (isReal_sum Finset.univ _ fun d => isReal_mul (hY (ix2 l d)) (hW (ix2 f d))) (hP l f)
  rw [slots]
  show _ = if p.val = 0 then gradGate Y W P l f else gradUp Y W P l f
  rw [← gate_ref Y W P l f ht, ← up_ref]
  pointwise [val_main_v19, val_main_v18, val_main_v17, val_main_v16, val_main_v15, val_main_v14, val_main_cst, val_main_cst_0]
  match p with
  | ⟨0, _⟩ => exact zero_add _
  | ⟨1, _⟩ => exact add_zero _

/-- The precondition says that these arrays hold real numbers. -/
theorem real_of_pre (Y : Mat) (W : WOut) (P : Pair) (j : (⟨0, ![]⟩ : Shape).Idx)
    (h : letI := Cert.Pre_finite_swiglu.Gen.facts; Cert.Pre_finite_swiglu.fn (F := Ideal) Y W P j = 1#1) :
    (∀ i, IsReal (Y i)) ∧ (∀ i, IsReal (W i)) ∧ (∀ l f, IsReal (P (ix3 1 l f))) := by
  dsimp only [Cert.Pre_finite_swiglu.fn, Cert.Pre_finite_swiglu.fn_part1] at h
  obtain ⟨h, hP⟩ := IntOp.andi_eq_one.1 h
  obtain ⟨hY, hW⟩ := IntOp.andi_eq_one.1 h
  refine ⟨fun i => isReal_of_cmp (Host.reduce_andi_all _ _ _ _ _ hY i), fun i => isReal_of_cmp (Host.reduce_andi_all _ _ _ _ _ hW i),
    fun l f => ?_⟩
  have e := isReal_of_cmp (Host.reduce_andi_all _ _ _ _ _ hP (ix2 l f))
  pointwise at e
  exact e

end Cert.Ffn.SwigluGrad

end
-- ==== Proof.Ffn.GradIn.lean ====
module

public import proofs.«01_k».proof.Proof.Ffn.Spec
public import proofs.«01_k».proof.Proof.Gen.GradInIdeal.Value

/-!
What the kernel of the first weight matrix's gradient leaves in its result: two column blocks per point.
-/

@[expose] public section

set_option maxRecDepth 16384

noncomputable section

open Idealize.ShloMosaic Idealize.ShloMosaic.TcCoe Idealize.SL.Sem
open Cert.GradInIdeal Cert.GradInIdeal.Gen

namespace Cert.Ffn.GradIn

variable (m : (ℓ : Loc nD τ sig) → Buf (Elt Ideal) ℓ) (c : Dev nD)

/-- The arguments, by the names of `Spec`. -/
abbrev aH : Mat := m ((c : Thread nD τ).loc main_arg0)
@[inherit_doc aH] abbrev aZ : Pair := m ((c : Thread nD τ).loc main_arg1)

/-- Where the blocks of point `t = 4 k + d` lie: column blocks `2 k` and `2 k + 1`, model features `512 d …`. -/
theorem idx : ∀ t : Fin cfg0.N, win0_0.index t = ![0, t.val % 4] ∧ win0_1.index t = ![t.val / 8, 0, t.val / 4 % 2]
    ∧ win0_2.index t = ![t.val / 4, 0, t.val % 4, 0] ∧ t.val / 4 < 4 :=
  (by decide +kernel : ∀ t : Fin grid0.N, _)

/-- Block `p` of pair `k`. -/
abbrev ofPair (k : Fin 4) (p : Fin 2) : Fin 8 := ⟨k.val * 2 + p.val, by omega⟩

theorem pay_at (h : Vec Ideal S2048x512 .bf16) (z : Vec Ideal S1x2048x2816 .bf16) (d : Fin 512) (j : Fin 2816) :
    k0_pay2 (F := Ideal) h z (ix2 d j) = ∑ l : Fin 2048, h (ix2 l d) * z (ix3 0 l j) := by
  pointwise [k0_pay2]

/-- The column pair of point `t`. -/
abbrev pairAt (t : Fin cfg0.N) : Fin 4 := ⟨t.val / 4, (idx t).2.2.2⟩
/-- The model feature of a row of the result block of point `t`. -/
abbrev featureAt (t : Fin cfg0.N) (d : Fin 512) : Fin 2048 := ⟨t.val % 4 * 512 + d.val, by omega⟩

/-- What the body computes at point `t`, at the place it has in the array. -/
theorem point_at (t : Fin cfg0.N) (p : Fin 2) (d : Fin 512) (j : Fin 1408) :
    k0_pay2 (F := Ideal) (iblk m c 0 t) (iblk m c 1 t) (ix2 d ⟨p.val * 1408 + j.val, by omega⟩)
      = gradWIn (aH m c) (aZ m c) (ofPair (pairAt t) p) (featureAt t d) j := by
  rw [pay_at]
  unfold gradWIn
  blk_point [iblk, V, idx t]

/-- The point's two column blocks, at the place they have in the result. -/
theorem piece (t : Fin cfg0.N) (p : Fin 2) (d : Fin 512) (j : Fin 1408) (i : S4x2x2048x1408.Idx)
    (h0 : (i 0 : ℕ) = t.val / 4) (h1 : (i 1 : ℕ) = p.val) (h2 : (i 2 : ℕ) = t.val % 4 * 512 + d.val) (h3 : (i 3 : ℕ) = j.val) :
    k0_pay2 (F := Ideal) (iblk m c 0 t) (iblk m c 1 t) (ix2 d ⟨p.val * 1408 + j.val, by omega⟩)
      = gradWIn (aH m c) (aZ m c) (ofPair (i 0) (i 1)) (i 2) (i 3) := by
  rw [point_at, show i 0 = pairAt t from Fin.ext h0, show i 1 = p from Fin.ext h1, show i 2 = featureAt t d from Fin.ext h2,
    show i 3 = j from Fin.ext h3]

theorem piece_left (t : Fin cfg0.N) (x : S1x1x512x1408.Idx) (i : S4x2x2048x1408.Idx)
    (h0 : (i 0 : ℕ) = t.val / 4) (h1 : (i 1 : ℕ) = 0) (h2 : (i 2 : ℕ) = t.val % 4 * 512 + (x 2 : ℕ)) (h3 : (i 3 : ℕ) = (x 3 : ℕ)) :
    k0_pay3 (F := Ideal) (iblk m c 0 t) (iblk m c 1 t) x = gradWIn (aH m c) (aZ m c) (ofPair (i 0) (i 1)) (i 2) (i 3) := by
  obtain ⟨d, j, rfl⟩ : ∃ (d : Fin 512) (j : Fin 1408), x = ix4 0 0 d j := ⟨x 2, x 3, by blk_ext⟩
  refine Eq.trans ?_ (piece m c t 0 d j i h0 h1 h2 h3)
  pointwise [k0_pay3]

theorem piece_right (t : Fin cfg0.N) (x : S1x1x512x1408.Idx) (i : S4x2x2048x1408.Idx)
    (h0 : (i 0 : ℕ) = t.val / 4) (h1 : (i 1 : ℕ) = 1) (h2 : (i 2 : ℕ) = t.val % 4 * 512 + (x 2 : ℕ)) (h3 : (i 3 : ℕ) = (x 3 : ℕ)) :
    k0_pay4 (F := Ideal) (iblk m c 0 t) (iblk m c 1 t) x = gradWIn (aH m c) (aZ m c) (ofPair (i 0) (i 1)) (i 2) (i 3) := by
  obtain ⟨d, j, rfl⟩ : ∃ (d : Fin 512) (j : Fin 1408), x = ix4 0 0 d j := ⟨x 2, x 3, by blk_ext⟩
  refine Eq.trans ?_ (piece m c t 1 d j i h0 h1 h2 h3)
  pointwise [k0_pay4]

theorem final : (dats m 0 c).arrAt 2 cfg0.N = fun i => gradWIn (aH m c) (aZ m c) (ofPair (i 0) (i 1)) (i 2) (i 3) := by
  refine (dats m 0 c).arrAt_eq_of_covers 2 _ (by decide +kernel) fun t hf y => ?_
  blk_simp
  rw [after0_2]
  frame_out
  canon_tiles x h
  case' piece0 => refine piece_right m c t _ _ ?_ ?_ ?_ ?_
  case' piece1 => refine piece_left m c t _ _ ?_ ?_ ?_ ?_
  all_goals (blk_simp [idx t]; try omega)

end Cert.Ffn.GradIn

end
-- ==== Proof.Ffn.GradInReference.lean ====
module

public import proofs.«01_k».proof.Proof.Ffn.Spec
public import proofs.«01_k».proof.Proof.Gen.GradInRefIdeal.Read

/-!
The reference of the first weight matrix's gradient, as the sums of `Spec`.
-/

@[expose] public section

set_option maxRecDepth 16384

noncomputable section

open Idealize.ShloMosaic Idealize.ShloMosaic.TcCoe Idealize.SL.Sem
open Cert.GradInRefIdeal Cert.GradInRefIdeal.Gen Cert.GradInRefIdeal.Read

namespace Cert.Ffn.GradIn

/-- The reference's gradient of all 11264 columns: block `s`, column `j` is column `s * 1408 + j`. -/
theorem joined (Z : Pair) (l : Fin 2048) (s : Fin 8) (j : Fin 1408) :
    val_main_v13 (F := Ideal) Z (ix2 l ⟨s.val * 1408 + j.val, by omega⟩) = Z (ix3 (slot s) l (column s j)) := by
  pointwise [val_main_v13, val_main_v12, val_main_v11, val_main_v10, val_main_v9, val_main_v8]
  split_ifs <;> blk_ext

theorem reference (H : Mat) (Z : Pair) (i : S4x2x2048x1408.Idx) :
    val_main_v18 (F := Ideal) H Z i = gradWIn H Z ⟨(i 0).val * 2 + (i 1).val, by idx_bounds; omega⟩ (i 2) (i 3) := by
  obtain ⟨k, p, d, j, rfl⟩ : ∃ (k : Fin 4) (p : Fin 2) (d : Fin 2048) (j : Fin 1408), i = ix4 k p d j :=
    ⟨i 0, i 1, i 2, i 3, by blk_ext⟩
  show _ = gradWIn H Z ⟨k.val * 2 + p.val, by omega⟩ d j
  pointwise [val_main_v18, val_main_v17, val_main_v16, val_main_v15, val_main_v14, val_main_v1]
  unfold gradWIn
  refine Finset.sum_congr rfl fun l _ => ?_
  refine (mul_comm _ _).trans (Ideal.mul_congr rfl (Eq.trans ?_ (joined Z l ⟨k.val * 2 + p.val, by omega⟩ j)))
  generalize val_main_v13 (F := Ideal) Z = X
  blk_ext

end Cert.Ffn.GradIn

end
-- ==== Proof.Ffn.GradOut.lean ====
module

public import proofs.«01_k».proof.Proof.Ffn.Spec
public import proofs.«01_k».proof.Proof.Gen.GradOutIdeal.Value

/-!
What the kernel of the second weight matrix's gradient leaves in its result.
-/

@[expose] public section

set_option maxRecDepth 16384

noncomputable section

open Idealize.ShloMosaic Idealize.ShloMosaic.TcCoe Idealize.SL.Sem
open Cert.GradOutIdeal Cert.GradOutIdeal.Gen

namespace Cert.Ffn.GradOut

variable (m : (ℓ : Loc nD τ sig) → Buf (Elt Ideal) ℓ) (c : Dev nD)

/-- The arguments, by the names of `Spec`. -/
abbrev aA : Inner := m ((c : Thread nD τ).loc main_arg0)
@[inherit_doc aA] abbrev aY : Mat := m ((c : Thread nD τ).loc main_arg1)

/-- Where the blocks of point `t = 11 d + k` lie: inner features `512 k …`, model features `1024 d …`. -/
theorem idx : ∀ t : Fin cfg0.N, win0_0.index t = ![0, t.val % 11] ∧ win0_1.index t = ![0, t.val / 11]
    ∧ win0_2.index t = ![t.val % 11, t.val / 11] :=
  (by decide +kernel : ∀ t : Fin grid0.N, _)

theorem pay_at (a : Vec Ideal S2048x512 .bf16) (y : Vec Ideal S2048x1024 .bf16) (k : Fin 512) (d : Fin 1024) :
    k0_pay2 (F := Ideal) a y (ix2 k d) = ∑ l : Fin 2048, a (ix2 l k) * y (ix2 l d) := by
  pointwise [k0_pay2]

theorem final : (dats m 0 c).arrAt 2 cfg0.N = fun i => gradWOut (aA m c) (aY m c) (i 0) (i 1) := by
  refine (dats m 0 c).arrAt_eq_of_covers 2 _ (by decide +kernel) fun t hf y => ?_
  blk_simp
  rw [after0_2]
  frame_out
  pointwise [k0_pay2]
  unfold gradWOut
  blk_point [iblk, V, idx t]

end Cert.Ffn.GradOut

end
-- ==== Proof.Ffn.GradOutReference.lean ====
module

public import proofs.«01_k».proof.Proof.Ffn.Spec
public import proofs.«01_k».proof.Proof.Gen.GradOutRefIdeal.Read

/-!
The reference of the second weight matrix's gradient, as the sum of `Spec`.
-/

@[expose] public section

set_option maxRecDepth 16384

noncomputable section

open Idealize.ShloMosaic Idealize.ShloMosaic.TcCoe Idealize.SL.Sem
open Cert.GradOutRefIdeal Cert.GradOutRefIdeal.Gen Cert.GradOutRefIdeal.Read

namespace Cert.Ffn.GradOut

theorem reference (A : Inner) (Y : Mat) (i : S5632x2048.Idx) :
    val_main_v6 (F := Ideal) A Y i = gradWOut A Y (i 0) (i 1) := by
  obtain ⟨f, d, rfl⟩ : ∃ (f : Fin 5632) (d : Fin 2048), i = ix2 f d := ⟨i 0, i 1, by blk_ext⟩
  show _ = gradWOut A Y f d
  pointwise [val_main_v6, val_main_v5, val_main_v4, val_main_v3, val_main_v1]
  unfold gradWOut
  refine Finset.sum_congr rfl fun l _ => ?_
  rw [mul_comm]

end Cert.Ffn.GradOut

end
-- ==== Proof.Ffn.GradInput.lean ====
module

public import proofs.«01_k».proof.Proof.Ffn.Spec
public import proofs.«01_k».proof.Proof.Gen.GradInputIdeal.Value

/-!
What the kernel of the gradient of the block's input leaves in its result: a sum over the 8 column blocks.
-/

@[expose] public section

set_option maxRecDepth 16384

noncomputable section

open Idealize.ShloMosaic Idealize.ShloMosaic.TcCoe Idealize.SL.Sem
open Cert.GradInputIdeal Cert.GradInputIdeal.Gen

namespace Cert.Ffn.GradInput

variable (m : (ℓ : Loc nD τ sig) → Buf (Elt Ideal) ℓ) (c : Dev nD)

/-- The arguments, by the names of `Spec`. -/
abbrev aZ : Pair := m ((c : Thread nD τ).loc main_arg0)
@[inherit_doc aZ] abbrev aW : WIn := m ((c : Thread nD τ).loc main_arg1)

/-- Where the blocks of point `t = 16 j + 8 i + k` lie: rows `1024 i …`, model features `1024 j …`, column block `k`. -/
theorem idx : ∀ t : Fin cfg0.N, win0_0.index t = ![t.val % 8 / 4, t.val / 8 % 2, t.val % 4]
    ∧ win0_1.index t = ![t.val % 8, t.val / 16, 0] ∧ win0_2.index t = ![t.val / 8 % 2, t.val / 16] ∧ t.val / 16 < 2 :=
  (by decide +kernel : ∀ t : Fin grid0.N, _)

/-- The row and the model feature of a place of the block of point `t`. -/
abbrev rowAt (t : Fin cfg0.N) (r : Fin 1024) : Fin 2048 := ⟨t.val / 8 % 2 * 1024 + r.val, by omega⟩
@[inherit_doc rowAt] abbrev featureAt (t : Fin cfg0.N) (e : Fin 1024) : Fin 2048 :=
  ⟨t.val / 16 * 1024 + e.val, by have := (idx t).2.2.2; omega⟩
/-- The column block of point `t`. -/
abbrev blockAt (t : Fin cfg0.N) : Fin 8 := ⟨t.val % 8, by omega⟩

/-- What the body computes at point `t`, at the place it has in the array. -/
theorem part_at (t : Fin cfg0.N) (j : S1024x1024.Idx) :
    k0_pay2 (F := Ideal) (iblk m c 0 t) (iblk m c 1 t) j
      = partInput (aZ m c) (aW m c) (blockAt t) (rowAt t (j 0)) (featureAt t (j 1)) := by
  pointwise [k0_pay2]
  unfold partInput
  blk_point [iblk, V, idx t]

theorem add_at (z w : Vec Ideal S1x1024x1408 .bf16) (a : Vec Ideal S1024x1024 .f32) (j : S1024x1024.Idx) :
    k0_pay3 (F := Ideal) z w a j = a j + k0_pay2 z w j := by
  pointwise [k0_pay3]

theorem start (t : Fin cfg0.N) (h : t.val % 8 = 0) (j : S1024x1024.Idx) :
    (outsAt0 m c t.val t.isLt).1 j
      = 0 + partInput (aZ m c) (aW m c) (blockAt t) (rowAt t (j 0)) (featureAt t (j 1)) := by
  rw [outsAt0_A m c t h (by omega)]
  frame_out
  rw [part_at m c t, zero_add]

theorem next (t : Fin cfg0.N) (h : ¬ t.val % 8 = 0) (j : S1024x1024.Idx) :
    (outsAt0 m c t.val t.isLt).1 j
      = (outsAt0 m c (t.val - 1) (lt_of_le_of_lt (Nat.sub_le _ _) t.isLt)).1 j
        + partInput (aZ m c) (aW m c) (blockAt t) (rowAt t (j 0)) (featureAt t (j 1)) := by
  rw [outsAt0_B m c t h (by omega)]
  frame_out
  rw [add_at, part_at m c t]

/-- The parts of the eight points of group `q` add up to the gradient. -/
theorem total (q : ℕ) (p : Fin 8 → Fin cfg0.N) (hp : ∀ s, (p s).val = 8 * q + s.val) (r e : Fin 1024) (i : S2048x2048.Idx)
    (hl : (i 0 : ℕ) = q % 2 * 1024 + r.val) (hd : (i 1 : ℕ) = q / 2 * 1024 + e.val) :
    ∑ s : Fin 8, partInput (aZ m c) (aW m c) (blockAt (p s)) (rowAt (p s) r) (featureAt (p s) e)
      = gradInput (aZ m c) (aW m c) (i 0) (i 1) := by
  unfold gradInput
  refine Fin.sum_fin_congr fun s => ?_
  have h := hp s
  rw [show blockAt (p s) = s from Fin.ext (by show (p s).val % 8 = s.val; omega),
    show i 0 = rowAt (p s) r from Fin.ext (by show (i 0 : ℕ) = (p s).val / 8 % 2 * 1024 + r.val; omega),
    show i 1 = featureAt (p s) e from Fin.ext (by show (i 1 : ℕ) = (p s).val / 16 * 1024 + e.val; omega)]

theorem final : (dats m 0 c).arrAt 2 cfg0.N = fun i => gradInput (aZ m c) (aW m c) (i 0) (i 1) := by
  refine (dats m 0 c).arrAt_eq_of_covers 2 _ (by decide +kernel) fun t hf y => ?_
  blk_simp
  rw [after0_2, Pipeline.eq_sum_fin_of_reset_step_apply_of_flush (fun n h => (outsAt0 m c n h).1) 8 (fun _ => 0)
    (fun p j => partInput (aZ m c) (aW m c) (blockAt p) (rowAt p (j 0)) (featureAt p (j 1))) (start m c) (next m c)
    t ((flush0_2 t).mp hf) _, zero_add]
  refine total m c (t.val / 8) _ (fun _ => rfl) (y 0) (y 1) _ ?_ ?_
  · blk_simp [idx t]
  · blk_simp [idx t]; omega

end Cert.Ffn.GradInput

end
-- ==== Proof.Ffn.GradInputReference.lean ====
module

public import proofs.«01_k».proof.Proof.Ffn.Spec
public import proofs.«01_k».proof.Proof.Gen.GradInputRefIdeal.Read

/-!
The reference of the gradient of the block's input, as the sums of `Spec`.
-/

@[expose] public section

set_option maxRecDepth 16384

noncomputable section

open Idealize.ShloMosaic Idealize.ShloMosaic.TcCoe Idealize.SL.Sem
open Cert.GradInputRefIdeal Cert.GradInputRefIdeal.Gen Cert.GradInputRefIdeal.Read

namespace Cert.Ffn.GradInput

/-- The reference's gradient of all 11264 columns: block `s`, column `j` is column `s * 1408 + j`. -/
theorem joined (Z : Pair) (l : Fin 2048) (s : Fin 8) (j : Fin 1408) :
    val_main_v15 (F := Ideal) Z (ix2 l ⟨s.val * 1408 + j.val, by omega⟩) = Z (ix3 (slot s) l (column s j)) := by
  pointwise [val_main_v15, val_main_v14, val_main_v13, val_main_v12, val_main_v11, val_main_v10]
  split_ifs <;> blk_ext

/-- The reference's weight matrix of 11264 columns, by blocks. -/
theorem weights (W : WIn) (d : Fin 2048) (s : Fin 8) (j : Fin 1408) :
    val_main_v3 (F := Ideal) W (ix2 d ⟨s.val * 1408 + j.val, by omega⟩) = W (ix3 s d j) := by
  pointwise [val_main_v3, val_main_v2, val_main_v1]
  blk_ext

theorem reference (Z : Pair) (W : WIn) (i : S2048x2048.Idx) :
    val_main_v16 (F := Ideal) Z W i = gradInput Z W (i 0) (i 1) := by
  obtain ⟨l, d, rfl⟩ : ∃ (l d : Fin 2048), i = ix2 l d := ⟨i 0, i 1, by blk_ext⟩
  show _ = gradInput Z W l d
  pointwise [val_main_v16]
  refine (Fin.sum_univ_tiles (M := EReal) 8 1408 rfl fun f : Fin 11264 =>
    val_main_v15 (F := Ideal) Z (ix2 l f) * val_main_v3 (F := Ideal) W (ix2 d f)).trans ?_
  unfold gradInput partInput
  refine Finset.sum_congr rfl fun s _ => Finset.sum_congr rfl fun j _ => ?_
  exact Ideal.mul_congr (joined Z l s j) (weights W d s j)

end Cert.Ffn.GradInput

end
-- ==== Proof.Ffn.SwigluIn.lean ====
module

public import proofs.«01_k».proof.Proof.Ffn.Spec
public import proofs.«01_k».proof.Proof.Gen.SwigluInIdeal.Value

/-!
What the kernel of the first product leaves in its two results: the pre-activations and the gated features.
-/

@[expose] public section

set_option maxRecDepth 16384

noncomputable section

open Idealize.ShloMosaic Idealize.ShloMosaic.TcCoe Idealize.SL.Sem
open Cert.SwigluInIdeal Cert.SwigluInIdeal.Gen

namespace Cert.Ffn.SwigluIn

variable (m : (ℓ : Loc nD τ sig) → Buf (Elt Ideal) ℓ) (c : Dev nD)

/-- The arguments, by the names of `Spec`. -/
abbrev aH : Mat := m ((c : Thread nD τ).loc main_arg0)
@[inherit_doc aH] abbrev aW : WIn := m ((c : Thread nD τ).loc main_arg1)

/-- Where the blocks of point `t = 4 j + i` lie: rows `512 i …`, column blocks `j` and `4 + j`. -/
theorem idx : ∀ t : Fin cfg0.N, win0_0.index t = ![t.val % 4, 0] ∧ win0_1.index t = ![t.val / 4, 0, 0]
    ∧ win0_2.index t = ![4 + t.val / 4, 0, 0] ∧ win0_3.index t = ![0, t.val % 4, t.val / 4]
    ∧ win0_4.index t = ![t.val % 4, t.val / 4] ∧ t.val / 4 < 4 :=
  (by decide +kernel : ∀ t : Fin grid0.N, _)

/-- The row of a place of the block of point `t`, and the point's two column blocks. -/
abbrev rowAt (t : Fin cfg0.N) (r : Fin 512) : Fin 2048 := ⟨t.val % 4 * 512 + r.val, by omega⟩
@[inherit_doc rowAt] abbrev gateAt (t : Fin cfg0.N) : Fin 8 := ⟨t.val / 4, by have := (idx t).2.2.2.2.2; omega⟩
@[inherit_doc rowAt] abbrev upAt (t : Fin cfg0.N) : Fin 8 := ⟨4 + t.val / 4, by have := (idx t).2.2.2.2.2; omega⟩

theorem gate_at (t : Fin cfg0.N) (r : Fin 512) (j : Fin 1408) :
    k0_pay2 (F := Ideal) (iblk m c 0 t) (iblk m c 1 t) (ix2 r j) = first (aH m c) (aW m c) (gateAt t) (rowAt t r) j := by
  pointwise [k0_pay2]
  unfold first
  blk_point [iblk, V, idx t]

theorem up_at (t : Fin cfg0.N) (r : Fin 512) (j : Fin 1408) :
    k0_pay3 (F := Ideal) (iblk m c 0 t) (iblk m c 2 t) (ix2 r j) = first (aH m c) (aW m c) (upAt t) (rowAt t r) j := by
  pointwise [k0_pay3]
  unfold first
  blk_point [iblk, V, idx t]

/-- The point's two products, at the place they have in the array of pre-activations. -/
theorem piece_gate (t : Fin cfg0.N) (x : S1x512x1408.Idx) (i : S2x2048x5632.Idx) (h0 : (i 0 : ℕ) = 0)
    (h1 : (i 1 : ℕ) = t.val % 4 * 512 + (x 1 : ℕ)) (h2 : (i 2 : ℕ) = t.val / 4 * 1408 + (x 2 : ℕ)) :
    k0_pay4 (F := Ideal) (iblk m c 0 t) (iblk m c 1 t) x
      = first (aH m c) (aW m c) (blockOf (i 0) (i 2)) (i 1) (inBlock (i 2)) := by
  obtain ⟨r, j, rfl⟩ : ∃ (r : Fin 512) (j : Fin 1408), x = ix3 0 r j := ⟨x 1, x 2, by blk_ext⟩
  replace h1 : (i 1 : ℕ) = t.val % 4 * 512 + r.val := h1
  replace h2 : (i 2 : ℕ) = t.val / 4 * 1408 + j.val := h2
  refine (show _ = k0_pay2 (F := Ideal) (iblk m c 0 t) (iblk m c 1 t) (ix2 r j) by pointwise [k0_pay4]).trans ?_
  have e0 : i 1 = rowAt t r := Fin.ext h1
  have e1 : blockOf (i 0) (i 2) = gateAt t := Fin.ext (by show (i 0 : ℕ) * 4 + (i 2 : ℕ) / 1408 = t.val / 4; omega)
  have e2 : inBlock (i 2) = j := Fin.ext (by show (i 2 : ℕ) % 1408 = j.val; omega)
  rw [gate_at, e0, e1, e2]
@[inherit_doc piece_gate]
theorem piece_up (t : Fin cfg0.N) (x : S1x512x1408.Idx) (i : S2x2048x5632.Idx) (h0 : (i 0 : ℕ) = 1)
    (h1 : (i 1 : ℕ) = t.val % 4 * 512 + (x 1 : ℕ)) (h2 : (i 2 : ℕ) = t.val / 4 * 1408 + (x 2 : ℕ)) :
    k0_pay5 (F := Ideal) (iblk m c 0 t) (iblk m c 2 t) x
      = first (aH m c) (aW m c) (blockOf (i 0) (i 2)) (i 1) (inBlock (i 2)) := by
  obtain ⟨r, j, rfl⟩ : ∃ (r : Fin 512) (j : Fin 1408), x = ix3 0 r j := ⟨x 1, x 2, by blk_ext⟩
  replace h1 : (i 1 : ℕ) = t.val % 4 * 512 + r.val := h1
  replace h2 : (i 2 : ℕ) = t.val / 4 * 1408 + j.val := h2
  refine (show _ = k0_pay3 (F := Ideal) (iblk m c 0 t) (iblk m c 2 t) (ix2 r j) by pointwise [k0_pay5]).trans ?_
  have e0 : i 1 = rowAt t r := Fin.ext h1
  have e1 : blockOf (i 0) (i 2) = upAt t := Fin.ext (by show (i 0 : ℕ) * 4 + (i 2 : ℕ) / 1408 = 4 + t.val / 4; omega)
  have e2 : inBlock (i 2) = j := Fin.ext (by show (i 2 : ℕ) % 1408 = j.val; omega)
  rw [up_at, e0, e1, e2]

/-- The point's gated features, at the place they have in their array. -/
theorem piece_act (t : Fin cfg0.N) (x : S512x1408.Idx) (i : S2048x5632.Idx)
    (h1 : (i 0 : ℕ) = t.val % 4 * 512 + (x 0 : ℕ)) (h2 : (i 1 : ℕ) = t.val / 4 * 1408 + (x 1 : ℕ)) :
    k0_pay6 (F := Ideal) (iblk m c 0 t) (iblk m c 1 t) (iblk m c 2 t) x = gated (aH m c) (aW m c) (i 0) (i 1) := by
  obtain ⟨r, j, rfl⟩ : ∃ (r : Fin 512) (j : Fin 1408), x = ix2 r j := ⟨x 0, x 1, by blk_ext⟩
  replace h1 : (i 0 : ℕ) = t.val % 4 * 512 + r.val := h1
  replace h2 : (i 1 : ℕ) = t.val / 4 * 1408 + j.val := h2
  have e0 : i 0 = rowAt t r := Fin.ext h1
  have e1 : blockOf 0 (i 1) = gateAt t := Fin.ext (by show 0 * 4 + (i 1 : ℕ) / 1408 = t.val / 4; omega)
  have e2 : blockOf 1 (i 1) = upAt t := Fin.ext (by show 1 * 4 + (i 1 : ℕ) / 1408 = 4 + t.val / 4; omega)
  have e3 : inBlock (i 1) = j := Fin.ext (by show (i 1 : ℕ) % 1408 = j.val; omega)
  unfold gated sigmoid
  rw [e1, e2, e3, e0]
  pointwise [k0_pay6]
  rw [gate_at, up_at, zero_sub]

theorem final_pre : (dats m 0 c).arrAt 3 cfg0.N = fun i =>
    first (aH m c) (aW m c) (blockOf (i 0) (i 2)) (i 1) (inBlock (i 2)) := by
  refine (dats m 0 c).arrAt_eq_of_covers 3 _ (by decide +kernel) fun t hf y => ?_
  blk_simp
  rw [after0_3]
  frame_out
  canon_tiles x h
  case' piece0 => refine piece_up m c t _ _ ?_ ?_ ?_
  case' piece1 => refine piece_gate m c t _ _ ?_ ?_ ?_
  all_goals (blk_simp [idx t]; omega)

theorem final_act : (dats m 0 c).arrAt 4 cfg0.N = fun i => gated (aH m c) (aW m c) (i 0) (i 1) := by
  refine (dats m 0 c).arrAt_eq_of_covers 4 _ (by decide +kernel) fun t hf y => ?_
  blk_simp
  rw [after0_4]
  frame_out
  refine piece_act m c t _ _ ?_ ?_
  all_goals (blk_simp [idx t]; try omega)

end Cert.Ffn.SwigluIn

end
-- ==== Proof.Ffn.SwigluInReference.lean ====
module

public import proofs.«01_k».proof.Proof.Ffn.Spec
public import proofs.«01_k».proof.Proof.Gen.SwigluInRefIdeal.Read

/-!
The reference of the first product and the gated features, as the sums of `Spec`.
-/

@[expose] public section

set_option maxRecDepth 16384

noncomputable section

open Idealize.ShloMosaic Idealize.ShloMosaic.TcCoe Idealize.SL.Sem
open Cert.SwigluInRefIdeal Cert.SwigluInRefIdeal.Gen Cert.SwigluInRefIdeal.Read

namespace Cert.Ffn.SwigluIn

/-- The reference's weight matrix of 11264 columns. -/
theorem weights (W : WIn) (d : Fin 2048) (p : Fin 2) (f : Fin 5632) :
    val_main_v3 (F := Ideal) W (ix2 d ⟨p.val * 5632 + f.val, by omega⟩) = W (ix3 (blockOf p f) d (inBlock f)) := by
  pointwise [val_main_v3, val_main_v2, val_main_v1]
  blk_ext

/-- The reference's first product, gate columns then up columns. -/
theorem product (H : Mat) (W : WIn) (l : Fin 2048) (p : Fin 2) (f : Fin 5632) :
    val_main_v4 (F := Ideal) H W (ix2 l ⟨p.val * 5632 + f.val, by omega⟩) = first H W (blockOf p f) l (inBlock f) := by
  pointwise [val_main_v4, val_main_v0]
  unfold first
  exact Finset.sum_congr rfl fun d _ => Ideal.mul_congr rfl (weights W d p f)

theorem reference_pre (H : Mat) (W : WIn) (i : S2x2048x5632.Idx) :
    val_main_v10 (F := Ideal) H W i = first H W (blockOf (i 0) (i 2)) (i 1) (inBlock (i 2)) := by
  obtain ⟨p, l, f, rfl⟩ : ∃ (p : Fin 2) (l : Fin 2048) (f : Fin 5632), i = ix3 p l f := ⟨i 0, i 1, i 2, by blk_ext⟩
  show _ = first H W (blockOf p f) l (inBlock f)
  rw [← product]
  pointwise [val_main_v10, val_main_v9, val_main_v8, val_main_v7, val_main_v6, val_main_v5]
  generalize val_main_v4 (F := Ideal) H W = X
  split_ifs <;> blk_ext

/-- The two slots of the pre-activations, as the reference reads them. -/
theorem gate_ref (H : Mat) (W : WIn) (l : Fin 2048) (f : Fin 5632) :
    val_main_v12 (F := Ideal) H W (ix2 l f) = first H W (blockOf 0 f) l (inBlock f) := by
  refine Eq.trans ?_ (reference_pre H W (ix3 0 l f))
  pointwise [val_main_v12, val_main_v11, val_main_v10]
@[inherit_doc gate_ref]
theorem up_ref (H : Mat) (W : WIn) (l : Fin 2048) (f : Fin 5632) :
    val_main_v14 (F := Ideal) H W (ix2 l f) = first H W (blockOf 1 f) l (inBlock f) := by
  refine Eq.trans ?_ (reference_pre H W (ix3 1 l f))
  pointwise [val_main_v14, val_main_v13, val_main_v10]

theorem reference_act (H : Mat) (W : WIn) (i : S2048x5632.Idx) :
    val_main_v17 (F := Ideal) H W i = gated H W (i 0) (i 1) := by
  obtain ⟨l, f, rfl⟩ : ∃ (l : Fin 2048) (f : Fin 5632), i = ix2 l f := ⟨i 0, i 1, by blk_ext⟩
  show _ = gated H W l f
  pointwise [val_main_v17, val_main_v16, val_main_v15, val_main_call0_v5, val_main_call0_v4, val_main_call0_cst_0,
    val_main_call0_v3, val_main_call0_v2, val_main_call0_cst, val_main_call0_v1, val_main_call0_v0]
  rw [gate_ref, up_ref, gated, sigmoid]

end Cert.Ffn.SwigluIn

end
-- ==== Proof.Ffn.SwigluOut.lean ====
module

public import proofs.«01_k».proof.Proof.Ffn.Spec
public import proofs.«01_k».proof.Proof.Consts
public import proofs.«01_k».proof.Proof.Gen.SwigluOutIdeal.Value

/-!
What the kernel of the second product leaves in its result.
-/

@[expose] public section

set_option maxRecDepth 16384

noncomputable section

open Idealize.ShloMosaic Idealize.ShloMosaic.TcCoe Idealize.SL.Sem
open Cert.SwigluOutIdeal Cert.SwigluOutIdeal.Gen Cert.Consts

namespace Cert.Ffn.SwigluOut

variable (m : (ℓ : Loc nD τ sig) → Buf (Elt Ideal) ℓ) (c : Dev nD)

/-- The arguments, by the names of `Spec`. -/
abbrev aA : Inner := m ((c : Thread nD τ).loc main_arg0)
@[inherit_doc aA] abbrev aW : WOut := m ((c : Thread nD τ).loc main_arg1)
@[inherit_doc aA] abbrev aX : Mat := m ((c : Thread nD τ).loc main_arg2)

/-- Where the blocks of point `t = 4 j + i` lie: rows `512 i …`, model features `1024 j …`. -/
theorem idx : ∀ t : Fin cfg0.N, win0_0.index t = ![t.val % 4, 0] ∧ win0_1.index t = ![0, t.val / 4]
    ∧ win0_2.index t = ![t.val % 4, t.val / 4] ∧ win0_3.index t = ![t.val % 4, t.val / 4] :=
  (by decide +kernel : ∀ t : Fin grid0.N, _)

theorem final : (dats m 0 c).arrAt 3 cfg0.N = fun i => second (aA m c) (aW m c) (aX m c) (i 0) (i 1) := by
  refine (dats m 0 c).arrAt_eq_of_covers 3 _ (by decide +kernel) fun t hf y => ?_
  blk_simp
  rw [after0_3]
  frame_out
  pointwise [k0_pay2]
  rw [half_eq]
  unfold second
  blk_point [iblk, V, idx t]

end Cert.Ffn.SwigluOut

end
-- ==== Proof.Ffn.SwigluOutReference.lean ====
module

public import proofs.«01_k».proof.Proof.Consts
public import proofs.«01_k».proof.Proof.Ffn.Spec
public import proofs.«01_k».proof.Proof.Gen.SwigluOutRefIdeal.Read

/-!
The reference of the second product, as the sum of `Spec`.
-/

@[expose] public section

set_option maxRecDepth 16384

noncomputable section

open Idealize.ShloMosaic Idealize.ShloMosaic.TcCoe Idealize.SL.Sem
open Cert.SwigluOutRefIdeal Cert.SwigluOutRefIdeal.Gen Cert.SwigluOutRefIdeal.Read Cert.Consts

namespace Cert.Ffn.SwigluOut

theorem reference (A : Inner) (W : WOut) (X : Mat) (i : S2048x2048.Idx) :
    val_main_v5 (F := Ideal) A W X i = second A W X (i 0) (i 1) := by
  obtain ⟨l, d, rfl⟩ : ∃ (l d : Fin 2048), i = ix2 l d := ⟨i 0, i 1, by blk_ext⟩
  show _ = second A W X l d
  pointwise [val_main_v5, val_main_v4, val_main_v3, val_main_cst, val_main_v2, val_main_v1, val_main_v0]
  rw [half_eq, second]

end Cert.Ffn.SwigluOut

end
-- ==== Proof.Ffn.Claim.lean ====
module

public import proofs.«01_k».proof.Defs
public import proofs.«01_k».proof.Proof.Ffn.Runs
public import proofs.«01_k».proof.Proof.Ffn.SwigluGrad
public import proofs.«01_k».proof.Proof.Ffn.SwigluGradReference
public import proofs.«01_k».proof.Proof.Ffn.GradIn
public import proofs.«01_k».proof.Proof.Ffn.GradInReference
public import proofs.«01_k».proof.Proof.Ffn.GradOut
public import proofs.«01_k».proof.Proof.Ffn.GradOutReference
public import proofs.«01_k».proof.Proof.Ffn.GradInput
public import proofs.«01_k».proof.Proof.Ffn.GradInputReference
public import proofs.«01_k».proof.Proof.Ffn.SwigluIn
public import proofs.«01_k».proof.Proof.Ffn.SwigluInReference
public import proofs.«01_k».proof.Proof.Ffn.SwigluOut
public import proofs.«01_k».proof.Proof.Ffn.SwigluOutReference

/-!
The six calls of the feed-forward block: kernel and reference end with the same results.
-/

@[expose] public section

set_option maxRecDepth 16384

noncomputable section

open Idealize.ShloMosaic Idealize.SL.Sem

namespace Cert.Ffn

/-- The gradient of the gated features. -/
theorem SwigluGrad.algebraic : letI := Cert.SwigluGradIdeal.Gen.facts; letI := Cert.SwigluGradRefIdeal.Gen.facts;
    letI := Cert.Pre_finite_swiglu.Gen.facts; Cert.algebraic_SwigluGradIdeal_SwigluGradRefIdeal_pre_finite_swiglu :=
  fun m g m' g' hpre hagree => ⟨_, drop_output (Cert.SwigluGradIdeal.Value.run_blocks m g),
    value_of_run (fun c => by
      obtain ⟨e0, e1, e2⟩ := hagree c
      obtain ⟨hY, hW, hP⟩ := SwigluGrad.real_of_pre _ _ _ ix0 (congrFun (hpre c) ix0)
      rw [Cert.SwigluGradRefIdeal.Read.val_main_v19_eq, e0, e1, e2]
      exact (funext (SwigluGrad.reference _ _ _ hY hW hP)).trans (SwigluGrad.final m c).symm)
    (Cert.SwigluGradRefIdeal.Value.run m' g')⟩

/-- The gradient of the first weight matrix. -/
theorem GradIn.algebraic : letI := Cert.GradInIdeal.Gen.facts; letI := Cert.GradInRefIdeal.Gen.facts
    Cert.algebraic_GradInIdeal_GradInRefIdeal :=
  fun m g m' g' _ hagree => ⟨_, drop_output (Cert.GradInIdeal.Value.run_blocks m g), value_of_run (fun c => by
      rw [Cert.GradInRefIdeal.Read.val_main_v18_eq, (hagree c).1, (hagree c).2]
      exact (funext (GradIn.reference _ _)).trans (GradIn.final m c).symm)
    (Cert.GradInRefIdeal.Value.run m' g')⟩

/-- The gradient of the second weight matrix. -/
theorem GradOut.algebraic : letI := Cert.GradOutIdeal.Gen.facts; letI := Cert.GradOutRefIdeal.Gen.facts
    Cert.algebraic_GradOutIdeal_GradOutRefIdeal :=
  fun m g m' g' _ hagree => ⟨_, drop_output (Cert.GradOutIdeal.Value.run_blocks m g), value_of_run (fun c => by
      rw [Cert.GradOutRefIdeal.Read.val_main_v6_eq, (hagree c).1, (hagree c).2]
      exact (funext (GradOut.reference _ _)).trans (GradOut.final m c).symm)
    (Cert.GradOutRefIdeal.Value.run m' g')⟩

/-- The gradient of the block's input. -/
theorem GradInput.algebraic : letI := Cert.GradInputIdeal.Gen.facts; letI := Cert.GradInputRefIdeal.Gen.facts
    Cert.algebraic_GradInputIdeal_GradInputRefIdeal :=
  fun m g m' g' _ hagree => ⟨_, drop_output (Cert.GradInputIdeal.Value.run_blocks m g), value_of_run (fun c => by
      rw [Cert.GradInputRefIdeal.Read.val_main_v16_eq, (hagree c).1, (hagree c).2]
      exact (funext (GradInput.reference _ _)).trans (GradInput.final m c).symm)
    (Cert.GradInputRefIdeal.Value.run m' g')⟩

/-- The first product: pre-activations and gated features. -/
theorem SwigluIn.algebraic : letI := Cert.SwigluInIdeal.Gen.facts; letI := Cert.SwigluInRefIdeal.Gen.facts
    Cert.algebraic_SwigluInIdeal_SwigluInRefIdeal :=
  fun m g m' g' _ hagree => ⟨_, _,
    (θ_run _ _ _).mono (fun r h c => ⟨(h c).1, (h c).2.1, (h c).2.2.2⟩) (Cert.SwigluInIdeal.Value.run_blocks m g),
    (θ_run _ _ _).mono (fun r h c => by
      obtain ⟨h0, h1, ha⟩ := h c
      rw [Cert.SwigluInRefIdeal.Read.val_main_v10_eq, (hagree c).1, (hagree c).2] at h0
      rw [Cert.SwigluInRefIdeal.Read.val_main_v17_eq, (hagree c).1, (hagree c).2] at h1
      exact ⟨h0.trans ((funext (SwigluIn.reference_pre _ _)).trans (SwigluIn.final_pre m c).symm),
        h1.trans ((funext (SwigluIn.reference_act _ _)).trans (SwigluIn.final_act m c).symm), ha⟩)
    (Cert.SwigluInRefIdeal.Value.run m' g')⟩

/-- The second product. -/
theorem SwigluOut.algebraic : letI := Cert.SwigluOutIdeal.Gen.facts; letI := Cert.SwigluOutRefIdeal.Gen.facts
    Cert.algebraic_SwigluOutIdeal_SwigluOutRefIdeal :=
  fun m g m' g' _ hagree => ⟨_, drop_output (Cert.SwigluOutIdeal.Value.run_blocks m g), value_of_run (fun c => by
      obtain ⟨e0, e1, e2⟩ := hagree c
      rw [Cert.SwigluOutRefIdeal.Read.val_main_v5_eq, e0, e1, e2]
      exact (funext (SwigluOut.reference _ _ _)).trans (SwigluOut.final m c).symm)
    (Cert.SwigluOutRefIdeal.Value.run m' g')⟩

end Cert.Ffn

end
-- ==== Proof.Mix.Spec.lean ====
module

public import Idealize.ShloMosaic.Lib.Pointwise
public import Idealize.ShloMosaic.Lib.Pipeline.ValueKit
public import Idealize.ShloMosaic.Lib.Claim

/-!
The products around the two mixers and their gradients, as sums over the extended reals.

Rows of the sequence and model features number 2048.  A first weight matrix is held as 8 blocks of `n` columns: `n` is
1024 in the gMLP mixer, 1288 in the SSD mixer.  What multiplies it, or its product, is spoken of by blocks as well:
block `s`, row `l`, column `j` of the block.
-/

@[expose] public section

noncomputable section

open Idealize.ShloMosaic

namespace Cert.Mix

/-- A matrix of `a` rows and `b` columns, and a stack of such matrices. -/
abbrev Mat (a b : ℕ) := (⟨2, ![a, b]⟩ : Shape).Idx → EReal
@[inherit_doc Mat] abbrev Stack (k a b : ℕ) := (⟨3, ![k, a, b]⟩ : Shape).Idx → EReal
/-- A matrix of 2048 rows by column blocks. -/
abbrev Blocks (n : ℕ) := Fin 8 → Fin 2048 → Fin n → EReal

variable {a b k n : ℕ}

/-- A product of two matrices, of one with the other's transpose, and of one's transpose with the other. -/
def product (A : Mat a k) (B : Mat k b) (r : Fin a) (c : Fin b) : EReal := ∑ x : Fin k, A (ix2 r x) * B (ix2 x c)
@[inherit_doc product]
def productT (A : Mat a k) (B : Mat b k) (r : Fin a) (c : Fin b) : EReal := ∑ x : Fin k, A (ix2 r x) * B (ix2 c x)
@[inherit_doc product]
def tProduct (A : Mat k a) (B : Mat k b) (r : Fin a) (c : Fin b) : EReal := ∑ x : Fin k, A (ix2 x r) * B (ix2 x c)

/-- The first product, by column blocks. -/
def first (H : Mat 2048 2048) (W : Stack 8 2048 n) : Blocks n := fun s l j => ∑ d : Fin 2048, H (ix2 l d) * W (ix3 s d j)

/-- The gradient of the first weight matrix, by column blocks. -/
def gradWeight (H : Mat 2048 2048) (Z : Blocks n) : Blocks n := fun s d j => ∑ l : Fin 2048, H (ix2 l d) * Z s l j

/-- What column block `s` gives to the gradient of the input. -/
def partInput (Z : Blocks n) (W : Stack 8 2048 n) (s : Fin 8) (l d : Fin 2048) : EReal :=
  ∑ j : Fin n, Z s l j * W (ix3 s d j)

/-- The gradient of the input. -/
def gradInput (Z : Blocks n) (W : Stack 8 2048 n) (l d : Fin 2048) : EReal := ∑ s : Fin 8, partInput Z W s l d

/-- What grid point `t = 16 j + 8 i + s` adds to entry `(r, e)` of its block of the gradient of the input: rows `1024 i …`, model
features `1024 j …`, column block `s`. -/
def partAt (Z : Blocks n) (W : Stack 8 2048 n) (t : ℕ) (h : t < 32) (r e : Fin 1024) : EReal :=
  partInput Z W ⟨t % 8, by omega⟩ ⟨t / 8 % 2 * 1024 + r.val, by omega⟩ ⟨t / 16 * 1024 + e.val, by omega⟩

/-- The parts of the eight points of group `q` add up to the gradient. -/
theorem total (Z : Blocks n) (W : Stack 8 2048 n) (q : ℕ) (p : Fin 8 → ℕ) (hp : ∀ s, p s < 32)
    (e : ∀ s, p s = 8 * q + s.val) (r c : Fin 1024) (l d : Fin 2048)
    (hl : (l : ℕ) = q % 2 * 1024 + r.val) (hd : (d : ℕ) = q / 2 * 1024 + c.val) :
    ∑ s : Fin 8, partAt Z W (p s) (hp s) r c = gradInput Z W l d := by
  unfold gradInput partAt
  refine Finset.sum_congr rfl fun s _ => ?_
  have h := e s
  congr 1 <;> exact Fin.ext (by simp only; omega)

/-- A sum over all columns, by blocks. -/
theorem sum_blocks (Z : Blocks n) (W : Stack 8 2048 n) (l d : Fin 2048) {N : ℕ} (hN : 8 * n = N) (x y : Fin N → EReal)
    (hx : ∀ (s : Fin 8) (j : Fin n), x ⟨s.val * n + j.val, by
      subst hN; calc s.val * n + j.val < s.val * n + n := by omega
        _ = (s.val + 1) * n := by ring
        _ ≤ 8 * n := Nat.mul_le_mul_right _ s.isLt⟩ = Z s l j)
    (hy : ∀ (s : Fin 8) (j : Fin n), y ⟨s.val * n + j.val, by
      subst hN; calc s.val * n + j.val < s.val * n + n := by omega
        _ = (s.val + 1) * n := by ring
        _ ≤ 8 * n := Nat.mul_le_mul_right _ s.isLt⟩ = W (ix3 s d j)) :
    ∑ f : Fin N, x f * y f = gradInput Z W l d := by
  refine (Fin.sum_univ_tiles (M := EReal) 8 n hN fun f => x f * y f).trans ?_
  unfold gradInput partInput
  exact Finset.sum_congr rfl fun s _ => Finset.sum_congr rfl fun j _ => Ideal.mul_congr (hx s j) (hy s j)

/-- The column blocks of a stack of eight. -/
def ofStack (Z : Stack 8 2048 n) : Blocks n := fun s l j => Z (ix3 s l j)

/-- Where column block `s` of the gMLP mixer lies in a pair of arrays. -/
abbrev slot (s : Fin 8) : Fin 2 := ⟨s.val / 4, by omega⟩
@[inherit_doc slot] abbrev column (s : Fin 8) (j : Fin 1024) : Fin 4096 := ⟨s.val % 4 * 1024 + j.val, by omega⟩
/-- The column block of a column of a slot, and the column within it. -/
abbrev blockOf (p : Fin 2) (f : Fin 4096) : Fin 8 := ⟨p.val * 4 + f.val / 1024, by omega⟩
@[inherit_doc blockOf] abbrev inBlock (f : Fin 4096) : Fin 1024 := ⟨f.val % 1024, by omega⟩

/-- The column blocks of a pair of arrays. -/
def ofPair (Z : Stack 2 2048 4096) : Blocks 1024 := fun s l j => Z (ix3 (slot s) l (column s j))

end Cert.Mix

end
-- ==== Proof.Mix.GmIn.lean ====
module

public import proofs.«01_k».proof.Proof.Mix.Spec
public import proofs.«01_k».proof.Proof.Gen.GmInIdeal.Value
public import proofs.«01_k».proof.Proof.Gen.GmInRefIdeal.Read

/-!
The first product of the gMLP mixer: what the kernel leaves in its result, a pair of arrays, and the reference.
-/

@[expose] public section

set_option maxRecDepth 16384

noncomputable section

open Idealize.ShloMosaic Idealize.ShloMosaic.TcCoe Idealize.SL.Sem

namespace Cert.Mix.GmIn

section Kernel

open Cert.GmInIdeal Cert.GmInIdeal.Gen

variable (m : (ℓ : Loc nD τ sig) → Buf (Elt Ideal) ℓ) (c : Dev nD)

/-- The arguments. -/
abbrev aH : Mat 2048 2048 := m ((c : Thread nD τ).loc main_arg0)
@[inherit_doc aH] abbrev aW : Stack 8 2048 1024 := m ((c : Thread nD τ).loc main_arg1)

/-- Where the blocks of point `t = 4 j + i` lie: rows `512 i …`, half `j % 2` of column blocks `j / 2` and `4 + j / 2`. -/
theorem idx : ∀ t : Fin cfg0.N, win0_0.index t = ![t.val % 4, 0] ∧ win0_1.index t = ![t.val / 8, 0, t.val / 4 % 2]
    ∧ win0_2.index t = ![4 + t.val / 8, 0, t.val / 4 % 2] ∧ win0_3.index t = ![0, t.val % 4, t.val / 4] ∧ t.val / 8 < 4 :=
  (by decide +kernel : ∀ t : Fin grid0.N, _)

/-- The two products of point `t`, at the place they have in the pair of arrays. -/
theorem piece_u (t : Fin cfg0.N) (x : S1x512x512.Idx) (i : S2x2048x4096.Idx) (h0 : (i 0 : ℕ) = 0)
    (h1 : (i 1 : ℕ) = t.val % 4 * 512 + (x 1 : ℕ)) (h2 : (i 2 : ℕ) = t.val / 4 * 512 + (x 2 : ℕ)) :
    k0_pay2 (F := Ideal) (iblk m c 0 t) (iblk m c 1 t) x
      = first (aH m c) (aW m c) (blockOf (i 0) (i 2)) (i 1) (inBlock (i 2)) := by
  have := (idx t).2.2.2.2
  obtain ⟨r, j, rfl⟩ : ∃ (r j : Fin 512), x = ix3 0 r j := ⟨x 1, x 2, by blk_ext⟩
  replace h1 : (i 1 : ℕ) = t.val % 4 * 512 + r.val := h1
  replace h2 : (i 2 : ℕ) = t.val / 4 * 512 + j.val := h2
  have e0 : blockOf (i 0) (i 2) = ⟨t.val / 8, by omega⟩ := Fin.ext (by show (i 0 : ℕ) * 4 + (i 2 : ℕ) / 1024 = t.val / 8; omega)
  have e1 : i 1 = ⟨t.val % 4 * 512 + r.val, by omega⟩ := Fin.ext h1
  have e2 : inBlock (i 2) = ⟨t.val / 4 % 2 * 512 + j.val, by omega⟩ :=
    Fin.ext (by show (i 2 : ℕ) % 1024 = t.val / 4 % 2 * 512 + j.val; omega)
  rw [e0, e1, e2]
  pointwise [k0_pay2]
  unfold first
  blk_point [iblk, V, idx t]
@[inherit_doc piece_u]
theorem piece_v (t : Fin cfg0.N) (x : S1x512x512.Idx) (i : S2x2048x4096.Idx) (h0 : (i 0 : ℕ) = 1)
    (h1 : (i 1 : ℕ) = t.val % 4 * 512 + (x 1 : ℕ)) (h2 : (i 2 : ℕ) = t.val / 4 * 512 + (x 2 : ℕ)) :
    k0_pay3 (F := Ideal) (iblk m c 0 t) (iblk m c 2 t) x
      = first (aH m c) (aW m c) (blockOf (i 0) (i 2)) (i 1) (inBlock (i 2)) := by
  have := (idx t).2.2.2.2
  obtain ⟨r, j, rfl⟩ : ∃ (r j : Fin 512), x = ix3 0 r j := ⟨x 1, x 2, by blk_ext⟩
  replace h1 : (i 1 : ℕ) = t.val % 4 * 512 + r.val := h1
  replace h2 : (i 2 : ℕ) = t.val / 4 * 512 + j.val := h2
  have e0 : blockOf (i 0) (i 2) = ⟨4 + t.val / 8, by omega⟩ :=
    Fin.ext (by show (i 0 : ℕ) * 4 + (i 2 : ℕ) / 1024 = 4 + t.val / 8; omega)
  have e1 : i 1 = ⟨t.val % 4 * 512 + r.val, by omega⟩ := Fin.ext h1
  have e2 : inBlock (i 2) = ⟨t.val / 4 % 2 * 512 + j.val, by omega⟩ :=
    Fin.ext (by show (i 2 : ℕ) % 1024 = t.val / 4 % 2 * 512 + j.val; omega)
  rw [e0, e1, e2]
  pointwise [k0_pay3]
  unfold first
  blk_point [iblk, V, idx t]

theorem final : (dats m 0 c).arrAt 3 cfg0.N = fun i =>
    first (aH m c) (aW m c) (blockOf (i 0) (i 2)) (i 1) (inBlock (i 2)) := by
  refine (dats m 0 c).arrAt_eq_of_covers 3 _ (by decide +kernel) fun t hf y => ?_
  blk_simp
  rw [after0_3]
  frame_out
  canon_tiles x h
  case' piece0 => refine piece_v m c t _ _ ?_ ?_ ?_
  case' piece1 => refine piece_u m c t _ _ ?_ ?_ ?_
  all_goals (blk_simp [idx t]; omega)

end Kernel

section Reference

open Cert.GmInRefIdeal Cert.GmInRefIdeal.Gen Cert.GmInRefIdeal.Read

/-- The reference's weight matrix of 8192 columns, by slots. -/
theorem weights (W : Stack 8 2048 1024) (d : Fin 2048) (p : Fin 2) (f : Fin 4096) :
    val_main_v3 (F := Ideal) W (ix2 d ⟨p.val * 4096 + f.val, by omega⟩) = W (ix3 (blockOf p f) d (inBlock f)) := by
  pointwise [val_main_v3, val_main_v2, val_main_v1]
  blk_ext

theorem reference (H : Mat 2048 2048) (W : Stack 8 2048 1024) (i : S2x2048x4096.Idx) :
    val_main_v10 (F := Ideal) H W i = first H W (blockOf (i 0) (i 2)) (i 1) (inBlock (i 2)) := by
  obtain ⟨p, l, f, rfl⟩ : ∃ (p : Fin 2) (l : Fin 2048) (f : Fin 4096), i = ix3 p l f := ⟨i 0, i 1, i 2, by blk_ext⟩
  show _ = first H W (blockOf p f) l (inBlock f)
  have h : val_main_v4 (F := Ideal) H W (ix2 l ⟨p.val * 4096 + f.val, by omega⟩) = first H W (blockOf p f) l (inBlock f) := by
    pointwise [val_main_v4, val_main_v0]
    unfold first
    exact Finset.sum_congr rfl fun d _ => Ideal.mul_congr rfl (weights W d p f)
  rw [← h]
  pointwise [val_main_v10, val_main_v9, val_main_v8, val_main_v7, val_main_v6, val_main_v5]
  generalize val_main_v4 (F := Ideal) H W = X
  split_ifs <;> blk_ext

end Reference

end Cert.Mix.GmIn

end
-- ==== Proof.Mix.GmGradIn.lean ====
module

public import proofs.«01_k».proof.Proof.Mix.Spec
public import proofs.«01_k».proof.Proof.Gen.GmGradInIdeal.Value
public import proofs.«01_k».proof.Proof.Gen.GmGradInRefIdeal.Read

/-!
The gradient of the first weight matrix of the gMLP mixer: what the kernel leaves in its result, and the reference.
-/

@[expose] public section

set_option maxRecDepth 16384

noncomputable section

open Idealize.ShloMosaic Idealize.ShloMosaic.TcCoe Idealize.SL.Sem

namespace Cert.Mix.GmGradIn

section Kernel

open Cert.GmGradInIdeal Cert.GmGradInIdeal.Gen

variable (m : (ℓ : Loc nD τ sig) → Buf (Elt Ideal) ℓ) (c : Dev nD)

/-- The arguments. -/
abbrev aH : Mat 2048 2048 := m ((c : Thread nD τ).loc main_arg0)
@[inherit_doc aH] abbrev aZ : Stack 2 2048 4096 := m ((c : Thread nD τ).loc main_arg1)

/-- Where the blocks of point `t = 4 k + d` lie: column block `k`, model features `512 d …`. -/
theorem idx : ∀ t : Fin cfg0.N, win0_0.index t = ![0, t.val % 4] ∧ win0_1.index t = ![t.val / 16, 0, t.val / 4 % 4]
    ∧ win0_2.index t = ![t.val / 4, t.val % 4, 0] :=
  (by decide +kernel : ∀ t : Fin grid0.N, _)

/-- What the body computes at point `t`, at the place it has in the array. -/
theorem piece (t : Fin cfg0.N) (x : S1x512x1024.Idx) (i : S8x2048x1024.Idx) (h0 : (i 0 : ℕ) = t.val / 4)
    (h1 : (i 1 : ℕ) = t.val % 4 * 512 + (x 1 : ℕ)) (h2 : (i 2 : ℕ) = (x 2 : ℕ)) :
    k0_pay2 (F := Ideal) (iblk m c 0 t) (iblk m c 1 t) x = gradWeight (aH m c) (ofPair (aZ m c)) (i 0) (i 1) (i 2) := by
  obtain ⟨d, j, rfl⟩ : ∃ (d : Fin 512) (j : Fin 1024), x = ix3 0 d j := ⟨x 1, x 2, by blk_ext⟩
  replace h1 : (i 1 : ℕ) = t.val % 4 * 512 + d.val := h1
  have ht : t.val < 32 := t.isLt
  rw [show i 0 = ⟨t.val / 4, by omega⟩ from Fin.ext h0, show i 1 = ⟨t.val % 4 * 512 + d.val, by omega⟩ from Fin.ext h1,
    show i 2 = j from Fin.ext h2]
  pointwise [k0_pay2]
  unfold gradWeight ofPair
  blk_point [iblk, V, idx t]

theorem final : (dats m 0 c).arrAt 2 cfg0.N = fun i => gradWeight (aH m c) (ofPair (aZ m c)) (i 0) (i 1) (i 2) := by
  refine (dats m 0 c).arrAt_eq_of_covers 2 _ (by decide +kernel) fun t hf y => ?_
  blk_simp
  rw [after0_2]
  frame_out
  refine piece m c t _ _ ?_ ?_ ?_
  all_goals (blk_simp [idx t]; try omega)

end Kernel

section Reference

open Cert.GmGradInRefIdeal Cert.GmGradInRefIdeal.Gen Cert.GmGradInRefIdeal.Read

/-- The upstream gradient of all 8192 columns, by blocks. -/
theorem joined (Z : Stack 2 2048 4096) (l : Fin 2048) (s : Fin 8) (j : Fin 1024) :
    val_main_v13 (F := Ideal) Z (ix2 l ⟨s.val * 1024 + j.val, by omega⟩) = ofPair Z s l j := by
  pointwise [val_main_v13, val_main_v12, val_main_v11, val_main_v10, val_main_v9, val_main_v8]
  unfold ofPair
  split_ifs <;> blk_ext

theorem reference (H : Mat 2048 2048) (Z : Stack 2 2048 4096) (i : S8x2048x1024.Idx) :
    val_main_v18 (F := Ideal) H Z i = gradWeight H (ofPair Z) (i 0) (i 1) (i 2) := by
  obtain ⟨s, d, j, rfl⟩ : ∃ (s : Fin 8) (d : Fin 2048) (j : Fin 1024), i = ix3 s d j := ⟨i 0, i 1, i 2, by blk_ext⟩
  show _ = gradWeight H (ofPair Z) s d j
  pointwise [val_main_v18, val_main_v17, val_main_v16, val_main_v15, val_main_v14, val_main_v1]
  unfold gradWeight
  refine Finset.sum_congr rfl fun l _ => (mul_comm _ _).trans (Ideal.mul_congr ?_ (Eq.trans ?_ (joined Z l s j)))
  · blk_ext
  · generalize val_main_v13 (F := Ideal) Z = X
    blk_ext

end Reference

end Cert.Mix.GmGradIn

end
-- ==== Proof.Mix.GmGradInput.lean ====
module

public import proofs.«01_k».proof.Proof.Mix.Spec
public import proofs.«01_k».proof.Proof.Gen.GmGradInputIdeal.Value
public import proofs.«01_k».proof.Proof.Gen.GmGradInputRefIdeal.Read

/-!
The gradient of the gMLP mixer's input: what the kernel leaves in its result, a sum over the 8 column blocks, and the
reference.
-/

@[expose] public section

set_option maxRecDepth 16384

noncomputable section

open Idealize.ShloMosaic Idealize.ShloMosaic.TcCoe Idealize.SL.Sem

namespace Cert.Mix.GmGradInput

section Kernel

open Cert.GmGradInputIdeal Cert.GmGradInputIdeal.Gen

variable (m : (ℓ : Loc nD τ sig) → Buf (Elt Ideal) ℓ) (c : Dev nD)

/-- The arguments. -/
abbrev aZ : Stack 2 2048 4096 := m ((c : Thread nD τ).loc main_arg0)
@[inherit_doc aZ] abbrev aW : Stack 8 2048 1024 := m ((c : Thread nD τ).loc main_arg1)

/-- Where the blocks of point `t = 16 j + 8 i + k` lie: rows `1024 i …`, model features `1024 j …`, column block `k`. -/
theorem idx : ∀ t : Fin cfg0.N, win0_0.index t = ![t.val % 8 / 4, t.val / 8 % 2, t.val % 4]
    ∧ win0_1.index t = ![t.val % 8, t.val / 16, 0] ∧ win0_2.index t = ![t.val / 8 % 2, t.val / 16] ∧ t.val / 16 < 2 :=
  (by decide +kernel : ∀ t : Fin grid0.N, _)

/-- What point `t` adds at a place of its block, at the place it has in the array. -/
abbrev part (t : Fin cfg0.N) (j : S1024x1024.Idx) : EReal :=
  partAt (ofPair (aZ m c)) (aW m c) t.val (by have := (idx t).2.2.2; omega) (j 0) (j 1)

theorem part_at (t : Fin cfg0.N) (j : S1024x1024.Idx) :
    k0_pay2 (F := Ideal) (iblk m c 0 t) (iblk m c 1 t) j = part m c t j := by
  pointwise [k0_pay2]
  unfold part partAt partInput ofPair
  blk_point [iblk, V, idx t]

theorem add_at (z w : Vec Ideal S1x1024x1024 .bf16) (a : Vec Ideal S1024x1024 .f32) (j : S1024x1024.Idx) :
    k0_pay3 (F := Ideal) z w a j = a j + k0_pay2 z w j := by
  pointwise [k0_pay3]

theorem start (t : Fin cfg0.N) (h : t.val % 8 = 0) (j : S1024x1024.Idx) :
    (outsAt0 m c t.val t.isLt).1 j = 0 + part m c t j := by
  rw [outsAt0_A m c t h (by omega)]
  frame_out
  rw [part_at m c t, zero_add]

theorem next (t : Fin cfg0.N) (h : ¬ t.val % 8 = 0) (j : S1024x1024.Idx) :
    (outsAt0 m c t.val t.isLt).1 j
      = (outsAt0 m c (t.val - 1) (lt_of_le_of_lt (Nat.sub_le _ _) t.isLt)).1 j + part m c t j := by
  rw [outsAt0_B m c t h (by omega)]
  frame_out
  rw [add_at, part_at m c t]

theorem final : (dats m 0 c).arrAt 2 cfg0.N = fun i => gradInput (ofPair (aZ m c)) (aW m c) (i 0) (i 1) := by
  refine (dats m 0 c).arrAt_eq_of_covers 2 _ (by decide +kernel) fun t hf y => ?_
  blk_simp
  rw [after0_2, Pipeline.eq_sum_fin_of_reset_step_apply_of_flush (fun n h => (outsAt0 m c n h).1) 8 (fun _ => 0)
    (part m c) (start m c) (next m c) t ((flush0_2 t).mp hf) _, zero_add]
  refine total _ _ (t.val / 8) _ _ (fun _ => rfl) (y 0) (y 1) _ _ ?_ ?_
  · blk_simp [idx t]
  · blk_simp [idx t]; omega

end Kernel

section Reference

open Cert.GmGradInputRefIdeal Cert.GmGradInputRefIdeal.Gen Cert.GmGradInputRefIdeal.Read

/-- The upstream gradient and the weight matrix of all 8192 columns, by blocks. -/
theorem joined (Z : Stack 2 2048 4096) (l : Fin 2048) (s : Fin 8) (j : Fin 1024) :
    val_main_v15 (F := Ideal) Z (ix2 l ⟨s.val * 1024 + j.val, by omega⟩) = ofPair Z s l j := by
  pointwise [val_main_v15, val_main_v14, val_main_v13, val_main_v12, val_main_v11, val_main_v10]
  unfold ofPair
  split_ifs <;> blk_ext
@[inherit_doc joined]
theorem weights (W : Stack 8 2048 1024) (d : Fin 2048) (s : Fin 8) (j : Fin 1024) :
    val_main_v3 (F := Ideal) W (ix2 d ⟨s.val * 1024 + j.val, by omega⟩) = W (ix3 s d j) := by
  pointwise [val_main_v3, val_main_v2, val_main_v1]
  blk_ext

theorem reference (Z : Stack 2 2048 4096) (W : Stack 8 2048 1024) (i : S2048x2048.Idx) :
    val_main_v16 (F := Ideal) Z W i = gradInput (ofPair Z) W (i 0) (i 1) := by
  obtain ⟨l, d, rfl⟩ : ∃ (l d : Fin 2048), i = ix2 l d := ⟨i 0, i 1, by blk_ext⟩
  show _ = gradInput (ofPair Z) W l d
  pointwise [val_main_v16]
  exact sum_blocks (ofPair Z) W l d (N := 8192) rfl (fun f => val_main_v15 (F := Ideal) Z (ix2 l f)) (fun f => val_main_v3 (F := Ideal) W (ix2 d f))
    (joined Z l) (weights W d)

end Reference

end Cert.Mix.GmGradInput

end
-- ==== Proof.Mix.GmBackOut.lean ====
module

public import proofs.«01_k».proof.Proof.Mix.Spec
public import proofs.«01_k».proof.Proof.Gen.GmBackOutIdeal.Value
public import proofs.«01_k».proof.Proof.Gen.GmBackOutRefIdeal.Read

/-!
The gradient of what the second product of the gMLP mixer takes: what the kernel leaves in its result, and the reference.
-/

@[expose] public section

set_option maxRecDepth 16384

noncomputable section

open Idealize.ShloMosaic Idealize.ShloMosaic.TcCoe Idealize.SL.Sem

namespace Cert.Mix.GmBackOut

section Kernel

open Cert.GmBackOutIdeal Cert.GmBackOutIdeal.Gen

variable (m : (ℓ : Loc nD τ sig) → Buf (Elt Ideal) ℓ) (c : Dev nD)

/-- The arguments. -/
abbrev aY : Mat 2048 2048 := m ((c : Thread nD τ).loc main_arg0)
@[inherit_doc aY] abbrev aW : Mat 4096 2048 := m ((c : Thread nD τ).loc main_arg1)

/-- Where the blocks of point `t = 4 j + i` lie: rows `512 i …`, inner features `1024 j …`. -/
theorem idx : ∀ t : Fin cfg0.N, win0_0.index t = ![t.val % 4, 0] ∧ win0_1.index t = ![t.val / 4, 0]
    ∧ win0_2.index t = ![t.val % 4, t.val / 4] :=
  (by decide +kernel : ∀ t : Fin grid0.N, _)

theorem final : (dats m 0 c).arrAt 2 cfg0.N = fun i => productT (aY m c) (aW m c) (i 0) (i 1) := by
  refine (dats m 0 c).arrAt_eq_of_covers 2 _ (by decide +kernel) fun t hf y => ?_
  blk_simp
  rw [after0_2]
  frame_out
  pointwise [k0_pay2]
  unfold productT
  blk_point [iblk, V, idx t]

end Kernel

section Reference

open Cert.GmBackOutRefIdeal Cert.GmBackOutRefIdeal.Gen Cert.GmBackOutRefIdeal.Read

theorem reference (Y : Mat 2048 2048) (W : Mat 4096 2048) (i : S2048x4096.Idx) :
    val_main_v5 (F := Ideal) Y W i = productT Y W (i 0) (i 1) := by
  obtain ⟨l, f, rfl⟩ : ∃ (l : Fin 2048) (f : Fin 4096), i = ix2 l f := ⟨i 0, i 1, by blk_ext⟩
  pointwise [val_main_v5, val_main_v4, val_main_v3, val_main_v1]
  rfl

end Reference

end Cert.Mix.GmBackOut

end
-- ==== Proof.Mix.SsdIn.lean ====
module

public import proofs.«01_k».proof.Proof.Mix.Spec
public import proofs.«01_k».proof.Proof.Gen.SsdInIdeal.Value
public import proofs.«01_k».proof.Proof.Gen.SsdInRefIdeal.Read

/-!
The first product of the SSD mixer: what the kernel leaves in its result, and the reference.
-/

@[expose] public section

set_option maxRecDepth 16384

noncomputable section

open Idealize.ShloMosaic Idealize.ShloMosaic.TcCoe Idealize.SL.Sem

namespace Cert.Mix.SsdIn

section Kernel

open Cert.SsdInIdeal Cert.SsdInIdeal.Gen

variable (m : (ℓ : Loc nD τ sig) → Buf (Elt Ideal) ℓ) (c : Dev nD)

/-- The arguments. -/
abbrev aH : Mat 2048 2048 := m ((c : Thread nD τ).loc main_arg0)
@[inherit_doc aH] abbrev aW : Stack 8 2048 1288 := m ((c : Thread nD τ).loc main_arg1)

/-- Where the blocks of point `t = 4 k + i` lie: rows `512 i …`, column block `k`. -/
theorem idx : ∀ t : Fin cfg0.N, win0_0.index t = ![t.val % 4, 0] ∧ win0_1.index t = ![t.val / 4, 0, 0]
    ∧ win0_2.index t = ![t.val / 4, t.val % 4, 0] :=
  (by decide +kernel : ∀ t : Fin grid0.N, _)

theorem final : (dats m 0 c).arrAt 2 cfg0.N = fun i => first (aH m c) (aW m c) (i 0) (i 1) (i 2) := by
  refine (dats m 0 c).arrAt_eq_of_covers 2 _ (by decide +kernel) fun t hf y => ?_
  blk_simp
  rw [after0_2]
  frame_out
  pointwise [k0_pay2]
  unfold first
  blk_point [iblk, V, idx t]

end Kernel

section Reference

open Cert.SsdInRefIdeal Cert.SsdInRefIdeal.Gen Cert.SsdInRefIdeal.Read

/-- The reference's weight matrix of 10304 columns, by blocks. -/
theorem weights (W : Stack 8 2048 1288) (d : Fin 2048) (s : Fin 8) (j : Fin 1288) :
    val_main_v3 (F := Ideal) W (ix2 d ⟨s.val * 1288 + j.val, by omega⟩) = W (ix3 s d j) := by
  pointwise [val_main_v3, val_main_v2, val_main_v1]
  blk_ext

theorem reference (H : Mat 2048 2048) (W : Stack 8 2048 1288) (i : S8x2048x1288.Idx) :
    val_main_v6 (F := Ideal) H W i = first H W (i 0) (i 1) (i 2) := by
  obtain ⟨s, l, j, rfl⟩ : ∃ (s : Fin 8) (l : Fin 2048) (j : Fin 1288), i = ix3 s l j := ⟨i 0, i 1, i 2, by blk_ext⟩
  show _ = first H W s l j
  pointwise [val_main_v6, val_main_v5, val_main_v4, val_main_v0]
  unfold first
  refine Finset.sum_congr rfl fun d _ => Ideal.mul_congr ?_ (Eq.trans ?_ (weights W d s j))
  · blk_ext
  · generalize val_main_v3 (F := Ideal) W = X
    blk_ext

end Reference

end Cert.Mix.SsdIn

end
-- ==== Proof.Mix.SsdGradIn.lean ====
module

public import proofs.«01_k».proof.Proof.Mix.Spec
public import proofs.«01_k».proof.Proof.Gen.SsdGradInIdeal.Value
public import proofs.«01_k».proof.Proof.Gen.SsdGradInRefIdeal.Read

/-!
The gradient of the first weight matrix of the SSD mixer: what the kernel leaves in its result, and the reference.
-/

@[expose] public section

set_option maxRecDepth 16384

noncomputable section

open Idealize.ShloMosaic Idealize.ShloMosaic.TcCoe Idealize.SL.Sem

namespace Cert.Mix.SsdGradIn

section Kernel

open Cert.SsdGradInIdeal Cert.SsdGradInIdeal.Gen

variable (m : (ℓ : Loc nD τ sig) → Buf (Elt Ideal) ℓ) (c : Dev nD)

/-- The arguments. -/
abbrev aH : Mat 2048 2048 := m ((c : Thread nD τ).loc main_arg0)
@[inherit_doc aH] abbrev aZ : Stack 8 2048 1288 := m ((c : Thread nD τ).loc main_arg1)

/-- Where the blocks of point `t = 4 k + d` lie: column block `k`, model features `512 d …`. -/
theorem idx : ∀ t : Fin cfg0.N, win0_0.index t = ![0, t.val % 4] ∧ win0_1.index t = ![t.val / 4, 0, 0]
    ∧ win0_2.index t = ![t.val / 4, t.val % 4, 0] :=
  (by decide +kernel : ∀ t : Fin grid0.N, _)

theorem final : (dats m 0 c).arrAt 2 cfg0.N = fun i => gradWeight (aH m c) (ofStack (aZ m c)) (i 0) (i 1) (i 2) := by
  refine (dats m 0 c).arrAt_eq_of_covers 2 _ (by decide +kernel) fun t hf y => ?_
  blk_simp
  rw [after0_2]
  frame_out
  pointwise [k0_pay2]
  unfold gradWeight ofStack
  blk_point [iblk, V, idx t]

end Kernel

section Reference

open Cert.SsdGradInRefIdeal Cert.SsdGradInRefIdeal.Gen Cert.SsdGradInRefIdeal.Read

/-- The upstream gradient of all 10304 columns, by blocks. -/
theorem joined (Z : Stack 8 2048 1288) (l : Fin 2048) (s : Fin 8) (j : Fin 1288) :
    val_main_v7 (F := Ideal) Z (ix2 l ⟨s.val * 1288 + j.val, by omega⟩) = ofStack Z s l j := by
  pointwise [val_main_v7, val_main_v6, val_main_v5]
  unfold ofStack
  blk_ext

theorem reference (H : Mat 2048 2048) (Z : Stack 8 2048 1288) (i : S8x2048x1288.Idx) :
    val_main_v12 (F := Ideal) H Z i = gradWeight H (ofStack Z) (i 0) (i 1) (i 2) := by
  obtain ⟨s, d, j, rfl⟩ : ∃ (s : Fin 8) (d : Fin 2048) (j : Fin 1288), i = ix3 s d j := ⟨i 0, i 1, i 2, by blk_ext⟩
  show _ = gradWeight H (ofStack Z) s d j
  pointwise [val_main_v12, val_main_v11, val_main_v10, val_main_v9, val_main_v8, val_main_v1]
  unfold gradWeight
  refine Finset.sum_congr rfl fun l _ => (mul_comm _ _).trans (Ideal.mul_congr ?_ (Eq.trans ?_ (joined Z l s j)))
  · blk_ext
  · generalize val_main_v7 (F := Ideal) Z = X
    blk_ext

end Reference

end Cert.Mix.SsdGradIn

end
-- ==== Proof.Mix.SsdGradInput.lean ====
module

public import proofs.«01_k».proof.Proof.Mix.Spec
public import proofs.«01_k».proof.Proof.Gen.SsdGradInputIdeal.Value
public import proofs.«01_k».proof.Proof.Gen.SsdGradInputRefIdeal.Read

/-!
The gradient of the SSD mixer's input: what the kernel leaves in its result, a sum over the 8 column blocks, and the
reference.
-/

@[expose] public section

set_option maxRecDepth 16384

noncomputable section

open Idealize.ShloMosaic Idealize.ShloMosaic.TcCoe Idealize.SL.Sem

namespace Cert.Mix.SsdGradInput

section Kernel

open Cert.SsdGradInputIdeal Cert.SsdGradInputIdeal.Gen

variable (m : (ℓ : Loc nD τ sig) → Buf (Elt Ideal) ℓ) (c : Dev nD)

/-- The arguments. -/
abbrev aZ : Stack 8 2048 1288 := m ((c : Thread nD τ).loc main_arg0)
@[inherit_doc aZ] abbrev aW : Stack 8 2048 1288 := m ((c : Thread nD τ).loc main_arg1)

/-- Where the blocks of point `t = 16 j + 8 i + k` lie: rows `1024 i …`, model features `1024 j …`, column block `k`. -/
theorem idx : ∀ t : Fin cfg0.N, win0_0.index t = ![t.val % 8, t.val / 8 % 2, 0]
    ∧ win0_1.index t = ![t.val % 8, t.val / 16, 0] ∧ win0_2.index t = ![t.val / 8 % 2, t.val / 16] ∧ t.val / 16 < 2 :=
  (by decide +kernel : ∀ t : Fin grid0.N, _)

/-- What point `t` adds at a place of its block, at the place it has in the array. -/
abbrev part (t : Fin cfg0.N) (j : S1024x1024.Idx) : EReal :=
  partAt (ofStack (aZ m c)) (aW m c) t.val (by have := (idx t).2.2.2; omega) (j 0) (j 1)

theorem part_at (t : Fin cfg0.N) (j : S1024x1024.Idx) :
    k0_pay2 (F := Ideal) (iblk m c 0 t) (iblk m c 1 t) j = part m c t j := by
  pointwise [k0_pay2]
  unfold part partAt partInput ofStack
  blk_point [iblk, V, idx t]

theorem add_at (z w : Vec Ideal S1x1024x1288 .bf16) (a : Vec Ideal S1024x1024 .f32) (j : S1024x1024.Idx) :
    k0_pay3 (F := Ideal) z w a j = a j + k0_pay2 z w j := by
  pointwise [k0_pay3]

theorem start (t : Fin cfg0.N) (h : t.val % 8 = 0) (j : S1024x1024.Idx) :
    (outsAt0 m c t.val t.isLt).1 j = 0 + part m c t j := by
  rw [outsAt0_A m c t h (by omega)]
  frame_out
  rw [part_at m c t, zero_add]

theorem next (t : Fin cfg0.N) (h : ¬ t.val % 8 = 0) (j : S1024x1024.Idx) :
    (outsAt0 m c t.val t.isLt).1 j
      = (outsAt0 m c (t.val - 1) (lt_of_le_of_lt (Nat.sub_le _ _) t.isLt)).1 j + part m c t j := by
  rw [outsAt0_B m c t h (by omega)]
  frame_out
  rw [add_at, part_at m c t]

theorem final : (dats m 0 c).arrAt 2 cfg0.N = fun i => gradInput (ofStack (aZ m c)) (aW m c) (i 0) (i 1) := by
  refine (dats m 0 c).arrAt_eq_of_covers 2 _ (by decide +kernel) fun t hf y => ?_
  blk_simp
  rw [after0_2, Pipeline.eq_sum_fin_of_reset_step_apply_of_flush (fun n h => (outsAt0 m c n h).1) 8 (fun _ => 0)
    (part m c) (start m c) (next m c) t ((flush0_2 t).mp hf) _, zero_add]
  refine total _ _ (t.val / 8) _ _ (fun _ => rfl) (y 0) (y 1) _ _ ?_ ?_
  · blk_simp [idx t]
  · blk_simp [idx t]; omega

end Kernel

section Reference

open Cert.SsdGradInputRefIdeal Cert.SsdGradInputRefIdeal.Gen Cert.SsdGradInputRefIdeal.Read

/-- The upstream gradient and the weight matrix of all 10304 columns, by blocks. -/
theorem joined (Z : Stack 8 2048 1288) (l : Fin 2048) (s : Fin 8) (j : Fin 1288) :
    val_main_v9 (F := Ideal) Z (ix2 l ⟨s.val * 1288 + j.val, by omega⟩) = ofStack Z s l j := by
  pointwise [val_main_v9, val_main_v8, val_main_v7]
  unfold ofStack
  blk_ext
@[inherit_doc joined]
theorem weights (W : Stack 8 2048 1288) (d : Fin 2048) (s : Fin 8) (j : Fin 1288) :
    val_main_v3 (F := Ideal) W (ix2 d ⟨s.val * 1288 + j.val, by omega⟩) = W (ix3 s d j) := by
  pointwise [val_main_v3, val_main_v2, val_main_v1]
  blk_ext

theorem reference (Z W : Stack 8 2048 1288) (i : S2048x2048.Idx) :
    val_main_v10 (F := Ideal) Z W i = gradInput (ofStack Z) W (i 0) (i 1) := by
  obtain ⟨l, d, rfl⟩ : ∃ (l d : Fin 2048), i = ix2 l d := ⟨i 0, i 1, by blk_ext⟩
  show _ = gradInput (ofStack Z) W l d
  pointwise [val_main_v10]
  exact sum_blocks (ofStack Z) W l d (N := 10304) rfl (fun f => val_main_v9 (F := Ideal) Z (ix2 l f)) (fun f => val_main_v3 (F := Ideal) W (ix2 d f))
    (joined Z l) (weights W d)

end Reference

end Cert.Mix.SsdGradInput

end
-- ==== Proof.Mix.SsdBackOut.lean ====
module

public import proofs.«01_k».proof.Proof.Mix.Spec
public import proofs.«01_k».proof.Proof.Gen.SsdBackOutIdeal.Value
public import proofs.«01_k».proof.Proof.Gen.SsdBackOutRefIdeal.Read

/-!
The gradient of what the second product of the SSD mixer takes: what the kernel leaves in its result, and the reference.
-/

@[expose] public section

set_option maxRecDepth 16384

noncomputable section

open Idealize.ShloMosaic Idealize.ShloMosaic.TcCoe Idealize.SL.Sem

namespace Cert.Mix.SsdBackOut

section Kernel

open Cert.SsdBackOutIdeal Cert.SsdBackOutIdeal.Gen

variable (m : (ℓ : Loc nD τ sig) → Buf (Elt Ideal) ℓ) (c : Dev nD)

/-- The arguments. -/
abbrev aY : Mat 2048 2048 := m ((c : Thread nD τ).loc main_arg0)
@[inherit_doc aY] abbrev aW : Mat 4096 2048 := m ((c : Thread nD τ).loc main_arg1)

/-- Where the blocks of point `t = 4 j + i` lie: rows `512 i …`, inner features `1024 j …`. -/
theorem idx : ∀ t : Fin cfg0.N, win0_0.index t = ![t.val % 4, 0] ∧ win0_1.index t = ![t.val / 4, 0]
    ∧ win0_2.index t = ![t.val % 4, t.val / 4] :=
  (by decide +kernel : ∀ t : Fin grid0.N, _)

theorem final : (dats m 0 c).arrAt 2 cfg0.N = fun i => productT (aY m c) (aW m c) (i 0) (i 1) := by
  refine (dats m 0 c).arrAt_eq_of_covers 2 _ (by decide +kernel) fun t hf y => ?_
  blk_simp
  rw [after0_2]
  frame_out
  pointwise [k0_pay2]
  unfold productT
  blk_point [iblk, V, idx t]

end Kernel

section Reference

open Cert.SsdBackOutRefIdeal Cert.SsdBackOutRefIdeal.Gen Cert.SsdBackOutRefIdeal.Read

theorem reference (Y : Mat 2048 2048) (W : Mat 4096 2048) (i : S2048x4096.Idx) :
    val_main_v4 (F := Ideal) Y W i = productT Y W (i 0) (i 1) := by
  obtain ⟨l, f, rfl⟩ : ∃ (l : Fin 2048) (f : Fin 4096), i = ix2 l f := ⟨i 0, i 1, by blk_ext⟩
  pointwise [val_main_v4, val_main_v3, val_main_v1]
  rfl

end Reference

end Cert.Mix.SsdBackOut

end
-- ==== Proof.Mix.MixOut.lean ====
module

public import proofs.«01_k».proof.Proof.Mix.Spec
public import proofs.«01_k».proof.Proof.Gen.MixOutIdeal.Value
public import proofs.«01_k».proof.Proof.Gen.MixOutRefIdeal.Read

/-!
The second product of a mixer, added to the residual: what the kernel leaves in its result, and the reference.
-/

@[expose] public section

set_option maxRecDepth 16384

noncomputable section

open Idealize.ShloMosaic Idealize.ShloMosaic.TcCoe Idealize.SL.Sem

namespace Cert.Mix.MixOut

section Kernel

open Cert.MixOutIdeal Cert.MixOutIdeal.Gen

variable (m : (ℓ : Loc nD τ sig) → Buf (Elt Ideal) ℓ) (c : Dev nD)

/-- The arguments. -/
abbrev aA : Mat 2048 4096 := m ((c : Thread nD τ).loc main_arg0)
@[inherit_doc aA] abbrev aW : Mat 4096 2048 := m ((c : Thread nD τ).loc main_arg1)
@[inherit_doc aA] abbrev aX : Mat 2048 2048 := m ((c : Thread nD τ).loc main_arg2)

/-- Where the blocks of point `t = 4 j + i` lie: rows `512 i …`, model features `1024 j …`. -/
theorem idx : ∀ t : Fin cfg0.N, win0_0.index t = ![t.val % 4, 0] ∧ win0_1.index t = ![0, t.val / 4]
    ∧ win0_2.index t = ![t.val % 4, t.val / 4] ∧ win0_3.index t = ![t.val % 4, t.val / 4] :=
  (by decide +kernel : ∀ t : Fin grid0.N, _)

theorem final : (dats m 0 c).arrAt 3 cfg0.N = fun i => aX m c (ix2 (i 0) (i 1)) + product (aA m c) (aW m c) (i 0) (i 1) := by
  refine (dats m 0 c).arrAt_eq_of_covers 3 _ (by decide +kernel) fun t hf y => ?_
  blk_simp
  rw [after0_3]
  frame_out
  pointwise [k0_pay2]
  unfold product
  blk_point [iblk, V, idx t]

end Kernel

section Reference

open Cert.MixOutRefIdeal Cert.MixOutRefIdeal.Gen Cert.MixOutRefIdeal.Read

theorem reference (A : Mat 2048 4096) (W : Mat 4096 2048) (X : Mat 2048 2048) (i : S2048x2048.Idx) :
    val_main_v3 (F := Ideal) A W X i = X (ix2 (i 0) (i 1)) + product A W (i 0) (i 1) := by
  obtain ⟨l, d, rfl⟩ : ∃ (l d : Fin 2048), i = ix2 l d := ⟨i 0, i 1, by blk_ext⟩
  pointwise [val_main_v3, val_main_v2, val_main_v1, val_main_v0]
  rfl

end Reference

end Cert.Mix.MixOut

end
-- ==== Proof.Mix.MixGradOut.lean ====
module

public import proofs.«01_k».proof.Proof.Mix.Spec
public import proofs.«01_k».proof.Proof.Gen.MixGradOutIdeal.Value
public import proofs.«01_k».proof.Proof.Gen.MixGradOutRefIdeal.Read

/-!
The gradient of the second weight matrix of a mixer: what the kernel leaves in its result, and the reference.
-/

@[expose] public section

set_option maxRecDepth 16384

noncomputable section

open Idealize.ShloMosaic Idealize.ShloMosaic.TcCoe Idealize.SL.Sem

namespace Cert.Mix.MixGradOut

section Kernel

open Cert.MixGradOutIdeal Cert.MixGradOutIdeal.Gen

variable (m : (ℓ : Loc nD τ sig) → Buf (Elt Ideal) ℓ) (c : Dev nD)

/-- The arguments. -/
abbrev aA : Mat 2048 4096 := m ((c : Thread nD τ).loc main_arg0)
@[inherit_doc aA] abbrev aY : Mat 2048 2048 := m ((c : Thread nD τ).loc main_arg1)

/-- Where the blocks of point `t = 8 d + k` lie: inner features `512 k …`, model features `1024 d …`. -/
theorem idx : ∀ t : Fin cfg0.N, win0_0.index t = ![0, t.val % 8] ∧ win0_1.index t = ![0, t.val / 8]
    ∧ win0_2.index t = ![t.val % 8, t.val / 8] :=
  (by decide +kernel : ∀ t : Fin grid0.N, _)

theorem final : (dats m 0 c).arrAt 2 cfg0.N = fun i => tProduct (aA m c) (aY m c) (i 0) (i 1) := by
  refine (dats m 0 c).arrAt_eq_of_covers 2 _ (by decide +kernel) fun t hf y => ?_
  blk_simp
  rw [after0_2]
  frame_out
  pointwise [k0_pay2]
  unfold tProduct
  blk_point [iblk, V, idx t]

end Kernel

section Reference

open Cert.MixGradOutRefIdeal Cert.MixGradOutRefIdeal.Gen Cert.MixGradOutRefIdeal.Read

theorem reference (A : Mat 2048 4096) (Y : Mat 2048 2048) (i : S4096x2048.Idx) :
    val_main_v6 (F := Ideal) A Y i = tProduct A Y (i 0) (i 1) := by
  obtain ⟨f, d, rfl⟩ : ∃ (f : Fin 4096) (d : Fin 2048), i = ix2 f d := ⟨i 0, i 1, by blk_ext⟩
  show _ = tProduct A Y f d
  pointwise [val_main_v6, val_main_v5, val_main_v4, val_main_v3, val_main_v1]
  unfold tProduct
  exact Finset.sum_congr rfl fun l _ => mul_comm _ _

end Reference

end Cert.Mix.MixGradOut

end
-- ==== Proof.Mix.Claim.lean ====
module

public import proofs.«01_k».proof.Defs
public import proofs.«01_k».proof.Proof.Ffn.Runs
public import proofs.«01_k».proof.Proof.Mix.GmIn
public import proofs.«01_k».proof.Proof.Mix.GmGradIn
public import proofs.«01_k».proof.Proof.Mix.GmGradInput
public import proofs.«01_k».proof.Proof.Mix.GmBackOut
public import proofs.«01_k».proof.Proof.Mix.SsdIn
public import proofs.«01_k».proof.Proof.Mix.SsdGradIn
public import proofs.«01_k».proof.Proof.Mix.SsdGradInput
public import proofs.«01_k».proof.Proof.Mix.SsdBackOut
public import proofs.«01_k».proof.Proof.Mix.MixOut
public import proofs.«01_k».proof.Proof.Mix.MixGradOut

/-!
The products around the two mixers: kernel and reference end with the same results.
-/

@[expose] public section

set_option maxRecDepth 16384

noncomputable section

open Idealize.ShloMosaic Idealize.SL.Sem Cert.Ffn

namespace Cert.Mix

/-- The first product of the gMLP mixer. -/
theorem GmIn.algebraic : letI := Cert.GmInIdeal.Gen.facts; letI := Cert.GmInRefIdeal.Gen.facts
    Cert.algebraic_GmInIdeal_GmInRefIdeal :=
  fun m g m' g' _ hagree => ⟨_, drop_output (Cert.GmInIdeal.Value.run_blocks m g), value_of_run (fun c => by
      rw [Cert.GmInRefIdeal.Read.val_main_v10_eq, (hagree c).1, (hagree c).2]
      exact (funext (GmIn.reference _ _)).trans (GmIn.final m c).symm)
    (Cert.GmInRefIdeal.Value.run m' g')⟩

/-- The gradient of the gMLP mixer's first weight matrix. -/
theorem GmGradIn.algebraic : letI := Cert.GmGradInIdeal.Gen.facts; letI := Cert.GmGradInRefIdeal.Gen.facts
    Cert.algebraic_GmGradInIdeal_GmGradInRefIdeal :=
  fun m g m' g' _ hagree => ⟨_, drop_output (Cert.GmGradInIdeal.Value.run_blocks m g), value_of_run (fun c => by
      rw [Cert.GmGradInRefIdeal.Read.val_main_v18_eq, (hagree c).1, (hagree c).2]
      exact (funext (GmGradIn.reference _ _)).trans (GmGradIn.final m c).symm)
    (Cert.GmGradInRefIdeal.Value.run m' g')⟩

/-- The gradient of the gMLP mixer's input. -/
theorem GmGradInput.algebraic : letI := Cert.GmGradInputIdeal.Gen.facts; letI := Cert.GmGradInputRefIdeal.Gen.facts
    Cert.algebraic_GmGradInputIdeal_GmGradInputRefIdeal :=
  fun m g m' g' _ hagree => ⟨_, drop_output (Cert.GmGradInputIdeal.Value.run_blocks m g), value_of_run (fun c => by
      rw [Cert.GmGradInputRefIdeal.Read.val_main_v16_eq, (hagree c).1, (hagree c).2]
      exact (funext (GmGradInput.reference _ _)).trans (GmGradInput.final m c).symm)
    (Cert.GmGradInputRefIdeal.Value.run m' g')⟩

/-- The gradient of what the gMLP mixer's second product takes. -/
theorem GmBackOut.algebraic : letI := Cert.GmBackOutIdeal.Gen.facts; letI := Cert.GmBackOutRefIdeal.Gen.facts
    Cert.algebraic_GmBackOutIdeal_GmBackOutRefIdeal :=
  fun m g m' g' _ hagree => ⟨_, drop_output (Cert.GmBackOutIdeal.Value.run_blocks m g), value_of_run (fun c => by
      rw [Cert.GmBackOutRefIdeal.Read.val_main_v5_eq, (hagree c).1, (hagree c).2]
      exact (funext (GmBackOut.reference _ _)).trans (GmBackOut.final m c).symm)
    (Cert.GmBackOutRefIdeal.Value.run m' g')⟩

/-- The first product of the SSD mixer. -/
theorem SsdIn.algebraic : letI := Cert.SsdInIdeal.Gen.facts; letI := Cert.SsdInRefIdeal.Gen.facts
    Cert.algebraic_SsdInIdeal_SsdInRefIdeal :=
  fun m g m' g' _ hagree => ⟨_, drop_output (Cert.SsdInIdeal.Value.run_blocks m g), value_of_run (fun c => by
      rw [Cert.SsdInRefIdeal.Read.val_main_v6_eq, (hagree c).1, (hagree c).2]
      exact (funext (SsdIn.reference _ _)).trans (SsdIn.final m c).symm)
    (Cert.SsdInRefIdeal.Value.run m' g')⟩

/-- The gradient of the SSD mixer's first weight matrix. -/
theorem SsdGradIn.algebraic : letI := Cert.SsdGradInIdeal.Gen.facts; letI := Cert.SsdGradInRefIdeal.Gen.facts
    Cert.algebraic_SsdGradInIdeal_SsdGradInRefIdeal :=
  fun m g m' g' _ hagree => ⟨_, drop_output (Cert.SsdGradInIdeal.Value.run_blocks m g), value_of_run (fun c => by
      rw [Cert.SsdGradInRefIdeal.Read.val_main_v12_eq, (hagree c).1, (hagree c).2]
      exact (funext (SsdGradIn.reference _ _)).trans (SsdGradIn.final m c).symm)
    (Cert.SsdGradInRefIdeal.Value.run m' g')⟩

/-- The gradient of the SSD mixer's input. -/
theorem SsdGradInput.algebraic : letI := Cert.SsdGradInputIdeal.Gen.facts; letI := Cert.SsdGradInputRefIdeal.Gen.facts
    Cert.algebraic_SsdGradInputIdeal_SsdGradInputRefIdeal :=
  fun m g m' g' _ hagree => ⟨_, drop_output (Cert.SsdGradInputIdeal.Value.run_blocks m g), value_of_run (fun c => by
      rw [Cert.SsdGradInputRefIdeal.Read.val_main_v10_eq, (hagree c).1, (hagree c).2]
      exact (funext (SsdGradInput.reference _ _)).trans (SsdGradInput.final m c).symm)
    (Cert.SsdGradInputRefIdeal.Value.run m' g')⟩

/-- The gradient of what the SSD mixer's second product takes. -/
theorem SsdBackOut.algebraic : letI := Cert.SsdBackOutIdeal.Gen.facts; letI := Cert.SsdBackOutRefIdeal.Gen.facts
    Cert.algebraic_SsdBackOutIdeal_SsdBackOutRefIdeal :=
  fun m g m' g' _ hagree => ⟨_, drop_output (Cert.SsdBackOutIdeal.Value.run_blocks m g), value_of_run (fun c => by
      rw [Cert.SsdBackOutRefIdeal.Read.val_main_v4_eq, (hagree c).1, (hagree c).2]
      exact (funext (SsdBackOut.reference _ _)).trans (SsdBackOut.final m c).symm)
    (Cert.SsdBackOutRefIdeal.Value.run m' g')⟩

/-- A mixer's second product, added to the residual. -/
theorem MixOut.algebraic : letI := Cert.MixOutIdeal.Gen.facts; letI := Cert.MixOutRefIdeal.Gen.facts
    Cert.algebraic_MixOutIdeal_MixOutRefIdeal :=
  fun m g m' g' _ hagree => ⟨_, drop_output (Cert.MixOutIdeal.Value.run_blocks m g), value_of_run (fun c => by
      rw [Cert.MixOutRefIdeal.Read.val_main_v3_eq, (hagree c).1, (hagree c).2.1, (hagree c).2.2]
      exact (funext (MixOut.reference _ _ _)).trans (MixOut.final m c).symm)
    (Cert.MixOutRefIdeal.Value.run m' g')⟩

/-- The gradient of a mixer's second weight matrix. -/
theorem MixGradOut.algebraic : letI := Cert.MixGradOutIdeal.Gen.facts; letI := Cert.MixGradOutRefIdeal.Gen.facts
    Cert.algebraic_MixGradOutIdeal_MixGradOutRefIdeal :=
  fun m g m' g' _ hagree => ⟨_, drop_output (Cert.MixGradOutIdeal.Value.run_blocks m g), value_of_run (fun c => by
      rw [Cert.MixGradOutRefIdeal.Read.val_main_v6_eq, (hagree c).1, (hagree c).2]
      exact (funext (MixGradOut.reference _ _)).trans (MixGradOut.final m c).symm)
    (Cert.MixGradOutRefIdeal.Value.run m' g')⟩

end Cert.Mix

end
-- ==== Proof.Norm.Spec.lean ====
module

public import proofs.«01_k».proof.Proof.Gate.Equation

/-!
The root-mean-square norm of a row and its gradient, in one formula and in the one that differentiation gives.
-/

@[expose] public section

noncomputable section

open Idealize.ShloMosaic Cert.Gate

namespace Cert.Norm

/-- The small number added under the root. -/
abbrev eps : EReal := Ideal.ofBits .f32 897988541#32

theorem eps_pos : ∃ e : ℝ, 0 < e ∧ eps = (e : EReal) := by
  refine ⟨8796093 * 2 ^ (-43 : ℤ), by positivity, ?_⟩
  simp [eps, Ideal.ofBits, Ideal.ieee, -EReal.coe_mul]

theorem size2048 : Ideal.ofBits .f32 1157627904#32 = ((2048 : ℝ) : EReal) := by
  simp [Ideal.ofBits, Ideal.ieee, -EReal.coe_mul]; norm_num

theorem size4096 : Ideal.ofBits .f32 1166016512#32 = ((4096 : ℝ) : EReal) := by
  simp [Ideal.ofBits, Ideal.ieee, -EReal.coe_mul]; norm_num

theorem size512 : Ideal.ofBits .f32 1140850688#32 = ((512 : ℝ) : EReal) := by
  simp [Ideal.ofBits, Ideal.ieee, -EReal.coe_mul]; norm_num

variable {n : ℕ} (N : EReal) (v a : Fin n → EReal)

/-- The mean square of a row of `N` entries, plus the small number. -/
def meanSq : EReal := Ideal.div (∑ k, v k * v k) N + eps

/-- The factor of the row. -/
def factor : EReal := Ideal.rsqrt (meanSq N v)

/-- The gradient at a place of the row, where `a` is the gradient with respect to the normed row. -/
def back (d : Fin n) : EReal :=
  factor N v * (a d - v d * factor N v * Ideal.div (∑ k, a k * (v k * factor N v)) N)

/-- What differentiation gives for the mean square. -/
def slope : EReal :=
  Ideal.div ((∑ k, v k * a k) * (Ideal.ofBits .f32 3204448256#32 * Ideal.div (factor N v) (meanSq N v))) N

theorem coe_sum {ι : Type} (s : Finset ι) (f : ι → ℝ) : ∑ i ∈ s, (f i : EReal) = ((∑ i ∈ s, f i : ℝ) : EReal) := by
  classical
  induction s using Finset.induction_on with
  | empty => simp
  | insert b s hb ih => rw [Finset.sum_insert hb, Finset.sum_insert hb, EReal.coe_add, ih]

/-- The factor of a row of real numbers is real: one over the root of a positive number. -/
theorem factor_real {c : ℝ} (hc : 0 < c) (x : Fin n → ℝ) :
    ∃ y r : ℝ, 0 < y ∧ 0 < r ∧ r * r * y = 1 ∧ meanSq (c : EReal) (fun k => (x k : EReal)) = (y : EReal)
      ∧ factor (c : EReal) (fun k => (x k : EReal)) = (r : EReal) := by
  obtain ⟨e, he, h⟩ := eps_pos
  have hy : 0 < (∑ k, x k * x k) / c + e :=
    add_pos_of_nonneg_of_pos (div_nonneg (Finset.sum_nonneg fun k _ => mul_self_nonneg _) hc.le) he
  have hm : meanSq (c : EReal) (fun k => (x k : EReal)) = (((∑ k, x k * x k) / c + e : ℝ) : EReal) := by
    unfold meanSq
    simp only [← EReal.coe_mul, coe_sum]
    rw [h, Ideal.div_coe hc.ne', ← EReal.coe_mul, ← EReal.coe_add, mul_one_div]
  refine ⟨_, (Real.sqrt ((∑ k, x k * x k) / c + e))⁻¹, hy, inv_pos.mpr (Real.sqrt_pos.mpr hy), ?_, hm, ?_⟩
  · rw [← mul_inv, Real.mul_self_sqrt hy.le, inv_mul_cancel₀ hy.ne']
  · rw [factor, hm, Ideal.rsqrt_coe, if_neg (not_lt.mpr hy.le), if_neg hy.ne']

theorem square_nonneg (x : EReal) : 0 ≤ x * x := by
  induction x using EReal.rec with
  | bot => simp
  | coe r => exact_mod_cast mul_self_nonneg r
  | top => simp

/-- A row with an infinite entry has an infinite mean square. -/
theorem infinite_row {c : ℝ} (hc : 0 < c) (k : Fin n) (h : ¬ IsReal (v k)) : meanSq (c : EReal) v = ⊤ := by
  obtain ⟨e, he, h'⟩ := eps_pos
  have ht : v k * v k = ⊤ := by
    revert h
    induction v k using EReal.rec with
    | bot => intro _; rfl
    | coe r => intro h; exact absurd ⟨r, rfl⟩ h
    | top => intro _; rfl
  have hs : ∑ i, v i * v i = ⊤ := by
    rw [← Finset.add_sum_erase _ _ (Finset.mem_univ k), ht]
    exact EReal.top_add_of_ne_bot (ne_bot_of_le_ne_bot EReal.zero_ne_bot (Finset.sum_nonneg fun i _ => square_nonneg (v i)))
  rw [meanSq, hs, h', Ideal.div_coe hc.ne', EReal.top_mul_coe_of_pos (one_div_pos.mpr hc)]
  rfl

theorem mul_sum {r : ℝ} (hr : 0 < r) {ι : Type} (s : Finset ι) (f : ι → EReal) :
    (r : EReal) * ∑ i ∈ s, f i = ∑ i ∈ s, (r : EReal) * f i := by
  classical
  induction s using Finset.induction_on with
  | empty => simp
  | insert b s hb ih =>
    rw [Finset.sum_insert hb, Finset.sum_insert hb,
      EReal.left_distrib_of_nonneg_of_ne_top (EReal.coe_nonneg.mpr hr.le) (EReal.coe_ne_top r), ih]

theorem two_halves {p : ℝ} (hp : 0 < p) (t : EReal) : ((-1 / 2 * p : ℝ) : EReal) * t + ((-1 / 2 * p : ℝ) : EReal) * t = -((p : EReal) * t) := by
  have hq : -1 / 2 * p < 0 := by linarith
  induction t using EReal.rec with
  | bot => rw [EReal.coe_mul_bot_of_neg hq, EReal.coe_mul_bot_of_pos hp]; rfl
  | coe r =>
    rw [← EReal.coe_mul, ← EReal.coe_add, ← EReal.coe_mul, ← EReal.coe_neg]
    exact congrArg _ (by ring)
  | top => rw [EReal.coe_mul_top_of_neg hq, EReal.coe_mul_top_of_pos hp]; rfl

/-- The two formulas agree. -/
theorem back_eq {c : ℝ} (hc : 0 < c) (d : Fin n) : a d * factor c v + v d * slope c v a + slope c v a * v d = back c v a d := by
  by_cases hv : ∀ k, IsReal (v k)
  · choose x hx using hv
    obtain rfl : v = fun k => (x k : EReal) := funext hx
    obtain ⟨y, r, hy, hr, h1, hm, hf⟩ := factor_real hc x
    have e : ∑ k, a k * ((x k : EReal) * r) = r * ∑ k, (x k : EReal) * a k := by
      rw [mul_sum hr]
      exact Finset.sum_congr rfl fun k _ => by rw [← mul_assoc, mul_comm _ (r : EReal), mul_comm (a k)]
    unfold slope back
    rw [hm, hf, e, Cert.Consts.neg_half_eq, Ideal.div_coe hc.ne', Ideal.div_coe hc.ne', Ideal.div_coe hy.ne',
      EReal.mul_sub_of_nonneg_of_ne_top (EReal.coe_nonneg.mpr hr.le) (EReal.coe_ne_top r)]
    generalize ∑ k, (x k : EReal) * a k = S
    have hi : 1 / y = r * r := by field_simp; linarith
    have hp : 0 < r * r * r * (1 / c) := by positivity
    have e1 : (x d : EReal) * (S * (((-1 / 2 : ℝ) : EReal) * ((r : EReal) * ((1 / y : ℝ) : EReal))) * ((1 / c : ℝ) : EReal))
        = ((-1 / 2 * (r * r * r * (1 / c)) : ℝ) : EReal) * ((x d : EReal) * S) := by
      rw [hi]
      simp only [EReal.coe_mul]
      ac_rfl
    have e2 : (r : EReal) * ((x d : EReal) * r * ((r : EReal) * S * ((1 / c : ℝ) : EReal)))
        = ((r * r * r * (1 / c) : ℝ) : EReal) * ((x d : EReal) * S) := by
      simp only [EReal.coe_mul]
      ac_rfl
    beta_reduce
    rw [mul_comm _ (x d : EReal), e1, e2, add_assoc, two_halves hp, mul_comm (a d), sub_eq_add_neg]
  · obtain ⟨k, hk⟩ := not_forall.mp hv
    have hm := infinite_row v hc k hk
    have hf : factor c v = 0 := by rw [factor, hm]; rfl
    have hz : Ideal.div (0 : EReal) ⊤ = 0 := by rw [Ideal.div, if_neg EReal.top_ne_zero, zero_mul]
    rw [slope, back, hm, hf, hz, mul_zero, mul_zero, Ideal.div_coe hc.ne', zero_mul, mul_zero, zero_mul, mul_zero, zero_mul, zero_add, zero_add]

/-- The gradient of the row is real where the gradient of the normed row is. -/
theorem isReal_back {c : ℝ} (hc : 0 < c) (ha : ∀ k, IsReal (a k)) (d : Fin n) : IsReal (back (c : EReal) v a d) := by
  by_cases hv : ∀ k, IsReal (v k)
  · choose x hx using hv
    choose b hb using ha
    obtain rfl : v = fun k => (x k : EReal) := funext hx
    obtain rfl : a = fun k => (b k : EReal) := funext hb
    obtain ⟨y, r, -, -, -, -, hf⟩ := factor_real hc x
    unfold back
    rw [hf]
    simp only [← EReal.coe_mul, coe_sum, Ideal.div_coe hc.ne', ← EReal.coe_sub]
    exact ⟨_, rfl⟩
  · obtain ⟨k, hk⟩ := not_forall.mp hv
    have hf : factor c v = 0 := by rw [factor, infinite_row v hc k hk]; rfl
    exact ⟨0, by rw [back, hf, zero_mul]; rfl⟩

end Cert.Norm

end
-- ==== Proof.Norm.NormGrad.lean ====
module

public import proofs.«01_k».proof.Proof.Norm.Spec
public import proofs.«01_k».proof.Proof.Gen.NormGradIdeal.Value

/-!
What the kernel of the norm's gradient leaves in its three results.
-/

@[expose] public section

set_option maxRecDepth 16384

noncomputable section

open Idealize.ShloMosaic Idealize.ShloMosaic.TcCoe Idealize.SL.Sem
open Cert.NormGradIdeal Cert.NormGradIdeal.Gen

namespace Cert.Norm.NormGrad

abbrev Mat := Vec Ideal ⟨2, ![2048, 2048]⟩ .f32
abbrev Gain := Vec Ideal ⟨1, ![2048]⟩ .f32

/-- The number of entries of a row. -/
abbrev size : EReal := Ideal.ofBits .f32 1157627904#32

section

variable (D X : Mat) (G : Gain) (R : Mat)

/-- Row `l` of the normed array's input. -/
def rowOf (l : Fin 2048) (k : Fin 2048) : EReal := X (ix2 l k)
/-- Row `l` of the gradient with respect to the normed row before the gain. -/
def gradRow (l : Fin 2048) (k : Fin 2048) : EReal := D (ix2 l k) * G (ix1 k)

/-- The gradient of the input, the residual's added. -/
def gradX (l d : Fin 2048) : EReal := R (ix2 l d) + back size (rowOf X l) (gradRow D G l) d

/-- What row `l` adds to the gradient of the gain. -/
def partGain (l d : Fin 2048) : EReal := D (ix2 l d) * (X (ix2 l d) * factor size (rowOf X l))

/-- The gradient of the gain. -/
def gradGain (d : Fin 2048) : EReal := ∑ l : Fin 2048, partGain D X l d

end

variable (m : (ℓ : Loc nD τ sig) → Buf (Elt Ideal) ℓ) (c : Dev nD)

/-- The arguments. -/
abbrev aD : Mat := m ((c : Thread nD τ).loc main_arg0)
@[inherit_doc aD] abbrev aX : Mat := m ((c : Thread nD τ).loc main_arg1)
@[inherit_doc aD] abbrev aG : Gain := m ((c : Thread nD τ).loc main_arg2)
@[inherit_doc aD] abbrev aR : Mat := m ((c : Thread nD τ).loc main_arg3)

/-- Where the blocks of point `t` lie: rows `256 t …`. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0]
    ∧ t.val < 8 :=
  (by decide +kernel : ∀ t : Fin grid0.N, _)

/-- The row of the array at row `r` of the blocks of point `t`. -/
abbrev rowAt (t : Fin cfg0.N) (r : Fin 256) : Fin 2048 := ⟨t.val * 256 + r.val, by have := (idx t).2.2.2.2.2.2.2; omega⟩

theorem block0 (t : Fin cfg0.N) (r : Fin 256) (k : Fin 2048) : iblk m c 0 t (ix2 r k) = aD m c (ix2 (rowAt t r) k) := by
  blk_ext [iblk, V, idx t]
theorem block1 (t : Fin cfg0.N) (r : Fin 256) (k : Fin 2048) : iblk m c 1 t (ix2 r k) = aX m c (ix2 (rowAt t r) k) := by
  blk_ext [iblk, V, idx t]
theorem block2 (t : Fin cfg0.N) (k : Fin 2048) : iblk m c 2 t (ix2 0 k) = aG m c (ix1 k) := by
  blk_simp [iblk]
  entry_read
  pointwise
  exact congrArg (aG m c) (by blk_ext [idx t])
theorem block3 (t : Fin cfg0.N) (r : Fin 256) (k : Fin 2048) : iblk m c 3 t (ix2 r k) = aR m c (ix2 (rowAt t r) k) := by
  blk_ext [iblk, V, idx t]

theorem factor_at (t : Fin cfg0.N) (r : Fin 256) :
    k0_pay4 (F := Ideal) (iblk m c 1 t) (ix2 r 0) = factor size (rowOf (aX m c) (rowAt t r)) := by
  pointwise [k0_pay4]
  unfold factor meanSq rowOf
  simp only [block1]

theorem normed_at (t : Fin cfg0.N) (r : Fin 256) (k : Fin 2048) : k0_pay5 (F := Ideal) (iblk m c 1 t) (ix2 r k)
    = aX m c (ix2 (rowAt t r) k) * factor size (rowOf (aX m c) (rowAt t r)) := by
  pointwise [k0_pay5]
  rw [factor_at, block1]

/-- What the body stores as the gradient of the input. -/
theorem grad_at (t : Fin cfg0.N) (j : S256x2048.Idx) :
    k0_pay6 (F := Ideal) (iblk m c 1 t) (iblk m c 0 t) (iblk m c 2 t) (iblk m c 3 t) j
      = gradX (aD m c) (aX m c) (aG m c) (aR m c) (rowAt t (j 0)) (j 1) := by
  obtain ⟨r, d, rfl⟩ : ∃ (r : Fin 256) (d : Fin 2048), j = ix2 r d := ⟨j 0, j 1, by blk_ext⟩
  show _ = gradX (aD m c) (aX m c) (aG m c) (aR m c) (rowAt t r) d
  pointwise [k0_pay6]
  simp only [normed_at, factor_at, block0, block2, block3]
  rfl

/-- What the body stores as its half. -/
theorem half_at (t : Fin cfg0.N) (j : S256x2048.Idx) :
    k0_pay7 (F := Ideal) (iblk m c 1 t) (iblk m c 0 t) (iblk m c 2 t) (iblk m c 3 t) j
      = Ideal.ofBits .f32 1056964608#32 * gradX (aD m c) (aX m c) (aG m c) (aR m c) (rowAt t (j 0)) (j 1) := by
  rw [← grad_at]
  pointwise [k0_pay7]

/-- What row `r` of point `t` adds to the gradient of the gain. -/
theorem part_at (t : Fin cfg0.N) (p : Vec Ideal S1x2048 .f32) (j : S1x2048.Idx) :
    k0_pay2 (F := Ideal) (k0_pay5 (iblk m c 1 t)) (iblk m c 0 t) p j
      = p j + ∑ r : Fin 256, partGain (aD m c) (aX m c) (rowAt t r) (j 1) := by
  obtain ⟨d, rfl⟩ : ∃ d : Fin 2048, j = ix2 0 d := ⟨j 1, by blk_ext⟩
  pointwise [k0_pay2]
  simp only [normed_at, block0]
  rfl

theorem zero_at (j : S1x2048.Idx) : k0_pay1 (F := Ideal) j = 0 := by pointwise [k0_pay1]

theorem start (t : Fin cfg0.N) (h : t.val % 8 = 0) (j : S1x2048.Idx) :
    (outsAt0 m c t.val t.isLt).2.2.1 j = 0 + ∑ r : Fin 256, partGain (aD m c) (aX m c) (rowAt t r) (j 1) := by
  rw [outsAt0_A m c t h]
  frame_out
  rw [part_at m c t, zero_at]

theorem next (t : Fin cfg0.N) (h : ¬ t.val % 8 = 0) (j : S1x2048.Idx) :
    (outsAt0 m c t.val t.isLt).2.2.1 j
      = (outsAt0 m c (t.val - 1) (lt_of_le_of_lt (Nat.sub_le _ _) t.isLt)).2.2.1 j
        + ∑ r : Fin 256, partGain (aD m c) (aX m c) (rowAt t r) (j 1) := by
  rw [outsAt0_B m c t h]
  frame_out
  rw [part_at m c t]

/-- What point `t` leaves in its blocks of the first two results. -/
theorem left4 (t : Fin cfg0.N) (j : S256x2048.Idx) : (outsAt0 m c t.val t.isLt).1 j
    = gradX (aD m c) (aX m c) (aG m c) (aR m c) (rowAt t (j 0)) (j 1) := by
  rw [← grad_at]
  by_cases h : t.val % 8 = 0
  · rw [outsAt0_A m c t h]
    frame_out
  · rw [outsAt0_B m c t h]
    frame_out
@[inherit_doc left4]
theorem left5 (t : Fin cfg0.N) (j : S256x2048.Idx) : (outsAt0 m c t.val t.isLt).2.1 j
    = Ideal.ofBits .f32 1056964608#32 * gradX (aD m c) (aX m c) (aG m c) (aR m c) (rowAt t (j 0)) (j 1) := by
  rw [← half_at]
  by_cases h : t.val % 8 = 0
  · rw [outsAt0_A m c t h]
    frame_out
  · rw [outsAt0_B m c t h]
    frame_out

/-- The gradient of the input. -/
theorem final4 : (dats m 0 c).arrAt 4 cfg0.N = fun i => gradX (aD m c) (aX m c) (aG m c) (aR m c) (i 0) (i 1) := by
  refine (dats m 0 c).arrAt_eq_of_covers 4 _ (by decide +kernel) fun t hf y => ?_
  blk_simp
  rw [after0_4]
  refine (left4 m c t y).trans (congrArg₂ (gradX (aD m c) (aX m c) (aG m c) (aR m c)) (Fin.ext ?_) (Fin.ext ?_)) <;>
    blk_simp [idx t]

/-- The gradient of the input, halved. -/
theorem final5 : (dats m 0 c).arrAt 5 cfg0.N
    = fun i => Ideal.ofBits .f32 1056964608#32 * gradX (aD m c) (aX m c) (aG m c) (aR m c) (i 0) (i 1) := by
  refine (dats m 0 c).arrAt_eq_of_covers 5 _ (by decide +kernel) fun t hf y => ?_
  blk_simp
  rw [after0_5]
  refine (left5 m c t y).trans (congrArg (_ * ·) (congrArg₂ (gradX (aD m c) (aX m c) (aG m c) (aR m c)) (Fin.ext ?_) (Fin.ext ?_))) <;>
    blk_simp [idx t]

/-- The gradient of the gain. -/
theorem final6 : (dats m 0 c).arrAt 6 cfg0.N = fun i => gradGain (aD m c) (aX m c) (i 1) := by
  refine (dats m 0 c).arrAt_eq_of_covers 6 _ (by decide +kernel) fun t hf y => ?_
  blk_simp
  rw [after0_6, Pipeline.eq_sum_fin_of_reset_step_apply_of_flush (fun n h => (outsAt0 m c n h).2.2.1) 8 (fun _ => 0)
    (fun p j => ∑ r : Fin 256, partGain (aD m c) (aX m c) (rowAt p r) (j 1)) (start m c) (next m c)
    t ((flush0_6 t).mp hf) _, zero_add]
  have ht : t.val / 8 = 0 := by have := (idx t).2.2.2.2.2.2.2; omega
  refine Eq.trans ?_ (Fin.sum_univ_tiles (M := EReal) 8 256 rfl fun l : Fin 2048 => partGain (aD m c) (aX m c) l _).symm
  refine Fin.sum_fin_congr fun s => Fin.sum_fin_congr fun r => ?_
  congr 1 <;> refine Fin.ext ?_
  · show (8 * (t.val / 8) + s.val) * 256 + r.val = _
    rw [ht]; simp
  · blk_simp [idx t]

end Cert.Norm.NormGrad

end
-- ==== Proof.Norm.NormGradReference.lean ====
module

public import proofs.«01_k».proof.Proof.Norm.NormGrad
public import proofs.«01_k».proof.Proof.Gen.NormGradRefIdeal.Read

/-!
The reference of the norm's gradient, in the kernel's spelling.
-/

@[expose] public section

set_option maxRecDepth 16384

noncomputable section

open Idealize.ShloMosaic Idealize.ShloMosaic.TcCoe Idealize.SL.Sem
open Cert.NormGradRefIdeal Cert.NormGradRefIdeal.Gen Cert.NormGradRefIdeal.Read Cert.Gate

namespace Cert.Norm.NormGrad

variable (D X : Mat) (G : Gain) (R : Mat)

theorem mean_ref (l : Fin 2048) (k : Fin 1) : val_main_v6 (F := Ideal) X (ix2 l k) = meanSq size (rowOf X l) := by
  pointwise [val_main_v6, val_main_v5, val_main_v4, val_main_v3, val_main_v2, val_main_v1, val_main_v0, val_main_cst_1,
    val_main_cst_0, val_main_cst]
  try rw [zero_add]
  rfl

theorem factor_ref (l : Fin 2048) (k : Fin 1) : val_main_v7 (F := Ideal) X (ix2 l k) = factor size (rowOf X l) := by
  pointwise [val_main_v7]
  rw [mean_ref]
  rfl

theorem gain_ref (d : Fin 2048) : val_main_v40 (F := Ideal) D X (ix2 0 d) = gradGain D X d := by
  pointwise [val_main_v40, val_main_v21, val_main_v18, val_main_v17, val_main_v16, val_main_v12, val_main_v11,
    val_main_cst_3, val_main_cst_4]
  simp only [factor_ref]
  unfold gradGain partGain
  simp [mul_comm]

theorem slope_ref (l d : Fin 2048) :
    val_main_v31 (F := Ideal) D X G (ix2 l d) = slope size (rowOf X l) (gradRow D G l) := by
  pointwise [val_main_v31, val_main_v30, val_main_v29, val_main_v28, val_main_v27, val_main_v24, val_main_v23, val_main_v22,
    val_main_v20, val_main_v19, val_main_v14, val_main_v13, val_main_v10, val_main_v9, val_main_v8, val_main_cst_2, val_main_cst_5, val_main_cst_6, val_main_cst_7]
  simp only [factor_ref, mean_ref]
  unfold slope rowOf gradRow
  simp

theorem input_ref (l d : Fin 2048) :
    val_main_v36 (F := Ideal) D X G R (ix2 l d) = gradX D X G R l d := by
  pointwise [val_main_v36, val_main_v35, val_main_v34, val_main_v33, val_main_v32, val_main_v26, val_main_v25,
    val_main_v20, val_main_v19, val_main_v14, val_main_v13]
  simp only [factor_ref, slope_ref]
  unfold gradX
  rw [show size = ((2048 : ℝ) : EReal) from size2048, ← back_eq (c := 2048) (rowOf X l) (gradRow D G l) (by norm_num)]
  rfl

/-- The results at every index of the whole arrays. -/
theorem input_whole (i : S2048x2048.Idx) : val_main_v36 (F := Ideal) D X G R i = gradX D X G R (i 0) (i 1) := by
  obtain ⟨l, d, rfl⟩ : ∃ l d : Fin 2048, i = ix2 l d := ⟨i 0, i 1, by blk_ext⟩
  exact input_ref D X G R l d
@[inherit_doc input_whole]
theorem half_whole (i : S2048x2048.Idx) :
    val_main_v39 (F := Ideal) D X G R i = Ideal.ofBits .f32 1056964608#32 * gradX D X G R (i 0) (i 1) := by
  rw [← input_whole]
  pointwise [val_main_v39, val_main_v38, val_main_v37, val_main_cst_8]
@[inherit_doc input_whole]
theorem gain_whole (i : S1x2048.Idx) : val_main_v40 (F := Ideal) D X i = gradGain D X (i 1) := by
  obtain ⟨d, rfl⟩ : ∃ d : Fin 2048, i = ix2 0 d := ⟨i 1, by blk_ext⟩
  exact gain_ref D X d

end Cert.Norm.NormGrad

end
-- ==== Proof.Norm.Norm.lean ====
module

public import proofs.«01_k».proof.Proof.Norm.Spec
public import proofs.«01_k».proof.Proof.Gen.NormIdeal.Value
public import proofs.«01_k».proof.Proof.Gen.NormRefIdeal.Read

/-!
The norm of every row, times the gain.
-/

@[expose] public section

set_option maxRecDepth 16384

noncomputable section

open Idealize.ShloMosaic Idealize.ShloMosaic.TcCoe Idealize.SL.Sem

namespace Cert.Norm.Forward

abbrev Mat := Vec Ideal ⟨2, ![2048, 2048]⟩ .f32
abbrev Gain := Vec Ideal ⟨1, ![2048]⟩ .f32

/-- The normed array at row `l`, feature `d`. -/
def normed (X : Mat) (G : Gain) (l d : Fin 2048) : EReal :=
  X (ix2 l d) * factor (Ideal.ofBits .f32 1157627904#32) (fun k : Fin 2048 => X (ix2 l k)) * G (ix1 d)

section Kernel

open Cert.NormIdeal Cert.NormIdeal.Gen

variable (m : (ℓ : Loc nD τ sig) → Buf (Elt Ideal) ℓ) (c : Dev nD)

/-- The arguments. -/
abbrev aX : Mat := m ((c : Thread nD τ).loc main_arg0)
@[inherit_doc aX] abbrev aG : Gain := m ((c : Thread nD τ).loc main_arg1)

/-- Where the blocks of point `t` lie: rows `256 t …`. -/
theorem idx : ∀ t : Fin cfg0.N, win0_0.index t = ![t.val, 0] ∧ win0_1.index t = ![0, 0] ∧ win0_2.index t = ![t.val, 0]
    ∧ t.val < 8 :=
  (by decide +kernel : ∀ t : Fin grid0.N, _)

/-- The row of the array at row `r` of the blocks of point `t`. -/
abbrev rowAt (t : Fin cfg0.N) (r : Fin 256) : Fin 2048 := ⟨t.val * 256 + r.val, by have := (idx t).2.2.2; omega⟩

theorem block0 (t : Fin cfg0.N) (r : Fin 256) (k : Fin 2048) : iblk m c 0 t (ix2 r k) = aX m c (ix2 (rowAt t r) k) := by
  blk_ext [iblk, V, idx t]
theorem block1 (t : Fin cfg0.N) (k : Fin 2048) : iblk m c 1 t (ix2 0 k) = aG m c (ix1 k) := by
  blk_simp [iblk]
  entry_read
  pointwise
  exact congrArg (aG m c) (by blk_ext [idx t])

/-- What the body stores. -/
theorem normed_at (t : Fin cfg0.N) (j : S256x2048.Idx) :
    k0_pay2 (F := Ideal) (iblk m c 0 t) (iblk m c 1 t) j = normed (aX m c) (aG m c) (rowAt t (j 0)) (j 1) := by
  obtain ⟨r, d, rfl⟩ : ∃ (r : Fin 256) (d : Fin 2048), j = ix2 r d := ⟨j 0, j 1, by blk_ext⟩
  show _ = normed (aX m c) (aG m c) (rowAt t r) d
  pointwise [k0_pay2]
  simp only [block0, block1]
  rfl

theorem left2 (t : Fin cfg0.N) (j : S256x2048.Idx) : out0_2 (F := Ideal) (iblk m c 0 t) (iblk m c 1 t) j
    = normed (aX m c) (aG m c) (rowAt t (j 0)) (j 1) := by
  rw [← normed_at]
  frame_out

theorem final : (dats m 0 c).arrAt 2 cfg0.N = fun i => normed (aX m c) (aG m c) (i 0) (i 1) := by
  refine (dats m 0 c).arrAt_eq_of_covers 2 _ (by decide +kernel) fun t hf y => ?_
  blk_simp
  rw [after0_2]
  refine (left2 m c t y).trans (congrArg₂ (normed (aX m c) (aG m c)) (Fin.ext ?_) (Fin.ext ?_)) <;> blk_simp [idx t]

end Kernel

section Reference

open Cert.NormRefIdeal Cert.NormRefIdeal.Gen Cert.NormRefIdeal.Read

theorem factor_ref (X : Mat) (l : Fin 2048) (k : Fin 1) : val_main_v7 (F := Ideal) X (ix2 l k)
    = factor (Ideal.ofBits .f32 1157627904#32) (fun k : Fin 2048 => X (ix2 l k)) := by
  pointwise [val_main_v7, val_main_v6, val_main_v5, val_main_v4, val_main_v3, val_main_v2, val_main_v1, val_main_v0,
    val_main_cst_1, val_main_cst_0, val_main_cst]
  try rw [zero_add]
  rfl

theorem reference (X : Mat) (G : Gain) (i : S2048x2048.Idx) :
    val_main_v13 (F := Ideal) X G i = normed X G (i 0) (i 1) := by
  obtain ⟨l, d, rfl⟩ : ∃ l d : Fin 2048, i = ix2 l d := ⟨i 0, i 1, by blk_ext⟩
  pointwise [val_main_v13, val_main_v12, val_main_v11, val_main_v10, val_main_v9, val_main_v8]
  rw [factor_ref]
  rfl

end Reference

end Cert.Norm.Forward

end
-- ==== Proof.Norm.ValuesNorm.lean ====
module

public import proofs.«01_k».proof.Proof.Norm.Spec
public import proofs.«01_k».proof.Proof.Gate.Reference
public import proofs.«01_k».proof.Proof.Gen.ValuesNormIdeal.Value
public import proofs.«01_k».proof.Proof.Gen.ValuesNormRefIdeal.Read

/-!
The norm of the gelu of the values, times the gain.
-/

@[expose] public section

set_option maxRecDepth 16384

noncomputable section

open Idealize.ShloMosaic Idealize.ShloMosaic.TcCoe Idealize.SL.Sem

namespace Cert.Norm.Values

open Cert.Gate Cert.Consts

abbrev Gain := Vec Ideal ⟨1, ![4096]⟩ .f32

/-- The gelu of the values, slot 1 of the pre-activations. -/
def value (Z : Pair) (l : Fin 2048) (d : Fin 4096) : EReal := Z (ix3 1 l d) * cdf (Z (ix3 1 l d))

/-- The normed values at row `l`, feature `d`. -/
def normed (Z : Pair) (G : Gain) (l : Fin 2048) (d : Fin 4096) : EReal :=
  value Z l d * factor (Ideal.ofBits .f32 1166016512#32) (value Z l) * G (ix1 d)

section Kernel

open Cert.ValuesNormIdeal Cert.ValuesNormIdeal.Gen

theorem inv_sqrt2_eq : (Named.named Cert.ValuesNormIdeal.κ "inv_sqrt2" 1060439283#32 : Ideal .f32) = (((Real.sqrt 2)⁻¹ : ℝ) : EReal) :=
  IdealRules.named_const.ideal_named_scalar _ _ _ _ rfl

variable (m : (ℓ : Loc nD τ sig) → Buf (Elt Ideal) ℓ) (c : Dev nD)

/-- The arguments. -/
abbrev aZ : Pair := m ((c : Thread nD τ).loc main_arg0)
@[inherit_doc aZ] abbrev aG : Gain := m ((c : Thread nD τ).loc main_arg1)

/-- Where the blocks of point `t` lie: rows `256 t …`. -/
theorem idx : ∀ t : Fin cfg0.N, win0_0.index t = ![1, t.val, 0] ∧ win0_1.index t = ![0, 0] ∧ win0_2.index t = ![t.val, 0]
    ∧ t.val < 8 :=
  (by decide +kernel : ∀ t : Fin grid0.N, _)

/-- The row of the array at row `r` of the blocks of point `t`. -/
abbrev rowAt (t : Fin cfg0.N) (r : Fin 256) : Fin 2048 := ⟨t.val * 256 + r.val, by have := (idx t).2.2.2; omega⟩

theorem block0 (t : Fin cfg0.N) (r : Fin 256) (k : Fin 4096) : iblk m c 0 t (ix3 0 r k) = aZ m c (ix3 1 (rowAt t r) k) := by
  blk_ext [iblk, V, idx t]
theorem block1 (t : Fin cfg0.N) (k : Fin 4096) : iblk m c 1 t (ix2 0 k) = aG m c (ix1 k) := by
  blk_simp [iblk]
  entry_read
  pointwise
  exact congrArg (aG m c) (by blk_ext [idx t])

/-- The gelu, the half multiplied first. -/
theorem gelu_eq (x : EReal) : Ideal.ofBits .f32 1056964608#32 * x
      * (1 + FloatOps.erf (F := Ideal) (φ := .f32) (x * (Named.named Cert.ValuesNormIdeal.κ "inv_sqrt2" 1060439283#32 : Ideal .f32)))
    = x * cdf x := by
  rw [half_eq, inv_sqrt2_eq, cdf, mul_comm ((1 / 2 : ℝ) : EReal) x, mul_assoc x]
  rfl

/-- What the body stores. -/
theorem normed_at (t : Fin cfg0.N) (j : S256x4096.Idx) :
    k0_pay2 (F := Ideal) (iblk m c 0 t) (iblk m c 1 t) j = normed (aZ m c) (aG m c) (rowAt t (j 0)) (j 1) := by
  obtain ⟨r, d, rfl⟩ : ∃ (r : Fin 256) (d : Fin 4096), j = ix2 r d := ⟨j 0, j 1, by blk_ext⟩
  show _ = normed (aZ m c) (aG m c) (rowAt t r) d
  pointwise [k0_pay2]
  simp only [block0, block1, gelu_eq]
  rfl

theorem left2 (t : Fin cfg0.N) (j : S256x4096.Idx) : out0_2 (F := Ideal) (iblk m c 0 t) (iblk m c 1 t) j
    = normed (aZ m c) (aG m c) (rowAt t (j 0)) (j 1) := by
  rw [← normed_at]
  frame_out

theorem final : (dats m 0 c).arrAt 2 cfg0.N = fun i => normed (aZ m c) (aG m c) (i 0) (i 1) := by
  refine (dats m 0 c).arrAt_eq_of_covers 2 _ (by decide +kernel) fun t hf y => ?_
  blk_simp
  rw [after0_2]
  refine (left2 m c t y).trans (congrArg₂ (normed (aZ m c) (aG m c)) (Fin.ext ?_) (Fin.ext ?_)) <;> blk_simp [idx t]

end Kernel

section Reference

open Cert.ValuesNormRefIdeal Cert.ValuesNormRefIdeal.Gen Cert.ValuesNormRefIdeal.Read

theorem value_ref (Z : Pair) (l : Fin 2048) (d : Fin 4096) : val_main_v12 (F := Ideal) Z (ix2 l d) = value Z l d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rw [half_eq, div_root_two, value, cdf]

theorem factor_ref (Z : Pair) (l : Fin 2048) (k : Fin 1) : val_main_v20 (F := Ideal) Z (ix2 l k)
    = factor (Ideal.ofBits .f32 1166016512#32) (value Z l) := by
  pointwise [val_main_v20, val_main_v19, val_main_v18, val_main_v17, val_main_v16, val_main_v15, val_main_v14, val_main_v13,
    val_main_cst_4, val_main_cst_3, val_main_cst_2]
  simp only [value_ref]
  try rw [zero_add]
  rfl

theorem reference (Z : Pair) (G : Gain) (i : S2048x4096.Idx) :
    val_main_v26 (F := Ideal) Z G i = normed Z G (i 0) (i 1) := by
  obtain ⟨l, d, rfl⟩ : ∃ (l : Fin 2048) (d : Fin 4096), i = ix2 l d := ⟨i 0, i 1, by blk_ext⟩
  pointwise [val_main_v26, val_main_v25, val_main_v24, val_main_v23, val_main_v22, val_main_v21]
  rw [factor_ref, value_ref]
  rfl

end Reference

end Cert.Norm.Values

end
-- ==== Proof.Norm.ValuesNormGrad.lean ====
module

public import proofs.«01_k».proof.Proof.Norm.ValuesNorm
public import proofs.«01_k».proof.Proof.Gen.ValuesNormGradIdeal.Value

/-!
What the kernel of the gradient of the values' norm leaves in its two results.
-/

@[expose] public section

set_option maxRecDepth 16384

noncomputable section

open Idealize.ShloMosaic Idealize.ShloMosaic.TcCoe Idealize.SL.Sem
open Cert.ValuesNormGradIdeal Cert.ValuesNormGradIdeal.Gen
open Cert.Gate Cert.Consts Cert.Norm.Values

namespace Cert.Norm.ValuesGrad

/-- The number of entries of a row. -/
abbrev size : EReal := Ideal.ofBits .f32 1166016512#32

section

variable (D : Cert.Gate.Mat) (Z : Pair) (G : Gain)

/-- Row `l` of the gradient with respect to the normed row before the gain. -/
def gradRow (l : Fin 2048) (k : Fin 4096) : EReal := D (ix2 l k) * G (ix1 k)

/-- The gradient of the pre-activations that feed the values. -/
def gradZ (l : Fin 2048) (d : Fin 4096) : EReal :=
  back size (value Z l) (gradRow D G l) d * (cdf (Z (ix3 1 l d)) + Z (ix3 1 l d) * pdf (Z (ix3 1 l d)))

/-- What row `l` adds to the gradient of the gain. -/
def partGain (l : Fin 2048) (d : Fin 4096) : EReal := D (ix2 l d) * (value Z l d * factor size (value Z l))

/-- The gradient of the gain. -/
def gradGain (d : Fin 4096) : EReal := ∑ l : Fin 2048, partGain D Z l d

end

theorem inv_sqrt2_eq : (Named.named Cert.ValuesNormGradIdeal.κ "inv_sqrt2" 1060439283#32 : Ideal .f32)
    = (((Real.sqrt 2)⁻¹ : ℝ) : EReal) :=
  IdealRules.named_const.ideal_named_scalar _ _ _ _ rfl

theorem inv_sqrt_2pi_eq : (Named.named Cert.ValuesNormGradIdeal.κ "inv_sqrt_2pi" 1053573674#32 : Ideal .f32)
    = (((Real.sqrt (2 * Real.pi))⁻¹ : ℝ) : EReal) :=
  IdealRules.named_const.ideal_named_scalar _ _ _ _ rfl

variable (m : (ℓ : Loc nD τ sig) → Buf (Elt Ideal) ℓ) (c : Dev nD)

/-- The arguments. -/
abbrev aD : Cert.Gate.Mat := m ((c : Thread nD τ).loc main_arg0)
@[inherit_doc aD] abbrev aZ : Pair := m ((c : Thread nD τ).loc main_arg1)
@[inherit_doc aD] abbrev aG : Gain := m ((c : Thread nD τ).loc main_arg2)
@[inherit_doc aD] abbrev aK : Pair := m ((c : Thread nD τ).loc main_arg3)

/-- Where the blocks of point `t` lie: rows `256 t …`. -/
theorem idx : ∀ t : Fin cfg0.N, win0_0.index t = ![t.val, 0] ∧ win0_1.index t = ![1, t.val, 0] ∧ win0_2.index t = ![0, 0]
    ∧ win0_3.index t = ![1, t.val, 0] ∧ win0_4.index t = ![0, 0] ∧ t.val < 8 :=
  (by decide +kernel : ∀ t : Fin grid0.N, _)

/-- The row of the array at row `r` of the blocks of point `t`. -/
abbrev rowAt (t : Fin cfg0.N) (r : Fin 256) : Fin 2048 := ⟨t.val * 256 + r.val, by have := (idx t).2.2.2.2.2; omega⟩

theorem block0 (t : Fin cfg0.N) (r : Fin 256) (k : Fin 4096) : iblk m c 0 t (ix2 r k) = aD m c (ix2 (rowAt t r) k) := by
  blk_ext [iblk, V, idx t]
theorem block1 (t : Fin cfg0.N) (r : Fin 256) (k : Fin 4096) : iblk m c 1 t (ix3 0 r k) = aZ m c (ix3 1 (rowAt t r) k) := by
  blk_ext [iblk, V, idx t]
theorem block2 (t : Fin cfg0.N) (k : Fin 4096) : iblk m c 2 t (ix2 0 k) = aG m c (ix1 k) := by
  blk_simp [iblk]
  entry_read
  pointwise
  exact congrArg (aG m c) (by blk_ext [idx t])

theorem pre_at (t : Fin cfg0.N) (r : Fin 256) (k : Fin 4096) :
    k0_pay5 (F := Ideal) (iblk m c 1 t) (ix2 r k) = aZ m c (ix3 1 (rowAt t r) k) := by
  pointwise [k0_pay5]
  rw [block1]

theorem value_at (t : Fin cfg0.N) (r : Fin 256) (k : Fin 4096) :
    k0_pay6 (F := Ideal) (iblk m c 1 t) (ix2 r k) = value (aZ m c) (rowAt t r) k := by
  pointwise [k0_pay6]
  rw [pre_at, half_eq, inv_sqrt2_eq, value, cdf, mul_comm ((1 / 2 : ℝ) : EReal) (aZ m c _), mul_assoc (aZ m c _)]
  rfl

theorem factor_at (t : Fin cfg0.N) (r : Fin 256) :
    k0_pay7 (F := Ideal) (iblk m c 1 t) (ix2 r 0) = factor size (value (aZ m c) (rowAt t r)) := by
  pointwise [k0_pay7]
  unfold factor meanSq
  simp only [value_at]

theorem normed_at (t : Fin cfg0.N) (r : Fin 256) (k : Fin 4096) : k0_pay8 (F := Ideal) (iblk m c 1 t) (ix2 r k)
    = value (aZ m c) (rowAt t r) k * factor size (value (aZ m c) (rowAt t r)) := by
  pointwise [k0_pay8]
  rw [factor_at, value_at]

theorem back_at (t : Fin cfg0.N) (r : Fin 256) (d : Fin 4096) :
    k0_pay9 (F := Ideal) (iblk m c 1 t) (iblk m c 0 t) (iblk m c 2 t) (ix2 r d)
      = back size (value (aZ m c) (rowAt t r)) (gradRow (aD m c) (aG m c) (rowAt t r)) d := by
  pointwise [k0_pay9]
  simp only [normed_at, factor_at, block0, block2]
  rfl

/-- What the body stores as the gradient of the pre-activations. -/
theorem grad_at (t : Fin cfg0.N) (j : S1x256x4096.Idx) :
    k0_pay1 (F := Ideal) (k0_pay5 (iblk m c 1 t)) (k0_pay9 (iblk m c 1 t) (iblk m c 0 t) (iblk m c 2 t)) k0_pay10 j
      = gradZ (aD m c) (aZ m c) (aG m c) (rowAt t (j 1)) (j 2) := by
  obtain ⟨r, d, rfl⟩ : ∃ (r : Fin 256) (d : Fin 4096), j = ix3 0 r d := ⟨j 1, j 2, by blk_ext⟩
  show _ = gradZ (aD m c) (aZ m c) (aG m c) (rowAt t r) d
  pointwise [k0_pay1, k0_pay10]
  rw [back_at, pre_at, half_eq, neg_half_eq, inv_sqrt2_eq, inv_sqrt_2pi_eq, gradZ, cdf, pdf, mul_assoc (aZ m c _) (Ideal.exp _)]
  rfl

/-- What the rows of point `t` add to the gradient of the gain. -/
theorem part_at (t : Fin cfg0.N) (p : Vec Ideal S1x4096 .f32) (j : S1x4096.Idx) :
    k0_pay3 (F := Ideal) (k0_pay8 (iblk m c 1 t)) (iblk m c 0 t) p j
      = p j + ∑ r : Fin 256, partGain (aD m c) (aZ m c) (rowAt t r) (j 1) := by
  obtain ⟨d, rfl⟩ : ∃ d : Fin 4096, j = ix2 0 d := ⟨j 1, by blk_ext⟩
  pointwise [k0_pay3]
  simp only [normed_at, block0]
  rfl

theorem zero_at (j : S1x4096.Idx) : k0_pay2 (F := Ideal) j = 0 := by pointwise [k0_pay2]

theorem start (t : Fin cfg0.N) (h : t.val % 8 = 0) (j : S1x4096.Idx) :
    (outsAt0 m c t.val t.isLt).2.1 j = 0 + ∑ r : Fin 256, partGain (aD m c) (aZ m c) (rowAt t r) (j 1) := by
  rw [outsAt0_A m c t h]
  frame_out
  rw [part_at m c t, zero_at]

theorem next (t : Fin cfg0.N) (h : ¬ t.val % 8 = 0) (j : S1x4096.Idx) :
    (outsAt0 m c t.val t.isLt).2.1 j
      = (outsAt0 m c (t.val - 1) (lt_of_le_of_lt (Nat.sub_le _ _) t.isLt)).2.1 j
        + ∑ r : Fin 256, partGain (aD m c) (aZ m c) (rowAt t r) (j 1) := by
  rw [outsAt0_B m c t h]
  frame_out
  rw [part_at m c t]

theorem left3 (t : Fin cfg0.N) (j : S1x256x4096.Idx) : (outsAt0 m c t.val t.isLt).1 j
    = gradZ (aD m c) (aZ m c) (aG m c) (rowAt t (j 1)) (j 2) := by
  rw [← grad_at]
  by_cases h : t.val % 8 = 0
  · rw [outsAt0_A m c t h]
    frame_out
  · rw [outsAt0_B m c t h]
    frame_out

/-- The array that the first result starts from is the gate's gradient. -/
theorem kept_at (i : S2x2048x4096.Idx) : V m c main_v1_0 i = aK m c i := by
  entry_read
  rfl

/-- The gradient fills slot 1 of the first result; slot 0 is kept. -/
theorem final3 : (dats m 0 c).arrAt 3 cfg0.N = fun i => if (i 0 : ℕ) = 1 then
      gradZ (aD m c) (aZ m c) (aG m c) (i 1) (i 2) else V m c main_v1_0 i := by
  refine (dats m 0 c).arrAt_eq_of_coversWhere 3 _ (fun β => β 0 = 1) (by decide +kernel) (fun t hf y => ?_)
    (fun j => by blk_simp [Pipeline.Window.cell_apply]; omega)
  blk_simp
  rw [after0_3]
  refine (left3 m c t y).trans (congrArg₂ (gradZ (aD m c) (aZ m c) (aG m c)) (Fin.ext ?_) (Fin.ext ?_)) <;>
    blk_simp [idx t]

/-- The gradient of the gain. -/
theorem final4 : (dats m 0 c).arrAt 4 cfg0.N = fun i => gradGain (aD m c) (aZ m c) (i 1) := by
  refine (dats m 0 c).arrAt_eq_of_covers 4 _ (by decide +kernel) fun t hf y => ?_
  blk_simp
  rw [after0_4, Pipeline.eq_sum_fin_of_reset_step_apply_of_flush (fun n h => (outsAt0 m c n h).2.1) 8 (fun _ => 0)
    (fun p j => ∑ r : Fin 256, partGain (aD m c) (aZ m c) (rowAt p r) (j 1)) (start m c) (next m c)
    t ((flush0_4 t).mp hf) _, zero_add]
  have ht : t.val / 8 = 0 := by have := (idx t).2.2.2.2.2; omega
  refine Eq.trans ?_ (Fin.sum_univ_tiles (M := EReal) 8 256 rfl fun l : Fin 2048 => partGain (aD m c) (aZ m c) l _).symm
  refine Fin.sum_fin_congr fun s => Fin.sum_fin_congr fun r => ?_
  congr 1 <;> refine Fin.ext ?_
  · show (8 * (t.val / 8) + s.val) * 256 + r.val = _
    rw [ht]; simp
  · blk_simp [idx t]

end Cert.Norm.ValuesGrad

end
-- ==== Proof.Norm.ValuesNormGradReference.lean ====
module

public import proofs.«01_k».proof.Proof.Norm.ValuesNormGrad
public import proofs.«01_k».proof.Proof.Gen.Pre_finite_values
public import proofs.«01_k».proof.Proof.Gen.ValuesNormGradRefIdeal.Read

/-!
The reference of the gradient of the values' norm, in the kernel's spelling.
-/

@[expose] public section

set_option maxRecDepth 16384

noncomputable section

open Idealize.ShloMosaic Idealize.ShloMosaic.TcCoe Idealize.SL.Sem
open Cert.ValuesNormGradRefIdeal Cert.ValuesNormGradRefIdeal.Gen Cert.ValuesNormGradRefIdeal.Read
open Cert.Gate Cert.Consts Cert.Norm.Values

namespace Cert.Norm.ValuesGrad

variable (D : Cert.Gate.Mat) (Z : Pair) (G : Gain) (K : Pair)

theorem cdf_ref (l : Fin 2048) (d : Fin 4096) : val_main_v12 (F := Ideal) Z (ix2 l d) = cdf (Z (ix3 1 l d)) := by
  pointwise [val_main_v12, val_main_v11, val_main_v10, val_main_v9, val_main_v8, val_main_v7, val_main_v6, val_main_v5,
    val_main_v4, val_main_v2, val_main_v1, val_main_v0, val_main_cst_0, val_main_cst_1, val_main_cst_2]
  rw [half_eq, div_root_two, cdf]

theorem pdf_ref (l : Fin 2048) (d : Fin 4096) : val_main_v22 (F := Ideal) Z (ix2 l d) = pdf (Z (ix3 1 l d)) := by
  pointwise [val_main_v22, val_main_v21, val_main_v20, val_main_v19, val_main_v18, val_main_v17, val_main_v16, val_main_v15,
    val_main_v14, val_main_v13, val_main_v3, val_main_v2, val_main_v1, val_main_v0, val_main_cst, val_main_cst_3, val_main_cst_4]
  rw [two_eq, half_square, div_root_two_pi, pdf]

theorem value_ref (l : Fin 2048) (d : Fin 4096) : val_main_v23 (F := Ideal) Z (ix2 l d) = value Z l d := by
  pointwise [val_main_v23]
  rw [cdf_ref, value]
  pointwise [val_main_v2, val_main_v1, val_main_v0]

theorem mean_ref (l : Fin 2048) (k : Fin 1) : val_main_v30 (F := Ideal) Z (ix2 l k) = meanSq size (value Z l) := by
  pointwise [val_main_v30, val_main_v29, val_main_v28, val_main_v27, val_main_v26, val_main_v25, val_main_v24,
    val_main_cst_5, val_main_cst_6, val_main_cst_7]
  simp only [value_ref]
  try rw [zero_add]
  rfl

theorem factor_ref (l : Fin 2048) (k : Fin 1) : val_main_v31 (F := Ideal) Z (ix2 l k) = factor size (value Z l) := by
  pointwise [val_main_v31]
  rw [mean_ref]
  rfl

theorem gain_ref (d : Fin 4096) : val_main_v70 (F := Ideal) D Z (ix2 0 d) = gradGain D Z d := by
  pointwise [val_main_v70, val_main_v45, val_main_v42, val_main_v41, val_main_v40, val_main_v36, val_main_v35,
    val_main_cst_9, val_main_cst_10]
  simp only [factor_ref, value_ref]
  unfold gradGain partGain
  simp [mul_comm]

theorem slope_ref (l d : Fin 2048) (e : Fin 4096) :
    val_main_v55 (F := Ideal) D Z G (ix2 l e) = slope size (value Z l) (gradRow D G l) := by
  pointwise [val_main_v55, val_main_v54, val_main_v53, val_main_v52, val_main_v51, val_main_v48, val_main_v47, val_main_v46,
    val_main_v44, val_main_v43, val_main_v37, val_main_v34, val_main_v33, val_main_v32, val_main_cst_8, val_main_cst_11,
    val_main_cst_12, val_main_cst_13]
  simp only [factor_ref, mean_ref, value_ref]
  unfold slope gradRow
  simp

theorem back_ref (l : Fin 2048) (d : Fin 4096) :
    val_main_v59 (F := Ideal) D Z G (ix2 l d) = back size (value Z l) (gradRow D G l) d := by
  pointwise [val_main_v59, val_main_v58, val_main_v57, val_main_v56, val_main_v50, val_main_v49, val_main_v44, val_main_v43,
    val_main_v37]
  simp only [factor_ref, slope_ref D Z G l 0, value_ref]
  rw [show size = ((4096 : ℝ) : EReal) from size4096, ← back_eq (c := 4096) (value Z l) (gradRow D G l) (by norm_num)]
  rfl

/-- The precondition says that the cotangent and the gain hold real numbers. -/
theorem real_of_pre (j : (⟨0, ![]⟩ : Shape).Idx)
    (h : letI := Cert.Pre_finite_values.Gen.facts; Cert.Pre_finite_values.fn (F := Ideal) D Z G K j = 1#1) :
    (∀ i, IsReal (D i)) ∧ (∀ i, IsReal (G i)) := by
  dsimp only [Cert.Pre_finite_values.fn] at h
  obtain ⟨hD, hG⟩ := IntOp.andi_eq_one.1 h
  exact ⟨fun i => isReal_of_cmp (Host.reduce_andi_all _ _ _ _ _ hD i), fun i => isReal_of_cmp (Host.reduce_andi_all _ _ _ _ _ hG i)⟩

theorem grad_ref (hD : ∀ i, IsReal (D i)) (hG : ∀ i, IsReal (G i)) (l : Fin 2048) (d : Fin 4096) :
    val_main_v63 (F := Ideal) D Z G (ix2 l d) = gradZ D Z G l d := by
  have hb : IsReal (back size (value Z l) (gradRow D G l) d) := by
    rw [show size = ((4096 : ℝ) : EReal) from size4096]
    exact isReal_back _ _ (by norm_num) (fun k => isReal_mul (hD _) (hG _)) d
  pointwise [val_main_v63, val_main_v62, val_main_v61, val_main_v60]
  rw [back_ref, cdf_ref, pdf_ref, gradZ, distrib hb (isReal_cdf _)]
  pointwise [val_main_v2, val_main_v1, val_main_v0]
  rw [mul_comm (Z _) (back _ _ _ _), mul_assoc]

/-- The results at every index of the whole arrays. -/
theorem grad_whole (hD : ∀ i, IsReal (D i)) (hG : ∀ i, IsReal (G i)) (i : S2x2048x4096.Idx) :
    val_main_v69 (F := Ideal) D Z G K i = if (i 0 : ℕ) = 1 then gradZ D Z G (i 1) (i 2) else K i := by
  obtain ⟨s, l, d, rfl⟩ : ∃ (s : Fin 2) (l : Fin 2048) (d : Fin 4096), i = ix3 s l d := ⟨i 0, i 1, i 2, by blk_ext⟩
  obtain rfl | rfl : s = 0 ∨ s = 1 := by fin_cases s <;> simp
  · refine Eq.trans ?_ (if_neg (by show ¬ (0 : ℕ) = 1; omega)).symm
    pointwise [val_main_v69, val_main_v67, val_main_v65, val_main_v64]
  · refine Eq.trans ?_ (if_pos rfl).symm
    pointwise [val_main_v69, val_main_v68, val_main_v66]
    exact grad_ref D Z G hD hG l d
@[inherit_doc grad_whole]
theorem gain_whole (i : S1x4096.Idx) : val_main_v70 (F := Ideal) D Z i = gradGain D Z (i 1) := by
  obtain ⟨d, rfl⟩ : ∃ d : Fin 4096, i = ix2 0 d := ⟨i 1, by blk_ext⟩
  exact gain_ref D Z d

end Cert.Norm.ValuesGrad

end
-- ==== Proof.Norm.GateOut.lean ====
module

public import proofs.«01_k».proof.Proof.Gate.Reference
public import proofs.«01_k».proof.Proof.Gen.GateOutIdeal.Value
public import proofs.«01_k».proof.Proof.Gen.GateOutRefIdeal.Read

/-!
The spatial gate: the gelu of the pre-activations times the mixed values.
-/

@[expose] public section

set_option maxRecDepth 16384

noncomputable section

open Idealize.ShloMosaic Idealize.ShloMosaic.TcCoe Idealize.SL.Sem

namespace Cert.Norm.GateOut

open Cert.Gate Cert.Consts

/-- The gate at row `t` of chunk `n`, feature `e` of group `g`. -/
def gated (Z : Pair) (V : Cert.Gate.Mat) (W : Mix) (B : Bias) (n : Fin 16) (t : Fin 128) (g : Fin 16) (e : Fin 256) : EReal :=
  Z (ix3 0 (row n t) (col g e)) * cdf (Z (ix3 0 (row n t) (col g e))) * mixed V W B n t g e

section Kernel

open Cert.GateOutIdeal Cert.GateOutIdeal.Gen

theorem inv_sqrt2_eq : (Named.named Cert.GateOutIdeal.κ "inv_sqrt2" 1060439283#32 : Ideal .f32) = (((Real.sqrt 2)⁻¹ : ℝ) : EReal) :=
  IdealRules.named_const.ideal_named_scalar _ _ _ _ rfl

section chunk

variable (w : Vec Ideal S1x128x128 .f32) (v : Vec Ideal S128x256 .bf16) (b : Vec Ideal S1x128x1 .f32)
  (x : Vec Ideal S1x128x256 .bf16)

/-- What the body computes from a chunk. -/
theorem gated_at (t : Fin 128) (e : Fin 256) : k0_pay5 (F := Ideal) w v b x (ix2 t e)
    = x (ix3 0 t e) * cdf (x (ix3 0 t e))
      * ((∑ s : Fin 128, if s.val ≤ t.val then w (ix3 0 t s) * v (ix2 s e) else 0) + b (ix3 0 t 0)) := by
  pointwise [k0_pay5, k0_pay4]
  simp only [keep _ _ (Fin.is_lt _) (Fin.is_lt _)]
  rw [half_eq, inv_sqrt2_eq, cdf, mul_comm ((1 / 2 : ℝ) : EReal) (x _), mul_assoc (x _)]
  rfl

theorem chunk1 : k0_pay7 (F := Ideal) (k0_pay6 w v) b x = k0_pay5 w v b x := rfl
theorem chunk2 : k0_pay1 (F := Ideal) (k0_pay8 (k0_pay4 w) v b x) = k0_pay5 w v b x := rfl
theorem chunk3 : k0_pay2 (F := Ideal) (k0_pay4 w) v b x = k0_pay5 w v b x := rfl

theorem mask_whole (y : Vec Ideal S1x512x256 .bf16) (u : Vec Ideal S512x256 .bf16) :
    k0_pay9 (F := Ideal) y u w b = k0_pay4 w := by
  unfold k0_pay9
  rw [View.ld_unit_zero (by funext a; fin_cases a <;> rfl)]

end chunk

variable (m : (ℓ : Loc nD τ sig) → Buf (Elt Ideal) ℓ) (c : Dev nD)

/-- The arguments. -/
abbrev aZ : Pair := m ((c : Thread nD τ).loc main_arg0)
@[inherit_doc aZ] abbrev aV : Cert.Gate.Mat := m ((c : Thread nD τ).loc main_arg1)
@[inherit_doc aZ] abbrev aW : Mix := m ((c : Thread nD τ).loc main_arg2)
@[inherit_doc aZ] abbrev aB : Bias := m ((c : Thread nD τ).loc main_arg3)

/-- Where the blocks of point `t = 4 g + n` lie: rows `512 n …`, columns `256 g …`. -/
theorem idx : ∀ t : Fin cfg0.N, win0_0.index t = ![0, t.val % 4, t.val / 4] ∧ win0_1.index t = ![t.val % 4, t.val / 4]
    ∧ win0_2.index t = ![t.val / 4, 0, 0] ∧ win0_3.index t = ![t.val / 4, 0, 0] ∧ win0_4.index t = ![t.val % 4, t.val / 4]
    ∧ t.val / 4 < 16 :=
  (by decide +kernel : ∀ t : Fin grid0.N, _)

theorem group_lt (t : Fin cfg0.N) : t.val / 4 < 16 := (idx t).2.2.2.2.2

theorem block0 (t : Fin cfg0.N) (y : S1x512x256.Idx) : iblk m c 0 t y
    = aZ m c (ix3 0 ⟨t.val % 4 * 512 + (y 1 : ℕ), by idx_bounds; omega⟩
        ⟨t.val / 4 * 256 + (y 2 : ℕ), by have := group_lt t; idx_bounds; omega⟩) := by
  blk_ext [iblk, V, idx t]
theorem block1 (t : Fin cfg0.N) (y : S512x256.Idx) : iblk m c 1 t y
    = aV m c (ix2 ⟨t.val % 4 * 512 + (y 0 : ℕ), by idx_bounds; omega⟩
        ⟨t.val / 4 * 256 + (y 1 : ℕ), by have := group_lt t; idx_bounds; omega⟩) := by
  blk_ext [iblk, V, idx t]
theorem block2 (t : Fin cfg0.N) (r s : Fin 128) : iblk m c 2 t (ix3 0 r s) = aW m c (ix3 ⟨t.val / 4, group_lt t⟩ r s) := by
  blk_ext [iblk, V, idx t]
theorem block3 (t : Fin cfg0.N) (r : Fin 128) : iblk m c 3 t (ix3 0 r 0) = aB m c (ix2 ⟨t.val / 4, group_lt t⟩ r) := by
  blk_simp [iblk]
  entry_read
  pointwise
  blk_ext [idx t]

/-- Row `s` of quarter `q` of a block of 512 rows. -/
abbrev quarter (q : ℕ) (hq : q < 4) (s : Fin 128) : Fin 512 := ⟨q * 128 + s.val, by omega⟩

/-- What the body stores from quarter `q` of the blocks of point `t`, at the place it has in the array. -/
theorem piece (t : Fin cfg0.N) (q : ℕ) (hq : q < 4) (v : Vec Ideal S128x256 .bf16) (x : Vec Ideal S1x128x256 .bf16)
    (hv : ∀ (s : Fin 128) (e : Fin 256), v (ix2 s e) = iblk m c 1 t (ix2 (quarter q hq s) e))
    (hx : ∀ (s : Fin 128) (e : Fin 256), x (ix3 0 s e) = iblk m c 0 t (ix3 0 (quarter q hq s) e))
    (z : S128x256.Idx) (i : S2048x4096.Idx)
    (h1 : (i 0 : ℕ) = t.val % 4 * 512 + (q * 128 + (z 0 : ℕ))) (h2 : (i 1 : ℕ) = t.val / 4 * 256 + (z 1 : ℕ)) :
    k0_pay5 (F := Ideal) (iblk m c 2 t) v (iblk m c 3 t) x z
      = gated (aZ m c) (aV m c) (aW m c) (aB m c) (chunkOf (i 0)) (inChunk (i 0)) (groupOf (i 1)) (inGroup (i 1)) := by
  have z0 : (z 0 : ℕ) < 128 := (z 0).isLt
  have z1 : (z 1 : ℕ) < 256 := (z 1).isLt
  obtain e1 : chunkOf (i 0) = ⟨t.val % 4 * 4 + q, by omega⟩ := Fin.ext (by show (i 0 : ℕ) / 128 = t.val % 4 * 4 + q; omega)
  obtain e2 : groupOf (i 1) = ⟨t.val / 4, group_lt t⟩ := Fin.ext (by show (i 1 : ℕ) / 256 = t.val / 4; omega)
  obtain e3 : z = ix2 (inChunk (i 0)) (inGroup (i 1)) := by blk_ext
  rw [e1, e2, e3, gated_at]
  have hv' : ∀ s e, v (ix2 s e) = aV m c (ix2 (row ⟨t.val % 4 * 4 + q, by omega⟩ s) (col ⟨t.val / 4, group_lt t⟩ e)) :=
    fun s e => by rw [hv, block1 m c t]; blk_ext
  have hx' : ∀ s e, x (ix3 0 s e) = aZ m c (ix3 0 (row ⟨t.val % 4 * 4 + q, by omega⟩ s) (col ⟨t.val / 4, group_lt t⟩ e)) :=
    fun s e => by rw [hx, block0 m c t]; blk_ext
  simp only [gated, mixed, hv', hx', block2 m c t, block3 m c t]

theorem final : (dats m 0 c).arrAt 4 cfg0.N = fun i =>
    gated (aZ m c) (aV m c) (aW m c) (aB m c) (chunkOf (i 0)) (inChunk (i 0)) (groupOf (i 1)) (inGroup (i 1)) := by
  refine (dats m 0 c).arrAt_eq_of_covers 4 _ (by decide +kernel) fun t hf y => ?_
  blk_simp
  rw [after0_4]
  frame_out
  canon_tiles x h
  case' piece0 => rw [mask_whole, chunk3]; refine piece m c t 3 (by omega) _ _ ?_ ?_ _ _ ?_ ?_
  case' piece1 => rw [mask_whole, chunk2]; refine piece m c t 2 (by omega) _ _ ?_ ?_ _ _ ?_ ?_
  case' piece2 => rw [chunk1]; refine piece m c t 1 (by omega) _ _ ?_ ?_ _ _ ?_ ?_
  case' piece3 => refine piece m c t 0 (by omega) _ _ ?_ ?_ _ _ ?_ ?_
  all_goals first | (intro r e; pointwise; done) | (intro r e; pointwise; blk_ext) | (blk_simp [idx t]; omega)

end Kernel

section Reference

open Cert.GateOutRefIdeal Cert.GateOutRefIdeal.Gen Cert.GateOutRefIdeal.Read

variable (Z : Pair) (V : Cert.Gate.Mat) (W : Mix) (B : Bias)

theorem mask_ref (g : Fin 16) (t s : Fin 128) :
    val_main_v19 (F := Ideal) W (ix3 g t s) = if s.val ≤ t.val then W (ix3 g t s) else 0 := by
  pointwise [val_main_v19, val_main_call1_v0, val_main_v18, val_main_cst_2, val_main_v17, val_main_v16, val_main_call0_v5,
   val_main_call0_v4, val_main_call0_v3, val_main_call0_v2, val_main_call0_v1, val_main_call0_v0, val_main_call0_c,
   val_main_call0_c_0, val_main_v15, val_main_c]
  exact keep' _ _ _ _

theorem mixed_ref (n : Fin 16) (t : Fin 128) (g : Fin 16) (e : Fin 256) :
    val_main_v27 (F := Ideal) V W B (ix2 (row n t) (col g e)) = mixed V W B n t g e := by
  pointwise [val_main_v27, val_main_v26, val_main_v25, val_main_v24, val_main_v23, val_main_v22, val_main_v21, val_main_v20,
    val_main_v14, val_main_v3]
  unfold mixed
  refine Ideal.add_congr (Finset.sum_congr rfl fun s _ => ?_) (by blk_ext)
  rw [← masked_mul, ← mask_ref W g t s, mul_comm]
  refine Ideal.mul_congr ?_ ?_
  · generalize val_main_v19 (F := Ideal) W = X
    blk_ext
  · blk_ext

theorem gelu_ref (r : Fin 2048) (f : Fin 4096) :
    val_main_v13 (F := Ideal) Z (ix2 r f) = Z (ix3 0 r f) * cdf (Z (ix3 0 r f)) := by
  pointwise [val_main_v13, val_main_v12, val_main_v11, val_main_v10, val_main_v9, val_main_v8, val_main_v7, val_main_v6,
    val_main_v5, val_main_v4, val_main_v2, val_main_v1, val_main_v0, val_main_cst, val_main_cst_0, val_main_cst_1]
  rw [half_eq, div_root_two, cdf]

theorem gated_ref (n : Fin 16) (t : Fin 128) (g : Fin 16) (e : Fin 256) :
    val_main_v29 (F := Ideal) Z V W B (ix2 (row n t) (col g e)) = gated Z V W B n t g e := by
  pointwise [val_main_v29, val_main_v28]
  rw [gelu_ref, mixed_ref, gated]

theorem reference (i : S2048x4096.Idx) : val_main_v29 (F := Ideal) Z V W B i
    = gated Z V W B (chunkOf (i 0)) (inChunk (i 0)) (groupOf (i 1)) (inGroup (i 1)) := by
  refine Eq.trans (congrArg _ ?_) (gated_ref Z V W B _ _ _ _)
  funext a
  match a with
  | ⟨0, _⟩ => exact Fin.ext (by show (i 0 : ℕ) = (i 0 : ℕ) / 128 * 128 + (i 0 : ℕ) % 128; omega)
  | ⟨1, _⟩ => exact Fin.ext (by show (i 1 : ℕ) = (i 1 : ℕ) / 256 * 256 + (i 1 : ℕ) % 256; omega)

end Reference

end Cert.Norm.GateOut

end
-- ==== Proof.Norm.SsdNorm.lean ====
module

public import proofs.«01_k».proof.Proof.Ffn.Spec
public import proofs.«01_k».proof.Proof.Norm.Spec
public import proofs.«01_k».proof.Proof.Gen.SsdNormIdeal.Value
public import proofs.«01_k».proof.Proof.Gen.SsdNormRefIdeal.Read

/-!
The grouped norm of the scan's output times the silu of the gate: eight groups of 512 features, each normed by itself.
-/

@[expose] public section

set_option maxRecDepth 16384

noncomputable section

open Idealize.ShloMosaic Idealize.ShloMosaic.TcCoe Idealize.SL.Sem

namespace Cert.Norm.Ssd

open Cert.Ffn

abbrev Mat := Vec Ideal ⟨2, ![2048, 4096]⟩ .f32
abbrev Gain := Vec Ideal ⟨2, ![1, 4096]⟩ .f32

/-- Feature `e` of group `g`. -/
abbrev place (g : Fin 8) (e : Fin 512) : Fin 4096 := ⟨g.val * 512 + e.val, by omega⟩
abbrev groupOf (f : Fin 4096) : Fin 8 := ⟨f.val / 512, by omega⟩
abbrev inGroup (f : Fin 4096) : Fin 512 := ⟨f.val % 512, by omega⟩

/-- The row that is normed: group `g` of row `l` of the output times the silu of the gate. -/
def gated (Y Z : Mat) (l : Fin 2048) (g : Fin 8) (e : Fin 512) : EReal :=
  Y (ix2 l (place g e)) * (Z (ix2 l (place g e)) * sigmoid (Z (ix2 l (place g e))))

/-- The number of features of a group. -/
abbrev size : EReal := Ideal.ofBits .f32 1140850688#32

def normed (Y Z : Mat) (G : Gain) (l : Fin 2048) (g : Fin 8) (e : Fin 512) : EReal :=
  gated Y Z l g e * factor size (gated Y Z l g) * G (ix2 0 (place g e))

section Kernel

open Cert.SsdNormIdeal Cert.SsdNormIdeal.Gen

section group

variable (z y : Vec Ideal S256x512 .f32) (g : Vec Ideal S1x512 .f32)

/-- What the body computes from a group. -/
theorem normed_at (r : Fin 256) (e : Fin 512) : k0_pay3 (F := Ideal) z y g (ix2 r e)
    = y (ix2 r e) * (z (ix2 r e) * sigmoid (z (ix2 r e)))
      * factor size (fun k : Fin 512 => y (ix2 r k) * (z (ix2 r k) * sigmoid (z (ix2 r k)))) * g (ix2 0 e) := by
  pointwise [k0_pay3]
  simp only [zero_sub]
  rfl

theorem group1 : k0_pay6 (F := Ideal) z y (k0_pay4 z) k0_pay5 g = k0_pay3 z y g := rfl
theorem group2 : k0_pay8 (F := Ideal) (k0_pay7 z y) g = k0_pay3 z y g := rfl
theorem group3 : k0_pay9 (F := Ideal) z y g = k0_pay3 z y g := rfl
theorem group4 : k0_pay11 (F := Ideal) z y (k0_pay10 z) g = k0_pay3 z y g := rfl
theorem group5 : k0_pay14 (F := Ideal) (k0_pay12 z y) (k0_pay13 z y) g = k0_pay3 z y g := rfl
theorem group6 : k0_pay15 (F := Ideal) z y g = k0_pay3 z y g := rfl
theorem group7 : k0_pay1 (F := Ideal) z y g = k0_pay3 z y g := rfl

end group

variable (m : (ℓ : Loc nD τ sig) → Buf (Elt Ideal) ℓ) (c : Dev nD)

/-- The arguments. -/
abbrev aY : Mat := m ((c : Thread nD τ).loc main_arg0)
@[inherit_doc aY] abbrev aZ : Mat := m ((c : Thread nD τ).loc main_arg1)
@[inherit_doc aY] abbrev aG : Gain := m ((c : Thread nD τ).loc main_arg2)

/-- Where the blocks of point `t` lie: rows `256 t …`. -/
theorem idx : ∀ t : Fin cfg0.N, win0_0.index t = ![t.val, 0] ∧ win0_1.index t = ![t.val, 0] ∧ win0_2.index t = ![0, 0]
    ∧ win0_3.index t = ![t.val, 0] ∧ t.val < 8 :=
  (by decide +kernel : ∀ t : Fin grid0.N, _)

/-- The row of the array at row `r` of the blocks of point `t`. -/
abbrev rowAt (t : Fin cfg0.N) (r : Fin 256) : Fin 2048 := ⟨t.val * 256 + r.val, by have := (idx t).2.2.2.2; omega⟩

theorem block0 (t : Fin cfg0.N) (r : Fin 256) (k : Fin 4096) : iblk m c 0 t (ix2 r k) = aY m c (ix2 (rowAt t r) k) := by
  blk_ext [iblk, V, idx t]
theorem block1 (t : Fin cfg0.N) (r : Fin 256) (k : Fin 4096) : iblk m c 1 t (ix2 r k) = aZ m c (ix2 (rowAt t r) k) := by
  blk_ext [iblk, V, idx t]
theorem block2 (t : Fin cfg0.N) (k : Fin 4096) : iblk m c 2 t (ix2 0 k) = aG m c (ix2 0 k) := by
  blk_ext [iblk, V, idx t]

/-- Feature `e` of group `q` of a block. -/
abbrev column (q : ℕ) (hq : q < 8) (e : Fin 512) : Fin 4096 := ⟨q * 512 + e.val, by omega⟩

/-- What the body stores from group `q` of the blocks of point `t`, at the place it has in the array. -/
theorem piece (t : Fin cfg0.N) (q : ℕ) (hq : q < 8) (z y : Vec Ideal S256x512 .f32) (g : Vec Ideal S1x512 .f32)
    (hz : ∀ (r : Fin 256) (e : Fin 512), z (ix2 r e) = iblk m c 1 t (ix2 r (column q hq e)))
    (hy : ∀ (r : Fin 256) (e : Fin 512), y (ix2 r e) = iblk m c 0 t (ix2 r (column q hq e)))
    (hg : ∀ e : Fin 512, g (ix2 0 e) = iblk m c 2 t (ix2 0 (column q hq e)))
    (x : S256x512.Idx) (i : S2048x4096.Idx)
    (h1 : (i 0 : ℕ) = t.val * 256 + (x 0 : ℕ)) (h2 : (i 1 : ℕ) = q * 512 + (x 1 : ℕ)) :
    k0_pay3 (F := Ideal) z y g x = normed (aY m c) (aZ m c) (aG m c) (i 0) (groupOf (i 1)) (inGroup (i 1)) := by
  obtain ⟨r, e, rfl⟩ : ∃ (r : Fin 256) (e : Fin 512), x = ix2 r e := ⟨x 0, x 1, by blk_ext⟩
  replace h2 : (i 1 : ℕ) = q * 512 + e.val := h2
  obtain e1 : i 0 = rowAt t r := Fin.ext h1
  obtain e2 : groupOf (i 1) = ⟨q, hq⟩ := Fin.ext (by show (i 1 : ℕ) / 512 = q; omega)
  obtain e3 : inGroup (i 1) = e := Fin.ext (by show (i 1 : ℕ) % 512 = e.val; omega)
  rw [e1, e2, e3, normed_at]
  simp only [hz, hy, hg, block0, block1, block2]
  rfl

theorem final : (dats m 0 c).arrAt 3 cfg0.N = fun i =>
    normed (aY m c) (aZ m c) (aG m c) (i 0) (groupOf (i 1)) (inGroup (i 1)) := by
  refine (dats m 0 c).arrAt_eq_of_covers 3 _ (by decide +kernel) fun t hf y => ?_
  blk_simp
  rw [after0_3]
  frame_out
  canon_tiles x h
  case' piece0 => rw [group7]; refine piece m c t 7 (by omega) _ _ _ ?_ ?_ ?_ _ _ ?_ ?_
  case' piece1 => rw [group6]; refine piece m c t 6 (by omega) _ _ _ ?_ ?_ ?_ _ _ ?_ ?_
  case' piece2 => rw [group5]; refine piece m c t 5 (by omega) _ _ _ ?_ ?_ ?_ _ _ ?_ ?_
  case' piece3 => rw [group4]; refine piece m c t 4 (by omega) _ _ _ ?_ ?_ ?_ _ _ ?_ ?_
  case' piece4 => rw [group3]; refine piece m c t 3 (by omega) _ _ _ ?_ ?_ ?_ _ _ ?_ ?_
  case' piece5 => rw [group2]; refine piece m c t 2 (by omega) _ _ _ ?_ ?_ ?_ _ _ ?_ ?_
  case' piece6 => rw [group1]; refine piece m c t 1 (by omega) _ _ _ ?_ ?_ ?_ _ _ ?_ ?_
  case' piece7 => refine piece m c t 0 (by omega) _ _ _ ?_ ?_ ?_ _ _ ?_ ?_
  all_goals first
    | (intro r e; pointwise; done)
    | (intro r e; pointwise; blk_ext)
    | (intro e; pointwise; done)
    | (intro e; pointwise; blk_ext)
    | (blk_simp [idx t]; omega)

end Kernel

section Reference

open Cert.SsdNormRefIdeal Cert.SsdNormRefIdeal.Gen Cert.SsdNormRefIdeal.Read

variable (Y Z : Mat) (G : Gain)

theorem gated_ref (l : Fin 2048) (g : Fin 8) (e : Fin 512) : val_main_v2 (F := Ideal) Y Z (ix3 l g e) = gated Y Z l g e := by
  have : idx_main_v2 (ix3 l g e) = ix2 l (place g e) := by
    funext a
    match a with
    | ⟨0, _⟩ => exact Fin.ext (by show ((l.val * 8 + g.val) * 512 + e.val) / 4096 = l.val; omega)
    | ⟨1, _⟩ => exact Fin.ext (by show ((l.val * 8 + g.val) * 512 + e.val) % 4096 = g.val * 512 + e.val; omega)
  rw [val_main_v2_apply, this]
  pointwise [val_main_v1, val_main_v0, val_main_call0_v5, val_main_call0_v4, val_main_call0_cst_0, val_main_call0_v3,
    val_main_call0_v2, val_main_call0_cst, val_main_call0_v1, val_main_call0_v0]
  rfl

theorem factor_ref (l : Fin 2048) (g : Fin 8) (k : Fin 1) :
    val_main_v10 (F := Ideal) Y Z (ix3 l g k) = factor size (gated Y Z l g) := by
  pointwise [val_main_v10, val_main_v9, val_main_v8, val_main_v7, val_main_v6, val_main_v5, val_main_v4, val_main_v3,
    val_main_cst_1, val_main_cst_0, val_main_cst]
  simp only [gated_ref]
  try rw [zero_add]
  rfl

theorem reference (i : S2048x4096.Idx) : val_main_v16 (F := Ideal) Y Z G i
    = normed Y Z G (i 0) (groupOf (i 1)) (inGroup (i 1)) := by
  obtain ⟨l, f, rfl⟩ : ∃ (l : Fin 2048) (f : Fin 4096), i = ix2 l f := ⟨i 0, i 1, by blk_ext⟩
  show _ = normed Y Z G l (groupOf f) (inGroup f)
  have h13 : idx_main_v13 (ix2 l f) = ix3 l (groupOf f) (inGroup f) := by
    funext a
    match a with
    | ⟨0, _⟩ => exact Fin.ext (by show (l.val * 4096 + f.val) / 4096 = l.val; omega)
    | ⟨1, _⟩ => exact Fin.ext (by show (l.val * 4096 + f.val) / 512 % 8 = f.val / 512; omega)
    | ⟨2, _⟩ => exact Fin.ext (by show (l.val * 4096 + f.val) % 512 = f.val % 512; omega)
  have hf : place (groupOf f) (inGroup f) = f := Fin.ext (by show f.val / 512 * 512 + f.val % 512 = f.val; omega)
  rw [normed, hf]
  pointwise [val_main_v16, val_main_v15, val_main_v14]
  rw [val_main_v13_apply, h13]
  pointwise [val_main_v12, val_main_v11]
  rw [gated_ref, factor_ref]

end Reference

end Cert.Norm.Ssd

end
-- ==== Proof.Norm.SsdNormGrad.lean ====
module

public import proofs.«01_k».proof.Proof.Norm.SsdNorm
public import proofs.«01_k».proof.Proof.Ffn.SwigluGradReference
public import proofs.«01_k».proof.Proof.Gen.SsdNormGradIdeal.Value
public import Idealize.ShloMosaic.Lib.Pipeline.ReadBack

/-!
The gradient of the grouped norm and of the gate before it: what the kernel computes.
-/

@[expose] public section

set_option maxRecDepth 16384

noncomputable section

open Idealize.ShloMosaic Idealize.ShloMosaic.TcCoe Idealize.SL.Sem
open Cert.SsdNormGradIdeal Cert.SsdNormGradIdeal.Gen

namespace Cert.Norm.SsdGrad

open Cert.Ffn
open Cert.Norm.Ssd (place groupOf inGroup gated size column)

abbrev Mat := Ssd.Mat
abbrev Gain := Ssd.Gain

/-- The gradient with respect to the normed group. -/
def gradRow (D : Mat) (G : Gain) (l : Fin 2048) (g : Fin 8) (e : Fin 512) : EReal :=
  D (ix2 l (place g e)) * G (ix2 0 (place g e))

/-- The gradient with respect to the output times the silu of the gate. -/
def gradGated (D Y Z : Mat) (G : Gain) (l : Fin 2048) (g : Fin 8) (e : Fin 512) : EReal :=
  back size (gated Y Z l g) (gradRow D G l g) e

def gradY (D Y Z : Mat) (G : Gain) (l : Fin 2048) (g : Fin 8) (e : Fin 512) : EReal :=
  gradGated D Y Z G l g e * (Z (ix2 l (place g e)) * sigmoid (Z (ix2 l (place g e))))

def gradZ (D Y Z : Mat) (G : Gain) (l : Fin 2048) (g : Fin 8) (e : Fin 512) : EReal :=
  gradGated D Y Z G l g e * Y (ix2 l (place g e)) * (sigmoid (Z (ix2 l (place g e)))
    * (1 + Z (ix2 l (place g e)) * (1 - sigmoid (Z (ix2 l (place g e))))))

/-- What row `l` adds to the gradient of the gain. -/
def partGain (D Y Z : Mat) (g : Fin 8) (e : Fin 512) (l : Fin 2048) : EReal :=
  D (ix2 l (place g e)) * (gated Y Z l g e * factor size (gated Y Z l g))

section group

variable (z y d : Vec Ideal S256x512 .f32) (g p : Vec Ideal S1x512 .f32)

/-- The gated row of a group. -/
def rowOf (r : Fin 256) (k : Fin 512) : EReal := y (ix2 r k) * (z (ix2 r k) * sigmoid (z (ix2 r k)))

theorem sigmoid_at (r : Fin 256) (e : Fin 512) : k0_pay78 (F := Ideal) z (ix2 r e) = sigmoid (z (ix2 r e)) := by
  pointwise [k0_pay78]
  rw [sigmoid, zero_sub]

theorem gated_at (r : Fin 256) (e : Fin 512) : k0_pay80 (F := Ideal) z y (ix2 r e) = rowOf z y r e := by
  pointwise [k0_pay80, k0_pay79]
  rw [sigmoid_at, rowOf]

theorem factor_at (r : Fin 256) : k0_pay81 (F := Ideal) z y (ix2 r 0) = factor size (rowOf z y r) := by
  pointwise [k0_pay81]
  simp only [gated_at]
  rfl

theorem normed_at (r : Fin 256) (e : Fin 512) :
    k0_pay82 (F := Ideal) z y (ix2 r e) = rowOf z y r e * factor size (rowOf z y r) := by
  pointwise [k0_pay82]
  rw [factor_at, gated_at]

theorem back_at (r : Fin 256) (e : Fin 512) : k0_pay83 (F := Ideal) z y d g (ix2 r e)
    = back size (rowOf z y r) (fun k => d (ix2 r k) * g (ix2 0 k)) e := by
  pointwise [k0_pay83]
  simp only [normed_at, factor_at]
  rfl

theorem gradY_at (r : Fin 256) (e : Fin 512) : k0_pay84 (F := Ideal) z y d g (ix2 r e)
    = back size (rowOf z y r) (fun k => d (ix2 r k) * g (ix2 0 k)) e * (z (ix2 r e) * sigmoid (z (ix2 r e))) := by
  pointwise [k0_pay84, k0_pay79]
  rw [back_at, sigmoid_at]

theorem gradZ_at (r : Fin 256) (e : Fin 512) : k0_pay85 (F := Ideal) z y d g (ix2 r e)
    = back size (rowOf z y r) (fun k => d (ix2 r k) * g (ix2 0 k)) e * y (ix2 r e)
      * (sigmoid (z (ix2 r e)) * (1 + z (ix2 r e) * (1 - sigmoid (z (ix2 r e))))) := by
  pointwise [k0_pay85]
  rw [back_at, sigmoid_at]

theorem part_at (e : Fin 512) : k0_pay1 (F := Ideal) d (k0_pay82 z y) p (ix2 0 e)
    = p (ix2 0 e) + ∑ r : Fin 256, d (ix2 r e) * (rowOf z y r e * factor size (rowOf z y r)) := by
  pointwise [k0_pay1]
  simp only [normed_at]

-- The other seven groups are computed by the same operations.
theorem gradY0 : k0_pay12 (F := Ideal) (k0_pay5 z) (k0_pay7 z y) (k0_pay8 z y) (k0_pay9 d g) (k0_pay10 z y d g) = k0_pay84 z y d g := rfl
theorem gradY1 : k0_pay22 (F := Ideal) d (k0_pay16 z) (k0_pay17 z y) (k0_pay18 z y) g = k0_pay84 z y d g := rfl
theorem gradY2 : k0_pay31 (F := Ideal) z y d g = k0_pay84 z y d g := rfl
theorem gradY3 : k0_pay43 (F := Ideal) d (k0_pay37 z) (k0_pay39 z y) (k0_pay40 z y) (k0_pay41 g) = k0_pay84 z y d g := rfl
theorem gradY4 : k0_pay54 (F := Ideal) z y d (k0_pay46 z) k0_pay47 g = k0_pay84 z y d g := rfl
theorem gradY5 : k0_pay65 (F := Ideal) z y d g = k0_pay84 z y d g := rfl
theorem gradY6 : k0_pay75 (F := Ideal) d (k0_pay69 z) (k0_pay70 z y) (k0_pay71 z y) (Scalar.ofBits .f32 0x358637BD#32) g
    = k0_pay84 z y d g := rfl

theorem gradZ0 : k0_pay13 (F := Ideal) z y (k0_pay4 z) (k0_pay7 z y) (k0_pay8 z y) (k0_pay9 d g) (k0_pay10 z y d g)
    = k0_pay85 z y d g := rfl
theorem gradZ1 : k0_pay23 (F := Ideal) z y d (k0_pay15 z) (k0_pay17 z y) (k0_pay18 z y) g = k0_pay85 z y d g := rfl
theorem gradZ2 : k0_pay34 (F := Ideal) (k0_pay25 z) (k0_pay32 z y d g) (k0_pay33 z) = k0_pay85 z y d g := rfl
theorem gradZ3 : k0_pay44 (F := Ideal) z y d (k0_pay36 z) (k0_pay39 z y) (k0_pay40 z y) (k0_pay41 g) = k0_pay85 z y d g := rfl
theorem gradZ4 : k0_pay55 (F := Ideal) z y d (k0_pay46 z) k0_pay47 g = k0_pay85 z y d g := rfl
theorem gradZ5 : k0_pay66 (F := Ideal) z y (k0_pay59 z) (k0_pay64 z y d g) = k0_pay85 z y d g := rfl
theorem gradZ6 : k0_pay76 (F := Ideal) z y d (k0_pay68 z) (k0_pay70 z y) (k0_pay71 z y) (Scalar.ofBits .f32 0x358637BD#32) g
    = k0_pay85 z y d g := rfl

theorem part0 : k0_pay14 (F := Ideal) d (k0_pay8 z y) p = k0_pay1 d (k0_pay82 z y) p := rfl
theorem part1 : k0_pay24 (F := Ideal) d (k0_pay17 z y) (k0_pay18 z y) p = k0_pay1 d (k0_pay82 z y) p := rfl
theorem part2 : k0_pay35 (F := Ideal) d (k0_pay29 z y) p = k0_pay1 d (k0_pay82 z y) p := rfl
theorem part3 : k0_pay45 (F := Ideal) d (k0_pay40 z y) p = k0_pay1 d (k0_pay82 z y) p := rfl
theorem part4 : k0_pay58 (F := Ideal) (k0_pay56 p) (k0_pay57 z y d (k0_pay46 z) k0_pay47) = k0_pay1 d (k0_pay82 z y) p := rfl
theorem part5 : k0_pay67 (F := Ideal) d (k0_pay63 z y) p = k0_pay1 d (k0_pay82 z y) p := rfl
theorem part6 : k0_pay77 (F := Ideal) d (k0_pay70 z y) (k0_pay71 z y) (Scalar.ofBits .f32 0x358637BD#32) p
    = k0_pay1 d (k0_pay82 z y) p := rfl

end group

variable (m : (ℓ : Loc nD τ sig) → Buf (Elt Ideal) ℓ) (c : Dev nD)

/-- The arguments. -/
abbrev aD : Mat := m ((c : Thread nD τ).loc main_arg0)
@[inherit_doc aD] abbrev aY : Mat := m ((c : Thread nD τ).loc main_arg1)
@[inherit_doc aD] abbrev aZ : Mat := m ((c : Thread nD τ).loc main_arg2)
@[inherit_doc aD] abbrev aG : Gain := m ((c : Thread nD τ).loc main_arg3)

/-- Where the blocks of point `t` lie: rows `256 t …`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ t.val < 8 :=
  (by decide +kernel : ∀ t : Fin grid0.N, _)

/-- The row of the array at row `r` of the blocks of point `t`. -/
abbrev rowAt (t : Fin cfg0.N) (r : Fin 256) : Fin 2048 := ⟨t.val * 256 + r.val, by have := (idx t).2.2.2.2.2.2.2; omega⟩

theorem block0 (t : Fin cfg0.N) (r : Fin 256) (k : Fin 4096) : iblk m c 0 t (ix2 r k) = aD m c (ix2 (rowAt t r) k) := by
  blk_ext [iblk, V, idx t]
theorem block1 (t : Fin cfg0.N) (r : Fin 256) (k : Fin 4096) : iblk m c 1 t (ix2 r k) = aY m c (ix2 (rowAt t r) k) := by
  blk_ext [iblk, V, idx t]
theorem block2 (t : Fin cfg0.N) (r : Fin 256) (k : Fin 4096) : iblk m c 2 t (ix2 r k) = aZ m c (ix2 (rowAt t r) k) := by
  blk_ext [iblk, V, idx t]
theorem block3 (t : Fin cfg0.N) (k : Fin 4096) : iblk m c 3 t (ix2 0 k) = aG m c (ix2 0 k) := by
  blk_ext [iblk, V, idx t]

/-- The parts of group `q` of the blocks of point `t`. -/
structure Parts (t : Fin cfg0.N) (q : ℕ) (hq : q < 8) (z y d : Vec Ideal S256x512 .f32) : Prop where
  hz (r : Fin 256) (e : Fin 512) : z (ix2 r e) = iblk m c 2 t (ix2 r (column q hq e))
  hy (r : Fin 256) (e : Fin 512) : y (ix2 r e) = iblk m c 1 t (ix2 r (column q hq e))
  hd (r : Fin 256) (e : Fin 512) : d (ix2 r e) = iblk m c 0 t (ix2 r (column q hq e))

variable {m c} {t : Fin cfg0.N} {q : ℕ} {hq : q < 8} {z y d : Vec Ideal S256x512 .f32}

theorem Parts.row (h : Parts m c t q hq z y d) (r : Fin 256) :
    rowOf z y r = gated (aY m c) (aZ m c) (rowAt t r) ⟨q, hq⟩ := by
  funext k
  simp only [rowOf, h.hz, h.hy, block1, block2]
  rfl

theorem Parts.grad (h : Parts m c t q hq z y d) (g : Vec Ideal S1x512 .f32)
    (hg : ∀ e : Fin 512, g (ix2 0 e) = iblk m c 3 t (ix2 0 (column q hq e))) (r : Fin 256) :
    (fun k => d (ix2 r k) * g (ix2 0 k)) = gradRow (aD m c) (aG m c) (rowAt t r) ⟨q, hq⟩ := by
  funext k
  simp only [h.hd, hg, block0, block3]
  rfl

/-- What the body stores from group `q` in the block of the output's gradient. -/
theorem Parts.pieceY (h : Parts m c t q hq z y d) (g : Vec Ideal S1x512 .f32)
    (hg : ∀ e : Fin 512, g (ix2 0 e) = iblk m c 3 t (ix2 0 (column q hq e)))
    (x : S256x512.Idx) (j : S256x4096.Idx) (h1 : (j 0 : ℕ) = (x 0 : ℕ)) (h2 : (j 1 : ℕ) = q * 512 + (x 1 : ℕ)) :
    k0_pay84 (F := Ideal) z y d g x
      = gradY (aD m c) (aY m c) (aZ m c) (aG m c) (rowAt t (j 0)) (groupOf (j 1)) (inGroup (j 1)) := by
  obtain ⟨r, e, rfl⟩ : ∃ (r : Fin 256) (e : Fin 512), x = ix2 r e := ⟨x 0, x 1, by blk_ext⟩
  replace h2 : (j 1 : ℕ) = q * 512 + e.val := h2
  obtain e1 : j 0 = r := Fin.ext h1
  obtain e2 : groupOf (j 1) = ⟨q, hq⟩ := Fin.ext (by show (j 1 : ℕ) / 512 = q; omega)
  obtain e3 : inGroup (j 1) = e := Fin.ext (by show (j 1 : ℕ) % 512 = e.val; omega)
  rw [e1, e2, e3, gradY_at, h.row, h.grad g hg, h.hz, block2]
  rfl

@[inherit_doc Parts.pieceY]
theorem Parts.pieceZ (h : Parts m c t q hq z y d) (g : Vec Ideal S1x512 .f32)
    (hg : ∀ e : Fin 512, g (ix2 0 e) = iblk m c 3 t (ix2 0 (column q hq e)))
    (x : S256x512.Idx) (j : S256x4096.Idx) (h1 : (j 0 : ℕ) = (x 0 : ℕ)) (h2 : (j 1 : ℕ) = q * 512 + (x 1 : ℕ)) :
    k0_pay85 (F := Ideal) z y d g x
      = gradZ (aD m c) (aY m c) (aZ m c) (aG m c) (rowAt t (j 0)) (groupOf (j 1)) (inGroup (j 1)) := by
  obtain ⟨r, e, rfl⟩ : ∃ (r : Fin 256) (e : Fin 512), x = ix2 r e := ⟨x 0, x 1, by blk_ext⟩
  replace h2 : (j 1 : ℕ) = q * 512 + e.val := h2
  obtain e1 : j 0 = r := Fin.ext h1
  obtain e2 : groupOf (j 1) = ⟨q, hq⟩ := Fin.ext (by show (j 1 : ℕ) / 512 = q; omega)
  obtain e3 : inGroup (j 1) = e := Fin.ext (by show (j 1 : ℕ) % 512 = e.val; omega)
  rw [e1, e2, e3, gradZ_at, h.row, h.grad g hg, h.hz, h.hy, block1, block2]
  rfl

/-- What it adds in the gradient of the gain. -/
theorem Parts.pieceG (h : Parts m c t q hq z y d) (p : Vec Ideal S1x512 .f32) (o : EReal)
    (x : S1x512.Idx) (j : S1x4096.Idx) (h2 : (j 1 : ℕ) = q * 512 + (x 1 : ℕ)) (hp : p x = o) :
    k0_pay1 (F := Ideal) d (k0_pay82 z y) p x
      = o + ∑ r : Fin 256, partGain (aD m c) (aY m c) (aZ m c) (groupOf (j 1)) (inGroup (j 1)) (rowAt t r) := by
  obtain ⟨e, rfl⟩ : ∃ e : Fin 512, x = ix2 0 e := ⟨x 1, by blk_ext⟩
  replace h2 : (j 1 : ℕ) = q * 512 + e.val := h2
  obtain e2 : groupOf (j 1) = ⟨q, hq⟩ := Fin.ext (by show (j 1 : ℕ) / 512 = q; omega)
  obtain e3 : inGroup (j 1) = e := Fin.ext (by show (j 1 : ℕ) % 512 = e.val; omega)
  rw [e2, e3, part_at, hp]
  simp only [h.row, h.hd, block0]
  rfl

variable (m c)

/-- What point `t` leaves in its blocks of the first two results. -/
theorem left4 (t : Fin cfg0.N) (j : S256x4096.Idx) : (outsAt0 m c t.val t.isLt).1 j
    = gradY (aD m c) (aY m c) (aZ m c) (aG m c) (rowAt t (j 0)) (groupOf (j 1)) (inGroup (j 1)) := by
  by_cases h : t.val % 8 = 0
  case' pos => rw [outsAt0_A m c t h]
  case' neg => rw [outsAt0_B m c t h]
  all_goals
    frame_out
    canon_tiles x hx
    case' piece0 => refine Parts.pieceY (q := 7) (hq := by omega) ⟨?_, ?_, ?_⟩ _ ?_ _ _ ?_ ?_
    case' piece1 => rw [gradY6]; refine Parts.pieceY (q := 6) (hq := by omega) ⟨?_, ?_, ?_⟩ _ ?_ _ _ ?_ ?_
    case' piece2 => rw [gradY5]; refine Parts.pieceY (q := 5) (hq := by omega) ⟨?_, ?_, ?_⟩ _ ?_ _ _ ?_ ?_
    case' piece3 => rw [gradY4]; refine Parts.pieceY (q := 4) (hq := by omega) ⟨?_, ?_, ?_⟩ _ ?_ _ _ ?_ ?_
    case' piece4 => rw [gradY3]; refine Parts.pieceY (q := 3) (hq := by omega) ⟨?_, ?_, ?_⟩ _ ?_ _ _ ?_ ?_
    case' piece5 => rw [gradY2]; refine Parts.pieceY (q := 2) (hq := by omega) ⟨?_, ?_, ?_⟩ _ ?_ _ _ ?_ ?_
    case' piece6 => rw [gradY1]; refine Parts.pieceY (q := 1) (hq := by omega) ⟨?_, ?_, ?_⟩ _ ?_ _ _ ?_ ?_
    case' piece7 => rw [gradY0]; refine Parts.pieceY (q := 0) (hq := by omega) ⟨?_, ?_, ?_⟩ _ ?_ _ _ ?_ ?_
    all_goals first
      | (intro r e; pointwise; done)
      | (intro r e; pointwise; blk_ext)
      | (intro e; pointwise; done)
      | (intro e; pointwise; blk_ext)
      | omega
      | (pointwise [k0_pay3]; done)
      | (pointwise; blk_ext)
      | (blk_simp [idx t]; omega)

@[inherit_doc left4]
theorem left5 (t : Fin cfg0.N) (j : S256x4096.Idx) : (outsAt0 m c t.val t.isLt).2.1 j
    = gradZ (aD m c) (aY m c) (aZ m c) (aG m c) (rowAt t (j 0)) (groupOf (j 1)) (inGroup (j 1)) := by
  by_cases h : t.val % 8 = 0
  case' pos => rw [outsAt0_A m c t h]
  case' neg => rw [outsAt0_B m c t h]
  all_goals
    frame_out
    canon_tiles x hx
    case' piece0 => refine Parts.pieceZ (q := 7) (hq := by omega) ⟨?_, ?_, ?_⟩ _ ?_ _ _ ?_ ?_
    case' piece1 => rw [gradZ6]; refine Parts.pieceZ (q := 6) (hq := by omega) ⟨?_, ?_, ?_⟩ _ ?_ _ _ ?_ ?_
    case' piece2 => rw [gradZ5]; refine Parts.pieceZ (q := 5) (hq := by omega) ⟨?_, ?_, ?_⟩ _ ?_ _ _ ?_ ?_
    case' piece3 => rw [gradZ4]; refine Parts.pieceZ (q := 4) (hq := by omega) ⟨?_, ?_, ?_⟩ _ ?_ _ _ ?_ ?_
    case' piece4 => rw [gradZ3]; refine Parts.pieceZ (q := 3) (hq := by omega) ⟨?_, ?_, ?_⟩ _ ?_ _ _ ?_ ?_
    case' piece5 => rw [gradZ2]; refine Parts.pieceZ (q := 2) (hq := by omega) ⟨?_, ?_, ?_⟩ _ ?_ _ _ ?_ ?_
    case' piece6 => rw [gradZ1]; refine Parts.pieceZ (q := 1) (hq := by omega) ⟨?_, ?_, ?_⟩ _ ?_ _ _ ?_ ?_
    case' piece7 => rw [gradZ0]; refine Parts.pieceZ (q := 0) (hq := by omega) ⟨?_, ?_, ?_⟩ _ ?_ _ _ ?_ ?_
    all_goals first
      | (intro r e; pointwise; done)
      | (intro r e; pointwise; blk_ext)
      | (intro e; pointwise; done)
      | (intro e; pointwise; blk_ext)
      | omega
      | (pointwise [k0_pay3]; done)
      | (pointwise; blk_ext)
      | (blk_simp [idx t]; omega)

theorem start (t : Fin cfg0.N) (h : t.val % 8 = 0) (j : S1x4096.Idx) : (outsAt0 m c t.val t.isLt).2.2.1 j
    = 0 + ∑ r : Fin 256, partGain (aD m c) (aY m c) (aZ m c) (groupOf (j 1)) (inGroup (j 1)) (rowAt t r) := by
  rw [outsAt0_A m c t h]
  frame_open
  simp (disch := decide) only [↓ View.readCov_skip, ↓ View.readCov_cons_toLoadRect, ↓ View.readCov_fill]
  frame_out
  refine View.canon_append_of_piecesOf
    (show Vec Ideal S1x4096 .f32 from fun j => 0 + ∑ r : Fin 256,
      partGain (aD m c) (aY m c) (aZ m c) (groupOf (j 1)) (inGroup (j 1)) (rowAt t r))
    [_] [_, _, _, _, _, _, _, _] ⟨?_, ?_, ?_, ?_, ?_, ?_, ?_, ?_, trivial⟩ j (View.cover_of_tiledL _ ![1, 512] (by sl_kernel_rfl) j)
  on_goal 8 => intro x; rw [part0]; refine Parts.pieceG (q := 0) (hq := by omega) ⟨?_, ?_, ?_⟩ _ _ _ _ ?_ ?_
  on_goal 7 => intro x; rw [part1]; refine Parts.pieceG (q := 1) (hq := by omega) ⟨?_, ?_, ?_⟩ _ _ _ _ ?_ ?_
  on_goal 6 => intro x; rw [part2]; refine Parts.pieceG (q := 2) (hq := by omega) ⟨?_, ?_, ?_⟩ _ _ _ _ ?_ ?_
  on_goal 5 => intro x; rw [part3]; refine Parts.pieceG (q := 3) (hq := by omega) ⟨?_, ?_, ?_⟩ _ _ _ _ ?_ ?_
  on_goal 4 => intro x; rw [part4]; refine Parts.pieceG (q := 4) (hq := by omega) ⟨?_, ?_, ?_⟩ _ _ _ _ ?_ ?_
  on_goal 3 => intro x; rw [part5]; refine Parts.pieceG (q := 5) (hq := by omega) ⟨?_, ?_, ?_⟩ _ _ _ _ ?_ ?_
  on_goal 2 => intro x; rw [part6]; refine Parts.pieceG (q := 6) (hq := by omega) ⟨?_, ?_, ?_⟩ _ _ _ _ ?_ ?_
  on_goal 1 => intro x; refine Parts.pieceG (q := 7) (hq := by omega) ⟨?_, ?_, ?_⟩ _ _ _ _ ?_ ?_
  all_goals first
    | (intro r e; pointwise; done)
    | (intro r e; pointwise; blk_ext)
    | omega
    | (pointwise [k0_pay3]; done)
    | exact (Rect.idx_unit_val _ _ (by decide) _ _).trans rfl

theorem next (t : Fin cfg0.N) (h : ¬ t.val % 8 = 0) (j : S1x4096.Idx) : (outsAt0 m c t.val t.isLt).2.2.1 j
    = (outsAt0 m c (t.val - 1) (lt_of_le_of_lt (Nat.sub_le _ _) t.isLt)).2.2.1 j
      + ∑ r : Fin 256, partGain (aD m c) (aY m c) (aZ m c) (groupOf (j 1)) (inGroup (j 1)) (rowAt t r) := by
  rw [outsAt0_B m c t h]
  frame_open
  simp (disch := decide) only [↓ View.readCov_skip, ↓ View.readCov_cons_toLoadRect, ↓ View.readCov_fill]
  frame_out

  canon_tiles x hx
  case' piece0 => refine Parts.pieceG (q := 7) (hq := by omega) ⟨?_, ?_, ?_⟩ _ _ _ _ ?_ ?_
  case' piece1 => rw [part6]; refine Parts.pieceG (q := 6) (hq := by omega) ⟨?_, ?_, ?_⟩ _ _ _ _ ?_ ?_
  case' piece2 => rw [part5]; refine Parts.pieceG (q := 5) (hq := by omega) ⟨?_, ?_, ?_⟩ _ _ _ _ ?_ ?_
  case' piece3 => rw [part4]; refine Parts.pieceG (q := 4) (hq := by omega) ⟨?_, ?_, ?_⟩ _ _ _ _ ?_ ?_
  case' piece4 => rw [part3]; refine Parts.pieceG (q := 3) (hq := by omega) ⟨?_, ?_, ?_⟩ _ _ _ _ ?_ ?_
  case' piece5 => rw [part2]; refine Parts.pieceG (q := 2) (hq := by omega) ⟨?_, ?_, ?_⟩ _ _ _ _ ?_ ?_
  case' piece6 => rw [part1]; refine Parts.pieceG (q := 1) (hq := by omega) ⟨?_, ?_, ?_⟩ _ _ _ _ ?_ ?_
  case' piece7 => rw [part0]; refine Parts.pieceG (q := 0) (hq := by omega) ⟨?_, ?_, ?_⟩ _ _ _ _ ?_ ?_
  all_goals first
    | (intro r e; pointwise; done)
    | (intro r e; pointwise; blk_ext)
    | (intro e; pointwise; done)
    | (intro e; pointwise; blk_ext)
    | omega
    | (pointwise [k0_pay3]; done)
    | (pointwise; blk_ext)
    | (blk_simp [idx t]; omega)

/-- The gradient of the output. -/
theorem final4 : (dats m 0 c).arrAt 4 cfg0.N
    = fun i => gradY (aD m c) (aY m c) (aZ m c) (aG m c) (i 0) (groupOf (i 1)) (inGroup (i 1)) := by
  refine (dats m 0 c).arrAt_eq_of_covers 4 _ (by decide +kernel) fun t hf y => ?_
  blk_simp
  rw [after0_4]
  refine (left4 m c t y).trans (congr (congrArg₂ (gradY (aD m c) (aY m c) (aZ m c) (aG m c)) (Fin.ext ?_)
    (congrArg groupOf (Fin.ext ?_))) (congrArg inGroup (Fin.ext ?_))) <;> blk_simp [idx t]

/-- The gradient of the gate. -/
theorem final5 : (dats m 0 c).arrAt 5 cfg0.N
    = fun i => gradZ (aD m c) (aY m c) (aZ m c) (aG m c) (i 0) (groupOf (i 1)) (inGroup (i 1)) := by
  refine (dats m 0 c).arrAt_eq_of_covers 5 _ (by decide +kernel) fun t hf y => ?_
  blk_simp
  rw [after0_5]
  refine (left5 m c t y).trans (congr (congrArg₂ (gradZ (aD m c) (aY m c) (aZ m c) (aG m c)) (Fin.ext ?_)
    (congrArg groupOf (Fin.ext ?_))) (congrArg inGroup (Fin.ext ?_))) <;> blk_simp [idx t]

/-- The gradient of the gain. -/
theorem final6 : (dats m 0 c).arrAt 6 cfg0.N
    = fun i => ∑ l : Fin 2048, partGain (aD m c) (aY m c) (aZ m c) (groupOf (i 1)) (inGroup (i 1)) l := by
  refine (dats m 0 c).arrAt_eq_of_covers 6 _ (by decide +kernel) fun t hf y => ?_
  blk_simp
  rw [after0_6, Pipeline.eq_sum_fin_of_reset_step_apply_of_flush (fun n h => (outsAt0 m c n h).2.2.1) 8 (fun _ => 0)
    (fun p j => ∑ r : Fin 256, partGain (aD m c) (aY m c) (aZ m c) (groupOf (j 1)) (inGroup (j 1)) (rowAt p r))
    (start m c) (next m c) t ((flush0_6 t).mp hf) _, zero_add]
  have ht : t.val / 8 = 0 := by have := (idx t).2.2.2.2.2.2.2; omega
  refine Eq.trans ?_ (Fin.sum_univ_tiles (M := EReal) 8 256 rfl fun l : Fin 2048 =>
    partGain (aD m c) (aY m c) (aZ m c) _ _ l).symm
  refine Fin.sum_fin_congr fun s => Fin.sum_fin_congr fun r => ?_
  refine congr (congrArg₂ (partGain (aD m c) (aY m c) (aZ m c)) (congrArg groupOf (Fin.ext ?_))
    (congrArg inGroup (Fin.ext ?_))) (Fin.ext ?_)
  · blk_simp [idx t]
  · blk_simp [idx t]
  · show (8 * (t.val / 8) + s.val) * 256 + r.val = _
    rw [ht]; simp

end Cert.Norm.SsdGrad

end
-- ==== Proof.Norm.SsdNormGradReference.lean ====
module

public import proofs.«01_k».proof.Proof.Norm.SsdNormGrad
public import proofs.«01_k».proof.Proof.Gen.Pre_finite_ssd_norm
public import proofs.«01_k».proof.Proof.Gen.SsdNormGradRefIdeal.Read

/-!
The reference of the gradient of the grouped norm, in the kernel's spelling.
-/

@[expose] public section

set_option maxRecDepth 16384

noncomputable section

open Idealize.ShloMosaic Idealize.ShloMosaic.TcCoe Idealize.SL.Sem
open Cert.SsdNormGradRefIdeal Cert.SsdNormGradRefIdeal.Gen Cert.SsdNormGradRefIdeal.Read

namespace Cert.Norm.SsdGrad

open Cert.Ffn
open Cert.Norm.Ssd (place groupOf inGroup gated size)
open Cert.Gate (IsReal isReal_mul isReal_of_cmp)
open Cert.Ffn.SwigluGrad (two_terms)

variable (D Y Z : Mat) (G : Gain)

theorem sigmoid_ref (l : Fin 2048) (f : Fin 4096) : val_main_v0_2 (F := Ideal) Z (ix2 l f) = sigmoid (Z (ix2 l f)) := by
  pointwise [val_main_v0_2, val_main_call0_v4, val_main_call0_cst_0, val_main_call0_v3, val_main_call0_v2, val_main_call0_cst,
    val_main_call0_v1, val_main_call0_v0]
  rfl

theorem gated_ref (l : Fin 2048) (g : Fin 8) (e : Fin 512) : val_main_v2 (F := Ideal) Y Z (ix3 l g e) = gated Y Z l g e := by
  have : idx_main_v2 (ix3 l g e) = ix2 l (place g e) := by
    funext a
    match a with
    | ⟨0, _⟩ => exact Fin.ext (by show ((l.val * 8 + g.val) * 512 + e.val) / 4096 = l.val; omega)
    | ⟨1, _⟩ => exact Fin.ext (by show ((l.val * 8 + g.val) * 512 + e.val) % 4096 = g.val * 512 + e.val; omega)
  rw [val_main_v2_apply, this]
  pointwise [val_main_v1, val_main_v0_0]
  rw [sigmoid_ref]
  rfl

theorem grad_ref (l : Fin 2048) (g : Fin 8) (e : Fin 512) : val_main_v24 (F := Ideal) D G (ix3 l g e) = gradRow D G l g e := by
  have : idx_main_v24 (ix3 l g e) = ix2 l (place g e) := by
    funext a
    match a with
    | ⟨0, _⟩ => exact Fin.ext (by show ((l.val * 8 + g.val) * 512 + e.val) / 4096 = l.val; omega)
    | ⟨1, _⟩ => exact Fin.ext (by show ((l.val * 8 + g.val) * 512 + e.val) % 4096 = g.val * 512 + e.val; omega)
  rw [val_main_v24_apply, this]
  pointwise [val_main_v23, val_main_v22]
  rfl

theorem mean_ref (l : Fin 2048) (g : Fin 8) (k : Fin 1) : val_main_v9 (F := Ideal) Y Z (ix3 l g k) = meanSq size (gated Y Z l g) := by
  pointwise [val_main_v9, val_main_v8, val_main_v7, val_main_v6, val_main_v5, val_main_v4, val_main_v3,
    val_main_cst_1, val_main_cst_0, val_main_cst]
  simp only [gated_ref]
  try rw [zero_add]
  rfl

theorem factor_ref (l : Fin 2048) (g : Fin 8) (k : Fin 1) :
    val_main_v10 (F := Ideal) Y Z (ix3 l g k) = factor size (gated Y Z l g) := by
  pointwise [val_main_v10]
  rw [mean_ref]
  rfl

theorem dots_ref (l : Fin 2048) (g : Fin 8) (k : Fin 1) :
    val_main_v27 (F := Ideal) D Y Z G (ix3 l g k) = ∑ e, gated Y Z l g e * gradRow D G l g e := by
  have : idx_main_v27 (ix3 l g k) = ix2 l g := by
    funext a
    match a with
    | ⟨0, _⟩ => exact Fin.ext (by show ((l.val * 8 + g.val) * 1 + k.val) / 8 = l.val; omega)
    | ⟨1, _⟩ => exact Fin.ext (by show ((l.val * 8 + g.val) * 1 + k.val) % 8 = g.val; omega)
  rw [val_main_v27_apply, this]
  pointwise [val_main_v26, val_main_v25, val_main_cst_4]
  simp only [gated_ref, grad_ref]
  try rw [zero_add]

theorem slope_ref (l : Fin 2048) (g : Fin 8) (e : Fin 512) :
    val_main_v34 (F := Ideal) D Y Z G (ix3 l g e) = slope size (gated Y Z l g) (gradRow D G l g) := by
  pointwise [val_main_v34, val_main_v33, val_main_v32, val_main_v31, val_main_v30, val_main_v13, val_main_v12, val_main_v11,
    val_main_cst_2, val_main_cst_5, val_main_cst_6]
  simp only [factor_ref, mean_ref, dots_ref]
  unfold slope
  simp

theorem back_ref (l : Fin 2048) (g : Fin 8) (e : Fin 512) :
    val_main_v38 (F := Ideal) D Y Z G (ix3 l g e) = gradGated D Y Z G l g e := by
  pointwise [val_main_v38, val_main_v37, val_main_v36, val_main_v35, val_main_v29, val_main_v28]
  simp only [factor_ref, slope_ref, gated_ref, grad_ref]
  rw [gradGated, show size = ((512 : ℝ) : EReal) from size512,
    ← back_eq (c := 512) (gated Y Z l g) (gradRow D G l g) (by norm_num)]

/-- Where the groups of a row lie. -/
theorem split (l : Fin 2048) (f : Fin 4096) : idx_main_v39 (ix2 l f) = ix3 l (groupOf f) (inGroup f) := by
  funext a
  match a with
  | ⟨0, _⟩ => exact Fin.ext (by show (l.val * 4096 + f.val) / 4096 = l.val; omega)
  | ⟨1, _⟩ => exact Fin.ext (by show (l.val * 4096 + f.val) / 512 % 8 = f.val / 512; omega)
  | ⟨2, _⟩ => exact Fin.ext (by show (l.val * 4096 + f.val) % 512 = f.val % 512; omega)

theorem place_of (f : Fin 4096) : place (groupOf f) (inGroup f) = f :=
  Fin.ext (by show f.val / 512 * 512 + f.val % 512 = f.val; omega)

theorem back_whole (l : Fin 2048) (f : Fin 4096) :
    val_main_v39 (F := Ideal) D Y Z G (ix2 l f) = gradGated D Y Z G l (groupOf f) (inGroup f) := by
  rw [val_main_v39_apply, split, back_ref]

/-- The results at every index of the whole arrays. -/
theorem y_whole (i : S2048x4096.Idx) : val_main_v41 (F := Ideal) D Y Z G i
    = gradY D Y Z G (i 0) (groupOf (i 1)) (inGroup (i 1)) := by
  obtain ⟨l, f, rfl⟩ : ∃ (l : Fin 2048) (f : Fin 4096), i = ix2 l f := ⟨i 0, i 1, by blk_ext⟩
  show _ = gradY D Y Z G l (groupOf f) (inGroup f)
  rw [gradY, place_of]
  pointwise [val_main_v41, val_main_v0_0]
  rw [back_whole, sigmoid_ref]

@[inherit_doc y_whole]
theorem z_whole (hD : ∀ i, IsReal (D i)) (hY : ∀ i, IsReal (Y i)) (hG : ∀ i, IsReal (G i)) (i : S2048x4096.Idx) :
    val_main_v42 (F := Ideal) D Y Z G i = gradZ D Y Z G (i 0) (groupOf (i 1)) (inGroup (i 1)) := by
  obtain ⟨l, f, rfl⟩ : ∃ (l : Fin 2048) (f : Fin 4096), i = ix2 l f := ⟨i 0, i 1, by blk_ext⟩
  show _ = gradZ D Y Z G l (groupOf f) (inGroup f)
  have hb : IsReal (gradGated D Y Z G l (groupOf f) (inGroup f)) := by
    rw [gradGated, show size = ((512 : ℝ) : EReal) from size512]
    exact isReal_back _ _ (by norm_num) (fun k => isReal_mul (hD _) (hG _)) _
  rw [gradZ, place_of, mul_comm (gradGated _ _ _ _ _ _ _), ← two_terms (isReal_mul (hY _) hb)]
  pointwise [val_main_v42, val_main_call1_v2, val_main_call1_v1, val_main_call1_v0, val_main_v40, val_main_v0_1,
    val_main_call0_v7, val_main_call0_v6, val_main_call0_cst_1]
  rw [back_whole, sigmoid_ref]

@[inherit_doc y_whole]
theorem gain_whole (i : S1x4096.Idx) : val_main_v21 (F := Ideal) D Y Z i
    = ∑ l : Fin 2048, partGain D Y Z (groupOf (i 1)) (inGroup (i 1)) l := by
  obtain ⟨f, rfl⟩ : ∃ f : Fin 4096, i = ix2 0 f := ⟨i 1, by blk_ext⟩
  show _ = ∑ l : Fin 2048, partGain D Y Z (groupOf f) (inGroup f) l
  pointwise [val_main_v21, val_main_v20, val_main_v19, val_main_cst_3]
  simp only [val_main_v16_apply, show ∀ l, idx_main_v16 (ix2 l f) = ix3 l (groupOf f) (inGroup f) from fun l => split l f]
  pointwise [val_main_v15, val_main_v14]
  simp only [gated_ref, factor_ref, partGain, place_of]
  try rw [zero_add]
  exact Finset.sum_congr rfl fun x _ => mul_comm _ _

/-- The precondition says that the cotangent, the output and the gain hold real numbers. -/
theorem real_of_pre (j : (⟨0, ![]⟩ : Shape).Idx)
    (h : letI := Cert.Pre_finite_ssd_norm.Gen.facts; Cert.Pre_finite_ssd_norm.fn (F := Ideal) D Y Z G j = 1#1) :
    (∀ i, IsReal (D i)) ∧ (∀ i, IsReal (Y i)) ∧ (∀ i, IsReal (G i)) := by
  dsimp only [Cert.Pre_finite_ssd_norm.fn] at h
  obtain ⟨h, hG⟩ := IntOp.andi_eq_one.1 h
  obtain ⟨hD, hY⟩ := IntOp.andi_eq_one.1 h
  exact ⟨fun i => isReal_of_cmp (Host.reduce_andi_all _ _ _ _ _ hD i), fun i => isReal_of_cmp (Host.reduce_andi_all _ _ _ _ _ hY i),
    fun i => isReal_of_cmp (Host.reduce_andi_all _ _ _ _ _ hG i)⟩

end Cert.Norm.SsdGrad

end
-- ==== Proof.Norm.LossHead.lean ====
module

public import proofs.«01_k».proof.Proof.Norm.Spec
public import proofs.«01_k».proof.Proof.Gen.LossHeadIdeal.Value
public import proofs.«01_k».proof.Proof.Gen.LossHeadRefIdeal.Read

/-!
The loss and the gradient of the last norm: what the kernel leaves in its four results, and the same of the reference.
-/

@[expose] public section

set_option maxRecDepth 16384

noncomputable section

open Idealize.ShloMosaic Idealize.ShloMosaic.TcCoe Idealize.SL.Sem

namespace Cert.Norm.LossHead

abbrev Mat := Vec Ideal ⟨2, ![2048, 2048]⟩ .f32
abbrev Gain := Vec Ideal ⟨1, ![2048]⟩ .f32

/-- The number of entries of a row. -/
abbrev size : EReal := Ideal.ofBits .f32 1157627904#32
/-- One over it. -/
abbrev share : EReal := Ideal.ofBits .f32 973078528#32
abbrev half : EReal := Ideal.ofBits .f32 1056964608#32

theorem share_eq : share = ((1 / 2048 : ℝ) : EReal) := by
  simp [share, Ideal.ofBits, Ideal.ieee, -EReal.coe_mul]; norm_num
theorem half_eq : half = ((1 / 2 : ℝ) : EReal) := Cert.Consts.half_eq

variable (X : Mat) (G : Gain) (T : Mat)

/-- Row `l` of the normed array's input. -/
def rowOf (l : Fin 2048) (k : Fin 2048) : EReal := X (ix2 l k)
/-- How far the normed array lies from the target. -/
def err (l d : Fin 2048) : EReal := X (ix2 l d) * factor size (rowOf X l) * G (ix1 d) - T (ix2 l d)
/-- Row `l` of the gradient with respect to the normed row before the gain. -/
def gradRow (l : Fin 2048) (k : Fin 2048) : EReal := err X G T l k * share * G (ix1 k)

/-- The gradient of the input. -/
def gradX (l d : Fin 2048) : EReal := back size (rowOf X l) (gradRow X G T l) d

/-- What row `l` adds to the gradient of the gain. -/
def partGain (l d : Fin 2048) : EReal := err X G T l d * share * (X (ix2 l d) * factor size (rowOf X l))
/-- The gradient of the gain. -/
def gradGain (d : Fin 2048) : EReal := ∑ l : Fin 2048, partGain X G T l d

/-- The mean of the squares of row `l`. -/
def lossRow (l : Fin 2048) : EReal := Ideal.div (∑ k : Fin 2048, err X G T l k * err X G T l k) size
/-- The loss. -/
def loss : EReal := half * ∑ l : Fin 2048, lossRow X G T l

section Kernel

open Cert.LossHeadIdeal Cert.LossHeadIdeal.Gen

variable (m : (ℓ : Loc nD τ sig) → Buf (Elt Ideal) ℓ) (c : Dev nD)

/-- The arguments. -/
abbrev aX : Mat := m ((c : Thread nD τ).loc main_arg0)
@[inherit_doc aX] abbrev aG : Gain := m ((c : Thread nD τ).loc main_arg1)
@[inherit_doc aX] abbrev aT : Mat := m ((c : Thread nD τ).loc main_arg2)

/-- Where the blocks of point `t` lie: rows `256 t …`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ t.val < 8 :=
  (by decide +kernel : ∀ t : Fin grid0.N, _)

/-- The row of the array at row `r` of the blocks of point `t`. -/
abbrev rowAt (t : Fin cfg0.N) (r : Fin 256) : Fin 2048 := ⟨t.val * 256 + r.val, by have := (idx t).2.2.2.2.2.2.2; omega⟩

theorem block0 (t : Fin cfg0.N) (r : Fin 256) (k : Fin 2048) : iblk m c 0 t (ix2 r k) = aX m c (ix2 (rowAt t r) k) := by
  blk_ext [iblk, V, idx t]
theorem block1 (t : Fin cfg0.N) (k : Fin 2048) : iblk m c 1 t (ix2 0 k) = aG m c (ix1 k) := by
  blk_simp [iblk]
  entry_read
  pointwise
  exact congrArg (aG m c) (by blk_ext [idx t])
theorem block2 (t : Fin cfg0.N) (r : Fin 256) (k : Fin 2048) : iblk m c 2 t (ix2 r k) = aT m c (ix2 (rowAt t r) k) := by
  blk_ext [iblk, V, idx t]

theorem factor_at (t : Fin cfg0.N) (r : Fin 256) :
    k0_pay9 (F := Ideal) (iblk m c 0 t) (ix2 r 0) = factor size (rowOf (aX m c) (rowAt t r)) := by
  pointwise [k0_pay9]
  unfold factor meanSq rowOf
  simp only [block0]

theorem normed_at (t : Fin cfg0.N) (r : Fin 256) (k : Fin 2048) : k0_pay10 (F := Ideal) (iblk m c 0 t) (ix2 r k)
    = aX m c (ix2 (rowAt t r) k) * factor size (rowOf (aX m c) (rowAt t r)) := by
  pointwise [k0_pay10]
  rw [factor_at, block0]

theorem err_at (t : Fin cfg0.N) (r : Fin 256) (k : Fin 2048) :
    k0_pay11 (F := Ideal) (iblk m c 0 t) (iblk m c 1 t) (iblk m c 2 t) (ix2 r k)
      = err (aX m c) (aG m c) (aT m c) (rowAt t r) k := by
  pointwise [k0_pay11, k0_pay8]
  simp only [normed_at, block1, block2]
  rfl

theorem scaled_at (t : Fin cfg0.N) (r : Fin 256) (k : Fin 2048) :
    k0_pay13 (F := Ideal) (iblk m c 0 t) (iblk m c 1 t) (iblk m c 2 t) (ix2 r k)
      = err (aX m c) (aG m c) (aT m c) (rowAt t r) k * share := by
  pointwise [k0_pay13]
  rw [err_at]

theorem row_at (t : Fin cfg0.N) (r : Fin 256) (k : Fin 2048) :
    k0_pay14 (F := Ideal) (iblk m c 0 t) (iblk m c 1 t) (iblk m c 2 t) (ix2 r k)
      = gradRow (aX m c) (aG m c) (aT m c) (rowAt t r) k := by
  pointwise [k0_pay14, k0_pay8]
  rw [scaled_at, block1]
  rfl

/-- What the body stores as the gradient of the input. -/
theorem grad_at (t : Fin cfg0.N) (j : S256x2048.Idx) :
    k0_pay1 (F := Ideal) (k0_pay9 (iblk m c 0 t)) (k0_pay14 (iblk m c 0 t) (iblk m c 1 t) (iblk m c 2 t))
        (k0_pay15 (iblk m c 0 t) (iblk m c 1 t) (iblk m c 2 t)) j
      = gradX (aX m c) (aG m c) (aT m c) (rowAt t (j 0)) (j 1) := by
  obtain ⟨r, d, rfl⟩ : ∃ (r : Fin 256) (d : Fin 2048), j = ix2 r d := ⟨j 0, j 1, by blk_ext⟩
  show _ = gradX (aX m c) (aG m c) (aT m c) (rowAt t r) d
  pointwise [k0_pay1, k0_pay15]
  simp only [normed_at, factor_at, row_at]
  rfl

/-- What the body stores as its half. -/
theorem half_at (t : Fin cfg0.N) (j : S256x2048.Idx) :
    k0_pay2 (F := Ideal) (k0_pay9 (iblk m c 0 t)) (k0_pay14 (iblk m c 0 t) (iblk m c 1 t) (iblk m c 2 t))
        (k0_pay15 (iblk m c 0 t) (iblk m c 1 t) (iblk m c 2 t)) j
      = half * gradX (aX m c) (aG m c) (aT m c) (rowAt t (j 0)) (j 1) := by
  rw [← grad_at]
  pointwise [k0_pay2]

/-- What the rows of point `t` add to the gradient of the gain. -/
theorem part_at (t : Fin cfg0.N) (p : Vec Ideal S1x2048 .f32) (j : S1x2048.Idx) :
    k0_pay5 (F := Ideal) (k0_pay10 (iblk m c 0 t)) (k0_pay13 (iblk m c 0 t) (iblk m c 1 t) (iblk m c 2 t)) p j
      = p j + ∑ r : Fin 256, partGain (aX m c) (aG m c) (aT m c) (rowAt t r) (j 1) := by
  obtain ⟨d, rfl⟩ : ∃ d : Fin 2048, j = ix2 0 d := ⟨j 1, by blk_ext⟩
  pointwise [k0_pay5]
  simp only [normed_at, scaled_at]
  rfl

/-- What they add to the loss. -/
theorem loss_at (t : Fin cfg0.N) (p : Vec Ideal S1x1 .f32) (j : S1x1.Idx) :
    k0_pay6 (F := Ideal) (k0_pay12 (iblk m c 0 t) (iblk m c 1 t) (iblk m c 2 t)) p j
      = p j + half * ∑ r : Fin 256, lossRow (aX m c) (aG m c) (aT m c) (rowAt t r) := by
  obtain rfl : j = ix2 0 0 := by blk_ext
  pointwise [k0_pay6, k0_pay12]
  simp only [err_at]
  rfl

theorem zero_at (j : S1x2048.Idx) : k0_pay3 (F := Ideal) j = 0 := by pointwise [k0_pay3]
theorem zero_loss (j : S1x1.Idx) : k0_pay4 (F := Ideal) j = 0 := by pointwise [k0_pay4]

theorem start (t : Fin cfg0.N) (h : t.val % 8 = 0) (j : S1x2048.Idx) :
    (outsAt0 m c t.val t.isLt).2.2.2.1 j = 0 + ∑ r : Fin 256, partGain (aX m c) (aG m c) (aT m c) (rowAt t r) (j 1) := by
  rw [outsAt0_A m c t h]
  frame_out
  rw [part_at m c t, zero_at]

theorem next (t : Fin cfg0.N) (h : ¬ t.val % 8 = 0) (j : S1x2048.Idx) :
    (outsAt0 m c t.val t.isLt).2.2.2.1 j
      = (outsAt0 m c (t.val - 1) (lt_of_le_of_lt (Nat.sub_le _ _) t.isLt)).2.2.2.1 j
        + ∑ r : Fin 256, partGain (aX m c) (aG m c) (aT m c) (rowAt t r) (j 1) := by
  rw [outsAt0_B m c t h]
  frame_out
  rw [part_at m c t]

theorem start_loss (t : Fin cfg0.N) (h : t.val % 8 = 0) (j : S1x1.Idx) :
    (outsAt0 m c t.val t.isLt).1 j = 0 + half * ∑ r : Fin 256, lossRow (aX m c) (aG m c) (aT m c) (rowAt t r) := by
  rw [outsAt0_A m c t h]
  frame_out
  rw [loss_at m c t, zero_loss]

theorem next_loss (t : Fin cfg0.N) (h : ¬ t.val % 8 = 0) (j : S1x1.Idx) :
    (outsAt0 m c t.val t.isLt).1 j
      = (outsAt0 m c (t.val - 1) (lt_of_le_of_lt (Nat.sub_le _ _) t.isLt)).1 j
        + half * ∑ r : Fin 256, lossRow (aX m c) (aG m c) (aT m c) (rowAt t r) := by
  rw [outsAt0_B m c t h]
  frame_out
  rw [loss_at m c t]

/-- What point `t` leaves in its blocks of the gradient of the input and of its half. -/
theorem left4 (t : Fin cfg0.N) (j : S256x2048.Idx) : (outsAt0 m c t.val t.isLt).2.1 j
    = gradX (aX m c) (aG m c) (aT m c) (rowAt t (j 0)) (j 1) := by
  rw [← grad_at]
  by_cases h : t.val % 8 = 0
  · rw [outsAt0_A m c t h]
    frame_out
  · rw [outsAt0_B m c t h]
    frame_out
@[inherit_doc left4]
theorem left5 (t : Fin cfg0.N) (j : S256x2048.Idx) : (outsAt0 m c t.val t.isLt).2.2.1 j
    = half * gradX (aX m c) (aG m c) (aT m c) (rowAt t (j 0)) (j 1) := by
  rw [← half_at]
  by_cases h : t.val % 8 = 0
  · rw [outsAt0_A m c t h]
    frame_out
  · rw [outsAt0_B m c t h]
    frame_out

/-- The loss. -/
theorem final3 : (dats m 0 c).arrAt 3 cfg0.N = fun _ => loss (aX m c) (aG m c) (aT m c) := by
  refine (dats m 0 c).arrAt_eq_of_covers 3 _ (by decide +kernel) fun t hf y => ?_
  rw [after0_3]
  refine (Pipeline.eq_sum_fin_of_reset_step_apply_of_flush (fun n h => (outsAt0 m c n h).1) 8 (fun _ => 0)
    (fun p j => half * ∑ r : Fin 256, lossRow (aX m c) (aG m c) (aT m c) (rowAt p r)) (start_loss m c) (next_loss m c)
    t ((flush0_3 t).mp hf) _).trans ?_
  rw [zero_add]
  have ht : t.val / 8 = 0 := by have := (idx t).2.2.2.2.2.2.2; omega
  unfold loss
  rw [half_eq, ← mul_sum (by norm_num)]
  refine congrArg (_ * ·) ?_
  refine Eq.trans ?_ (Fin.sum_univ_tiles (M := EReal) 8 256 rfl fun l : Fin 2048 => lossRow (aX m c) (aG m c) (aT m c) l).symm
  refine Fin.sum_fin_congr fun s => Fin.sum_fin_congr fun r => ?_
  congr 1
  refine Fin.ext ?_
  show (8 * (t.val / 8) + s.val) * 256 + r.val = _
  rw [ht]; simp

/-- The gradient of the input. -/
theorem final4 : (dats m 0 c).arrAt 4 cfg0.N = fun i => gradX (aX m c) (aG m c) (aT m c) (i 0) (i 1) := by
  refine (dats m 0 c).arrAt_eq_of_covers 4 _ (by decide +kernel) fun t hf y => ?_
  blk_simp
  rw [after0_4]
  refine (left4 m c t y).trans (congrArg₂ (gradX (aX m c) (aG m c) (aT m c)) (Fin.ext ?_) (Fin.ext ?_)) <;>
    blk_simp [idx t]

/-- The gradient of the input, halved. -/
theorem final5 : (dats m 0 c).arrAt 5 cfg0.N = fun i => half * gradX (aX m c) (aG m c) (aT m c) (i 0) (i 1) := by
  refine (dats m 0 c).arrAt_eq_of_covers 5 _ (by decide +kernel) fun t hf y => ?_
  blk_simp
  rw [after0_5]
  refine (left5 m c t y).trans (congrArg (_ * ·) (congrArg₂ (gradX (aX m c) (aG m c) (aT m c)) (Fin.ext ?_) (Fin.ext ?_))) <;>
    blk_simp [idx t]

/-- The gradient of the gain. -/
theorem final6 : (dats m 0 c).arrAt 6 cfg0.N = fun i => gradGain (aX m c) (aG m c) (aT m c) (i 1) := by
  refine (dats m 0 c).arrAt_eq_of_covers 6 _ (by decide +kernel) fun t hf y => ?_
  blk_simp
  rw [after0_6, Pipeline.eq_sum_fin_of_reset_step_apply_of_flush (fun n h => (outsAt0 m c n h).2.2.2.1) 8 (fun _ => 0)
    (fun p j => ∑ r : Fin 256, partGain (aX m c) (aG m c) (aT m c) (rowAt p r) (j 1)) (start m c) (next m c)
    t ((flush0_6 t).mp hf) _, zero_add]
  have ht : t.val / 8 = 0 := by have := (idx t).2.2.2.2.2.2.2; omega
  refine Eq.trans ?_ (Fin.sum_univ_tiles (M := EReal) 8 256 rfl fun l : Fin 2048 => partGain (aX m c) (aG m c) (aT m c) l _).symm
  refine Fin.sum_fin_congr fun s => Fin.sum_fin_congr fun r => ?_
  congr 1 <;> refine Fin.ext ?_
  · show (8 * (t.val / 8) + s.val) * 256 + r.val = _
    rw [ht]; simp
  · blk_simp [idx t]

end Kernel

section Reference

open Cert.LossHeadRefIdeal Cert.LossHeadRefIdeal.Gen Cert.LossHeadRefIdeal.Read Cert.Gate

/-- The derivative of half the mean square, as differentiation scales it. -/
theorem scale_eq (e : EReal) : Ideal.div half size * (Ideal.ofBits .f32 1073741824#32 * e) = e * share := by
  have h2 : Ideal.ofBits .f32 1073741824#32 = ((2 : ℝ) : EReal) := by
    simp [Ideal.ofBits, Ideal.ieee, -EReal.coe_mul]; norm_num
  rw [h2, half_eq, share_eq, show size = ((2048 : ℝ) : EReal) from size2048, Ideal.div_coe (by norm_num),
    ← mul_assoc, mul_comm e]
  norm_num [← EReal.coe_mul]

theorem mean_ref (l : Fin 2048) (k : Fin 1) : val_main_v6 (F := Ideal) X (ix2 l k) = meanSq size (rowOf X l) := by
  pointwise [val_main_v6, val_main_v5, val_main_v4, val_main_v3, val_main_v2, val_main_v1, val_main_v0, val_main_cst_1,
    val_main_cst_0, val_main_cst]
  try rw [zero_add]
  rfl

theorem factor_ref (l : Fin 2048) (k : Fin 1) : val_main_v7 (F := Ideal) X (ix2 l k) = factor size (rowOf X l) := by
  pointwise [val_main_v7]
  rw [mean_ref]
  rfl

theorem err_ref (l d : Fin 2048) : val_main_v16 (F := Ideal) X G T (ix2 l d) = err X G T l d := by
  pointwise [val_main_v16, val_main_v15, val_main_v14, val_main_v13, val_main_v12, val_main_v11]
  rw [factor_ref]
  rfl

theorem scaled_ref (l d : Fin 2048) : val_main_v30 (F := Ideal) X G T (ix2 l d) = err X G T l d * share := by
  pointwise [val_main_v30, val_main_v29, val_main_v28, val_main_v27, val_main_v26, val_main_v25, val_main_v19, val_main_v18,
    val_main_cst_10, val_main_cst_9, val_main_cst_8, val_main_cst_3]
  rw [err_ref]
  exact scale_eq _

theorem row_ref (l d : Fin 2048) : val_main_v35 (F := Ideal) X G T (ix2 l d) = gradRow X G T l d := by
  pointwise [val_main_v35, val_main_v34, val_main_v13]
  rw [scaled_ref]
  rfl

theorem gain_ref (d : Fin 2048) : val_main_v55 (F := Ideal) X G T (ix2 0 d) = gradGain X G T d := by
  pointwise [val_main_v55, val_main_v36, val_main_v33, val_main_v32, val_main_v31, val_main_v12, val_main_v11,
    val_main_cst_11, val_main_cst_12]
  simp only [factor_ref, scaled_ref]
  unfold gradGain partGain
  simp [mul_comm]

theorem slope_ref (l d : Fin 2048) :
    val_main_v46 (F := Ideal) X G T (ix2 l d) = slope size (rowOf X l) (gradRow X G T l) := by
  pointwise [val_main_v46, val_main_v45, val_main_v44, val_main_v43, val_main_v42, val_main_v39, val_main_v38, val_main_v37,
    val_main_v10, val_main_v9, val_main_v8, val_main_cst_2, val_main_cst_13, val_main_cst_14, val_main_cst_15]
  simp only [factor_ref, mean_ref, row_ref]
  unfold slope rowOf
  simp

theorem input_ref (l d : Fin 2048) : val_main_v50 (F := Ideal) X G T (ix2 l d) = gradX X G T l d := by
  pointwise [val_main_v50, val_main_v49, val_main_v48, val_main_v47, val_main_v41, val_main_v40]
  simp only [factor_ref, slope_ref, row_ref]
  unfold gradX
  rw [show size = ((2048 : ℝ) : EReal) from size2048, ← back_eq (c := 2048) (rowOf X l) (gradRow X G T l) (by norm_num)]
  rfl

theorem loss_ref (i : S_.Idx) : val_main_v24 (F := Ideal) X G T i = loss X G T := by
  pointwise [val_main_v24, val_main_v23, val_main_v22, val_main_v21, val_main_v20, val_main_v17, val_main_cst_4,
    val_main_cst_5, val_main_cst_6, val_main_cst_7]
  simp only [err_ref]
  unfold loss lossRow
  simp

/-- The results at every index of the whole arrays. -/
theorem loss_whole (i : S1x1.Idx) : val_main_v51 (F := Ideal) X G T i = loss X G T := by
  obtain rfl : i = ix2 0 0 := by blk_ext
  pointwise [val_main_v51]
  exact loss_ref X G T _
@[inherit_doc loss_whole]
theorem input_whole (i : S2048x2048.Idx) : val_main_v50 (F := Ideal) X G T i = gradX X G T (i 0) (i 1) := by
  obtain ⟨l, d, rfl⟩ : ∃ l d : Fin 2048, i = ix2 l d := ⟨i 0, i 1, by blk_ext⟩
  exact input_ref X G T l d
@[inherit_doc loss_whole]
theorem half_whole (i : S2048x2048.Idx) : val_main_v54 (F := Ideal) X G T i = half * gradX X G T (i 0) (i 1) := by
  rw [← input_whole]
  pointwise [val_main_v54, val_main_v53, val_main_v52, val_main_cst_16]
@[inherit_doc loss_whole]
theorem gain_whole (i : S1x2048.Idx) : val_main_v55 (F := Ideal) X G T i = gradGain X G T (i 1) := by
  obtain ⟨d, rfl⟩ : ∃ d : Fin 2048, i = ix2 0 d := ⟨i 1, by blk_ext⟩
  exact gain_ref X G T d

end Reference

end Cert.Norm.LossHead

end
-- ==== Proof.Norm.AdamSmall.lean ====
module

public import proofs.«01_k».proof.Proof.Gate.Equation
public import proofs.«01_k».proof.Proof.Gen.AdamSmallIdeal.Value
public import proofs.«01_k».proof.Proof.Gen.AdamSmallRefIdeal.Read

/-!
The optimiser's step of the small parameters, of the kernel and of the reference.
-/

@[expose] public section

set_option maxRecDepth 16384

noncomputable section

open Idealize.ShloMosaic Idealize.ShloMosaic.TcCoe Idealize.SL.Sem

namespace Cert.Norm.AdamSmall

abbrev Slab := Vec Ideal ⟨2, ![4608, 128]⟩ .f32

/-- The new first and second moment and the step of the parameter, of a parameter `w`, its moments `u`, `v` and its gradient `g`. -/
def moment1 (u g : EReal) : EReal := Ideal.ofBits .f32 1063675494#32 * u + Ideal.ofBits .f32 1036831949#32 * g
@[inherit_doc moment1]
def moment2 (v g : EReal) : EReal := Ideal.ofBits .f32 1065336439#32 * v + Ideal.ofBits .f32 981668463#32 * (g * g)
@[inherit_doc moment1]
def step (w u v g : EReal) : EReal :=
  Ideal.ofBits .f32 3129152111#32
    * (Ideal.div (Ideal.div (moment1 u g) (Ideal.ofBits .f32 1059503362#32))
        (Ideal.sqrt (Ideal.div (moment2 v g) (Ideal.ofBits .f32 1008933580#32)) + Ideal.ofBits .f32 841731191#32)
      + Ideal.ofBits .f32 1008981770#32 * w)

section Kernel

open Cert.AdamSmallIdeal Cert.AdamSmallIdeal.Gen

variable (m : (ℓ : Loc nD τ sig) → Buf (Elt Ideal) ℓ) (c : Dev nD)

/-- The arguments. -/
abbrev aW : Slab := m ((c : Thread nD τ).loc main_arg0)
@[inherit_doc aW] abbrev aU : Slab := m ((c : Thread nD τ).loc main_arg1)
@[inherit_doc aW] abbrev aV : Slab := m ((c : Thread nD τ).loc main_arg2)
@[inherit_doc aW] abbrev aG : Slab := m ((c : Thread nD τ).loc main_arg3)

/-- Where the blocks of point `t` lie: rows `512 t …`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ t.val < 9 :=
  (by decide +kernel : ∀ t : Fin grid0.N, _)

/-- The place in the array of a place in the blocks of point `t`. -/
abbrev at_ (t : Fin cfg0.N) (j : S512x128.Idx) : S4608x128.Idx :=
  ix2 (⟨t.val * 512 + (j 0).val, by have := (idx t).2.2.2.2.2.2.2; have : (j 0).val < 512 := (j 0).isLt; omega⟩ : Fin 4608) (j 1)

theorem block0 (t : Fin cfg0.N) (j : S512x128.Idx) : iblk m c 0 t j = aW m c (at_ t j) := by
  blk_ext [iblk, V, idx t] <;> rfl
theorem block1 (t : Fin cfg0.N) (j : S512x128.Idx) : iblk m c 1 t j = aU m c (at_ t j) := by
  blk_ext [iblk, V, idx t] <;> rfl
theorem block2 (t : Fin cfg0.N) (j : S512x128.Idx) : iblk m c 2 t j = aV m c (at_ t j) := by
  blk_ext [iblk, V, idx t] <;> rfl
theorem block3 (t : Fin cfg0.N) (j : S512x128.Idx) : iblk m c 3 t j = aG m c (at_ t j) := by
  blk_ext [iblk, V, idx t] <;> rfl

theorem moment1_at (t : Fin cfg0.N) (j : S512x128.Idx) : k0_pay2 (F := Ideal) (iblk m c 3 t) (iblk m c 1 t) j
    = moment1 (aU m c (at_ t j)) (aG m c (at_ t j)) := by
  rw [← block1, ← block3]
  pointwise [k0_pay2]
  rfl
theorem moment2_at (t : Fin cfg0.N) (j : S512x128.Idx) : k0_pay3 (F := Ideal) (iblk m c 3 t) (iblk m c 2 t) j
    = moment2 (aV m c (at_ t j)) (aG m c (at_ t j)) := by
  rw [← block2, ← block3]
  pointwise [k0_pay3]
  rfl
theorem step_at (t : Fin cfg0.N) (j : S512x128.Idx) :
    k0_pay4 (F := Ideal) (iblk m c 0 t) (iblk m c 3 t) (iblk m c 1 t) (iblk m c 2 t) j
      = step (aW m c (at_ t j)) (aU m c (at_ t j)) (aV m c (at_ t j)) (aG m c (at_ t j)) := by
  pointwise [k0_pay4]
  rw [moment1_at, moment2_at, block0]
  rfl

theorem left4 (t : Fin cfg0.N) (j : S512x128.Idx) :
    out0_4 (F := Ideal) (iblk m c 0 t) (iblk m c 1 t) (iblk m c 2 t) (iblk m c 3 t) j
      = step (aW m c (at_ t j)) (aU m c (at_ t j)) (aV m c (at_ t j)) (aG m c (at_ t j)) := by
  rw [← step_at]
  frame_out
theorem left5 (t : Fin cfg0.N) (j : S512x128.Idx) :
    out0_5 (F := Ideal) (iblk m c 0 t) (iblk m c 1 t) (iblk m c 2 t) (iblk m c 3 t) j
      = moment1 (aU m c (at_ t j)) (aG m c (at_ t j)) := by
  rw [← moment1_at]
  frame_out
theorem left6 (t : Fin cfg0.N) (j : S512x128.Idx) :
    out0_6 (F := Ideal) (iblk m c 0 t) (iblk m c 1 t) (iblk m c 2 t) (iblk m c 3 t) j
      = moment2 (aV m c (at_ t j)) (aG m c (at_ t j)) := by
  rw [← moment2_at]
  frame_out

/-- The steps of the parameters. -/
theorem final4 : (dats m 0 c).arrAt 4 cfg0.N = fun i => step (aW m c i) (aU m c i) (aV m c i) (aG m c i) := by
  refine (dats m 0 c).arrAt_eq_of_covers 4 _ (by decide +kernel) fun t hf y => ?_
  blk_simp
  rw [after0_4]
  refine (left4 m c t y).trans ?_
  congr 2 <;> blk_ext [idx t] <;> rfl
/-- The new moments. -/
theorem final5 : (dats m 0 c).arrAt 5 cfg0.N = fun i => moment1 (aU m c i) (aG m c i) := by
  refine (dats m 0 c).arrAt_eq_of_covers 5 _ (by decide +kernel) fun t hf y => ?_
  blk_simp
  rw [after0_5]
  refine (left5 m c t y).trans ?_
  congr 2 <;> blk_ext [idx t] <;> rfl
@[inherit_doc final5]
theorem final6 : (dats m 0 c).arrAt 6 cfg0.N = fun i => moment2 (aV m c i) (aG m c i) := by
  refine (dats m 0 c).arrAt_eq_of_covers 6 _ (by decide +kernel) fun t hf y => ?_
  blk_simp
  rw [after0_6]
  refine (left6 m c t y).trans ?_
  congr 2 <;> blk_ext [idx t] <;> rfl

end Kernel

section Reference

open Cert.AdamSmallRefIdeal Cert.AdamSmallRefIdeal.Gen Cert.AdamSmallRefIdeal.Read

variable (W U V G : Slab)

theorem moment1_ref (i : S4608x128.Idx) : val_main_v4 (F := Ideal) U G i = moment1 (U i) (G i) := by
  pointwise [val_main_v4, val_main_v3, val_main_v2, val_main_v1, val_main_v0, val_main_cst, val_main_cst_0]
  rfl
theorem moment2_ref (i : S4608x128.Idx) : val_main_v10 (F := Ideal) V G i = moment2 (V i) (G i) := by
  pointwise [val_main_v10, val_main_v9, val_main_v8, val_main_v7, val_main_v6, val_main_v5, val_main_cst_1, val_main_cst_2]
  rfl
theorem step_ref (i : S4608x128.Idx) : val_main_v23 (F := Ideal) W U V G i = step (W i) (U i) (V i) (G i) := by
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  rw [moment1_ref, moment2_ref]
  rfl

end Reference

end Cert.Norm.AdamSmall

end
-- ==== Proof.Norm.SumDevices.lean ====
module

public import proofs.«01_k».proof.Proof.Gate.Equation
public import proofs.«01_k».proof.Proof.Gen.SumDevicesIdeal.Value
public import proofs.«01_k».proof.Proof.Gen.SumDevicesRefIdeal.Read

/-!
The sum of the devices' gradients of the small parameters, of the kernel and of the reference.
-/

@[expose] public section

set_option maxRecDepth 16384

noncomputable section

open Idealize.ShloMosaic Idealize.ShloMosaic.TcCoe Idealize.SL.Sem

namespace Cert.Norm.SumDevices

abbrev Parts := Vec Ideal ⟨3, ![8, 5120, 128]⟩ .f32

/-- The sum over the devices. -/
def total (P : Parts) (r : Fin 5120) (d : Fin 128) : EReal := ∑ k : Fin 8, P (ix3 k r d)

section Kernel

open Cert.SumDevicesIdeal Cert.SumDevicesIdeal.Gen

variable (m : (ℓ : Loc nD τ sig) → Buf (Elt Ideal) ℓ) (c : Dev nD)

/-- The argument. -/
abbrev aP : Parts := m ((c : Thread nD τ).loc main_arg0)

/-- Where the blocks of point `t` lie: rows `512 t …`. -/
theorem idx : ∀ t : Fin cfg0.N, win0_0.index t = ![0, t.val, 0] ∧ win0_1.index t = ![t.val, 0] ∧ t.val < 10 :=
  (by decide +kernel : ∀ t : Fin grid0.N, _)

/-- The row of the array at row `r` of the blocks of point `t`. -/
abbrev rowAt (t : Fin cfg0.N) (r : Fin 512) : Fin 5120 := ⟨t.val * 512 + r.val, by have := (idx t).2.2; omega⟩

theorem block0 (t : Fin cfg0.N) (k : Fin 8) (r : Fin 512) (d : Fin 128) :
    iblk m c 0 t (ix3 k r d) = aP m c (ix3 k (rowAt t r) d) := by
  blk_ext [iblk, V, idx t]

/-- What the body stores. -/
theorem left1 (t : Fin cfg0.N) (j : S512x128.Idx) : out0_1 (F := Ideal) (iblk m c 0 t) j
    = total (aP m c) (rowAt t (j 0)) (j 1) := by
  obtain ⟨r, d, rfl⟩ : ∃ (r : Fin 512) (d : Fin 128), j = ix2 r d := ⟨j 0, j 1, by blk_ext⟩
  show _ = total (aP m c) (rowAt t r) d
  refine Eq.trans ?_ (Finset.sum_congr rfl fun k _ => block0 m c t k r d)
  frame_out
  pointwise [k0_pay2]
  simp only [Fin.sum_univ_eight]

theorem final : (dats m 0 c).arrAt 1 cfg0.N = fun i => total (aP m c) (i 0) (i 1) := by
  refine (dats m 0 c).arrAt_eq_of_covers 1 _ (by decide +kernel) fun t hf y => ?_
  blk_simp
  rw [after0_1]
  refine (left1 m c t y).trans (congrArg₂ (total (aP m c)) (Fin.ext ?_) (Fin.ext ?_)) <;> blk_simp [idx t]

end Kernel

section Reference

open Cert.SumDevicesRefIdeal Cert.SumDevicesRefIdeal.Gen Cert.SumDevicesRefIdeal.Read

theorem reference (P : Parts) (i : S5120x128.Idx) : val_main_v0 (F := Ideal) P i = total P (i 0) (i 1) := by
  obtain ⟨r, d, rfl⟩ : ∃ (r : Fin 5120) (d : Fin 128), i = ix2 r d := ⟨i 0, i 1, by blk_ext⟩
  pointwise [val_main_v0, val_main_cst]
  unfold total
  simp

end Reference

end Cert.Norm.SumDevices

end
-- ==== Proof.Norm.Claim.lean ====
module

public import proofs.«01_k».proof.Defs
public import proofs.«01_k».proof.Proof.Ffn.Runs
public import proofs.«01_k».proof.Proof.Norm.NormGradReference
public import proofs.«01_k».proof.Proof.Norm.Norm
public import proofs.«01_k».proof.Proof.Norm.ValuesNormGradReference
public import proofs.«01_k».proof.Proof.Norm.GateOut
public import proofs.«01_k».proof.Proof.Norm.SsdNorm
public import proofs.«01_k».proof.Proof.Norm.SsdNormGradReference
public import proofs.«01_k».proof.Proof.Norm.LossHead
public import proofs.«01_k».proof.Proof.Norm.AdamSmall
public import proofs.«01_k».proof.Proof.Norm.SumDevices

/-!
The calls of the norms, of the loss and of the small parameters: kernel and reference end with the same results.
-/

@[expose] public section

set_option maxRecDepth 16384

noncomputable section

open Idealize.ShloMosaic Idealize.SL.Sem

namespace Cert.Norm

open Cert.Ffn

theorem NormGrad.frame_reference : letI := Cert.NormGradRefIdeal.Gen.facts; Cert.quiescent_NormGradRefIdeal :=
  fun m g _ => frame_of_run (by decide) ((θ_run _ _ _).mono (fun r h c => ⟨trivial, (h c).2.2.2⟩)
    (Cert.NormGradRefIdeal.Value.run m g))

/-- The gradient of the norm, the residual's added, with the next scale. -/
theorem NormGrad.algebraic : letI := Cert.NormGradIdeal.Gen.facts; letI := Cert.NormGradRefIdeal.Gen.facts
    Cert.algebraic_NormGradIdeal_NormGradRefIdeal := by
  intro m g m' g' _ hagree
  refine ⟨fun c => (Cert.NormGradIdeal.Gen.dats m 0 c).arrAt 4 Cert.NormGradIdeal.cfg0.N,
    fun c => (Cert.NormGradIdeal.Gen.dats m 0 c).arrAt 5 Cert.NormGradIdeal.cfg0.N,
    fun c => (Cert.NormGradIdeal.Gen.dats m 0 c).arrAt 6 Cert.NormGradIdeal.cfg0.N,
    (θ_run _ _ _).mono (fun r h c => ?_) (Cert.NormGradIdeal.Value.run_blocks m g),
    (θ_run _ _ _).mono (fun r h c => ?_) (Cert.NormGradRefIdeal.Value.run m' g')⟩
  · obtain ⟨h0, h1, h2, -, ha⟩ := h c
    exact ⟨h0, h1, h2, ha⟩
  · obtain ⟨h0, h1, h2, ha⟩ := h c
    obtain ⟨e0, e1, e2, e3⟩ := hagree c
    refine ⟨?_, ?_, ?_, ha⟩
    · rw [h0, Cert.NormGradRefIdeal.Read.val_main_v36_eq, e0, e1, e2, e3]
      exact (funext (NormGrad.input_whole _ _ _ _)).trans (NormGrad.final4 m c).symm
    · rw [h1, Cert.NormGradRefIdeal.Read.val_main_v39_eq, e0, e1, e2, e3]
      exact (funext (NormGrad.half_whole _ _ _ _)).trans (NormGrad.final5 m c).symm
    · rw [h2, Cert.NormGradRefIdeal.Read.val_main_v40_eq, e0, e1]
      exact (funext (NormGrad.gain_whole _ _)).trans (NormGrad.final6 m c).symm

/-- The norm of the rows. -/
theorem Norm.algebraic : letI := Cert.NormIdeal.Gen.facts; letI := Cert.NormRefIdeal.Gen.facts
    Cert.algebraic_NormIdeal_NormRefIdeal :=
  fun m g m' g' _ hagree => ⟨_, drop_output (Cert.NormIdeal.Value.run_blocks m g), value_of_run (fun c => by
      rw [Cert.NormRefIdeal.Read.val_main_v13_eq, (hagree c).1, (hagree c).2]
      exact (funext (Forward.reference _ _)).trans (Forward.final m c).symm)
    (Cert.NormRefIdeal.Value.run m' g')⟩

/-- The grouped norm of the scan's output. -/
theorem SsdNorm.algebraic : letI := Cert.SsdNormIdeal.Gen.facts; letI := Cert.SsdNormRefIdeal.Gen.facts
    Cert.algebraic_SsdNormIdeal_SsdNormRefIdeal :=
  fun m g m' g' _ hagree => ⟨_, drop_output (Cert.SsdNormIdeal.Value.run_blocks m g), value_of_run (fun c => by
      obtain ⟨e0, e1, e2⟩ := hagree c
      rw [Cert.SsdNormRefIdeal.Read.val_main_v16_eq, e0, e1, e2]
      exact (funext (Ssd.reference _ _ _)).trans (Ssd.final m c).symm)
    (Cert.SsdNormRefIdeal.Value.run m' g')⟩

theorem SsdNormGrad.frame_reference : letI := Cert.SsdNormGradRefIdeal.Gen.facts; Cert.quiescent_SsdNormGradRefIdeal :=
  fun m g _ => frame_of_run (by decide) ((θ_run _ _ _).mono (fun r h c => ⟨trivial, (h c).2.2.2⟩)
    (Cert.SsdNormGradRefIdeal.Value.run m g))

/-- The gradient of the grouped norm and of the gate before it. -/
theorem SsdNormGrad.algebraic : letI := Cert.SsdNormGradIdeal.Gen.facts; letI := Cert.SsdNormGradRefIdeal.Gen.facts
    letI := Cert.Pre_finite_ssd_norm.Gen.facts
    Cert.algebraic_SsdNormGradIdeal_SsdNormGradRefIdeal_pre_finite_ssd_norm := by
  intro m g m' g' hpre hagree
  refine ⟨fun c => (Cert.SsdNormGradIdeal.Gen.dats m 0 c).arrAt 4 Cert.SsdNormGradIdeal.cfg0.N,
    fun c => (Cert.SsdNormGradIdeal.Gen.dats m 0 c).arrAt 5 Cert.SsdNormGradIdeal.cfg0.N,
    fun c => (Cert.SsdNormGradIdeal.Gen.dats m 0 c).arrAt 6 Cert.SsdNormGradIdeal.cfg0.N,
    (θ_run _ _ _).mono (fun r h c => ?_) (Cert.SsdNormGradIdeal.Value.run_blocks m g),
    (θ_run _ _ _).mono (fun r h c => ?_) (Cert.SsdNormGradRefIdeal.Value.run m' g')⟩
  · obtain ⟨h0, h1, h2, -, ha⟩ := h c
    exact ⟨h0, h1, h2, ha⟩
  · obtain ⟨h0, h1, h2, ha⟩ := h c
    obtain ⟨e0, e1, e2, e3⟩ := hagree c
    obtain ⟨hD, hY, hG⟩ := SsdGrad.real_of_pre _ _ _ _ ix0 (congrFun (hpre c) ix0)
    refine ⟨?_, ?_, ?_, ha⟩
    · rw [h0, Cert.SsdNormGradRefIdeal.Read.val_main_v41_eq m' c, e0, e1, e2, e3]
      exact (funext (SsdGrad.y_whole _ _ _ _)).trans (SsdGrad.final4 m c).symm
    · rw [h1, Cert.SsdNormGradRefIdeal.Read.val_main_v42_eq m' c, e0, e1, e2, e3]
      exact (funext (SsdGrad.z_whole _ _ _ _ hD hY hG)).trans (SsdGrad.final5 m c).symm
    · rw [h2, Cert.SsdNormGradRefIdeal.Read.val_main_v21_eq, e0, e1, e2]
      exact (funext (SsdGrad.gain_whole _ _ _)).trans (SsdGrad.final6 m c).symm

theorem ValuesNormGrad.frame_reference :
    letI := Cert.ValuesNormGradRefIdeal.Gen.facts; Cert.quiescent_ValuesNormGradRefIdeal :=
  fun m g _ => frame_of_run (by decide) (drop_output (Cert.ValuesNormGradRefIdeal.Value.run m g))

/-- The gradient of the norm of the gate's values and of the gelu before it. -/
theorem ValuesNormGrad.algebraic :
    letI := Cert.ValuesNormGradIdeal.Gen.facts; letI := Cert.ValuesNormGradRefIdeal.Gen.facts
    letI := Cert.Pre_finite_values.Gen.facts
    Cert.algebraic_ValuesNormGradIdeal_ValuesNormGradRefIdeal_pre_finite_values := by
  intro m g m' g' hpre hagree
  refine ⟨fun c => (Cert.ValuesNormGradIdeal.Gen.dats m 0 c).arrAt 3 Cert.ValuesNormGradIdeal.cfg0.N,
    fun c => (Cert.ValuesNormGradIdeal.Gen.dats m 0 c).arrAt 4 Cert.ValuesNormGradIdeal.cfg0.N,
    (θ_run _ _ _).mono (fun r h c => ?_) (Cert.ValuesNormGradIdeal.Value.run_blocks m g),
    (θ_run _ _ _).mono (fun r h c => ?_) (Cert.ValuesNormGradRefIdeal.Value.run m' g')⟩
  · obtain ⟨h0, h1, -, ha⟩ := h c
    exact ⟨h0, h1, ha⟩
  · obtain ⟨h0, h1, ha⟩ := h c
    obtain ⟨e0, e1, e2, e3⟩ := hagree c
    obtain ⟨hD, hG⟩ := ValuesGrad.real_of_pre _ _ _ _ ix0 (congrFun (hpre c) ix0)
    refine ⟨?_, ?_, ha⟩
    · rw [h0, Cert.ValuesNormGradRefIdeal.Read.val_main_v69_eq, e0, e1, e2, e3]
      refine funext fun i => (ValuesGrad.grad_whole _ _ _ _ hD hG i).trans
        ((congrFun (ValuesGrad.final3 m c) i).trans ?_).symm
      rw [ValuesGrad.kept_at]
    · rw [h1, Cert.ValuesNormGradRefIdeal.Read.val_main_v70_eq, e0, e1]
      exact (funext (ValuesGrad.gain_whole _ _)).trans (ValuesGrad.final4 m c).symm

/-- The norm of the gate's values. -/
theorem ValuesNorm.algebraic : letI := Cert.ValuesNormIdeal.Gen.facts; letI := Cert.ValuesNormRefIdeal.Gen.facts
    Cert.algebraic_ValuesNormIdeal_ValuesNormRefIdeal :=
  fun m g m' g' _ hagree => ⟨_, drop_output (Cert.ValuesNormIdeal.Value.run_blocks m g), value_of_run (fun c => by
      rw [Cert.ValuesNormRefIdeal.Read.val_main_v26_eq, (hagree c).1, (hagree c).2]
      exact (funext (Values.reference _ _)).trans (Values.final m c).symm)
    (Cert.ValuesNormRefIdeal.Value.run m' g')⟩

/-- The spatial gate. -/
theorem GateOut.algebraic : letI := Cert.GateOutIdeal.Gen.facts; letI := Cert.GateOutRefIdeal.Gen.facts
    Cert.algebraic_GateOutIdeal_GateOutRefIdeal :=
  fun m g m' g' _ hagree => ⟨_, drop_output (Cert.GateOutIdeal.Value.run_blocks m g), value_of_run (fun c => by
      obtain ⟨e0, e1, e2, e3⟩ := hagree c
      rw [Cert.GateOutRefIdeal.Read.val_main_v29_eq, e0, e1, e2, e3]
      exact (funext (GateOut.reference _ _ _ _)).trans (GateOut.final m c).symm)
    (Cert.GateOutRefIdeal.Value.run m' g')⟩

theorem LossHead.frame_reference : letI := Cert.LossHeadRefIdeal.Gen.facts; Cert.quiescent_LossHeadRefIdeal :=
  fun m g _ => frame_of_run (by decide) ((θ_run _ _ _).mono (fun r h c => ⟨trivial, (h c).2.2.2.2⟩)
    (Cert.LossHeadRefIdeal.Value.run m g))

/-- The loss, and the gradient of the last norm. -/
theorem LossHead.algebraic : letI := Cert.LossHeadIdeal.Gen.facts; letI := Cert.LossHeadRefIdeal.Gen.facts
    Cert.algebraic_LossHeadIdeal_LossHeadRefIdeal := by
  intro m g m' g' _ hagree
  refine ⟨fun c => (Cert.LossHeadIdeal.Gen.dats m 0 c).arrAt 3 Cert.LossHeadIdeal.cfg0.N,
    fun c => (Cert.LossHeadIdeal.Gen.dats m 0 c).arrAt 4 Cert.LossHeadIdeal.cfg0.N,
    fun c => (Cert.LossHeadIdeal.Gen.dats m 0 c).arrAt 5 Cert.LossHeadIdeal.cfg0.N,
    fun c => (Cert.LossHeadIdeal.Gen.dats m 0 c).arrAt 6 Cert.LossHeadIdeal.cfg0.N,
    (θ_run _ _ _).mono (fun r h c => ?_) (Cert.LossHeadIdeal.Value.run_blocks m g),
    (θ_run _ _ _).mono (fun r h c => ?_) (Cert.LossHeadRefIdeal.Value.run m' g')⟩
  · obtain ⟨h0, h1, h2, h3, -, ha⟩ := h c
    exact ⟨h0, h1, h2, h3, ha⟩
  · obtain ⟨h0, h1, h2, h3, ha⟩ := h c
    obtain ⟨e0, e1, e2⟩ := hagree c
    refine ⟨?_, ?_, ?_, ?_, ha⟩
    · rw [h0, Cert.LossHeadRefIdeal.Read.val_main_v51_eq, e0, e1, e2]
      exact (funext (LossHead.loss_whole _ _ _)).trans (LossHead.final3 m c).symm
    · rw [h1, Cert.LossHeadRefIdeal.Read.val_main_v50_eq, e0, e1, e2]
      exact (funext (LossHead.input_whole _ _ _)).trans (LossHead.final4 m c).symm
    · rw [h2, Cert.LossHeadRefIdeal.Read.val_main_v54_eq, e0, e1, e2]
      exact (funext (LossHead.half_whole _ _ _)).trans (LossHead.final5 m c).symm
    · rw [h3, Cert.LossHeadRefIdeal.Read.val_main_v55_eq, e0, e1, e2]
      exact (funext (LossHead.gain_whole _ _ _)).trans (LossHead.final6 m c).symm

theorem AdamSmall.frame_reference : letI := Cert.AdamSmallRefIdeal.Gen.facts; Cert.quiescent_AdamSmallRefIdeal :=
  fun m g _ => frame_of_run (by decide) ((θ_run _ _ _).mono (fun r h c => ⟨trivial, (h c).2.2.2⟩)
    (Cert.AdamSmallRefIdeal.Value.run m g))

/-- The optimiser's step of the small parameters. -/
theorem AdamSmall.algebraic : letI := Cert.AdamSmallIdeal.Gen.facts; letI := Cert.AdamSmallRefIdeal.Gen.facts
    Cert.algebraic_AdamSmallIdeal_AdamSmallRefIdeal := by
  intro m g m' g' _ hagree
  refine ⟨fun c => (Cert.AdamSmallIdeal.Gen.dats m 0 c).arrAt 4 Cert.AdamSmallIdeal.cfg0.N,
    fun c => (Cert.AdamSmallIdeal.Gen.dats m 0 c).arrAt 5 Cert.AdamSmallIdeal.cfg0.N,
    fun c => (Cert.AdamSmallIdeal.Gen.dats m 0 c).arrAt 6 Cert.AdamSmallIdeal.cfg0.N,
    (θ_run _ _ _).mono (fun r h c => ?_) (Cert.AdamSmallIdeal.Value.run_blocks m g),
    (θ_run _ _ _).mono (fun r h c => ?_) (Cert.AdamSmallRefIdeal.Value.run m' g')⟩
  · obtain ⟨h0, h1, h2, -, ha⟩ := h c
    exact ⟨h0, h1, h2, ha⟩
  · obtain ⟨h0, h1, h2, ha⟩ := h c
    obtain ⟨e0, e1, e2, e3⟩ := hagree c
    refine ⟨?_, ?_, ?_, ha⟩
    · rw [h0, Cert.AdamSmallRefIdeal.Read.val_main_v23_eq, e0, e1, e2, e3]
      exact (funext (AdamSmall.step_ref _ _ _ _)).trans (AdamSmall.final4 m c).symm
    · rw [h1, Cert.AdamSmallRefIdeal.Read.val_main_v4_eq, e1, e3]
      exact (funext (AdamSmall.moment1_ref _ _)).trans (AdamSmall.final5 m c).symm
    · rw [h2, Cert.AdamSmallRefIdeal.Read.val_main_v10_eq, e2, e3]
      exact (funext (AdamSmall.moment2_ref _ _)).trans (AdamSmall.final6 m c).symm

/-- The sum of the devices' gradients of the small parameters. -/
theorem SumDevices.algebraic : letI := Cert.SumDevicesIdeal.Gen.facts; letI := Cert.SumDevicesRefIdeal.Gen.facts
    Cert.algebraic_SumDevicesIdeal_SumDevicesRefIdeal :=
  fun m g m' g' _ hagree => ⟨_, drop_output (Cert.SumDevicesIdeal.Value.run_blocks m g), value_of_run (fun c => by
      rw [Cert.SumDevicesRefIdeal.Read.val_main_v0_eq, hagree c]
      exact (funext (SumDevices.reference _)).trans (SumDevices.final m c).symm)
    (Cert.SumDevicesRefIdeal.Value.run m' g')⟩

end Cert.Norm

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.On_written
public import proofs.«01_k».proof.Proof.Gen.SwigluGrad
public import proofs.«01_k».proof.Proof.Gen.SwigluGrad.Skeleton
public import proofs.«01_k».proof.Proof.Gen.SwigluGrad.Launch
public import proofs.«01_k».proof.Proof.Gen.SwigluGrad.Points
public import proofs.«01_k».proof.Proof.Gen.SwigluGrad.Frame
public import proofs.«01_k».proof.Proof.Gen.SwigluGradIdeal
public import proofs.«01_k».proof.Proof.Gen.SwigluGradIdeal.Skeleton
public import proofs.«01_k».proof.Proof.Gen.SwigluGradIdeal.Launch
public import proofs.«01_k».proof.Proof.Gen.SwigluGradIdeal.Points
public import proofs.«01_k».proof.Proof.Gen.SwigluGradIdeal.Frame
public import proofs.«01_k».proof.Proof.Gen.SwigluGradIdeal.Value
public import proofs.«01_k».proof.Proof.Gen.SwigluGradRefIdeal
public import proofs.«01_k».proof.Proof.Gen.SwigluGradRefIdeal.Run
public import proofs.«01_k».proof.Proof.Gen.SwigluGradRefIdeal.Read
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradInRefIdeal.Read
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutIdeal.Value
public import proofs.«01_k».proof.Proof.Gen.GradOutRefIdeal
public import proofs.«01_k».proof.Proof.Gen.GradOutRefIdeal.Run
public import proofs.«01_k».proof.Proof.Gen.GradOutRefIdeal.Read
public import proofs.«01_k».proof.Proof.Gen.GradInput
public import proofs.«01_k».proof.Proof.Gen.GradInput.Skeleton
public import proofs.«01_k».proof.Proof.Gen.GradInput.Launch
public import proofs.«01_k».proof.Proof.Gen.GradInput.Points
public import proofs.«01_k».proof.Proof.Gen.GradInput.Frame
public import proofs.«01_k».proof.Proof.Gen.GradInputIdeal
public import proofs.«01_k».proof.Proof.Gen.GradInputIdeal.Skeleton
public import proofs.«01_k».proof.Proof.Gen.GradInputIdeal.Launch
public import proofs.«01_k».proof.Proof.Gen.GradInputIdeal.Points
public import proofs.«01_k».proof.Proof.Gen.GradInputIdeal.Frame
public import proofs.«01_k».proof.Proof.Gen.GradInputIdeal.Value
public import proofs.«01_k».proof.Proof.Gen.GradInputRefIdeal
public import proofs.«01_k».proof.Proof.Gen.GradInputRefIdeal.Run
public import proofs.«01_k».proof.Proof.Gen.GradInputRefIdeal.Read
public import proofs.«01_k».proof.Proof.Gen.SwigluIn
public import proofs.«01_k».proof.Proof.Gen.SwigluIn.Skeleton
public import proofs.«01_k».proof.Proof.Gen.SwigluIn.Launch
public import proofs.«01_k».proof.Proof.Gen.SwigluIn.Points
public import proofs.«01_k».proof.Proof.Gen.SwigluIn.Frame
public import proofs.«01_k».proof.Proof.Gen.SwigluInIdeal
public import proofs.«01_k».proof.Proof.Gen.SwigluInIdeal.Skeleton
public import proofs.«01_k».proof.Proof.Gen.SwigluInIdeal.Launch
public import proofs.«01_k».proof.Proof.Gen.SwigluInIdeal.Points
public import proofs.«01_k».proof.Proof.Gen.SwigluInIdeal.Frame
public import proofs.«01_k».proof.Proof.Gen.SwigluInIdeal.Value
public import proofs.«01_k».proof.Proof.Gen.SwigluInRefIdeal
public import proofs.«01_k».proof.Proof.Gen.SwigluInRefIdeal.Run
public import proofs.«01_k».proof.Proof.Gen.SwigluInRefIdeal.Read
public import proofs.«01_k».proof.Proof.Gen.SwigluOut
public import proofs.«01_k».proof.Proof.Gen.SwigluOut.Skeleton
public import proofs.«01_k».proof.Proof.Gen.SwigluOut.Launch
public import proofs.«01_k».proof.Proof.Gen.SwigluOut.Points
public import proofs.«01_k».proof.Proof.Gen.SwigluOut.Frame
public import proofs.«01_k».proof.Proof.Gen.SwigluOutIdeal
public import proofs.«01_k».proof.Proof.Gen.SwigluOutIdeal.Skeleton
public import proofs.«01_k».proof.Proof.Gen.SwigluOutIdeal.Launch
public import proofs.«01_k».proof.Proof.Gen.SwigluOutIdeal.Points
public import proofs.«01_k».proof.Proof.Gen.SwigluOutIdeal.Frame
public import proofs.«01_k».proof.Proof.Gen.SwigluOutIdeal.Value
public import proofs.«01_k».proof.Proof.Gen.SwigluOutRefIdeal
public import proofs.«01_k».proof.Proof.Gen.SwigluOutRefIdeal.Run
public import proofs.«01_k».proof.Proof.Gen.SwigluOutRefIdeal.Read
public import proofs.«01_k».proof.Proof.Gen.Pre_finite_swiglu
public import proofs.«01_k».proof.Proof.Gen.GmIn
public import proofs.«01_k».proof.Proof.Gen.GmIn.Skeleton
public import proofs.«01_k».proof.Proof.Gen.GmIn.Launch
public import proofs.«01_k».proof.Proof.Gen.GmIn.Points
public import proofs.«01_k».proof.Proof.Gen.GmIn.Frame
public import proofs.«01_k».proof.Proof.Gen.GmInIdeal
public import proofs.«01_k».proof.Proof.Gen.GmInIdeal.Skeleton
public import proofs.«01_k».proof.Proof.Gen.GmInIdeal.Launch
public import proofs.«01_k».proof.Proof.Gen.GmInIdeal.Points
public import proofs.«01_k».proof.Proof.Gen.GmInIdeal.Frame
public import proofs.«01_k».proof.Proof.Gen.GmInIdeal.Value
public import proofs.«01_k».proof.Proof.Gen.GmInRefIdeal
public import proofs.«01_k».proof.Proof.Gen.GmInRefIdeal.Run
public import proofs.«01_k».proof.Proof.Gen.GmInRefIdeal.Read
public import proofs.«01_k».proof.Proof.Gen.GmGradIn
public import proofs.«01_k».proof.Proof.Gen.GmGradIn.Skeleton
public import proofs.«01_k».proof.Proof.Gen.GmGradIn.Launch
public import proofs.«01_k».proof.Proof.Gen.GmGradIn.Points
public import proofs.«01_k».proof.Proof.Gen.GmGradIn.Frame
public import proofs.«01_k».proof.Proof.Gen.GmGradInIdeal
public import proofs.«01_k».proof.Proof.Gen.GmGradInIdeal.Skeleton
public import proofs.«01_k».proof.Proof.Gen.GmGradInIdeal.Launch
public import proofs.«01_k».proof.Proof.Gen.GmGradInIdeal.Points
public import proofs.«01_k».proof.Proof.Gen.GmGradInIdeal.Frame
public import proofs.«01_k».proof.Proof.Gen.GmGradInIdeal.Value
public import proofs.«01_k».proof.Proof.Gen.GmGradInRefIdeal
public import proofs.«01_k».proof.Proof.Gen.GmGradInRefIdeal.Run
public import proofs.«01_k».proof.Proof.Gen.GmGradInRefIdeal.Read
public import proofs.«01_k».proof.Proof.Gen.GmGradInput
public import proofs.«01_k».proof.Proof.Gen.GmGradInput.Skeleton
public import proofs.«01_k».proof.Proof.Gen.GmGradInput.Launch
public import proofs.«01_k».proof.Proof.Gen.GmGradInput.Points
public import proofs.«01_k».proof.Proof.Gen.GmGradInput.Frame
public import proofs.«01_k».proof.Proof.Gen.GmGradInputIdeal
public import proofs.«01_k».proof.Proof.Gen.GmGradInputIdeal.Skeleton
public import proofs.«01_k».proof.Proof.Gen.GmGradInputIdeal.Launch
public import proofs.«01_k».proof.Proof.Gen.GmGradInputIdeal.Points
public import proofs.«01_k».proof.Proof.Gen.GmGradInputIdeal.Frame
public import proofs.«01_k».proof.Proof.Gen.GmGradInputIdeal.Value
public import proofs.«01_k».proof.Proof.Gen.GmGradInputRefIdeal
public import proofs.«01_k».proof.Proof.Gen.GmGradInputRefIdeal.Run
public import proofs.«01_k».proof.Proof.Gen.GmGradInputRefIdeal.Read
public import proofs.«01_k».proof.Proof.Gen.GmBackOut
public import proofs.«01_k».proof.Proof.Gen.GmBackOut.Skeleton
public import proofs.«01_k».proof.Proof.Gen.GmBackOut.Launch
public import proofs.«01_k».proof.Proof.Gen.GmBackOut.Points
public import proofs.«01_k».proof.Proof.Gen.GmBackOut.Frame
public import proofs.«01_k».proof.Proof.Gen.GmBackOutIdeal
public import proofs.«01_k».proof.Proof.Gen.GmBackOutIdeal.Skeleton
public import proofs.«01_k».proof.Proof.Gen.GmBackOutIdeal.Launch
public import proofs.«01_k».proof.Proof.Gen.GmBackOutIdeal.Points
public import proofs.«01_k».proof.Proof.Gen.GmBackOutIdeal.Frame
public import proofs.«01_k».proof.Proof.Gen.GmBackOutIdeal.Value
public import proofs.«01_k».proof.Proof.Gen.GmBackOutRefIdeal
public import proofs.«01_k».proof.Proof.Gen.GmBackOutRefIdeal.Run
public import proofs.«01_k».proof.Proof.Gen.GmBackOutRefIdeal.Read
public import proofs.«01_k».proof.Proof.Gen.SsdIn
public import proofs.«01_k».proof.Proof.Gen.SsdIn.Skeleton
public import proofs.«01_k».proof.Proof.Gen.SsdIn.Launch
public import proofs.«01_k».proof.Proof.Gen.SsdIn.Points
public import proofs.«01_k».proof.Proof.Gen.SsdIn.Frame
public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInIdeal.Points
public import proofs.«01_k».proof.Proof.Gen.SsdInIdeal.Frame
public import proofs.«01_k».proof.Proof.Gen.SsdInIdeal.Value
public import proofs.«01_k».proof.Proof.Gen.SsdInRefIdeal
public import proofs.«01_k».proof.Proof.Gen.SsdInRefIdeal.Run
public import proofs.«01_k».proof.Proof.Gen.SsdInRefIdeal.Read
public import proofs.«01_k».proof.Proof.Gen.SsdGradIn
public import proofs.«01_k».proof.Proof.Gen.SsdGradIn.Skeleton
public import proofs.«01_k».proof.Proof.Gen.SsdGradIn.Launch
public import proofs.«01_k».proof.Proof.Gen.SsdGradIn.Points
public import proofs.«01_k».proof.Proof.Gen.SsdGradIn.Frame
public import proofs.«01_k».proof.Proof.Gen.SsdGradInIdeal
public import proofs.«01_k».proof.Proof.Gen.SsdGradInIdeal.Skeleton
public import proofs.«01_k».proof.Proof.Gen.SsdGradInIdeal.Launch
public import proofs.«01_k».proof.Proof.Gen.SsdGradInIdeal.Points
public import proofs.«01_k».proof.Proof.Gen.SsdGradInIdeal.Frame
public import proofs.«01_k».proof.Proof.Gen.SsdGradInIdeal.Value
public import proofs.«01_k».proof.Proof.Gen.SsdGradInRefIdeal
public import proofs.«01_k».proof.Proof.Gen.SsdGradInRefIdeal.Run
public import proofs.«01_k».proof.Proof.Gen.SsdGradInRefIdeal.Read
public import proofs.«01_k».proof.Proof.Gen.SsdGradInput
public import proofs.«01_k».proof.Proof.Gen.SsdGradInput.Skeleton
public import proofs.«01_k».proof.Proof.Gen.SsdGradInput.Launch
public import proofs.«01_k».proof.Proof.Gen.SsdGradInput.Points
public import proofs.«01_k».proof.Proof.Gen.SsdGradInput.Frame
public import proofs.«01_k».proof.Proof.Gen.SsdGradInputIdeal
public import proofs.«01_k».proof.Proof.Gen.SsdGradInputIdeal.Skeleton
public import proofs.«01_k».proof.Proof.Gen.SsdGradInputIdeal.Launch
public import proofs.«01_k».proof.Proof.Gen.SsdGradInputIdeal.Points
public import proofs.«01_k».proof.Proof.Gen.SsdGradInputIdeal.Frame
public import proofs.«01_k».proof.Proof.Gen.SsdGradInputIdeal.Value
public import proofs.«01_k».proof.Proof.Gen.SsdGradInputRefIdeal
public import proofs.«01_k».proof.Proof.Gen.SsdGradInputRefIdeal.Run
public import proofs.«01_k».proof.Proof.Gen.SsdGradInputRefIdeal.Read
public import proofs.«01_k».proof.Proof.Gen.SsdBackOut
public import proofs.«01_k».proof.Proof.Gen.SsdBackOut.Skeleton
public import proofs.«01_k».proof.Proof.Gen.SsdBackOut.Launch
public import proofs.«01_k».proof.Proof.Gen.SsdBackOut.Points
public import proofs.«01_k».proof.Proof.Gen.SsdBackOut.Frame
public import proofs.«01_k».proof.Proof.Gen.SsdBackOutIdeal
public import proofs.«01_k».proof.Proof.Gen.SsdBackOutIdeal.Skeleton
public import proofs.«01_k».proof.Proof.Gen.SsdBackOutIdeal.Launch
public import proofs.«01_k».proof.Proof.Gen.SsdBackOutIdeal.Points
public import proofs.«01_k».proof.Proof.Gen.SsdBackOutIdeal.Frame
public import proofs.«01_k».proof.Proof.Gen.SsdBackOutIdeal.Value
public import proofs.«01_k».proof.Proof.Gen.SsdBackOutRefIdeal
public import proofs.«01_k».proof.Proof.Gen.SsdBackOutRefIdeal.Run
public import proofs.«01_k».proof.Proof.Gen.SsdBackOutRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixGradOut
public import proofs.«01_k».proof.Proof.Gen.MixGradOut.Skeleton
public import proofs.«01_k».proof.Proof.Gen.MixGradOut.Launch
public import proofs.«01_k».proof.Proof.Gen.MixGradOut.Points
public import proofs.«01_k».proof.Proof.Gen.MixGradOut.Frame
public import proofs.«01_k».proof.Proof.Gen.MixGradOutIdeal
public import proofs.«01_k».proof.Proof.Gen.MixGradOutIdeal.Skeleton
public import proofs.«01_k».proof.Proof.Gen.MixGradOutIdeal.Launch
public import proofs.«01_k».proof.Proof.Gen.MixGradOutIdeal.Points
public import proofs.«01_k».proof.Proof.Gen.MixGradOutIdeal.Frame
public import proofs.«01_k».proof.Proof.Gen.MixGradOutIdeal.Value
public import proofs.«01_k».proof.Proof.Gen.MixGradOutRefIdeal
public import proofs.«01_k».proof.Proof.Gen.MixGradOutRefIdeal.Run
public import proofs.«01_k».proof.Proof.Gen.MixGradOutRefIdeal.Read
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradRefIdeal
public import proofs.«01_k».proof.Proof.Gen.NormGradRefIdeal.Run
public import proofs.«01_k».proof.Proof.Gen.NormGradRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.SsdNormGrad
public import proofs.«01_k».proof.Proof.Gen.SsdNormGrad.Skeleton
public import proofs.«01_k».proof.Proof.Gen.SsdNormGrad.Launch
public import proofs.«01_k».proof.Proof.Gen.SsdNormGrad.Points
public import proofs.«01_k».proof.Proof.Gen.SsdNormGrad.Frame
public import proofs.«01_k».proof.Proof.Gen.SsdNormGradIdeal
public import proofs.«01_k».proof.Proof.Gen.SsdNormGradIdeal.Skeleton
public import proofs.«01_k».proof.Proof.Gen.SsdNormGradIdeal.Launch
public import proofs.«01_k».proof.Proof.Gen.SsdNormGradIdeal.Points
public import proofs.«01_k».proof.Proof.Gen.SsdNormGradIdeal.Frame
public import proofs.«01_k».proof.Proof.Gen.SsdNormGradIdeal.Value
public import proofs.«01_k».proof.Proof.Gen.SsdNormGradRefIdeal
public import proofs.«01_k».proof.Proof.Gen.SsdNormGradRefIdeal.Run
public import proofs.«01_k».proof.Proof.Gen.SsdNormGradRefIdeal.Read
public import proofs.«01_k».proof.Proof.Gen.SsdNorm
public import proofs.«01_k».proof.Proof.Gen.SsdNorm.Skeleton
public import proofs.«01_k».proof.Proof.Gen.SsdNorm.Launch
public import proofs.«01_k».proof.Proof.Gen.SsdNorm.Points
public import proofs.«01_k».proof.Proof.Gen.SsdNorm.Frame
public import proofs.«01_k».proof.Proof.Gen.SsdNormIdeal
public import proofs.«01_k».proof.Proof.Gen.SsdNormIdeal.Skeleton
public import proofs.«01_k».proof.Proof.Gen.SsdNormIdeal.Launch
public import proofs.«01_k».proof.Proof.Gen.SsdNormIdeal.Points
public import proofs.«01_k».proof.Proof.Gen.SsdNormIdeal.Frame
public import proofs.«01_k».proof.Proof.Gen.SsdNormIdeal.Value
public import proofs.«01_k».proof.Proof.Gen.SsdNormRefIdeal
public import proofs.«01_k».proof.Proof.Gen.SsdNormRefIdeal.Run
public import proofs.«01_k».proof.Proof.Gen.SsdNormRefIdeal.Read
public import proofs.«01_k».proof.Proof.Gen.ValuesNormGrad
public import proofs.«01_k».proof.Proof.Gen.ValuesNormGrad.Skeleton
public import proofs.«01_k».proof.Proof.Gen.ValuesNormGrad.Launch
public import proofs.«01_k».proof.Proof.Gen.ValuesNormGrad.Points
public import proofs.«01_k».proof.Proof.Gen.ValuesNormGrad.Frame
public import proofs.«01_k».proof.Proof.Gen.ValuesNormGradIdeal
public import proofs.«01_k».proof.Proof.Gen.ValuesNormGradIdeal.Skeleton
public import proofs.«01_k».proof.Proof.Gen.ValuesNormGradIdeal.Launch
public import proofs.«01_k».proof.Proof.Gen.ValuesNormGradIdeal.Points
public import proofs.«01_k».proof.Proof.Gen.ValuesNormGradIdeal.Frame
public import proofs.«01_k».proof.Proof.Gen.ValuesNormGradIdeal.Value
public import proofs.«01_k».proof.Proof.Gen.ValuesNormGradRefIdeal
public import proofs.«01_k».proof.Proof.Gen.ValuesNormGradRefIdeal.Run
public import proofs.«01_k».proof.Proof.Gen.ValuesNormGradRefIdeal.Read
public import proofs.«01_k».proof.Proof.Gen.ValuesNorm
public import proofs.«01_k».proof.Proof.Gen.ValuesNorm.Skeleton
public import proofs.«01_k».proof.Proof.Gen.ValuesNorm.Launch
public import proofs.«01_k».proof.Proof.Gen.ValuesNorm.Points
public import proofs.«01_k».proof.Proof.Gen.ValuesNorm.Frame
public import proofs.«01_k».proof.Proof.Gen.ValuesNormIdeal
public import proofs.«01_k».proof.Proof.Gen.ValuesNormIdeal.Skeleton
public import proofs.«01_k».proof.Proof.Gen.ValuesNormIdeal.Launch
public import proofs.«01_k».proof.Proof.Gen.ValuesNormIdeal.Points
public import proofs.«01_k».proof.Proof.Gen.ValuesNormIdeal.Frame
public import proofs.«01_k».proof.Proof.Gen.ValuesNormIdeal.Value
public import proofs.«01_k».proof.Proof.Gen.ValuesNormRefIdeal
public import proofs.«01_k».proof.Proof.Gen.ValuesNormRefIdeal.Run
public import proofs.«01_k».proof.Proof.Gen.ValuesNormRefIdeal.Read
public import proofs.«01_k».proof.Proof.Gen.GateOut
public import proofs.«01_k».proof.Proof.Gen.GateOut.Skeleton
public import proofs.«01_k».proof.Proof.Gen.GateOut.Launch
public import proofs.«01_k».proof.Proof.Gen.GateOut.Points
public import proofs.«01_k».proof.Proof.Gen.GateOut.Frame
public import proofs.«01_k».proof.Proof.Gen.GateOutIdeal
public import proofs.«01_k».proof.Proof.Gen.GateOutIdeal.Skeleton
public import proofs.«01_k».proof.Proof.Gen.GateOutIdeal.Launch
public import proofs.«01_k».proof.Proof.Gen.GateOutIdeal.Points
public import proofs.«01_k».proof.Proof.Gen.GateOutIdeal.Frame
public import proofs.«01_k».proof.Proof.Gen.GateOutIdeal.Value
public import proofs.«01_k».proof.Proof.Gen.GateOutRefIdeal
public import proofs.«01_k».proof.Proof.Gen.GateOutRefIdeal.Run
public import proofs.«01_k».proof.Proof.Gen.GateOutRefIdeal.Read
public import proofs.«01_k».proof.Proof.Gen.Pre_finite_ssd_norm
public import proofs.«01_k».proof.Proof.Gen.Pre_finite_values
public import proofs.«01_k».proof.Proof.Gate.Claim
public import proofs.«01_k».proof.Proof.Ffn.Claim
public import proofs.«01_k».proof.Proof.Mix.Claim
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.SumDevices
public import proofs.«01_k».proof.Proof.Gen.SumDevices.Skeleton
public import proofs.«01_k».proof.Proof.Gen.SumDevices.Launch
public import proofs.«01_k».proof.Proof.Gen.SumDevices.Points
public import proofs.«01_k».proof.Proof.Gen.SumDevices.Frame
public import proofs.«01_k».proof.Proof.Gen.SumDevicesIdeal
public import proofs.«01_k».proof.Proof.Gen.SumDevicesIdeal.Skeleton
public import proofs.«01_k».proof.Proof.Gen.SumDevicesIdeal.Launch
public import proofs.«01_k».proof.Proof.Gen.SumDevicesIdeal.Points
public import proofs.«01_k».proof.Proof.Gen.SumDevicesIdeal.Frame
public import proofs.«01_k».proof.Proof.Gen.SumDevicesIdeal.Value
public import proofs.«01_k».proof.Proof.Gen.SumDevicesRefIdeal
public import proofs.«01_k».proof.Proof.Gen.SumDevicesRefIdeal.Run
public import proofs.«01_k».proof.Proof.Gen.SumDevicesRefIdeal.Read
public import proofs.«01_k».proof.Proof.Norm.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.SwigluGrad.Gen.facts, Cert.SwigluGradIdeal.Gen.facts, Cert.SwigluGradRefIdeal.Gen.facts,
  Cert.GradIn.Gen.facts, Cert.GradInIdeal.Gen.facts, Cert.GradInRefIdeal.Gen.facts,
  Cert.GradOut.Gen.facts, Cert.GradOutIdeal.Gen.facts, Cert.GradOutRefIdeal.Gen.facts,
  Cert.GradInput.Gen.facts, Cert.GradInputIdeal.Gen.facts, Cert.GradInputRefIdeal.Gen.facts,
  Cert.SwigluIn.Gen.facts, Cert.SwigluInIdeal.Gen.facts, Cert.SwigluInRefIdeal.Gen.facts,
  Cert.SwigluOut.Gen.facts, Cert.SwigluOutIdeal.Gen.facts, Cert.SwigluOutRefIdeal.Gen.facts,
  Cert.GmIn.Gen.facts, Cert.GmInIdeal.Gen.facts, Cert.GmInRefIdeal.Gen.facts,
  Cert.GmGradIn.Gen.facts, Cert.GmGradInIdeal.Gen.facts, Cert.GmGradInRefIdeal.Gen.facts,
  Cert.GmGradInput.Gen.facts, Cert.GmGradInputIdeal.Gen.facts, Cert.GmGradInputRefIdeal.Gen.facts,
  Cert.GmBackOut.Gen.facts, Cert.GmBackOutIdeal.Gen.facts, Cert.GmBackOutRefIdeal.Gen.facts,
  Cert.SsdIn.Gen.facts, Cert.SsdInIdeal.Gen.facts, Cert.SsdInRefIdeal.Gen.facts,
  Cert.SsdGradIn.Gen.facts, Cert.SsdGradInIdeal.Gen.facts, Cert.SsdGradInRefIdeal.Gen.facts,
  Cert.SsdGradInput.Gen.facts, Cert.SsdGradInputIdeal.Gen.facts, Cert.SsdGradInputRefIdeal.Gen.facts,
  Cert.SsdBackOut.Gen.facts, Cert.SsdBackOutIdeal.Gen.facts, Cert.SsdBackOutRefIdeal.Gen.facts,
  Cert.MixOut.Gen.facts, Cert.MixOutIdeal.Gen.facts, Cert.MixOutRefIdeal.Gen.facts,
  Cert.MixGradOut.Gen.facts, Cert.MixGradOutIdeal.Gen.facts, Cert.MixGradOutRefIdeal.Gen.facts,
  Cert.NormGrad.Gen.facts, Cert.NormGradIdeal.Gen.facts, Cert.NormGradRefIdeal.Gen.facts,
  Cert.Norm.Gen.facts, Cert.NormIdeal.Gen.facts, Cert.NormRefIdeal.Gen.facts,
  Cert.SsdNormGrad.Gen.facts, Cert.SsdNormGradIdeal.Gen.facts, Cert.SsdNormGradRefIdeal.Gen.facts,
  Cert.SsdNorm.Gen.facts, Cert.SsdNormIdeal.Gen.facts, Cert.SsdNormRefIdeal.Gen.facts,
  Cert.ValuesNormGrad.Gen.facts, Cert.ValuesNormGradIdeal.Gen.facts, Cert.ValuesNormGradRefIdeal.Gen.facts,
  Cert.ValuesNorm.Gen.facts, Cert.ValuesNormIdeal.Gen.facts, Cert.ValuesNormRefIdeal.Gen.facts,
  Cert.GateOut.Gen.facts, Cert.GateOutIdeal.Gen.facts, Cert.GateOutRefIdeal.Gen.facts,
  Cert.LossHead.Gen.facts, Cert.LossHeadIdeal.Gen.facts, Cert.LossHeadRefIdeal.Gen.facts,
  Cert.AdamSmall.Gen.facts, Cert.AdamSmallIdeal.Gen.facts, Cert.AdamSmallRefIdeal.Gen.facts,
  Cert.SumDevices.Gen.facts, Cert.SumDevicesIdeal.Gen.facts, Cert.SumDevicesRefIdeal.Gen.facts,
  Cert.Pre_finite.Gen.facts, Cert.Pre_finite_swiglu.Gen.facts, Cert.Pre_finite_ssd_norm.Gen.facts, Cert.Pre_finite_values.Gen.facts,
  Cert.On_written.Gen.facts,
  -- the runs
  fun m g _ => Cert.Kernel.Gen.frame m g, fun m g _ => Cert.KernelIdeal.Gen.frame m g, fun m g _ => Cert.KernelIdeal.Gen.frame m g,
  Cert.Gate.frame_reference, fun m g _ => Cert.Gate.frame_reference m g trivial,
  fun m g _ => Cert.SwigluGrad.Gen.frame m g, fun m g _ => Cert.SwigluGradIdeal.Gen.frame m g, fun m g _ => Cert.SwigluGradIdeal.Gen.frame m g,
  fun m g _ => Cert.Ffn.frame_of_run (by decide) (Cert.SwigluGradRefIdeal.Value.run m g),
  fun m g _ => Cert.Ffn.frame_of_run (by decide) (Cert.SwigluGradRefIdeal.Value.run m g),
  fun m g _ => Cert.GradIn.Gen.frame m g, fun m g _ => Cert.GradInIdeal.Gen.frame m g,
  fun m g _ => Cert.Ffn.frame_of_run (by decide) (Cert.GradInRefIdeal.Value.run m g),
  fun m g _ => Cert.GradOut.Gen.frame m g, fun m g _ => Cert.GradOutIdeal.Gen.frame m g,
  fun m g _ => Cert.Ffn.frame_of_run (by decide) (Cert.GradOutRefIdeal.Value.run m g),
  fun m g _ => Cert.GradInput.Gen.frame m g, fun m g _ => Cert.GradInputIdeal.Gen.frame m g,
  fun m g _ => Cert.Ffn.frame_of_run (by decide) (Cert.GradInputRefIdeal.Value.run m g),
  fun m g _ => Cert.SwigluIn.Gen.frame m g, fun m g _ => Cert.SwigluInIdeal.Gen.frame m g,
  fun m g _ => Cert.Ffn.frame_of_run (by decide) (Cert.Ffn.drop_output (Cert.SwigluInRefIdeal.Value.run m g)),
  fun m g _ => Cert.SwigluOut.Gen.frame m g, fun m g _ => Cert.SwigluOutIdeal.Gen.frame m g,
  fun m g _ => Cert.Ffn.frame_of_run (by decide) (Cert.SwigluOutRefIdeal.Value.run m g),
  fun m g _ => Cert.GmIn.Gen.frame m g, fun m g _ => Cert.GmInIdeal.Gen.frame m g,
  fun m g _ => Cert.Ffn.frame_of_run (by decide) (Cert.GmInRefIdeal.Value.run m g),
  fun m g _ => Cert.GmGradIn.Gen.frame m g, fun m g _ => Cert.GmGradInIdeal.Gen.frame m g,
  fun m g _ => Cert.Ffn.frame_of_run (by decide) (Cert.GmGradInRefIdeal.Value.run m g),
  fun m g _ => Cert.GmGradInput.Gen.frame m g, fun m g _ => Cert.GmGradInputIdeal.Gen.frame m g,
  fun m g _ => Cert.Ffn.frame_of_run (by decide) (Cert.GmGradInputRefIdeal.Value.run m g),
  fun m g _ => Cert.GmBackOut.Gen.frame m g, fun m g _ => Cert.GmBackOutIdeal.Gen.frame m g,
  fun m g _ => Cert.Ffn.frame_of_run (by decide) (Cert.GmBackOutRefIdeal.Value.run m g),
  fun m g _ => Cert.SsdIn.Gen.frame m g, fun m g _ => Cert.SsdInIdeal.Gen.frame m g,
  fun m g _ => Cert.Ffn.frame_of_run (by decide) (Cert.SsdInRefIdeal.Value.run m g),
  fun m g _ => Cert.SsdGradIn.Gen.frame m g, fun m g _ => Cert.SsdGradInIdeal.Gen.frame m g,
  fun m g _ => Cert.Ffn.frame_of_run (by decide) (Cert.SsdGradInRefIdeal.Value.run m g),
  fun m g _ => Cert.SsdGradInput.Gen.frame m g, fun m g _ => Cert.SsdGradInputIdeal.Gen.frame m g,
  fun m g _ => Cert.Ffn.frame_of_run (by decide) (Cert.SsdGradInputRefIdeal.Value.run m g),
  fun m g _ => Cert.SsdBackOut.Gen.frame m g, fun m g _ => Cert.SsdBackOutIdeal.Gen.frame m g,
  fun m g _ => Cert.Ffn.frame_of_run (by decide) (Cert.SsdBackOutRefIdeal.Value.run m g),
  fun m g _ => Cert.MixOut.Gen.frame m g, fun m g _ => Cert.MixOutIdeal.Gen.frame m g,
  fun m g _ => Cert.Ffn.frame_of_run (by decide) (Cert.MixOutRefIdeal.Value.run m g),
  fun m g _ => Cert.MixGradOut.Gen.frame m g, fun m g _ => Cert.MixGradOutIdeal.Gen.frame m g,
  fun m g _ => Cert.Ffn.frame_of_run (by decide) (Cert.MixGradOutRefIdeal.Value.run m g),
  fun m g _ => Cert.NormGrad.Gen.frame m g, fun m g _ => Cert.NormGradIdeal.Gen.frame m g,
  Cert.Norm.NormGrad.frame_reference,
  fun m g _ => Cert.Norm.Gen.frame m g, fun m g _ => Cert.NormIdeal.Gen.frame m g,
  fun m g _ => Cert.Ffn.frame_of_run (by decide) (Cert.NormRefIdeal.Value.run m g),
  fun m g _ => Cert.SsdNormGrad.Gen.frame m g, fun m g _ => Cert.SsdNormGradIdeal.Gen.frame m g,
  fun m g _ => Cert.SsdNormGradIdeal.Gen.frame m g,
  Cert.Norm.SsdNormGrad.frame_reference, fun m g _ => Cert.Norm.SsdNormGrad.frame_reference m g trivial,
  fun m g _ => Cert.SsdNorm.Gen.frame m g, fun m g _ => Cert.SsdNormIdeal.Gen.frame m g,
  fun m g _ => Cert.Ffn.frame_of_run (by decide) (Cert.SsdNormRefIdeal.Value.run m g),
  fun m g _ => Cert.ValuesNormGrad.Gen.frame m g, fun m g _ => Cert.ValuesNormGradIdeal.Gen.frame m g,
  fun m g _ => Cert.ValuesNormGradIdeal.Gen.frame m g,
  Cert.Norm.ValuesNormGrad.frame_reference, fun m g _ => Cert.Norm.ValuesNormGrad.frame_reference m g trivial,
  fun m g _ => Cert.ValuesNorm.Gen.frame m g, fun m g _ => Cert.ValuesNormIdeal.Gen.frame m g,
  fun m g _ => Cert.Ffn.frame_of_run (by decide) (Cert.ValuesNormRefIdeal.Value.run m g),
  fun m g _ => Cert.GateOut.Gen.frame m g, fun m g _ => Cert.GateOutIdeal.Gen.frame m g,
  fun m g _ => Cert.Ffn.frame_of_run (by decide) (Cert.GateOutRefIdeal.Value.run m g),
  fun m g _ => Cert.LossHead.Gen.frame m g, fun m g _ => Cert.LossHeadIdeal.Gen.frame m g,
  Cert.Norm.LossHead.frame_reference,
  fun m g _ => Cert.AdamSmall.Gen.frame m g, fun m g _ => Cert.AdamSmallIdeal.Gen.frame m g,
  Cert.Norm.AdamSmall.frame_reference,
  fun m g _ => Cert.SumDevices.Gen.frame m g, fun m g _ => Cert.SumDevicesIdeal.Gen.frame m g,
  fun m g _ => Cert.Ffn.frame_of_run (by decide) (Cert.SumDevicesRefIdeal.Value.run m g),
  -- the values
  ⟨IdealRules.named_const.statement Cert.KernelIdeal.κ "inv_sqrt2" .f32 0x3F3504F3#32 _ rfl,
    IdealRules.named_const.statement Cert.KernelIdeal.κ "inv_sqrt_2pi" .f32 0x3ECC422A#32 _ rfl⟩,
  Cert.Gate.algebraic,
  trivial, Cert.Ffn.SwigluGrad.algebraic, trivial, Cert.Ffn.GradIn.algebraic, trivial, Cert.Ffn.GradOut.algebraic,
  trivial, Cert.Ffn.GradInput.algebraic, trivial, Cert.Ffn.SwigluIn.algebraic, trivial, Cert.Ffn.SwigluOut.algebraic,
  trivial, Cert.Mix.GmIn.algebraic,
  trivial, Cert.Mix.GmGradIn.algebraic,
  trivial, Cert.Mix.GmGradInput.algebraic,
  trivial, Cert.Mix.GmBackOut.algebraic,
  trivial, Cert.Mix.SsdIn.algebraic,
  trivial, Cert.Mix.SsdGradIn.algebraic,
  trivial, Cert.Mix.SsdGradInput.algebraic,
  trivial, Cert.Mix.SsdBackOut.algebraic,
  trivial, Cert.Mix.MixOut.algebraic,
  trivial, Cert.Mix.MixGradOut.algebraic,
  trivial, Cert.Norm.NormGrad.algebraic,
  trivial, Cert.Norm.Norm.algebraic,
  trivial, Cert.Norm.SsdNormGrad.algebraic,
  trivial, Cert.Norm.SsdNorm.algebraic,
  ⟨IdealRules.named_const.statement Cert.ValuesNormGradIdeal.κ "inv_sqrt2" .f32 0x3F3504F3#32 _ rfl,
    IdealRules.named_const.statement Cert.ValuesNormGradIdeal.κ "inv_sqrt_2pi" .f32 0x3ECC422A#32 _ rfl⟩,
  Cert.Norm.ValuesNormGrad.algebraic,
  IdealRules.named_const.statement Cert.ValuesNormIdeal.κ "inv_sqrt2" .f32 0x3F3504F3#32 _ rfl, Cert.Norm.ValuesNorm.algebraic,
  IdealRules.named_const.statement Cert.GateOutIdeal.κ "inv_sqrt2" .f32 0x3F3504F3#32 _ rfl, Cert.Norm.GateOut.algebraic,
  trivial, Cert.Norm.LossHead.algebraic, trivial, Cert.Norm.AdamSmall.algebraic, trivial, Cert.Norm.SumDevices.algebraic⟩

end Cert.Proof

end
